-- ==== Defs.lean ====
def Pre_Kernel (m : (ℓ : Loc Cert.Kernel.nD Cert.Kernel.τ Cert.Kernel.sig) → Buf (Elt Bits) ℓ) : Prop :=
  True

def Pre_KernelIdeal [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal [hPre_finite_inputs : Cert.Pre_finite_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Kernel4Ideal_none (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4Ideal_finite_inputs [hPre_finite_inputs : Cert.Pre_finite_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal [hPre_finite_inputs : Cert.Pre_finite_inputs.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Kernel6Ideal_none (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6Ideal_finite_inputs [hPre_finite_inputs : Cert.Pre_finite_inputs.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_inputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_none [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_none m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_inputs [hReference4Ideal : Cert.Reference4Ideal.Facts] [hPre_finite_inputs : Cert.Pre_finite_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_finite_inputs : Cert.Pre_finite_inputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_none [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_none m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_inputs [hReference6Ideal : Cert.Reference6Ideal.Facts] [hPre_finite_inputs : Cert.Pre_finite_inputs.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_inputs m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v2)) (v3 : (c : Dev Cert.Kernel2Ideal.nD) → Buf (Elt Ideal) ((c.tc : Thread Cert.Kernel2Ideal.nD Cert.Kernel2Ideal.τ).loc Cert.Kernel2Ideal.main_v7)) (v4 : (c : Dev Cert.Kernel2Ideal.nD) → Buf (Elt Ideal) ((c.tc : Thread Cert.Kernel2Ideal.nD Cert.Kernel2Ideal.τ).loc Cert.Kernel2Ideal.main_v4)) (v5 : (c : Dev Cert.Kernel2Ideal.nD) → Buf (Elt Ideal) ((c.tc : Thread Cert.Kernel2Ideal.nD Cert.Kernel2Ideal.τ).loc Cert.Kernel2Ideal.main_v6)) (v6 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_v7) = v3 c
          ∧ r.2.mem ((c.tc : Thread Cert.Kernel2Ideal.nD Cert.Kernel2Ideal.τ).loc Cert.Kernel2Ideal.main_v4) = v4 c
          ∧ r.2.mem ((c.tc : Thread Cert.Kernel2Ideal.nD Cert.Kernel2Ideal.τ).loc Cert.Kernel2Ideal.main_v6) = v5 c
          ∧ r.2.mem ((c.tc : Thread Cert.Kernel2Ideal.nD Cert.Kernel2Ideal.τ).loc Cert.Kernel2Ideal.main_v8) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_v24) = v4 c
          ∧ r.2.mem ((c.tc : Thread Cert.Reference2Ideal.nD Cert.Reference2Ideal.τ).loc Cert.Reference2Ideal.main_v25) = v5 c
          ∧ r.2.mem ((c.tc : Thread Cert.Reference2Ideal.nD Cert.Reference2Ideal.τ).loc Cert.Reference2Ideal.main_v26) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)) (v5 : (c : Dev Cert.Kernel3Ideal.nD) → Buf (Elt Ideal) ((c.tc : Thread Cert.Kernel3Ideal.nD Cert.Kernel3Ideal.τ).loc Cert.Kernel3Ideal.main_v5)) (v6 : (c : Dev Cert.Kernel3Ideal.nD) → Buf (Elt Ideal) ((c.tc : Thread Cert.Kernel3Ideal.nD Cert.Kernel3Ideal.τ).loc Cert.Kernel3Ideal.main_v10)) (v7 : (c : Dev Cert.Kernel3Ideal.nD) → Buf (Elt Ideal) ((c.tc : Thread Cert.Kernel3Ideal.nD Cert.Kernel3Ideal.τ).loc Cert.Kernel3Ideal.main_v7)) (v8 : (c : Dev Cert.Kernel3Ideal.nD) → Buf (Elt Ideal) ((c.tc : Thread Cert.Kernel3Ideal.nD Cert.Kernel3Ideal.τ).loc Cert.Kernel3Ideal.main_v9)) (v9 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_v5) = v5 c
          ∧ r.2.mem ((c.tc : Thread Cert.Kernel3Ideal.nD Cert.Kernel3Ideal.τ).loc Cert.Kernel3Ideal.main_v10) = v6 c
          ∧ r.2.mem ((c.tc : Thread Cert.Kernel3Ideal.nD Cert.Kernel3Ideal.τ).loc Cert.Kernel3Ideal.main_v7) = v7 c
          ∧ r.2.mem ((c.tc : Thread Cert.Kernel3Ideal.nD Cert.Kernel3Ideal.τ).loc Cert.Kernel3Ideal.main_v9) = v8 c
          ∧ r.2.mem ((c.tc : Thread Cert.Kernel3Ideal.nD Cert.Kernel3Ideal.τ).loc Cert.Kernel3Ideal.main_v11) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v10) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_v31) = v5 c
          ∧ r.2.mem ((c.tc : Thread Cert.Reference3Ideal.nD Cert.Reference3Ideal.τ).loc Cert.Reference3Ideal.main_v28) = v6 c
          ∧ r.2.mem ((c.tc : Thread Cert.Reference3Ideal.nD Cert.Reference3Ideal.τ).loc Cert.Reference3Ideal.main_v32) = v7 c
          ∧ r.2.mem ((c.tc : Thread Cert.Reference3Ideal.nD Cert.Reference3Ideal.τ).loc Cert.Reference3Ideal.main_v33) = v8 c
          ∧ r.2.mem ((c.tc : Thread Cert.Reference3Ideal.nD Cert.Reference3Ideal.τ).loc Cert.Reference3Ideal.main_v34) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v81_0)) (v1 : (c : Dev Cert.Kernel4Ideal.nD) → Buf (Elt Ideal) ((c.tc : Thread Cert.Kernel4Ideal.nD Cert.Kernel4Ideal.τ).loc Cert.Kernel4Ideal.main_v81_1)) (v2 : (c : Dev Cert.Kernel4Ideal.nD) → Buf (Elt Ideal) ((c.tc : Thread Cert.Kernel4Ideal.nD Cert.Kernel4Ideal.τ).loc Cert.Kernel4Ideal.main_v81_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v81_0) = v0 c
          ∧ r.2.mem ((c.tc : Thread Cert.Kernel4Ideal.nD Cert.Kernel4Ideal.τ).loc Cert.Kernel4Ideal.main_v81_1) = v1 c
          ∧ r.2.mem ((c.tc : Thread Cert.Kernel4Ideal.nD Cert.Kernel4Ideal.τ).loc Cert.Kernel4Ideal.main_v81_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v125) = v0 c
          ∧ r.2.mem ((c.tc : Thread Cert.Reference4Ideal.nD Cert.Reference4Ideal.τ).loc Cert.Reference4Ideal.main_v126) = v1 c
          ∧ r.2.mem ((c.tc : Thread Cert.Reference4Ideal.nD Cert.Reference4Ideal.τ).loc Cert.Reference4Ideal.main_v127) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_v13) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_v15) = v4 c
          ∧ r.2.mem ((c.tc : Thread Cert.Reference5Ideal.nD Cert.Reference5Ideal.τ).loc Cert.Reference5Ideal.main_v16) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] [hPre_finite_inputs : Cert.Pre_finite_inputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v81_0)) (v1 : (c : Dev Cert.Kernel6Ideal.nD) → Buf (Elt Ideal) ((c.tc : Thread Cert.Kernel6Ideal.nD Cert.Kernel6Ideal.τ).loc Cert.Kernel6Ideal.main_v81_1)) (v2 : (c : Dev Cert.Kernel6Ideal.nD) → Buf (Elt Ideal) ((c.tc : Thread Cert.Kernel6Ideal.nD Cert.Kernel6Ideal.τ).loc Cert.Kernel6Ideal.main_v81_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v81_0) = v0 c
          ∧ r.2.mem ((c.tc : Thread Cert.Kernel6Ideal.nD Cert.Kernel6Ideal.τ).loc Cert.Kernel6Ideal.main_v81_1) = v1 c
          ∧ r.2.mem ((c.tc : Thread Cert.Kernel6Ideal.nD Cert.Kernel6Ideal.τ).loc Cert.Kernel6Ideal.main_v81_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v125) = v0 c
          ∧ r.2.mem ((c.tc : Thread Cert.Reference6Ideal.nD Cert.Reference6Ideal.τ).loc Cert.Reference6Ideal.main_v126) = v1 c
          ∧ r.2.mem ((c.tc : Thread Cert.Reference6Ideal.nD Cert.Reference6Ideal.τ).loc Cert.Reference6Ideal.main_v127) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_inputs : Cert.Pre_finite_inputs.Facts),
    quiescent_Kernel (hKernel := hKernel)
    ∧ quiescent_KernelIdeal (hKernelIdeal := hKernelIdeal) (hPre_finite_scores := hPre_finite_scores)
    ∧ quiescent_KernelIdeal_pre_none (hKernelIdeal := hKernelIdeal)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal) (hPre_finite_inputs := hPre_finite_inputs)
    ∧ quiescent_Kernel4Ideal_pre_none (hKernel4Ideal := hKernel4Ideal)
    ∧ quiescent_Reference4Ideal (hReference4Ideal := hReference4Ideal)
    ∧ quiescent_Reference4Ideal_pre_finite_inputs (hReference4Ideal := hReference4Ideal) (hPre_finite_inputs := hPre_finite_inputs)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal) (hPre_finite_inputs := hPre_finite_inputs)
    ∧ quiescent_Kernel6Ideal_pre_none (hKernel6Ideal := hKernel6Ideal)
    ∧ quiescent_Reference6Ideal (hReference6Ideal := hReference6Ideal)
    ∧ quiescent_Reference6Ideal_pre_finite_inputs (hReference6Ideal := hReference6Ideal) (hPre_finite_inputs := hPre_finite_inputs)
    ∧ preserves_Kernel_KernelIdeal
    ∧ algebraic_KernelIdeal_ReferenceIdeal (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_finite_inputs := hPre_finite_inputs)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_finite_inputs := hPre_finite_inputs)
-- ==== Pre_finite_inputs.lean ====
abbrev S8192x3072 : Shape := ⟨2, ![8192, 3072]⟩
abbrev S8192x24 : Shape := ⟨2, ![8192, 24]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x24 : S_.BroadcastsInDim S8192x24 (![] : Fin 0 → Fin S8192x24.rank)
  reducesTo_S8192x24_S_d0_1 : S8192x24.ReducesTo [0, 1] S_

variable [Facts]

def fn_part1 {F : FTy → Type} [FloatOps F] (main_arg4 : FVec F S8192x24 .f32) (main_v16 : IVec S_ 1) (main_v17 : FVec F S8192x3072 .f32) : IVec S_ 1 :=
  let main_v18 : FVec F S8192x3072 .f32 := Host.absf main_v17
  let main_cst_4 : FVec F S_ .f32 := constant S_ .f32 0x7F800000#32
  let main_v19 : FVec F S8192x3072 .f32 := broadcastInDim S8192x3072 ![] bcast_S_S8192x3072 main_cst_4
  let main_v20 : IVec S8192x3072 1 := cmpf .olt main_v18 main_v19
  let main_c_5 : IVec S_ 1 := constantI S_ 1 1#1
  let main_v21 : IVec S_ 1 := (fun x v => Host.reduce IntOp.andi x v reducesTo_S8192x3072_S_d0_1 h_S_) main_v20 main_c_5
  let main_v22 : IVec S_ 1 := andi main_v16 main_v21
  let main_v23 : FVec F S8192x24 .f32 := Host.absf main_arg4
  let main_cst_6 : FVec F S_ .f32 := constant S_ .f32 0x7F800000#32
  let main_v24 : FVec F S8192x24 .f32 := broadcastInDim S8192x24 ![] bcast_S_S8192x24 main_cst_6
  let main_v25 : IVec S8192x24 1 := cmpf .olt main_v23 main_v24
  let main_c_7 : IVec S_ 1 := constantI S_ 1 1#1
  let main_v26 : IVec S_ 1 := (fun x v => Host.reduce IntOp.andi x v reducesTo_S8192x24_S_d0_1 h_S_) main_v25 main_c_7
  let main_v27 : IVec S_ 1 := andi main_v22 main_v26
  main_v27

def fn {F : FTy → Type} [FloatOps F] (main_arg0 : FVec F S8192x3072 .bf16) (main_arg1 : FVec F S8192x3072 .bf16) (main_arg2 : FVec F S8192x3072 .bf16) (main_arg3 : FVec F S8192x3072 .bf16) (main_arg4 : FVec F S8192x24 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x3072 .f32 := (extf .f32 · bitsLt_bf16_f32) main_arg1
  let main_v6 : FVec F S8192x3072 .f32 := Host.absf main_v5
  let main_cst_0 : FVec F S_ .f32 := constant S_ .f32 0x7F800000#32
  let main_v7 : FVec F S8192x3072 .f32 := broadcastInDim S8192x3072 ![] bcast_S_S8192x3072 main_cst_0
  let main_v8 : IVec S8192x3072 1 := cmpf .olt main_v6 main_v7
  let main_c_1 : IVec S_ 1 := constantI S_ 1 1#1
  let main_v9 : IVec S_ 1 := (fun x v => Host.reduce IntOp.andi x v reducesTo_S8192x3072_S_d0_1 h_S_) main_v8 main_c_1
  let main_v10 : IVec S_ 1 := andi main_v4 main_v9
  let main_v11 : FVec F S8192x3072 .f32 := (extf .f32 · bitsLt_bf16_f32) main_arg2
  let main_v12 : FVec F S8192x3072 .f32 := Host.absf main_v11
  let main_cst_2 : FVec F S_ .f32 := constant S_ .f32 0x7F800000#32
  let main_v13 : FVec F S8192x3072 .f32 := broadcastInDim S8192x3072 ![] bcast_S_S8192x3072 main_cst_2
  let main_v14 : IVec S8192x3072 1 := cmpf .olt main_v12 main_v13
  let main_c_3 : IVec S_ 1 := constantI S_ 1 1#1
  let main_v15 : IVec S_ 1 := (fun x v => Host.reduce IntOp.andi x v reducesTo_S8192x3072_S_d0_1 h_S_) main_v14 main_c_3
  let main_v16 : IVec S_ 1 := andi main_v10 main_v15
  let main_v17 : FVec F S8192x3072 .f32 := (extf .f32 · bitsLt_bf16_f32) main_arg3
  fn_part1 (F := F) main_arg4 main_v16 main_v17
-- ==== Pre_finite_scores.lean ====
abbrev S8192x1024 : Shape := ⟨2, ![8192, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .bf16) (main_arg1 : FVec F S256x2048 .bf16) (main_arg2 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Kernel.lean ====
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .f32⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .f32⟩
  | .hbm, ⟨3, _⟩ => ⟨S8192x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x4x256, .f32⟩
  | .hbm, ⟨56, _⟩ => ⟨S4x256x8192, .f32⟩
  | .hbm, ⟨57, _⟩ => ⟨S4x8192x256, .f32⟩
  | .hbm, ⟨58, _⟩ => ⟨S4x256x256, .f32⟩
  | .hbm, ⟨59, _⟩ => ⟨S256x4x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x256, .f32⟩
  | .hbm, ⟨78, _⟩ => ⟨S256x4x256, .f32⟩
  | .hbm, ⟨79, _⟩ => ⟨S4x8192x256, .f32⟩
  | .hbm, ⟨80, _⟩ => ⟨S8192x4x256, .f32⟩
  | .hbm, ⟨81, _⟩ => ⟨S256x1024, .f32⟩
  | .hbm, ⟨82, _⟩ => ⟨S256x1024, .f32⟩
  | .hbm, ⟨83, _⟩ => ⟨S8192x1024, .f32⟩
  | .hbm, ⟨84, _⟩ => ⟨S256x2048, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel2.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩
abbrev S1024x3072 : Shape := ⟨2, ![1024, 3072]⟩
abbrev S8192x512 : Shape := ⟨2, ![8192, 512]⟩
abbrev S512x512 : Shape := ⟨2, ![512, 512]⟩
abbrev S512x3072 : Shape := ⟨2, ![512, 3072]⟩
abbrev S1024x512 : Shape := ⟨2, ![1024, 512]⟩

abbrev nBuf : Space → Nat
  | .hbm => 16
  | .vmem => 58
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S2048x3072, .bf16⟩
  | .hbm, ⟨3, _⟩ => ⟨S2048x3072, .bf16⟩
  | .hbm, ⟨4, _⟩ => ⟨S8192x3072, .bf16⟩
  | .hbm, ⟨5, _⟩ => ⟨S8192x3072, .bf16⟩
  | .hbm, ⟨6, _⟩ => ⟨S8192x3072, .bf16⟩
  | .hbm, ⟨7, _⟩ => ⟨S8192x3072, .bf16⟩
  | .hbm, ⟨8, _⟩ => ⟨S8192x3072, .bf16⟩
  | .hbm, ⟨9, _⟩ => ⟨S8192x3072, .bf16⟩
  | .hbm, ⟨10, _⟩ => ⟨S8192x2048, .f32⟩
  | .hbm, ⟨11, _⟩ => ⟨S2048x3072, .bf16⟩
  | .hbm, ⟨12, _⟩ => ⟨S8192x2048, .f32⟩
  | .hbm, ⟨13, _⟩ => ⟨S2048x3072, .bf16⟩
  | .hbm, ⟨14, _⟩ => ⟨S8192x2048, .f32⟩
  | .hbm, ⟨15, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x3072, .bf16⟩
  | .local _ .vmem, ⟨19, _⟩ => ⟨S1024x3072, .bf16⟩
  | .local _ .vmem, ⟨20, _⟩ => ⟨S1024x3072, .bf16⟩
  | .local _ .vmem, ⟨21, _⟩ => ⟨S1024x3072, .bf16⟩
  | .local _ .vmem, ⟨22, _⟩ => ⟨S1024x1024, .f32⟩
  | .local _ .vmem, ⟨23, _⟩ => ⟨S1024x1024, .f32⟩
  | .local _ .vmem, ⟨24, _⟩ => ⟨S8192x512, .bf16⟩
  | .local _ .vmem, ⟨25, _⟩ => ⟨S8192x512, .bf16⟩
  | .local _ .vmem, ⟨26, _⟩ => ⟨S8192x512, .bf16⟩
  | .local _ .vmem, ⟨27, _⟩ => ⟨S8192x512, .bf16⟩
  | .local _ .vmem, ⟨28, _⟩ => ⟨S512x512, .bf16⟩
  | .local _ .vmem, ⟨29, _⟩ => ⟨S512x512, .bf16⟩
  | .local _ .vmem, ⟨30, _⟩ => ⟨S1024x3072, .bf16⟩
  | .local _ .vmem, ⟨31, _⟩ => ⟨S1024x3072, .bf16⟩
  | .local _ .vmem, ⟨32, _⟩ => ⟨S512x3072, .bf16⟩
  | .local _ .vmem, ⟨33, _⟩ => ⟨S512x3072, .bf16⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S8192x512, .bf16⟩
  | .local _ .vmem, ⟨39, _⟩ => ⟨S8192x512, .bf16⟩
  | .local _ .vmem, ⟨40, _⟩ => ⟨S8192x512, .bf16⟩
  | .local _ .vmem, ⟨41, _⟩ => ⟨S8192x512, .bf16⟩
  | .local _ .vmem, ⟨42, _⟩ => ⟨S512x512, .bf16⟩
  | .local _ .vmem, ⟨43, _⟩ => ⟨S512x512, .bf16⟩
  | .local _ .vmem, ⟨44, _⟩ => ⟨S1024x3072, .bf16⟩
  | .local _ .vmem, ⟨45, _⟩ => ⟨S1024x3072, .bf16⟩
  | .local _ .vmem, ⟨46, _⟩ => ⟨S512x3072, .bf16⟩
  | .local _ .vmem, ⟨47, _⟩ => ⟨S512x3072, .bf16⟩
  | .local _ .vmem, ⟨48, _⟩ => ⟨S1024x512, .f32⟩
  | .local _ .vmem, ⟨49, _⟩ => ⟨S1024x512, .f32⟩
  | .local _ .vmem, ⟨50, _⟩ => ⟨S1024x512, .f32⟩
  | .local _ .vmem, ⟨51, _⟩ => ⟨S1024x512, .f32⟩
  | .local _ .vmem, ⟨52, _⟩ => ⟨S8192x512, .bf16⟩
  | .local _ .vmem, ⟨53, _⟩ => ⟨S8192x512, .bf16⟩
  | .local _ .vmem, ⟨54, _⟩ => ⟨S8192x512, .bf16⟩
  | .local _ .vmem, ⟨55, _⟩ => ⟨S8192x512, .bf16⟩
  | .local _ .vmem, ⟨56, _⟩ => ⟨S512x512, .bf16⟩
  | .local _ .vmem, ⟨57, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x3072 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x3072 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 6, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S8192x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8192x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x3072 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x3072 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![4, 6, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S8192x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S8192x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x3072 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![4, 6, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S8192x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S8192x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference2Ideal.lean ====
abbrev S8192x2048 : Shape := ⟨2, ![8192, 2048]⟩
abbrev S2048x3072 : Shape := ⟨2, ![2048, 3072]⟩
abbrev S8192x3072 : Shape := ⟨2, ![8192, 3072]⟩
abbrev S3072x2048 : Shape := ⟨2, ![3072, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S2048x3072, .bf16⟩
  | .hbm, ⟨3, _⟩ => ⟨S2048x3072, .bf16⟩
  | .hbm, ⟨4, _⟩ => ⟨S8192x3072, .bf16⟩
  | .hbm, ⟨5, _⟩ => ⟨S8192x3072, .bf16⟩
  | .hbm, ⟨6, _⟩ => ⟨S8192x3072, .bf16⟩
  | .hbm, ⟨7, _⟩ => ⟨S8192x2048, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S3072x2048, .f32⟩
  | .hbm, ⟨18, _⟩ => ⟨S2048x3072, .f32⟩
  | .hbm, ⟨19, _⟩ => ⟨S8192x2048, .f32⟩
  | .hbm, ⟨20, _⟩ => ⟨S3072x2048, .f32⟩
  | .hbm, ⟨21, _⟩ => ⟨S2048x3072, .f32⟩
  | .hbm, ⟨22, _⟩ => ⟨S8192x2048, .f32⟩
  | .hbm, ⟨23, _⟩ => ⟨S8192x2048, .f32⟩
  | .hbm, ⟨24, _⟩ => ⟨S3072x2048, .f32⟩
  | .hbm, ⟨25, _⟩ => ⟨S2048x3072, .f32⟩
  | .hbm, ⟨26, _⟩ => ⟨S8192x2048, .f32⟩
  | .hbm, ⟨27, _⟩ => ⟨S8192x2048, .f32⟩
  | .hbm, ⟨28, _⟩ => ⟨S8192x3072, .bf16⟩
  | .hbm, ⟨29, _⟩ => ⟨S8192x3072, .bf16⟩
  | .hbm, ⟨30, _⟩ => ⟨S8192x3072, .bf16⟩
  | .hbm, ⟨31, _⟩ => ⟨S2048x3072, .bf16⟩
  | .hbm, ⟨32, _⟩ => ⟨S2048x3072, .bf16⟩
  | .hbm, ⟨33, _⟩ => ⟨S2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel3.lean ====
abbrev S8192x2048 : Shape := ⟨2, ![8192, 2048]⟩
abbrev S2048x5120 : Shape := ⟨2, ![2048, 5120]⟩
abbrev S2048x1024 : Shape := ⟨2, ![2048, 1024]⟩
abbrev S2048x4096 : Shape := ⟨2, ![2048, 4096]⟩
abbrev S8192x5120 : Shape := ⟨2, ![8192, 5120]⟩
abbrev S8192x1024 : Shape := ⟨2, ![8192, 1024]⟩
abbrev S8192x4096 : Shape := ⟨2, ![8192, 4096]⟩
abbrev S4096x2048 : Shape := ⟨2, ![4096, 2048]⟩
abbrev S1024x2048 : Shape := ⟨2, ![1024, 2048]⟩
abbrev S1024x1024 : Shape := ⟨2, ![1024, 1024]⟩
abbrev S1024x4096 : Shape := ⟨2, ![1024, 4096]⟩
abbrev S4096x512 : Shape := ⟨2, ![4096, 512]⟩
abbrev S1024x512 : Shape := ⟨2, ![1024, 512]⟩
abbrev S8192x512 : Shape := ⟨2, ![8192, 512]⟩
abbrev S512x512 : Shape := ⟨2, ![512, 512]⟩
abbrev S1024x5120 : Shape := ⟨2, ![1024, 5120]⟩
abbrev S512x5120 : Shape := ⟨2, ![512, 5120]⟩
abbrev S512x4096 : Shape := ⟨2, ![512, 4096]⟩

abbrev nBuf : Space → Nat
  | .hbm => 23
  | .vmem => 77
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S2048x1024, .bf16⟩
  | .hbm, ⟨3, _⟩ => ⟨S2048x4096, .bf16⟩
  | .hbm, ⟨4, _⟩ => ⟨S8192x5120, .bf16⟩
  | .hbm, ⟨5, _⟩ => ⟨S8192x1024, .bf16⟩
  | .hbm, ⟨6, _⟩ => ⟨S8192x4096, .bf16⟩
  | .hbm, ⟨7, _⟩ => ⟨S8192x4096, .bf16⟩
  | .hbm, ⟨8, _⟩ => ⟨S4096x2048, .bf16⟩
  | .hbm, ⟨9, _⟩ => ⟨S8192x2048, .f32⟩
  | .hbm, ⟨10, _⟩ => ⟨S8192x2048, .bf16⟩
  | .hbm, ⟨11, _⟩ => ⟨S8192x5120, .f32⟩
  | .hbm, ⟨12, _⟩ => ⟨S8192x1024, .bf16⟩
  | .hbm, ⟨13, _⟩ => ⟨S8192x4096, .f32⟩
  | .hbm, ⟨14, _⟩ => ⟨S8192x2048, .f32⟩
  | .hbm, ⟨15, _⟩ => ⟨S8192x4096, .bf16⟩
  | .hbm, ⟨16, _⟩ => ⟨S4096x2048, .bf16⟩
  | .hbm, ⟨17, _⟩ => ⟨S8192x2048, .f32⟩
  | .hbm, ⟨18, _⟩ => ⟨S2048x5120, .bf16⟩
  | .hbm, ⟨19, _⟩ => ⟨S8192x2048, .f32⟩
  | .hbm, ⟨20, _⟩ => ⟨S2048x1024, .bf16⟩
  | .hbm, ⟨21, _⟩ => ⟨S8192x2048, .f32⟩
  | .hbm, ⟨22, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x4096, .bf16⟩
  | .local _ .vmem, ⟨18, _⟩ => ⟨S1024x4096, .bf16⟩
  | .local _ .vmem, ⟨19, _⟩ => ⟨S4096x512, .bf16⟩
  | .local _ .vmem, ⟨20, _⟩ => ⟨S4096x512, .bf16⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x1024, .bf16⟩
  | .local _ .vmem, ⟨30, _⟩ => ⟨S1024x1024, .bf16⟩
  | .local _ .vmem, ⟨31, _⟩ => ⟨S8192x512, .bf16⟩
  | .local _ .vmem, ⟨32, _⟩ => ⟨S8192x512, .bf16⟩
  | .local _ .vmem, ⟨33, _⟩ => ⟨S8192x512, .bf16⟩
  | .local _ .vmem, ⟨34, _⟩ => ⟨S8192x512, .bf16⟩
  | .local _ .vmem, ⟨35, _⟩ => ⟨S512x512, .bf16⟩
  | .local _ .vmem, ⟨36, _⟩ => ⟨S512x512, .bf16⟩
  | .local _ .vmem, ⟨37, _⟩ => ⟨S1024x5120, .bf16⟩
  | .local _ .vmem, ⟨38, _⟩ => ⟨S1024x5120, .bf16⟩
  | .local _ .vmem, ⟨39, _⟩ => ⟨S512x5120, .bf16⟩
  | .local _ .vmem, ⟨40, _⟩ => ⟨S512x5120, .bf16⟩
  | .local _ .vmem, ⟨41, _⟩ => ⟨S1024x512, .f32⟩
  | .local _ .vmem, ⟨42, _⟩ => ⟨S1024x512, .f32⟩
  | .local _ .vmem, ⟨43, _⟩ => ⟨S8192x512, .bf16⟩
  | .local _ .vmem, ⟨44, _⟩ => ⟨S8192x512, .bf16⟩
  | .local _ .vmem, ⟨45, _⟩ => ⟨S8192x512, .bf16⟩
  | .local _ .vmem, ⟨46, _⟩ => ⟨S8192x512, .bf16⟩
  | .local _ .vmem, ⟨47, _⟩ => ⟨S512x512, .bf16⟩
  | .local _ .vmem, ⟨48, _⟩ => ⟨S512x512, .bf16⟩
  | .local _ .vmem, ⟨49, _⟩ => ⟨S1024x1024, .bf16⟩
  | .local _ .vmem, ⟨50, _⟩ => ⟨S1024x1024, .bf16⟩
  | .local _ .vmem, ⟨51, _⟩ => ⟨S1024x1024, .bf16⟩
  | .local _ .vmem, ⟨52, _⟩ => ⟨S1024x1024, .bf16⟩
  | .local _ .vmem, ⟨53, _⟩ => ⟨S1024x1024, .f32⟩
  | .local _ .vmem, ⟨54, _⟩ => ⟨S1024x1024, .f32⟩
  | .local _ .vmem, ⟨55, _⟩ => ⟨S1024x1024, .f32⟩
  | .local _ .vmem, ⟨56, _⟩ => ⟨S1024x1024, .f32⟩
  | .local _ .vmem, ⟨57, _⟩ => ⟨S8192x512, .bf16⟩
  | .local _ .vmem, ⟨58, _⟩ => ⟨S8192x512, .bf16⟩
  | .local _ .vmem, ⟨59, _⟩ => ⟨S8192x512, .bf16⟩
  | .local _ .vmem, ⟨60, _⟩ => ⟨S8192x512, .bf16⟩
  | .local _ .vmem, ⟨61, _⟩ => ⟨S512x512, .bf16⟩
  | .local _ .vmem, ⟨62, _⟩ => ⟨S512x512, .bf16⟩
  | .local _ .vmem, ⟨63, _⟩ => ⟨S1024x4096, .bf16⟩
  | .local _ .vmem, ⟨64, _⟩ => ⟨S1024x4096, .bf16⟩
  | .local _ .vmem, ⟨65, _⟩ => ⟨S512x4096, .bf16⟩
  | .local _ .vmem, ⟨66, _⟩ => ⟨S512x4096, .bf16⟩
  | .local _ .vmem, ⟨67, _⟩ => ⟨S1024x512, .f32⟩
  | .local _ .vmem, ⟨68, _⟩ => ⟨S1024x512, .f32⟩
  | .local _ .vmem, ⟨69, _⟩ => ⟨S1024x512, .f32⟩
  | .local _ .vmem, ⟨70, _⟩ => ⟨S1024x512, .f32⟩
  | .local _ .vmem, ⟨71, _⟩ => ⟨S8192x512, .bf16⟩
  | .local _ .vmem, ⟨72, _⟩ => ⟨S8192x512, .bf16⟩
  | .local _ .vmem, ⟨73, _⟩ => ⟨S8192x512, .bf16⟩
  | .local _ .vmem, ⟨74, _⟩ => ⟨S8192x512, .bf16⟩
  | .local _ .vmem, ⟨75, _⟩ => ⟨S512x512, .bf16⟩
  | .local _ .vmem, ⟨76, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg2_1 : Ref sig .tc := ⟨.vmem, 54, rfl⟩
abbrev cc8_stg3_0 : Ref sig .tc := ⟨.vmem, 55, rfl⟩
abbrev cc8_stg3_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg2_1 : Ref sig .tc := ⟨.vmem, 62, rfl⟩
abbrev cc10_stg0_0 : Ref sig .tc := ⟨.vmem, 63, rfl⟩
abbrev cc10_stg0_1 : Ref sig .tc := ⟨.vmem, 64, rfl⟩
abbrev cc10_stg1_0 : Ref sig .tc := ⟨.vmem, 65, rfl⟩
abbrev cc10_stg1_1 : Ref sig .tc := ⟨.vmem, 66, rfl⟩
abbrev cc10_stg2_0 : Ref sig .tc := ⟨.vmem, 67, rfl⟩
abbrev cc10_stg2_1 : Ref sig .tc := ⟨.vmem, 68, rfl⟩
abbrev cc10_stg3_0 : Ref sig .tc := ⟨.vmem, 69, rfl⟩
abbrev cc10_stg3_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg1_1 : Ref sig .tc := ⟨.vmem, 74, rfl⟩
abbrev cc11_stg2_0 : Ref sig .tc := ⟨.vmem, 75, rfl⟩
abbrev cc11_stg2_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem1_1 : DmaSem sig := 52
abbrev cc8_sem2_0 : DmaSem sig := 53
abbrev cc8_sem2_1 : DmaSem sig := 54
abbrev cc8_sem3_0 : DmaSem sig := 55
abbrev cc8_sem3_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem2_1 : DmaSem sig := 62
abbrev cc10_sem0_0 : DmaSem sig := 63
abbrev cc10_sem0_1 : DmaSem sig := 64
abbrev cc10_sem1_0 : DmaSem sig := 65
abbrev cc10_sem1_1 : DmaSem sig := 66
abbrev cc10_sem2_0 : DmaSem sig := 67
abbrev cc10_sem2_1 : DmaSem sig := 68
abbrev cc10_sem3_0 : DmaSem sig := 69
abbrev cc10_sem3_1 : DmaSem sig := 70
abbrev cc11_sem0_0 : DmaSem sig := 71
abbrev cc11_sem0_1 : DmaSem sig := 72
abbrev cc11_sem1_0 : DmaSem sig := 73
abbrev cc11_sem1_1 : DmaSem sig := 74
abbrev cc11_sem2_0 : DmaSem sig := 75
abbrev cc11_sem2_1 : DmaSem sig := 76

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![8, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S8192x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S8192x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x5120 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x5120 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 10, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S8192x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S8192x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![8, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![4, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S8192x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S8192x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![8, 4, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S512x4096 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 2 → Memref sig .tc .vmem S1024x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, false]

abbrev grid11 : Pipeline.Grid := ⟨3, ![4, 8, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S8192x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S8192x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S512x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]
-- ==== Reference3Ideal.lean ====
abbrev S8192x2048 : Shape := ⟨2, ![8192, 2048]⟩
abbrev S2048x5120 : Shape := ⟨2, ![2048, 5120]⟩
abbrev S2048x1024 : Shape := ⟨2, ![2048, 1024]⟩
abbrev S2048x4096 : Shape := ⟨2, ![2048, 4096]⟩
abbrev S8192x5120 : Shape := ⟨2, ![8192, 5120]⟩
abbrev S8192x1024 : Shape := ⟨2, ![8192, 1024]⟩
abbrev S8192x4096 : Shape := ⟨2, ![8192, 4096]⟩
abbrev S4096x2048 : Shape := ⟨2, ![4096, 2048]⟩
abbrev S1024x2048 : Shape := ⟨2, ![1024, 2048]⟩
abbrev S5120x2048 : Shape := ⟨2, ![5120, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S2048x1024, .bf16⟩
  | .hbm, ⟨3, _⟩ => ⟨S2048x4096, .bf16⟩
  | .hbm, ⟨4, _⟩ => ⟨S8192x5120, .bf16⟩
  | .hbm, ⟨5, _⟩ => ⟨S8192x1024, .bf16⟩
  | .hbm, ⟨6, _⟩ => ⟨S8192x4096, .bf16⟩
  | .hbm, ⟨7, _⟩ => ⟨S8192x4096, .bf16⟩
  | .hbm, ⟨8, _⟩ => ⟨S4096x2048, .bf16⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S2048x5120, .f32⟩
  | .hbm, ⟨13, _⟩ => ⟨S2048x1024, .f32⟩
  | .hbm, ⟨14, _⟩ => ⟨S2048x4096, .f32⟩
  | .hbm, ⟨15, _⟩ => ⟨S8192x4096, .f32⟩
  | .hbm, ⟨16, _⟩ => ⟨S4096x2048, .f32⟩
  | .hbm, ⟨17, _⟩ => ⟨S8192x5120, .f32⟩
  | .hbm, ⟨18, _⟩ => ⟨S8192x1024, .f32⟩
  | .hbm, ⟨19, _⟩ => ⟨S8192x4096, .f32⟩
  | .hbm, ⟨20, _⟩ => ⟨S8192x2048, .f32⟩
  | .hbm, ⟨21, _⟩ => ⟨S8192x2048, .f32⟩
  | .hbm, ⟨22, _⟩ => ⟨S8192x5120, .f32⟩
  | .hbm, ⟨23, _⟩ => ⟨S8192x1024, .f32⟩
  | .hbm, ⟨24, _⟩ => ⟨S8192x4096, .f32⟩
  | .hbm, ⟨25, _⟩ => ⟨S8192x2048, .f32⟩
  | .hbm, ⟨26, _⟩ => ⟨S2048x4096, .f32⟩
  | .hbm, ⟨27, _⟩ => ⟨S4096x2048, .f32⟩
  | .hbm, ⟨28, _⟩ => ⟨S8192x4096, .f32⟩
  | .hbm, ⟨29, _⟩ => ⟨S4096x2048, .f32⟩
  | .hbm, ⟨30, _⟩ => ⟨S2048x4096, .f32⟩
  | .hbm, ⟨31, _⟩ => ⟨S8192x2048, .f32⟩
  | .hbm, ⟨32, _⟩ => ⟨S1024x2048, .f32⟩
  | .hbm, ⟨33, _⟩ => ⟨S2048x1024, .f32⟩
  | .hbm, ⟨34, _⟩ => ⟨S8192x2048, .f32⟩
  | .hbm, ⟨35, _⟩ => ⟨S8192x2048, .f32⟩
  | .hbm, ⟨36, _⟩ => ⟨S5120x2048, .f32⟩
  | .hbm, ⟨37, _⟩ => ⟨S2048x5120, .f32⟩
  | .hbm, ⟨38, _⟩ => ⟨S8192x2048, .f32⟩
  | .hbm, ⟨39, _⟩ => ⟨S8192x2048, .f32⟩
  | .hbm, ⟨40, _⟩ => ⟨S8192x1024, .bf16⟩
  | .hbm, ⟨41, _⟩ => ⟨S8192x4096, .bf16⟩
  | .hbm, ⟨42, _⟩ => ⟨S4096x2048, .bf16⟩
  | .hbm, ⟨43, _⟩ => ⟨S2048x5120, .bf16⟩
  | .hbm, ⟨44, _⟩ => ⟨S2048x1024, .bf16⟩
  | .hbm, ⟨45, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel4.lean ====
abbrev S8192x3072 : Shape := ⟨2, ![8192, 3072]⟩
abbrev S8192x24 : Shape := ⟨2, ![8192, 24]⟩
abbrev S_ : Shape := ⟨0, ![]⟩
abbrev S1x1x1x1 : Shape := ⟨4, ![1, 1, 1, 1]⟩
abbrev S1x16x1x1 : Shape := ⟨4, ![1, 16, 1, 1]⟩
abbrev S1x8x1x1 : Shape := ⟨4, ![1, 8, 1, 1]⟩
abbrev S1x24x1x1 : Shape := ⟨4, ![1, 24, 1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x512x24x128 : Shape := ⟨4, ![16, 512, 24, 128]⟩
abbrev S16x24x512x512 : Shape := ⟨4, ![16, 24, 512, 512]⟩
abbrev S1x1x512x512 : Shape := ⟨4, ![1, 1, 512, 512]⟩
abbrev S1x24x512x512 : Shape := ⟨4, ![1, 24, 512, 512]⟩
abbrev S16x24x512 : Shape := ⟨3, ![16, 24, 512]⟩
abbrev S16x24x512x1 : Shape := ⟨4, ![16, 24, 512, 1]⟩
abbrev S16x24x128x512 : Shape := ⟨4, ![16, 24, 128, 512]⟩
abbrev S16x512x24 : Shape := ⟨3, ![16, 512, 24]⟩
abbrev S16x512x24x1 : Shape := ⟨4, ![16, 512, 24, 1]⟩
abbrev S8192x128 : Shape := ⟨2, ![8192, 128]⟩
abbrev S128x3072 : Shape := ⟨2, ![128, 3072]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 127
  | .vmem => 24
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x3072, .bf16⟩
  | .hbm, ⟨3, _⟩ => ⟨S8192x3072, .bf16⟩
  | .hbm, ⟨4, _⟩ => ⟨S8192x24, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S1x1x1x1, .f32⟩
  | .hbm, ⟨10, _⟩ => ⟨S_, .f32⟩
  | .hbm, ⟨11, _⟩ => ⟨S1x1x1x1, .f32⟩
  | .hbm, ⟨12, _⟩ => ⟨S_, .f32⟩
  | .hbm, ⟨13, _⟩ => ⟨S1x1x1x1, .f32⟩
  | .hbm, ⟨14, _⟩ => ⟨S_, .f32⟩
  | .hbm, ⟨15, _⟩ => ⟨S1x1x1x1, .f32⟩
  | .hbm, ⟨16, _⟩ => ⟨S_, .f32⟩
  | .hbm, ⟨17, _⟩ => ⟨S1x1x1x1, .f32⟩
  | .hbm, ⟨18, _⟩ => ⟨S_, .f32⟩
  | .hbm, ⟨19, _⟩ => ⟨S1x1x1x1, .f32⟩
  | .hbm, ⟨20, _⟩ => ⟨S_, .f32⟩
  | .hbm, ⟨21, _⟩ => ⟨S1x1x1x1, .f32⟩
  | .hbm, ⟨22, _⟩ => ⟨S_, .f32⟩
  | .hbm, ⟨23, _⟩ => ⟨S1x1x1x1, .f32⟩
  | .hbm, ⟨24, _⟩ => ⟨S_, .f32⟩
  | .hbm, ⟨25, _⟩ => ⟨S1x1x1x1, .f32⟩
  | .hbm, ⟨26, _⟩ => ⟨S_, .f32⟩
  | .hbm, ⟨27, _⟩ => ⟨S1x1x1x1, .f32⟩
  | .hbm, ⟨28, _⟩ => ⟨S_, .f32⟩
  | .hbm, ⟨29, _⟩ => ⟨S1x1x1x1, .f32⟩
  | .hbm, ⟨30, _⟩ => ⟨S_, .f32⟩
  | .hbm, ⟨31, _⟩ => ⟨S1x1x1x1, .f32⟩
  | .hbm, ⟨32, _⟩ => ⟨S_, .f32⟩
  | .hbm, ⟨33, _⟩ => ⟨S1x1x1x1, .f32⟩
  | .hbm, ⟨34, _⟩ => ⟨S_, .f32⟩
  | .hbm, ⟨35, _⟩ => ⟨S1x1x1x1, .f32⟩
  | .hbm, ⟨36, _⟩ => ⟨S_, .f32⟩
  | .hbm, ⟨37, _⟩ => ⟨S1x1x1x1, .f32⟩
  | .hbm, ⟨38, _⟩ => ⟨S_, .f32⟩
  | .hbm, ⟨39, _⟩ => ⟨S1x1x1x1, .f32⟩
  | .hbm, ⟨40, _⟩ => ⟨S_, .f32⟩
  | .hbm, ⟨41, _⟩ => ⟨S1x1x1x1, .f32⟩
  | .hbm, ⟨42, _⟩ => ⟨S_, .f32⟩
  | .hbm, ⟨43, _⟩ => ⟨S1x1x1x1, .f32⟩
  | .hbm, ⟨44, _⟩ => ⟨S_, .f32⟩
  | .hbm, ⟨45, _⟩ => ⟨S1x1x1x1, .f32⟩
  | .hbm, ⟨46, _⟩ => ⟨S_, .f32⟩
  | .hbm, ⟨47, _⟩ => ⟨S1x1x1x1, .f32⟩
  | .hbm, ⟨48, _⟩ => ⟨S_, .f32⟩
  | .hbm, ⟨49, _⟩ => ⟨S1x1x1x1, .f32⟩
  | .hbm, ⟨50, _⟩ => ⟨S_, .f32⟩
  | .hbm, ⟨51, _⟩ => ⟨S1x1x1x1, .f32⟩
  | .hbm, ⟨52, _⟩ => ⟨S_, .f32⟩
  | .hbm, ⟨53, _⟩ => ⟨S1x1x1x1, .f32⟩
  | .hbm, ⟨54, _⟩ => ⟨S_, .f32⟩
  | .hbm, ⟨55, _⟩ => ⟨S1x1x1x1, .f32⟩
  | .hbm, ⟨56, _⟩ => ⟨S1x16x1x1, .f32⟩
  | .hbm, ⟨57, _⟩ => ⟨S1x8x1x1, .f32⟩
  | .hbm, ⟨58, _⟩ => ⟨S1x24x1x1, .f32⟩
  | .hbm, ⟨59, _⟩ => ⟨S512, .i32⟩
  | .hbm, ⟨60, _⟩ => ⟨S512x1, .i32⟩
  | .hbm, ⟨61, _⟩ => ⟨S512, .i32⟩
  | .hbm, ⟨62, _⟩ => ⟨S1x512, .i32⟩
  | .hbm, ⟨63, _⟩ => ⟨S512x512, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S512x512, .i1⟩
  | .hbm, ⟨73, _⟩ => ⟨S16x512x24x128, .f32⟩
  | .hbm, ⟨74, _⟩ => ⟨S16x512x24x128, .f32⟩
  | .hbm, ⟨75, _⟩ => ⟨S16x24x512x512, .f32⟩
  | .hbm, ⟨76, _⟩ => ⟨S_, .f32⟩
  | .hbm, ⟨77, _⟩ => ⟨S16x24x512x512, .f32⟩
  | .hbm, ⟨78, _⟩ => ⟨S16x24x512x512, .f32⟩
  | .hbm, ⟨79, _⟩ => ⟨S512x512, .f32⟩
  | .hbm, ⟨80, _⟩ => ⟨S1x1x512x512, .f32⟩
  | .hbm, ⟨81, _⟩ => ⟨S1x24x512x512, .f32⟩
  | .hbm, ⟨82, _⟩ => ⟨S1x24x512x512, .f32⟩
  | .hbm, ⟨83, _⟩ => ⟨S1x24x512x512, .f32⟩
  | .hbm, ⟨84, _⟩ => ⟨S16x24x512x512, .f32⟩
  | .hbm, ⟨85, _⟩ => ⟨S16x24x512x512, .f32⟩
  | .hbm, ⟨86, _⟩ => ⟨S_, .f32⟩
  | .hbm, ⟨87, _⟩ => ⟨S_, .f32⟩
  | .hbm, ⟨88, _⟩ => ⟨S16x24x512x512, .i1⟩
  | .hbm, ⟨89, _⟩ => ⟨S16x24x512x512, .f32⟩
  | .hbm, ⟨90, _⟩ => ⟨S16x24x512x512, .f32⟩
  | .hbm, ⟨91, _⟩ => ⟨S_, .f32⟩
  | .hbm, ⟨92, _⟩ => ⟨S16x24x512, .f32⟩
  | .hbm, ⟨93, _⟩ => ⟨S16x24x512x1, .f32⟩
  | .hbm, ⟨94, _⟩ => ⟨S16x24x512x512, .f32⟩
  | .hbm, ⟨95, _⟩ => ⟨S16x24x512x512, .f32⟩
  | .hbm, ⟨96, _⟩ => ⟨S16x24x512x512, .f32⟩
  | .hbm, ⟨97, _⟩ => ⟨S_, .f32⟩
  | .hbm, ⟨98, _⟩ => ⟨S16x24x512, .f32⟩
  | .hbm, ⟨99, _⟩ => ⟨S16x512x24x128, .f32⟩
  | .hbm, ⟨100, _⟩ => ⟨S16x24x128x512, .f32⟩
  | .hbm, ⟨101, _⟩ => ⟨S16x512x24x128, .f32⟩
  | .hbm, ⟨102, _⟩ => ⟨S16x512x24, .f32⟩
  | .hbm, ⟨103, _⟩ => ⟨S16x512x24x1, .f32⟩
  | .hbm, ⟨104, _⟩ => ⟨S16x512x24x128, .f32⟩
  | .hbm, ⟨105, _⟩ => ⟨S16x512x24x128, .f32⟩
  | .hbm, ⟨106, _⟩ => ⟨S16x24x512, .f32⟩
  | .hbm, ⟨107, _⟩ => ⟨S16x24x512, .f32⟩
  | .hbm, ⟨108, _⟩ => ⟨S16x24x512, .f32⟩
  | .hbm, ⟨109, _⟩ => ⟨S16x512x24, .f32⟩
  | .hbm, ⟨110, _⟩ => ⟨S8192x3072, .f32⟩
  | .hbm, ⟨111, _⟩ => ⟨S16x512x24x128, .f32⟩
  | .hbm, ⟨112, _⟩ => ⟨S16x512x24x128, .f32⟩
  | .hbm, ⟨113, _⟩ => ⟨S_, .f32⟩
  | .hbm, ⟨114, _⟩ => ⟨S16x512x24, .f32⟩
  | .hbm, ⟨115, _⟩ => ⟨S8192x24, .f32⟩
  | .hbm, ⟨116, _⟩ => ⟨S8192x24, .f32⟩
  | .hbm, ⟨117, _⟩ => ⟨S_, .i32⟩
  | .hbm, ⟨118, _⟩ => ⟨S_, .f32⟩
  | .hbm, ⟨119, _⟩ => ⟨S8192x128, .f32⟩
  | .hbm, ⟨120, _⟩ => ⟨S8192x24, .f32⟩
  | .hbm, ⟨121, _⟩ => ⟨S_, .i32⟩
  | .hbm, ⟨122, _⟩ => ⟨S_, .f32⟩
  | .hbm, ⟨123, _⟩ => ⟨S8192x128, .f32⟩
  | .hbm, ⟨124, _⟩ => ⟨S8192x3072, .bf16⟩
  | .hbm, ⟨125, _⟩ => ⟨S8192x3072, .bf16⟩
  | .hbm, ⟨126, _⟩ => ⟨S8192x3072, .bf16⟩
  | .local _ .vmem, ⟨0, _⟩ => ⟨S128x3072, .bf16⟩
  | .local _ .vmem, ⟨1, _⟩ => ⟨S128x3072, .bf16⟩
  | .local _ .vmem, ⟨2, _⟩ => ⟨S128x3072, .bf16⟩
  | .local _ .vmem, ⟨3, _⟩ => ⟨S128x3072, .bf16⟩
  | .local _ .vmem, ⟨4, _⟩ => ⟨S128x3072, .bf16⟩
  | .local _ .vmem, ⟨5, _⟩ => ⟨S128x3072, .bf16⟩
  | .local _ .vmem, ⟨6, _⟩ => ⟨S128x3072, .bf16⟩
  | .local _ .vmem, ⟨7, _⟩ => ⟨S128x3072, .bf16⟩
  | .local _ .vmem, ⟨8, _⟩ => ⟨S128x3072, .bf16⟩
  | .local _ .vmem, ⟨9, _⟩ => ⟨S128x3072, .bf16⟩
  | .local _ .vmem, ⟨10, _⟩ => ⟨S128x3072, .bf16⟩
  | .local _ .vmem, ⟨11, _⟩ => ⟨S128x3072, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x3072, .bf16⟩
  | .local _ .vmem, ⟨17, _⟩ => ⟨S128x3072, .bf16⟩
  | .local _ .vmem, ⟨18, _⟩ => ⟨S128x3072, .bf16⟩
  | .local _ .vmem, ⟨19, _⟩ => ⟨S128x3072, .bf16⟩
  | .local _ .vmem, ⟨20, _⟩ => ⟨S128x3072, .bf16⟩
  | .local _ .vmem, ⟨21, _⟩ => ⟨S128x3072, .bf16⟩
  | .local _ .vmem, ⟨22, _⟩ => ⟨S128x3072, .f32⟩
  | .local _ .vmem, ⟨23, _⟩ => ⟨S128x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_cst_7 : Ref sig .tc := ⟨.hbm, 24, rfl⟩
abbrev main_v11 : Ref sig .tc := ⟨.hbm, 25, rfl⟩
abbrev main_cst_8 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_cst_10 : Ref sig .tc := ⟨.hbm, 30, rfl⟩
abbrev main_v14 : Ref sig .tc := ⟨.hbm, 31, rfl⟩
abbrev main_cst_11 : Ref sig .tc := ⟨.hbm, 32, rfl⟩
abbrev main_v15 : Ref sig .tc := ⟨.hbm, 33, rfl⟩
abbrev main_cst_12 : Ref sig .tc := ⟨.hbm, 34, rfl⟩
abbrev main_v16 : Ref sig .tc := ⟨.hbm, 35, rfl⟩
abbrev main_cst_13 : Ref sig .tc := ⟨.hbm, 36, rfl⟩
abbrev main_v17 : Ref sig .tc := ⟨.hbm, 37, rfl⟩
abbrev main_cst_14 : Ref sig .tc := ⟨.hbm, 38, rfl⟩
abbrev main_v18 : Ref sig .tc := ⟨.hbm, 39, rfl⟩
abbrev main_cst_15 : Ref sig .tc := ⟨.hbm, 40, rfl⟩
abbrev main_v19 : Ref sig .tc := ⟨.hbm, 41, rfl⟩
abbrev main_cst_16 : Ref sig .tc := ⟨.hbm, 42, rfl⟩
abbrev main_v20 : Ref sig .tc := ⟨.hbm, 43, rfl⟩
abbrev main_cst_17 : Ref sig .tc := ⟨.hbm, 44, rfl⟩
abbrev main_v21 : Ref sig .tc := ⟨.hbm, 45, rfl⟩
abbrev main_cst_18 : Ref sig .tc := ⟨.hbm, 46, rfl⟩
abbrev main_v22 : Ref sig .tc := ⟨.hbm, 47, rfl⟩
abbrev main_cst_19 : Ref sig .tc := ⟨.hbm, 48, rfl⟩
abbrev main_v23 : Ref sig .tc := ⟨.hbm, 49, rfl⟩
abbrev main_cst_20 : Ref sig .tc := ⟨.hbm, 50, rfl⟩
abbrev main_v24 : Ref sig .tc := ⟨.hbm, 51, rfl⟩
abbrev main_cst_21 : Ref sig .tc := ⟨.hbm, 52, rfl⟩
abbrev main_v25 : Ref sig .tc := ⟨.hbm, 53, rfl⟩
abbrev main_cst_22 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c : Ref sig .tc := ⟨.hbm, 66, rfl⟩
abbrev main_v37 : Ref sig .tc := ⟨.hbm, 67, rfl⟩
abbrev main_v38 : Ref sig .tc := ⟨.hbm, 68, rfl⟩
abbrev main_c_23 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_24 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_25 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v54 : Ref sig .tc := ⟨.hbm, 90, rfl⟩
abbrev main_cst_26 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_27 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_28 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_29 : Ref sig .tc := ⟨.hbm, 117, rfl⟩
abbrev main_call1_v0 : Ref sig .tc := ⟨.hbm, 118, rfl⟩
abbrev main_v78 : Ref sig .tc := ⟨.hbm, 119, rfl⟩
abbrev main_v79 : Ref sig .tc := ⟨.hbm, 120, rfl⟩
abbrev main_c_30 : Ref sig .tc := ⟨.hbm, 121, rfl⟩
abbrev main_call2_v0 : Ref sig .tc := ⟨.hbm, 122, rfl⟩
abbrev main_v80 : Ref sig .tc := ⟨.hbm, 123, rfl⟩
abbrev main_v81_0 : Ref sig .tc := ⟨.hbm, 124, rfl⟩
abbrev main_v81_1 : Ref sig .tc := ⟨.hbm, 125, rfl⟩
abbrev main_v81_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8192x3072 : Shape := ⟨2, ![8192, 3072]⟩
abbrev S8192x24 : Shape := ⟨2, ![8192, 24]⟩
abbrev S_ : Shape := ⟨0, ![]⟩
abbrev S1x1x1x1 : Shape := ⟨4, ![1, 1, 1, 1]⟩
abbrev S1x16x1x1 : Shape := ⟨4, ![1, 16, 1, 1]⟩
abbrev S1x8x1x1 : Shape := ⟨4, ![1, 8, 1, 1]⟩
abbrev S1x24x1x1 : Shape := ⟨4, ![1, 24, 1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x512x24x128 : Shape := ⟨4, ![16, 512, 24, 128]⟩
abbrev S16x24x512x512 : Shape := ⟨4, ![16, 24, 512, 512]⟩
abbrev S1x1x512x512 : Shape := ⟨4, ![1, 1, 512, 512]⟩
abbrev S1x24x512x512 : Shape := ⟨4, ![1, 24, 512, 512]⟩
abbrev S16x24x512 : Shape := ⟨3, ![16, 24, 512]⟩
abbrev S16x24x512x1 : Shape := ⟨4, ![16, 24, 512, 1]⟩
abbrev S16x24x128x512 : Shape := ⟨4, ![16, 24, 128, 512]⟩
abbrev S16x512x24 : Shape := ⟨3, ![16, 512, 24]⟩
abbrev S16x512x24x1 : Shape := ⟨4, ![16, 512, 24, 1]⟩
abbrev S16x24x512x128 : Shape := ⟨4, ![16, 24, 512, 128]⟩

abbrev nBuf : Space → Nat
  | .hbm => 177
  | .vmem => 0
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x3072, .bf16⟩
  | 4 => ⟨S8192x24, .f32⟩
  | 5 => ⟨S8192x3072, .f32⟩
  | 6 => ⟨S8192x3072, .f32⟩
  | 7 => ⟨S8192x3072, .f32⟩
  | 8 => ⟨S_, .f32⟩
  | 9 => ⟨S1x1x1x1, .f32⟩
  | 10 => ⟨S_, .f32⟩
  | 11 => ⟨S1x1x1x1, .f32⟩
  | 12 => ⟨S_, .f32⟩
  | 13 => ⟨S1x1x1x1, .f32⟩
  | 14 => ⟨S_, .f32⟩
  | 15 => ⟨S1x1x1x1, .f32⟩
  | 16 => ⟨S_, .f32⟩
  | 17 => ⟨S1x1x1x1, .f32⟩
  | 18 => ⟨S_, .f32⟩
  | 19 => ⟨S1x1x1x1, .f32⟩
  | 20 => ⟨S_, .f32⟩
  | 21 => ⟨S1x1x1x1, .f32⟩
  | 22 => ⟨S_, .f32⟩
  | 23 => ⟨S1x1x1x1, .f32⟩
  | 24 => ⟨S_, .f32⟩
  | 25 => ⟨S1x1x1x1, .f32⟩
  | 26 => ⟨S_, .f32⟩
  | 27 => ⟨S1x1x1x1, .f32⟩
  | 28 => ⟨S_, .f32⟩
  | 29 => ⟨S1x1x1x1, .f32⟩
  | 30 => ⟨S_, .f32⟩
  | 31 => ⟨S1x1x1x1, .f32⟩
  | 32 => ⟨S_, .f32⟩
  | 33 => ⟨S1x1x1x1, .f32⟩
  | 34 => ⟨S_, .f32⟩
  | 35 => ⟨S1x1x1x1, .f32⟩
  | 36 => ⟨S_, .f32⟩
  | 37 => ⟨S1x1x1x1, .f32⟩
  | 38 => ⟨S_, .f32⟩
  | 39 => ⟨S1x1x1x1, .f32⟩
  | 40 => ⟨S_, .f32⟩
  | 41 => ⟨S1x1x1x1, .f32⟩
  | 42 => ⟨S_, .f32⟩
  | 43 => ⟨S1x1x1x1, .f32⟩
  | 44 => ⟨S_, .f32⟩
  | 45 => ⟨S1x1x1x1, .f32⟩
  | 46 => ⟨S_, .f32⟩
  | 47 => ⟨S1x1x1x1, .f32⟩
  | 48 => ⟨S_, .f32⟩
  | 49 => ⟨S1x1x1x1, .f32⟩
  | 50 => ⟨S_, .f32⟩
  | 51 => ⟨S1x1x1x1, .f32⟩
  | 52 => ⟨S_, .f32⟩
  | 53 => ⟨S1x1x1x1, .f32⟩
  | 54 => ⟨S_, .f32⟩
  | 55 => ⟨S1x1x1x1, .f32⟩
  | 56 => ⟨S1x16x1x1, .f32⟩
  | 57 => ⟨S1x8x1x1, .f32⟩
  | 58 => ⟨S1x24x1x1, .f32⟩
  | 59 => ⟨S512, .i32⟩
  | 60 => ⟨S512x1, .i32⟩
  | 61 => ⟨S512, .i32⟩
  | 62 => ⟨S1x512, .i32⟩
  | 63 => ⟨S512x512, .i32⟩
  | 64 => ⟨S512x512, .i32⟩
  | 65 => ⟨S512x512, .i32⟩
  | 66 => ⟨S_, .i32⟩
  | 67 => ⟨S512x512, .i32⟩
  | 68 => ⟨S512x512, .i1⟩
  | 69 => ⟨S_, .i32⟩
  | 70 => ⟨S512x512, .i32⟩
  | 71 => ⟨S512x512, .i1⟩
  | 72 => ⟨S512x512, .i1⟩
  | 73 => ⟨S16x512x24x128, .f32⟩
  | 74 => ⟨S16x512x24x128, .f32⟩
  | 75 => ⟨S16x24x512x512, .f32⟩
  | 76 => ⟨S_, .f32⟩
  | 77 => ⟨S16x24x512x512, .f32⟩
  | 78 => ⟨S16x24x512x512, .f32⟩
  | 79 => ⟨S512x512, .f32⟩
  | 80 => ⟨S1x1x512x512, .f32⟩
  | 81 => ⟨S1x24x512x512, .f32⟩
  | 82 => ⟨S1x24x512x512, .f32⟩
  | 83 => ⟨S1x24x512x512, .f32⟩
  | 84 => ⟨S16x24x512x512, .f32⟩
  | 85 => ⟨S16x24x512x512, .f32⟩
  | 86 => ⟨S_, .f32⟩
  | 87 => ⟨S_, .f32⟩
  | 88 => ⟨S16x24x512x512, .i1⟩
  | 89 => ⟨S16x24x512x512, .f32⟩
  | 90 => ⟨S16x24x512x512, .f32⟩
  | 91 => ⟨S_, .f32⟩
  | 92 => ⟨S16x24x512x512, .f32⟩
  | 93 => ⟨S_, .f32⟩
  | 94 => ⟨S16x24x512, .f32⟩
  | 95 => ⟨S16x24x512x1, .f32⟩
  | 96 => ⟨S16x24x512x512, .f32⟩
  | 97 => ⟨S16x24x512x512, .i1⟩
  | 98 => ⟨S16x24x512x512, .f32⟩
  | 99 => ⟨S_, .f32⟩
  | 100 => ⟨S16x24x512, .f32⟩
  | 101 => ⟨S16x24x512x1, .f32⟩
  | 102 => ⟨S16x24x512x512, .f32⟩
  | 103 => ⟨S16x24x512x512, .f32⟩
  | 104 => ⟨S16x24x512x512, .f32⟩
  | 105 => ⟨S_, .f32⟩
  | 106 => ⟨S16x24x512, .f32⟩
  | 107 => ⟨S16x512x24x128, .f32⟩
  | 108 => ⟨S16x24x128x512, .f32⟩
  | 109 => ⟨S16x512x24x128, .f32⟩
  | 110 => ⟨S16x512x24, .f32⟩
  | 111 => ⟨S16x512x24x1, .f32⟩
  | 112 => ⟨S16x512x24x128, .f32⟩
  | 113 => ⟨S16x512x24x128, .f32⟩
  | 114 => ⟨S16x512x24x1, .f32⟩
  | 115 => ⟨S_, .f32⟩
  | 116 => ⟨S16x512x24x1, .f32⟩
  | 117 => ⟨S16x512x24x1, .f32⟩
  | 118 => ⟨S16x24x512, .f32⟩
  | 119 => ⟨S16x24x512, .f32⟩
  | 120 => ⟨S16x24x512, .f32⟩
  | 121 => ⟨S16x512x24, .f32⟩
  | 122 => ⟨S8192x3072, .f32⟩
  | 123 => ⟨S8192x24, .f32⟩
  | 124 => ⟨S8192x3072, .f32⟩
  | 125 => ⟨S16x512x24, .f32⟩
  | 126 => ⟨S16x512x24x128, .f32⟩
  | 127 => ⟨S16x24x512, .f32⟩
  | _ => ⟨S8192x3072, .bf16⟩

abbrev hbmTy0_1 (i : Nat) : BufTy := match i % 128 with
  | 0 => ⟨S16x24x512, .f32⟩
  | 1 => ⟨S16x24x512x1, .f32⟩
  | 2 => ⟨S16x512x24x128, .f32⟩
  | 3 => ⟨S16x512x24x128, .f32⟩
  | 4 => ⟨S16x512x24x128, .f32⟩
  | 5 => ⟨S_, .f32⟩
  | 6 => ⟨S16x512x24, .f32⟩
  | 7 => ⟨S16x512x24x1, .f32⟩
  | 8 => ⟨S16x512x24x1, .f32⟩
  | 9 => ⟨S16x512x24x128, .f32⟩
  | 10 => ⟨S16x512x24x128, .f32⟩
  | 11 => ⟨S_, .f32⟩
  | 12 => ⟨S16x512x24, .f32⟩
  | 13 => ⟨S16x24x512, .f32⟩
  | 14 => ⟨S16x24x512, .f32⟩
  | 15 => ⟨S16x24x128x512, .f32⟩
  | 16 => ⟨S16x24x512x512, .f32⟩
  | 17 => ⟨S16x24x128x512, .f32⟩
  | 18 => ⟨S16x512x24x128, .f32⟩
  | 19 => ⟨S8192x3072, .f32⟩
  | 20 => ⟨S16x24x512x512, .f32⟩
  | 21 => ⟨S16x24x512x512, .f32⟩
  | 22 => ⟨S16x24x512x512, .f32⟩
  | 23 => ⟨S16x24x512x512, .f32⟩
  | 24 => ⟨S_, .f32⟩
  | 25 => ⟨S16x24x512, .f32⟩
  | 26 => ⟨S16x24x512x1, .f32⟩
  | 27 => ⟨S16x24x512x1, .f32⟩
  | 28 => ⟨S_, .f32⟩
  | 29 => ⟨S16x24x512, .f32⟩
  | 30 => ⟨S16x24x512, .f32⟩
  | 31 => ⟨S16x24x512x512, .f32⟩
  | 32 => ⟨S16x24x512x512, .f32⟩
  | 33 => ⟨S16x24x512x512, .f32⟩
  | 34 => ⟨S_, .f32⟩
  | 35 => ⟨S16x24x512x512, .f32⟩
  | 36 => ⟨S16x24x512x512, .f32⟩
  | 37 => ⟨S_, .f32⟩
  | 38 => ⟨S16x24x512x512, .f32⟩
  | 39 => ⟨S16x24x512x512, .f32⟩
  | 40 => ⟨S16x24x512x128, .f32⟩
  | 41 => ⟨S16x512x24x128, .f32⟩
  | 42 => ⟨S16x24x512x128, .f32⟩
  | 43 => ⟨S16x512x24x128, .f32⟩
  | 44 => ⟨S8192x3072, .f32⟩
  | 45 => ⟨S8192x3072, .f32⟩
  | 46 => ⟨S8192x3072, .bf16⟩
  | 47 => ⟨S8192x3072, .bf16⟩
  | 48 => ⟨S8192x3072, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_cst_7 : Ref sig .tc := ⟨.hbm, 24, rfl⟩
abbrev main_v11 : Ref sig .tc := ⟨.hbm, 25, rfl⟩
abbrev main_cst_8 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_cst_10 : Ref sig .tc := ⟨.hbm, 30, rfl⟩
abbrev main_v14 : Ref sig .tc := ⟨.hbm, 31, rfl⟩
abbrev main_cst_11 : Ref sig .tc := ⟨.hbm, 32, rfl⟩
abbrev main_v15 : Ref sig .tc := ⟨.hbm, 33, rfl⟩
abbrev main_cst_12 : Ref sig .tc := ⟨.hbm, 34, rfl⟩
abbrev main_v16 : Ref sig .tc := ⟨.hbm, 35, rfl⟩
abbrev main_cst_13 : Ref sig .tc := ⟨.hbm, 36, rfl⟩
abbrev main_v17 : Ref sig .tc := ⟨.hbm, 37, rfl⟩
abbrev main_cst_14 : Ref sig .tc := ⟨.hbm, 38, rfl⟩
abbrev main_v18 : Ref sig .tc := ⟨.hbm, 39, rfl⟩
abbrev main_cst_15 : Ref sig .tc := ⟨.hbm, 40, rfl⟩
abbrev main_v19 : Ref sig .tc := ⟨.hbm, 41, rfl⟩
abbrev main_cst_16 : Ref sig .tc := ⟨.hbm, 42, rfl⟩
abbrev main_v20 : Ref sig .tc := ⟨.hbm, 43, rfl⟩
abbrev main_cst_17 : Ref sig .tc := ⟨.hbm, 44, rfl⟩
abbrev main_v21 : Ref sig .tc := ⟨.hbm, 45, rfl⟩
abbrev main_cst_18 : Ref sig .tc := ⟨.hbm, 46, rfl⟩
abbrev main_v22 : Ref sig .tc := ⟨.hbm, 47, rfl⟩
abbrev main_cst_19 : Ref sig .tc := ⟨.hbm, 48, rfl⟩
abbrev main_v23 : Ref sig .tc := ⟨.hbm, 49, rfl⟩
abbrev main_cst_20 : Ref sig .tc := ⟨.hbm, 50, rfl⟩
abbrev main_v24 : Ref sig .tc := ⟨.hbm, 51, rfl⟩
abbrev main_cst_21 : Ref sig .tc := ⟨.hbm, 52, rfl⟩
abbrev main_v25 : Ref sig .tc := ⟨.hbm, 53, rfl⟩
abbrev main_cst_22 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c : Ref sig .tc := ⟨.hbm, 66, rfl⟩
abbrev main_v37 : Ref sig .tc := ⟨.hbm, 67, rfl⟩
abbrev main_v38 : Ref sig .tc := ⟨.hbm, 68, rfl⟩
abbrev main_c_23 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_24 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_25 : Ref sig .tc := ⟨.hbm, 86, rfl⟩
abbrev main_call0_v0 : Ref sig .tc := ⟨.hbm, 87, rfl⟩
abbrev main_v54_1 : Ref sig .tc := ⟨.hbm, 88, rfl⟩
abbrev main_call0_v2 : Ref sig .tc := ⟨.hbm, 89, rfl⟩
abbrev main_v54_0 : Ref sig .tc := ⟨.hbm, 90, rfl⟩
abbrev main_call0_cst : Ref sig .tc := ⟨.hbm, 91, rfl⟩
abbrev main_v54_2 : Ref sig .tc := ⟨.hbm, 92, rfl⟩
abbrev main_cst_26 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_27 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_28 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_29 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_30 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_31 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_32 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_33 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call1_cst : Ref sig .tc := ⟨.hbm, 162, rfl⟩
abbrev main_call1_v0 : Ref sig .tc := ⟨.hbm, 163, rfl⟩
abbrev main_v116 : Ref sig .tc := ⟨.hbm, 164, rfl⟩
abbrev main_cst_34 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩

abbrev nD : Nat := 1
abbrev τ : Topo := Topo.v7x

variable {F : FTy → Type} [FloatOps F]
-- ==== Kernel5.lean ====
abbrev S256x2048 : Shape := ⟨2, ![256, 2048]⟩
abbrev S2048x2048 : Shape := ⟨2, ![2048, 2048]⟩
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩
abbrev S256x1024 : Shape := ⟨2, ![256, 1024]⟩
abbrev S1024x1024 : Shape := ⟨2, ![1024, 1024]⟩
abbrev S8192x512 : Shape := ⟨2, ![8192, 512]⟩
abbrev S512x128 : Shape := ⟨2, ![512, 128]⟩

abbrev nBuf : Space → Nat
  | .hbm => 14
  | .vmem => 30
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .hbm, ⟨4, _⟩ => ⟨S8192x2048, .bf16⟩
  | .hbm, ⟨5, _⟩ => ⟨S2048x128, .bf16⟩
  | .hbm, ⟨6, _⟩ => ⟨S8192x128, .f32⟩
  | .hbm, ⟨7, _⟩ => ⟨S8192x2048, .f32⟩
  | .hbm, ⟨8, _⟩ => ⟨S256x2048, .bf16⟩
  | .hbm, ⟨9, _⟩ => ⟨S8192x128, .f32⟩
  | .hbm, ⟨10, _⟩ => ⟨S2048x2048, .bf16⟩
  | .hbm, ⟨11, _⟩ => ⟨S256x2048, .f32⟩
  | .hbm, ⟨12, _⟩ => ⟨S8192x2048, .f32⟩
  | .hbm, ⟨13, _⟩ => ⟨S2048x128, .bf16⟩
  | .local _ .vmem, ⟨0, _⟩ => ⟨S256x2048, .bf16⟩
  | .local _ .vmem, ⟨1, _⟩ => ⟨S2048x2048, .bf16⟩
  | .local _ .vmem, ⟨2, _⟩ => ⟨S256x2048, .bf16⟩
  | .local _ .vmem, ⟨3, _⟩ => ⟨S1024x2048, .bf16⟩
  | .local _ .vmem, ⟨4, _⟩ => ⟨S1024x2048, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S256x1024, .bf16⟩
  | .local _ .vmem, ⟨9, _⟩ => ⟨S256x1024, .bf16⟩
  | .local _ .vmem, ⟨10, _⟩ => ⟨S256x2048, .f32⟩
  | .local _ .vmem, ⟨11, _⟩ => ⟨S1024x2048, .bf16⟩
  | .local _ .vmem, ⟨12, _⟩ => ⟨S1024x2048, .bf16⟩
  | .local _ .vmem, ⟨13, _⟩ => ⟨S256x2048, .f32⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S1024x128, .f32⟩
  | .local _ .vmem, ⟨18, _⟩ => ⟨S1024x128, .f32⟩
  | .local _ .vmem, ⟨19, _⟩ => ⟨S1024x128, .bf16⟩
  | .local _ .vmem, ⟨20, _⟩ => ⟨S1024x128, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S8192x512, .bf16⟩
  | .local _ .vmem, ⟨26, _⟩ => ⟨S8192x512, .bf16⟩
  | .local _ .vmem, ⟨27, _⟩ => ⟨S8192x128, .f32⟩
  | .local _ .vmem, ⟨28, _⟩ => ⟨S512x128, .bf16⟩
  | .local _ .vmem, ⟨29, _⟩ => ⟨S512x128, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc4_stg0_0 : Ref sig .tc := ⟨.vmem, 17, rfl⟩
abbrev cc4_stg0_1 : Ref sig .tc := ⟨.vmem, 18, rfl⟩
abbrev cc4_stg1_0 : Ref sig .tc := ⟨.vmem, 19, rfl⟩
abbrev cc4_stg1_1 : Ref sig .tc := ⟨.vmem, 20, rfl⟩
abbrev cc4_stg2_0 : Ref sig .tc := ⟨.vmem, 21, rfl⟩
abbrev cc4_stg2_1 : Ref sig .tc := ⟨.vmem, 22, rfl⟩
abbrev cc4_stg3_0 : Ref sig .tc := ⟨.vmem, 23, rfl⟩
abbrev cc4_stg3_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem2_0 : DmaSem sig := 15
abbrev cc3_sem3_0 : DmaSem sig := 16
abbrev cc4_sem0_0 : DmaSem sig := 17
abbrev cc4_sem0_1 : DmaSem sig := 18
abbrev cc4_sem1_0 : DmaSem sig := 19
abbrev cc4_sem1_1 : DmaSem sig := 20
abbrev cc4_sem2_0 : DmaSem sig := 21
abbrev cc4_sem2_1 : DmaSem sig := 22
abbrev cc4_sem3_0 : DmaSem sig := 23
abbrev cc4_sem3_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S256x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S256x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S256x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev stage3_3 : Fin 1 → Memref sig .tc .vmem S256x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, false]

abbrev grid4 : Pipeline.Grid := ⟨3, ![8, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S8192x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S8192x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S512x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference5Ideal.lean ====
abbrev S256x2048 : Shape := ⟨2, ![256, 2048]⟩
abbrev S2048x2048 : Shape := ⟨2, ![2048, 2048]⟩
abbrev S8192x2048 : Shape := ⟨2, ![8192, 2048]⟩
abbrev S2048x128 : Shape := ⟨2, ![2048, 128]⟩
abbrev S8192x128 : Shape := ⟨2, ![8192, 128]⟩
abbrev S128x2048 : Shape := ⟨2, ![128, 2048]⟩

abbrev nBuf : Space → Nat
  | .hbm => 25
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .hbm, ⟨4, _⟩ => ⟨S8192x2048, .bf16⟩
  | .hbm, ⟨5, _⟩ => ⟨S2048x128, .bf16⟩
  | .hbm, ⟨6, _⟩ => ⟨S8192x128, .f32⟩
  | .hbm, ⟨7, _⟩ => ⟨S8192x2048, .f32⟩
  | .hbm, ⟨8, _⟩ => ⟨S256x2048, .f32⟩
  | .hbm, ⟨9, _⟩ => ⟨S2048x2048, .f32⟩
  | .hbm, ⟨10, _⟩ => ⟨S8192x2048, .f32⟩
  | .hbm, ⟨11, _⟩ => ⟨S2048x128, .f32⟩
  | .hbm, ⟨12, _⟩ => ⟨S256x2048, .f32⟩
  | .hbm, ⟨13, _⟩ => ⟨S8192x128, .f32⟩
  | .hbm, ⟨14, _⟩ => ⟨S128x2048, .f32⟩
  | .hbm, ⟨15, _⟩ => ⟨S2048x128, .f32⟩
  | .hbm, ⟨16, _⟩ => ⟨S8192x2048, .f32⟩
  | .hbm, ⟨17, _⟩ => ⟨S2048x2048, .f32⟩
  | .hbm, ⟨18, _⟩ => ⟨S2048x2048, .f32⟩
  | .hbm, ⟨19, _⟩ => ⟨S256x2048, .f32⟩
  | .hbm, ⟨20, _⟩ => ⟨S256x2048, .bf16⟩
  | .hbm, ⟨21, _⟩ => ⟨S2048x2048, .bf16⟩
  | .hbm, ⟨22, _⟩ => ⟨S256x2048, .f32⟩
  | .hbm, ⟨23, _⟩ => ⟨S8192x2048, .f32⟩
  | .hbm, ⟨24, _⟩ => ⟨S2048x128, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel6.lean ====
abbrev S8192x3072 : Shape := ⟨2, ![8192, 3072]⟩
abbrev S8192x24 : Shape := ⟨2, ![8192, 24]⟩
abbrev S_ : Shape := ⟨0, ![]⟩
abbrev S1x1x1x1 : Shape := ⟨4, ![1, 1, 1, 1]⟩
abbrev S1x16x1x1 : Shape := ⟨4, ![1, 16, 1, 1]⟩
abbrev S1x8x1x1 : Shape := ⟨4, ![1, 8, 1, 1]⟩
abbrev S1x24x1x1 : Shape := ⟨4, ![1, 24, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048x24x128 : Shape := ⟨4, ![4, 2048, 24, 128]⟩
abbrev S4x24x2048x2048 : Shape := ⟨4, ![4, 24, 2048, 2048]⟩
abbrev S1x1x2048x2048 : Shape := ⟨4, ![1, 1, 2048, 2048]⟩
abbrev S1x24x2048x2048 : Shape := ⟨4, ![1, 24, 2048, 2048]⟩
abbrev S4x24x2048 : Shape := ⟨3, ![4, 24, 2048]⟩
abbrev S4x24x2048x1 : Shape := ⟨4, ![4, 24, 2048, 1]⟩
abbrev S4x24x128x2048 : Shape := ⟨4, ![4, 24, 128, 2048]⟩
abbrev S4x2048x24 : Shape := ⟨3, ![4, 2048, 24]⟩
abbrev S4x2048x24x1 : Shape := ⟨4, ![4, 2048, 24, 1]⟩
abbrev S8192x128 : Shape := ⟨2, ![8192, 128]⟩
abbrev S128x3072 : Shape := ⟨2, ![128, 3072]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 127
  | .vmem => 24
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x3072, .bf16⟩
  | .hbm, ⟨3, _⟩ => ⟨S8192x3072, .bf16⟩
  | .hbm, ⟨4, _⟩ => ⟨S8192x24, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S1x1x1x1, .f32⟩
  | .hbm, ⟨10, _⟩ => ⟨S_, .f32⟩
  | .hbm, ⟨11, _⟩ => ⟨S1x1x1x1, .f32⟩
  | .hbm, ⟨12, _⟩ => ⟨S_, .f32⟩
  | .hbm, ⟨13, _⟩ => ⟨S1x1x1x1, .f32⟩
  | .hbm, ⟨14, _⟩ => ⟨S_, .f32⟩
  | .hbm, ⟨15, _⟩ => ⟨S1x1x1x1, .f32⟩
  | .hbm, ⟨16, _⟩ => ⟨S_, .f32⟩
  | .hbm, ⟨17, _⟩ => ⟨S1x1x1x1, .f32⟩
  | .hbm, ⟨18, _⟩ => ⟨S_, .f32⟩
  | .hbm, ⟨19, _⟩ => ⟨S1x1x1x1, .f32⟩
  | .hbm, ⟨20, _⟩ => ⟨S_, .f32⟩
  | .hbm, ⟨21, _⟩ => ⟨S1x1x1x1, .f32⟩
  | .hbm, ⟨22, _⟩ => ⟨S_, .f32⟩
  | .hbm, ⟨23, _⟩ => ⟨S1x1x1x1, .f32⟩
  | .hbm, ⟨24, _⟩ => ⟨S_, .f32⟩
  | .hbm, ⟨25, _⟩ => ⟨S1x1x1x1, .f32⟩
  | .hbm, ⟨26, _⟩ => ⟨S_, .f32⟩
  | .hbm, ⟨27, _⟩ => ⟨S1x1x1x1, .f32⟩
  | .hbm, ⟨28, _⟩ => ⟨S_, .f32⟩
  | .hbm, ⟨29, _⟩ => ⟨S1x1x1x1, .f32⟩
  | .hbm, ⟨30, _⟩ => ⟨S_, .f32⟩
  | .hbm, ⟨31, _⟩ => ⟨S1x1x1x1, .f32⟩
  | .hbm, ⟨32, _⟩ => ⟨S_, .f32⟩
  | .hbm, ⟨33, _⟩ => ⟨S1x1x1x1, .f32⟩
  | .hbm, ⟨34, _⟩ => ⟨S_, .f32⟩
  | .hbm, ⟨35, _⟩ => ⟨S1x1x1x1, .f32⟩
  | .hbm, ⟨36, _⟩ => ⟨S_, .f32⟩
  | .hbm, ⟨37, _⟩ => ⟨S1x1x1x1, .f32⟩
  | .hbm, ⟨38, _⟩ => ⟨S_, .f32⟩
  | .hbm, ⟨39, _⟩ => ⟨S1x1x1x1, .f32⟩
  | .hbm, ⟨40, _⟩ => ⟨S_, .f32⟩
  | .hbm, ⟨41, _⟩ => ⟨S1x1x1x1, .f32⟩
  | .hbm, ⟨42, _⟩ => ⟨S_, .f32⟩
  | .hbm, ⟨43, _⟩ => ⟨S1x1x1x1, .f32⟩
  | .hbm, ⟨44, _⟩ => ⟨S_, .f32⟩
  | .hbm, ⟨45, _⟩ => ⟨S1x1x1x1, .f32⟩
  | .hbm, ⟨46, _⟩ => ⟨S_, .f32⟩
  | .hbm, ⟨47, _⟩ => ⟨S1x1x1x1, .f32⟩
  | .hbm, ⟨48, _⟩ => ⟨S_, .f32⟩
  | .hbm, ⟨49, _⟩ => ⟨S1x1x1x1, .f32⟩
  | .hbm, ⟨50, _⟩ => ⟨S_, .f32⟩
  | .hbm, ⟨51, _⟩ => ⟨S1x1x1x1, .f32⟩
  | .hbm, ⟨52, _⟩ => ⟨S_, .f32⟩
  | .hbm, ⟨53, _⟩ => ⟨S1x1x1x1, .f32⟩
  | .hbm, ⟨54, _⟩ => ⟨S_, .f32⟩
  | .hbm, ⟨55, _⟩ => ⟨S1x1x1x1, .f32⟩
  | .hbm, ⟨56, _⟩ => ⟨S1x16x1x1, .f32⟩
  | .hbm, ⟨57, _⟩ => ⟨S1x8x1x1, .f32⟩
  | .hbm, ⟨58, _⟩ => ⟨S1x24x1x1, .f32⟩
  | .hbm, ⟨59, _⟩ => ⟨S2048, .i32⟩
  | .hbm, ⟨60, _⟩ => ⟨S2048x1, .i32⟩
  | .hbm, ⟨61, _⟩ => ⟨S2048, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S2048x2048, .i1⟩
  | .hbm, ⟨73, _⟩ => ⟨S4x2048x24x128, .f32⟩
  | .hbm, ⟨74, _⟩ => ⟨S4x2048x24x128, .f32⟩
  | .hbm, ⟨75, _⟩ => ⟨S4x24x2048x2048, .f32⟩
  | .hbm, ⟨76, _⟩ => ⟨S_, .f32⟩
  | .hbm, ⟨77, _⟩ => ⟨S4x24x2048x2048, .f32⟩
  | .hbm, ⟨78, _⟩ => ⟨S4x24x2048x2048, .f32⟩
  | .hbm, ⟨79, _⟩ => ⟨S2048x2048, .f32⟩
  | .hbm, ⟨80, _⟩ => ⟨S1x1x2048x2048, .f32⟩
  | .hbm, ⟨81, _⟩ => ⟨S1x24x2048x2048, .f32⟩
  | .hbm, ⟨82, _⟩ => ⟨S1x24x2048x2048, .f32⟩
  | .hbm, ⟨83, _⟩ => ⟨S1x24x2048x2048, .f32⟩
  | .hbm, ⟨84, _⟩ => ⟨S4x24x2048x2048, .f32⟩
  | .hbm, ⟨85, _⟩ => ⟨S4x24x2048x2048, .f32⟩
  | .hbm, ⟨86, _⟩ => ⟨S_, .f32⟩
  | .hbm, ⟨87, _⟩ => ⟨S_, .f32⟩
  | .hbm, ⟨88, _⟩ => ⟨S4x24x2048x2048, .i1⟩
  | .hbm, ⟨89, _⟩ => ⟨S4x24x2048x2048, .f32⟩
  | .hbm, ⟨90, _⟩ => ⟨S4x24x2048x2048, .f32⟩
  | .hbm, ⟨91, _⟩ => ⟨S_, .f32⟩
  | .hbm, ⟨92, _⟩ => ⟨S4x24x2048, .f32⟩
  | .hbm, ⟨93, _⟩ => ⟨S4x24x2048x1, .f32⟩
  | .hbm, ⟨94, _⟩ => ⟨S4x24x2048x2048, .f32⟩
  | .hbm, ⟨95, _⟩ => ⟨S4x24x2048x2048, .f32⟩
  | .hbm, ⟨96, _⟩ => ⟨S4x24x2048x2048, .f32⟩
  | .hbm, ⟨97, _⟩ => ⟨S_, .f32⟩
  | .hbm, ⟨98, _⟩ => ⟨S4x24x2048, .f32⟩
  | .hbm, ⟨99, _⟩ => ⟨S4x2048x24x128, .f32⟩
  | .hbm, ⟨100, _⟩ => ⟨S4x24x128x2048, .f32⟩
  | .hbm, ⟨101, _⟩ => ⟨S4x2048x24x128, .f32⟩
  | .hbm, ⟨102, _⟩ => ⟨S4x2048x24, .f32⟩
  | .hbm, ⟨103, _⟩ => ⟨S4x2048x24x1, .f32⟩
  | .hbm, ⟨104, _⟩ => ⟨S4x2048x24x128, .f32⟩
  | .hbm, ⟨105, _⟩ => ⟨S4x2048x24x128, .f32⟩
  | .hbm, ⟨106, _⟩ => ⟨S4x24x2048, .f32⟩
  | .hbm, ⟨107, _⟩ => ⟨S4x24x2048, .f32⟩
  | .hbm, ⟨108, _⟩ => ⟨S4x24x2048, .f32⟩
  | .hbm, ⟨109, _⟩ => ⟨S4x2048x24, .f32⟩
  | .hbm, ⟨110, _⟩ => ⟨S8192x3072, .f32⟩
  | .hbm, ⟨111, _⟩ => ⟨S4x2048x24x128, .f32⟩
  | .hbm, ⟨112, _⟩ => ⟨S4x2048x24x128, .f32⟩
  | .hbm, ⟨113, _⟩ => ⟨S_, .f32⟩
  | .hbm, ⟨114, _⟩ => ⟨S4x2048x24, .f32⟩
  | .hbm, ⟨115, _⟩ => ⟨S8192x24, .f32⟩
  | .hbm, ⟨116, _⟩ => ⟨S8192x24, .f32⟩
  | .hbm, ⟨117, _⟩ => ⟨S_, .i32⟩
  | .hbm, ⟨118, _⟩ => ⟨S_, .f32⟩
  | .hbm, ⟨119, _⟩ => ⟨S8192x128, .f32⟩
  | .hbm, ⟨120, _⟩ => ⟨S8192x24, .f32⟩
  | .hbm, ⟨121, _⟩ => ⟨S_, .i32⟩
  | .hbm, ⟨122, _⟩ => ⟨S_, .f32⟩
  | .hbm, ⟨123, _⟩ => ⟨S8192x128, .f32⟩
  | .hbm, ⟨124, _⟩ => ⟨S8192x3072, .bf16⟩
  | .hbm, ⟨125, _⟩ => ⟨S8192x3072, .bf16⟩
  | .hbm, ⟨126, _⟩ => ⟨S8192x3072, .bf16⟩
  | .local _ .vmem, ⟨0, _⟩ => ⟨S128x3072, .bf16⟩
  | .local _ .vmem, ⟨1, _⟩ => ⟨S128x3072, .bf16⟩
  | .local _ .vmem, ⟨2, _⟩ => ⟨S128x3072, .bf16⟩
  | .local _ .vmem, ⟨3, _⟩ => ⟨S128x3072, .bf16⟩
  | .local _ .vmem, ⟨4, _⟩ => ⟨S128x3072, .bf16⟩
  | .local _ .vmem, ⟨5, _⟩ => ⟨S128x3072, .bf16⟩
  | .local _ .vmem, ⟨6, _⟩ => ⟨S128x3072, .bf16⟩
  | .local _ .vmem, ⟨7, _⟩ => ⟨S128x3072, .bf16⟩
  | .local _ .vmem, ⟨8, _⟩ => ⟨S128x3072, .bf16⟩
  | .local _ .vmem, ⟨9, _⟩ => ⟨S128x3072, .bf16⟩
  | .local _ .vmem, ⟨10, _⟩ => ⟨S128x3072, .bf16⟩
  | .local _ .vmem, ⟨11, _⟩ => ⟨S128x3072, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x3072, .bf16⟩
  | .local _ .vmem, ⟨17, _⟩ => ⟨S128x3072, .bf16⟩
  | .local _ .vmem, ⟨18, _⟩ => ⟨S128x3072, .bf16⟩
  | .local _ .vmem, ⟨19, _⟩ => ⟨S128x3072, .bf16⟩
  | .local _ .vmem, ⟨20, _⟩ => ⟨S128x3072, .bf16⟩
  | .local _ .vmem, ⟨21, _⟩ => ⟨S128x3072, .bf16⟩
  | .local _ .vmem, ⟨22, _⟩ => ⟨S128x3072, .f32⟩
  | .local _ .vmem, ⟨23, _⟩ => ⟨S128x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_cst_7 : Ref sig .tc := ⟨.hbm, 24, rfl⟩
abbrev main_v11 : Ref sig .tc := ⟨.hbm, 25, rfl⟩
abbrev main_cst_8 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_cst_10 : Ref sig .tc := ⟨.hbm, 30, rfl⟩
abbrev main_v14 : Ref sig .tc := ⟨.hbm, 31, rfl⟩
abbrev main_cst_11 : Ref sig .tc := ⟨.hbm, 32, rfl⟩
abbrev main_v15 : Ref sig .tc := ⟨.hbm, 33, rfl⟩
abbrev main_cst_12 : Ref sig .tc := ⟨.hbm, 34, rfl⟩
abbrev main_v16 : Ref sig .tc := ⟨.hbm, 35, rfl⟩
abbrev main_cst_13 : Ref sig .tc := ⟨.hbm, 36, rfl⟩
abbrev main_v17 : Ref sig .tc := ⟨.hbm, 37, rfl⟩
abbrev main_cst_14 : Ref sig .tc := ⟨.hbm, 38, rfl⟩
abbrev main_v18 : Ref sig .tc := ⟨.hbm, 39, rfl⟩
abbrev main_cst_15 : Ref sig .tc := ⟨.hbm, 40, rfl⟩
abbrev main_v19 : Ref sig .tc := ⟨.hbm, 41, rfl⟩
abbrev main_cst_16 : Ref sig .tc := ⟨.hbm, 42, rfl⟩
abbrev main_v20 : Ref sig .tc := ⟨.hbm, 43, rfl⟩
abbrev main_cst_17 : Ref sig .tc := ⟨.hbm, 44, rfl⟩
abbrev main_v21 : Ref sig .tc := ⟨.hbm, 45, rfl⟩
abbrev main_cst_18 : Ref sig .tc := ⟨.hbm, 46, rfl⟩
abbrev main_v22 : Ref sig .tc := ⟨.hbm, 47, rfl⟩
abbrev main_cst_19 : Ref sig .tc := ⟨.hbm, 48, rfl⟩
abbrev main_v23 : Ref sig .tc := ⟨.hbm, 49, rfl⟩
abbrev main_cst_20 : Ref sig .tc := ⟨.hbm, 50, rfl⟩
abbrev main_v24 : Ref sig .tc := ⟨.hbm, 51, rfl⟩
abbrev main_cst_21 : Ref sig .tc := ⟨.hbm, 52, rfl⟩
abbrev main_v25 : Ref sig .tc := ⟨.hbm, 53, rfl⟩
abbrev main_cst_22 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c : Ref sig .tc := ⟨.hbm, 66, rfl⟩
abbrev main_v37 : Ref sig .tc := ⟨.hbm, 67, rfl⟩
abbrev main_v38 : Ref sig .tc := ⟨.hbm, 68, rfl⟩
abbrev main_c_23 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_24 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_25 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v54 : Ref sig .tc := ⟨.hbm, 90, rfl⟩
abbrev main_cst_26 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_27 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_28 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_29 : Ref sig .tc := ⟨.hbm, 117, rfl⟩
abbrev main_call1_v0 : Ref sig .tc := ⟨.hbm, 118, rfl⟩
abbrev main_v78 : Ref sig .tc := ⟨.hbm, 119, rfl⟩
abbrev main_v79 : Ref sig .tc := ⟨.hbm, 120, rfl⟩
abbrev main_c_30 : Ref sig .tc := ⟨.hbm, 121, rfl⟩
abbrev main_call2_v0 : Ref sig .tc := ⟨.hbm, 122, rfl⟩
abbrev main_v80 : Ref sig .tc := ⟨.hbm, 123, rfl⟩
abbrev main_v81_0 : Ref sig .tc := ⟨.hbm, 124, rfl⟩
abbrev main_v81_1 : Ref sig .tc := ⟨.hbm, 125, rfl⟩
abbrev main_v81_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c16_i32_2 : BitVec 32 := 16#32
  let v6 : BitVec 1 := Scalar.cmpi .eq arg1 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S8192x3072 : Shape := ⟨2, ![8192, 3072]⟩
abbrev S8192x24 : Shape := ⟨2, ![8192, 24]⟩
abbrev S_ : Shape := ⟨0, ![]⟩
abbrev S1x1x1x1 : Shape := ⟨4, ![1, 1, 1, 1]⟩
abbrev S1x16x1x1 : Shape := ⟨4, ![1, 16, 1, 1]⟩
abbrev S1x8x1x1 : Shape := ⟨4, ![1, 8, 1, 1]⟩
abbrev S1x24x1x1 : Shape := ⟨4, ![1, 24, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048x24x128 : Shape := ⟨4, ![4, 2048, 24, 128]⟩
abbrev S4x24x2048x2048 : Shape := ⟨4, ![4, 24, 2048, 2048]⟩
abbrev S1x1x2048x2048 : Shape := ⟨4, ![1, 1, 2048, 2048]⟩
abbrev S1x24x2048x2048 : Shape := ⟨4, ![1, 24, 2048, 2048]⟩
abbrev S4x24x2048 : Shape := ⟨3, ![4, 24, 2048]⟩
abbrev S4x24x2048x1 : Shape := ⟨4, ![4, 24, 2048, 1]⟩
abbrev S4x24x128x2048 : Shape := ⟨4, ![4, 24, 128, 2048]⟩
abbrev S4x2048x24 : Shape := ⟨3, ![4, 2048, 24]⟩
abbrev S4x2048x24x1 : Shape := ⟨4, ![4, 2048, 24, 1]⟩
abbrev S4x24x2048x128 : Shape := ⟨4, ![4, 24, 2048, 128]⟩

abbrev nBuf : Space → Nat
  | .hbm => 177
  | .vmem => 0
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x3072, .bf16⟩
  | 4 => ⟨S8192x24, .f32⟩
  | 5 => ⟨S8192x3072, .f32⟩
  | 6 => ⟨S8192x3072, .f32⟩
  | 7 => ⟨S8192x3072, .f32⟩
  | 8 => ⟨S_, .f32⟩
  | 9 => ⟨S1x1x1x1, .f32⟩
  | 10 => ⟨S_, .f32⟩
  | 11 => ⟨S1x1x1x1, .f32⟩
  | 12 => ⟨S_, .f32⟩
  | 13 => ⟨S1x1x1x1, .f32⟩
  | 14 => ⟨S_, .f32⟩
  | 15 => ⟨S1x1x1x1, .f32⟩
  | 16 => ⟨S_, .f32⟩
  | 17 => ⟨S1x1x1x1, .f32⟩
  | 18 => ⟨S_, .f32⟩
  | 19 => ⟨S1x1x1x1, .f32⟩
  | 20 => ⟨S_, .f32⟩
  | 21 => ⟨S1x1x1x1, .f32⟩
  | 22 => ⟨S_, .f32⟩
  | 23 => ⟨S1x1x1x1, .f32⟩
  | 24 => ⟨S_, .f32⟩
  | 25 => ⟨S1x1x1x1, .f32⟩
  | 26 => ⟨S_, .f32⟩
  | 27 => ⟨S1x1x1x1, .f32⟩
  | 28 => ⟨S_, .f32⟩
  | 29 => ⟨S1x1x1x1, .f32⟩
  | 30 => ⟨S_, .f32⟩
  | 31 => ⟨S1x1x1x1, .f32⟩
  | 32 => ⟨S_, .f32⟩
  | 33 => ⟨S1x1x1x1, .f32⟩
  | 34 => ⟨S_, .f32⟩
  | 35 => ⟨S1x1x1x1, .f32⟩
  | 36 => ⟨S_, .f32⟩
  | 37 => ⟨S1x1x1x1, .f32⟩
  | 38 => ⟨S_, .f32⟩
  | 39 => ⟨S1x1x1x1, .f32⟩
  | 40 => ⟨S_, .f32⟩
  | 41 => ⟨S1x1x1x1, .f32⟩
  | 42 => ⟨S_, .f32⟩
  | 43 => ⟨S1x1x1x1, .f32⟩
  | 44 => ⟨S_, .f32⟩
  | 45 => ⟨S1x1x1x1, .f32⟩
  | 46 => ⟨S_, .f32⟩
  | 47 => ⟨S1x1x1x1, .f32⟩
  | 48 => ⟨S_, .f32⟩
  | 49 => ⟨S1x1x1x1, .f32⟩
  | 50 => ⟨S_, .f32⟩
  | 51 => ⟨S1x1x1x1, .f32⟩
  | 52 => ⟨S_, .f32⟩
  | 53 => ⟨S1x1x1x1, .f32⟩
  | 54 => ⟨S_, .f32⟩
  | 55 => ⟨S1x1x1x1, .f32⟩
  | 56 => ⟨S1x16x1x1, .f32⟩
  | 57 => ⟨S1x8x1x1, .f32⟩
  | 58 => ⟨S1x24x1x1, .f32⟩
  | 59 => ⟨S2048, .i32⟩
  | 60 => ⟨S2048x1, .i32⟩
  | 61 => ⟨S2048, .i32⟩
  | 62 => ⟨S1x2048, .i32⟩
  | 63 => ⟨S2048x2048, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S_, .i32⟩
  | 70 => ⟨S2048x2048, .i32⟩
  | 71 => ⟨S2048x2048, .i1⟩
  | 72 => ⟨S2048x2048, .i1⟩
  | 73 => ⟨S4x2048x24x128, .f32⟩
  | 74 => ⟨S4x2048x24x128, .f32⟩
  | 75 => ⟨S4x24x2048x2048, .f32⟩
  | 76 => ⟨S_, .f32⟩
  | 77 => ⟨S4x24x2048x2048, .f32⟩
  | 78 => ⟨S4x24x2048x2048, .f32⟩
  | 79 => ⟨S2048x2048, .f32⟩
  | 80 => ⟨S1x1x2048x2048, .f32⟩
  | 81 => ⟨S1x24x2048x2048, .f32⟩
  | 82 => ⟨S1x24x2048x2048, .f32⟩
  | 83 => ⟨S1x24x2048x2048, .f32⟩
  | 84 => ⟨S4x24x2048x2048, .f32⟩
  | 85 => ⟨S4x24x2048x2048, .f32⟩
  | 86 => ⟨S_, .f32⟩
  | 87 => ⟨S_, .f32⟩
  | 88 => ⟨S4x24x2048x2048, .i1⟩
  | 89 => ⟨S4x24x2048x2048, .f32⟩
  | 90 => ⟨S4x24x2048x2048, .f32⟩
  | 91 => ⟨S_, .f32⟩
  | 92 => ⟨S4x24x2048x2048, .f32⟩
  | 93 => ⟨S_, .f32⟩
  | 94 => ⟨S4x24x2048, .f32⟩
  | 95 => ⟨S4x24x2048x1, .f32⟩
  | 96 => ⟨S4x24x2048x2048, .f32⟩
  | 97 => ⟨S4x24x2048x2048, .i1⟩
  | 98 => ⟨S4x24x2048x2048, .f32⟩
  | 99 => ⟨S_, .f32⟩
  | 100 => ⟨S4x24x2048, .f32⟩
  | 101 => ⟨S4x24x2048x1, .f32⟩
  | 102 => ⟨S4x24x2048x2048, .f32⟩
  | 103 => ⟨S4x24x2048x2048, .f32⟩
  | 104 => ⟨S4x24x2048x2048, .f32⟩
  | 105 => ⟨S_, .f32⟩
  | 106 => ⟨S4x24x2048, .f32⟩
  | 107 => ⟨S4x2048x24x128, .f32⟩
  | 108 => ⟨S4x24x128x2048, .f32⟩
  | 109 => ⟨S4x2048x24x128, .f32⟩
  | 110 => ⟨S4x2048x24, .f32⟩
  | 111 => ⟨S4x2048x24x1, .f32⟩
  | 112 => ⟨S4x2048x24x128, .f32⟩
  | 113 => ⟨S4x2048x24x128, .f32⟩
  | 114 => ⟨S4x2048x24x1, .f32⟩
  | 115 => ⟨S_, .f32⟩
  | 116 => ⟨S4x2048x24x1, .f32⟩
  | 117 => ⟨S4x2048x24x1, .f32⟩
  | 118 => ⟨S4x24x2048, .f32⟩
  | 119 => ⟨S4x24x2048, .f32⟩
  | 120 => ⟨S4x24x2048, .f32⟩
  | 121 => ⟨S4x2048x24, .f32⟩
  | 122 => ⟨S8192x3072, .f32⟩
  | 123 => ⟨S8192x24, .f32⟩
  | 124 => ⟨S8192x3072, .f32⟩
  | 125 => ⟨S4x2048x24, .f32⟩
  | 126 => ⟨S4x2048x24x128, .f32⟩
  | 127 => ⟨S4x24x2048, .f32⟩
  | _ => ⟨S8192x3072, .bf16⟩

abbrev hbmTy0_1 (i : Nat) : BufTy := match i % 128 with
  | 0 => ⟨S4x24x2048, .f32⟩
  | 1 => ⟨S4x24x2048x1, .f32⟩
  | 2 => ⟨S4x2048x24x128, .f32⟩
  | 3 => ⟨S4x2048x24x128, .f32⟩
  | 4 => ⟨S4x2048x24x128, .f32⟩
  | 5 => ⟨S_, .f32⟩
  | 6 => ⟨S4x2048x24, .f32⟩
  | 7 => ⟨S4x2048x24x1, .f32⟩
  | 8 => ⟨S4x2048x24x1, .f32⟩
  | 9 => ⟨S4x2048x24x128, .f32⟩
  | 10 => ⟨S4x2048x24x128, .f32⟩
  | 11 => ⟨S_, .f32⟩
  | 12 => ⟨S4x2048x24, .f32⟩
  | 13 => ⟨S4x24x2048, .f32⟩
  | 14 => ⟨S4x24x2048, .f32⟩
  | 15 => ⟨S4x24x128x2048, .f32⟩
  | 16 => ⟨S4x24x2048x2048, .f32⟩
  | 17 => ⟨S4x24x128x2048, .f32⟩
  | 18 => ⟨S4x2048x24x128, .f32⟩
  | 19 => ⟨S8192x3072, .f32⟩
  | 20 => ⟨S4x24x2048x2048, .f32⟩
  | 21 => ⟨S4x24x2048x2048, .f32⟩
  | 22 => ⟨S4x24x2048x2048, .f32⟩
  | 23 => ⟨S4x24x2048x2048, .f32⟩
  | 24 => ⟨S_, .f32⟩
  | 25 => ⟨S4x24x2048, .f32⟩
  | 26 => ⟨S4x24x2048x1, .f32⟩
  | 27 => ⟨S4x24x2048x1, .f32⟩
  | 28 => ⟨S_, .f32⟩
  | 29 => ⟨S4x24x2048, .f32⟩
  | 30 => ⟨S4x24x2048, .f32⟩
  | 31 => ⟨S4x24x2048x2048, .f32⟩
  | 32 => ⟨S4x24x2048x2048, .f32⟩
  | 33 => ⟨S4x24x2048x2048, .f32⟩
  | 34 => ⟨S_, .f32⟩
  | 35 => ⟨S4x24x2048x2048, .f32⟩
  | 36 => ⟨S4x24x2048x2048, .f32⟩
  | 37 => ⟨S_, .f32⟩
  | 38 => ⟨S4x24x2048x2048, .f32⟩
  | 39 => ⟨S4x24x2048x2048, .f32⟩
  | 40 => ⟨S4x24x2048x128, .f32⟩
  | 41 => ⟨S4x2048x24x128, .f32⟩
  | 42 => ⟨S4x24x2048x128, .f32⟩
  | 43 => ⟨S4x2048x24x128, .f32⟩
  | 44 => ⟨S8192x3072, .f32⟩
  | 45 => ⟨S8192x3072, .f32⟩
  | 46 => ⟨S8192x3072, .bf16⟩
  | 47 => ⟨S8192x3072, .bf16⟩
  | 48 => ⟨S8192x3072, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_cst_7 : Ref sig .tc := ⟨.hbm, 24, rfl⟩
abbrev main_v11 : Ref sig .tc := ⟨.hbm, 25, rfl⟩
abbrev main_cst_8 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_cst_10 : Ref sig .tc := ⟨.hbm, 30, rfl⟩
abbrev main_v14 : Ref sig .tc := ⟨.hbm, 31, rfl⟩
abbrev main_cst_11 : Ref sig .tc := ⟨.hbm, 32, rfl⟩
abbrev main_v15 : Ref sig .tc := ⟨.hbm, 33, rfl⟩
abbrev main_cst_12 : Ref sig .tc := ⟨.hbm, 34, rfl⟩
abbrev main_v16 : Ref sig .tc := ⟨.hbm, 35, rfl⟩
abbrev main_cst_13 : Ref sig .tc := ⟨.hbm, 36, rfl⟩
abbrev main_v17 : Ref sig .tc := ⟨.hbm, 37, rfl⟩
abbrev main_cst_14 : Ref sig .tc := ⟨.hbm, 38, rfl⟩
abbrev main_v18 : Ref sig .tc := ⟨.hbm, 39, rfl⟩
abbrev main_cst_15 : Ref sig .tc := ⟨.hbm, 40, rfl⟩
abbrev main_v19 : Ref sig .tc := ⟨.hbm, 41, rfl⟩
abbrev main_cst_16 : Ref sig .tc := ⟨.hbm, 42, rfl⟩
abbrev main_v20 : Ref sig .tc := ⟨.hbm, 43, rfl⟩
abbrev main_cst_17 : Ref sig .tc := ⟨.hbm, 44, rfl⟩
abbrev main_v21 : Ref sig .tc := ⟨.hbm, 45, rfl⟩
abbrev main_cst_18 : Ref sig .tc := ⟨.hbm, 46, rfl⟩
abbrev main_v22 : Ref sig .tc := ⟨.hbm, 47, rfl⟩
abbrev main_cst_19 : Ref sig .tc := ⟨.hbm, 48, rfl⟩
abbrev main_v23 : Ref sig .tc := ⟨.hbm, 49, rfl⟩
abbrev main_cst_20 : Ref sig .tc := ⟨.hbm, 50, rfl⟩
abbrev main_v24 : Ref sig .tc := ⟨.hbm, 51, rfl⟩
abbrev main_cst_21 : Ref sig .tc := ⟨.hbm, 52, rfl⟩
abbrev main_v25 : Ref sig .tc := ⟨.hbm, 53, rfl⟩
abbrev main_cst_22 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c : Ref sig .tc := ⟨.hbm, 66, rfl⟩
abbrev main_v37 : Ref sig .tc := ⟨.hbm, 67, rfl⟩
abbrev main_v38 : Ref sig .tc := ⟨.hbm, 68, rfl⟩
abbrev main_c_23 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_24 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_25 : Ref sig .tc := ⟨.hbm, 86, rfl⟩
abbrev main_call0_v0 : Ref sig .tc := ⟨.hbm, 87, rfl⟩
abbrev main_v54_1 : Ref sig .tc := ⟨.hbm, 88, rfl⟩
abbrev main_call0_v2 : Ref sig .tc := ⟨.hbm, 89, rfl⟩
abbrev main_v54_0 : Ref sig .tc := ⟨.hbm, 90, rfl⟩
abbrev main_call0_cst : Ref sig .tc := ⟨.hbm, 91, rfl⟩
abbrev main_v54_2 : Ref sig .tc := ⟨.hbm, 92, rfl⟩
abbrev main_cst_26 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_27 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_28 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_29 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_30 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_31 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_32 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_33 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call1_cst : Ref sig .tc := ⟨.hbm, 162, rfl⟩
abbrev main_call1_v0 : Ref sig .tc := ⟨.hbm, 163, rfl⟩
abbrev main_v116 : Ref sig .tc := ⟨.hbm, 164, rfl⟩
abbrev main_cst_34 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩

abbrev nD : Nat := 1
abbrev τ : Topo := Topo.v7x

variable {F : FTy → Type} [FloatOps F]
-- ==== Proof.MemAttn.Row.lean ====
module

public import Idealize.ShloMosaic.PureOps.Ideal
public import Idealize.ShloMosaic.PureOps.Ideal.Laws
public import Idealize.ShloMosaic.Lib.IdealHost
public import Idealize.ShloMosaic.Lib.Pointwise

/-! The gradient of a softmax, one query row at a time, over the extended reals.

`n` keys; `s` the scores of one query, `d` the gradient of the loss with respect to the probabilities.
The kernel forms `p (d - Σ d p)`; the derivative of `e / Σ e` taken by the quotient rule is
`(d / Σ e + -(Σ d (1 / (Σ e)²) e)) e`. The two agree when the scores are real numbers, whatever `d` is. -/

@[expose] public section

noncomputable section

namespace Cert.MemAttn

open Idealize.ShloMosaic

variable {n : ℕ}

/-- The largest score. -/
def top (s : Fin n → EReal) : EReal := Finset.univ.fold max ⊥ s

/-- The shifted exponentials. -/
def expo (s : Fin n → EReal) (k : Fin n) : EReal := Ideal.exp (s k - top s)

/-- Their sum. -/
def den (s : Fin n → EReal) : EReal := ∑ k, expo s k

/-- The softmax. -/
def prob (s : Fin n → EReal) (k : Fin n) : EReal := Ideal.div (expo s k) (den s)

/-- The gradient with respect to the scores, as the kernel forms it. -/
def grad (s d : Fin n → EReal) (k : Fin n) : EReal := prob s k * (d k - ∑ l, d l * prob s l)

/-- The gradient with respect to the scores, by the quotient rule. -/
def gradQuot (s d : Fin n → EReal) (k : Fin n) : EReal :=
  (Ideal.div (d k) (den s) + -(∑ l, d l * Ideal.div 1 (den s * den s) * expo s l)) * expo s k

/-- A fold of `max` over real scores, of which there is at least one, is real. -/
theorem top_real (s : Fin n → ℝ) (h : 0 < n) : ∃ r : ℝ, top (fun k => (s k : EReal)) = r := by
  have key : ∀ (S : Finset (Fin n)), S.Nonempty → ∃ r : ℝ, S.fold max ⊥ (fun k => (s k : EReal)) = r := by
    intro S hS
    induction hS using Finset.Nonempty.cons_induction with
    | singleton a => exact ⟨s a, by simp⟩
    | cons a S ha _ ih =>
      obtain ⟨r, hr⟩ := ih
      exact ⟨max (s a) r, by rw [Finset.fold_cons, hr]; exact (EReal.coe_strictMono.monotone.map_max).symm⟩
  exact key Finset.univ ⟨⟨0, h⟩, Finset.mem_univ _⟩

/-- Over real scores the exponentials are positive reals. -/
theorem expo_real (s : Fin n → ℝ) (h : 0 < n) :
    ∃ e : Fin n → ℝ, (∀ k, 0 < e k) ∧ ∀ k, expo (fun k => (s k : EReal)) k = e k := by
  obtain ⟨r, hr⟩ := top_real s h
  refine ⟨fun k => Real.exp (s k - r), fun k => Real.exp_pos _, fun k => ?_⟩
  rw [expo, hr, ← EReal.coe_sub, Ideal.exp_coe]

theorem coe_mul_add (c : ℝ) (hc : 0 ≤ c) (x y : EReal) : (c : EReal) * (x + y) = c * x + c * y :=
  EReal.left_distrib_of_nonneg_of_ne_top (EReal.coe_nonneg.mpr hc) (EReal.coe_ne_top c) x y

theorem coe_sum (e : Fin n → ℝ) : ((∑ k, e k : ℝ) : EReal) = ∑ k, (e k : EReal) := by
  have key : ∀ S : Finset (Fin n), ((∑ k ∈ S, e k : ℝ) : EReal) = ∑ k ∈ S, (e k : EReal) := by
    intro S
    induction S using Finset.cons_induction with
    | empty => simp
    | cons a S ha ih => rw [Finset.sum_cons, Finset.sum_cons, ← ih, EReal.coe_add]
  exact key _

/-- A nonnegative real factor distributes over a finite sum of extended reals. -/
theorem mul_sum_of_nonneg (c : ℝ) (hc : 0 ≤ c) (f : Fin n → EReal) :
    (c : EReal) * ∑ k, f k = ∑ k, (c : EReal) * f k := by
  have key : ∀ S : Finset (Fin n), (c : EReal) * ∑ k ∈ S, f k = ∑ k ∈ S, (c : EReal) * f k := by
    intro S
    induction S using Finset.cons_induction with
    | empty => simp
    | cons a S ha ih => rw [Finset.sum_cons, Finset.sum_cons, ← ih, coe_mul_add c hc]
  exact key _

/-- THE EQUATION: at real scores the quotient rule's gradient is the kernel's. -/
theorem gradQuot_eq (s : Fin n → ℝ) (d : Fin n → EReal) (k : Fin n) :
    gradQuot (fun k => (s k : EReal)) d k = grad (fun k => (s k : EReal)) d k := by
  have hn : 0 < n := lt_of_le_of_lt (Nat.zero_le _) k.isLt
  obtain ⟨e, he, hx⟩ := expo_real s hn
  have hden : den (fun k => (s k : EReal)) = ((∑ k, e k : ℝ) : EReal) := by
    rw [den, coe_sum]; exact Finset.sum_congr rfl fun k _ => hx k
  set t : ℝ := ∑ k, e k with ht
  have htp : 0 < t := Finset.sum_pos (fun k _ => he k) ⟨k, Finset.mem_univ _⟩
  have hp : ∀ l, prob (fun k => (s k : EReal)) l = ((e l / t : ℝ) : EReal) := fun l => by
    rw [prob, hden, hx, Ideal.div_coe htp.ne', ← EReal.coe_mul, mul_one_div]
  have hone : Ideal.div 1 ((t : EReal) * (t : EReal)) = ((1 / (t * t) : ℝ) : EReal) := by
    rw [← EReal.coe_mul, Ideal.div_coe (mul_pos htp htp).ne', one_mul]
  have hsum : ∑ l, d l * ((1 / (t * t) : ℝ) : EReal) * (e l : EReal)
      = ((1 / t : ℝ) : EReal) * ∑ l, d l * ((e l / t : ℝ) : EReal) := by
    rw [mul_sum_of_nonneg _ (by positivity)]
    refine Finset.sum_congr rfl fun l _ => ?_
    rw [mul_assoc, ← EReal.coe_mul, mul_left_comm, ← EReal.coe_mul]
    congr 2
    field_simp
  rw [gradQuot, grad, hden]
  simp only [hx, hp, hone]
  rw [hsum, Ideal.div_coe htp.ne', mul_comm (d k), ← mul_neg, ← coe_mul_add _ (by positivity), mul_comm,
    ← mul_assoc, ← EReal.coe_mul, mul_one_div, sub_eq_add_neg]

end Cert.MemAttn

end
-- ==== Proof.MemAttn.Spec.lean ====
module

public import proofs.«01_k».proof.Proof.MemAttn.Row

/-! The gradient of the memory cross-attention, as functions of the rows and columns of its arrays: queries `x0`
(`R` rows, 4 heads of 256 columns), keys and values `x1` (256 rows; the 1024 columns of the keys, then those of the
values), and the cotangent `x2` of the output. `R` is 8192 for the whole arrays and 512 for a block. -/

@[expose] public section

noncomputable section

namespace Cert.MemAttn

open Idealize.ShloMosaic

/-- The scale of the scores, `1/16`, the word both programs hold. -/
abbrev scale : EReal := Ideal.ofBits .f32 0x3D800000#32

theorem ofBits_bot : Ideal.ofBits .f32 0xFF800000#32 = ⊥ := by simp [Ideal.ofBits, Ideal.ieee]

/-- A matrix by row and column. -/
abbrev mat {a b : ℕ} {φ : FTy} (x : FVec Ideal ⟨2, ![a, b]⟩ φ) (i : Fin a) (j : Fin b) : EReal := x (ix2 i j)

/-- Column `e` of head `h` among the 1024 columns of the queries. -/
def col (h : Fin 4) (e : Fin 256) : Fin 1024 := ⟨h * 256 + e, by omega⟩
/-- Column `e` of head `h`'s keys among the 2048 columns of keys and values. -/
def kcol (h : Fin 4) (e : Fin 256) : Fin 2048 := ⟨h * 256 + e, by omega⟩
/-- Column `e` of head `h`'s values. -/
def vcol (h : Fin 4) (e : Fin 256) : Fin 2048 := ⟨1024 + h * 256 + e, by omega⟩

section
variable {R : ℕ} (x0 : Fin R → Fin 1024 → EReal) (x1 : Fin 256 → Fin 2048 → EReal) (x2 : Fin R → Fin 1024 → EReal)

/-- The scores of row `r` under head `h`. -/
def sco (h : Fin 4) (r : Fin R) (n : Fin 256) : EReal := (∑ e : Fin 256, x0 r (col h e) * x1 n (kcol h e)) * scale

/-- The gradient with respect to the probabilities of row `r` under head `h`. -/
def dpr (h : Fin 4) (r : Fin R) (n : Fin 256) : EReal := ∑ e : Fin 256, x2 r (col h e) * x1 n (vcol h e)

/-- The scaled gradient with respect to the scores. -/
def dsc (h : Fin 4) (r : Fin R) (n : Fin 256) : EReal := grad (sco x0 x1 h r) (dpr x1 x2 h r) n * scale

/-- The gradient of the queries. -/
def dqv (h : Fin 4) (r : Fin R) (e : Fin 256) : EReal := ∑ n : Fin 256, dsc x0 x1 x2 h r n * x1 n (kcol h e)

/-- Row `r`'s contribution to the gradient of the keys. -/
def dkRow (h : Fin 4) (n e : Fin 256) (r : Fin R) : EReal := dsc x0 x1 x2 h r n * x0 r (col h e)

/-- Row `r`'s contribution to the gradient of the values. -/
def dvRow (h : Fin 4) (n e : Fin 256) (r : Fin R) : EReal := prob (sco x0 x1 h r) n * x2 r (col h e)

/-- Row `r`'s contribution to the gradient of keys and values at column `C` of 2048. -/
def kvRow (n : Fin 256) (C : Fin 2048) (r : Fin R) : EReal :=
  if hC : C.val < 1024 then dkRow x0 x1 x2 ⟨C / 256, by omega⟩ n ⟨C % 256, by omega⟩ r
  else dvRow x0 x1 x2 ⟨C / 256 - 4, by omega⟩ n ⟨C % 256, by omega⟩ r

/-- The gradient of the queries at column `C` of 1024. -/
def dqAt (r : Fin R) (C : Fin 1024) : EReal := dqv x0 x1 x2 ⟨C / 256, by omega⟩ r ⟨C % 256, by omega⟩

theorem kvRow_k (n : Fin 256) (C : Fin 2048) (r : Fin R) (h : Fin 4) (e : Fin 256) (hC : C.val = h * 256 + e) :
    kvRow x0 x1 x2 n C r = dkRow x0 x1 x2 h n e r := by
  obtain ⟨C, _⟩ := C
  obtain rfl : C = h * 256 + e := hC
  have hh : (⟨(h * 256 + e) / 256, by omega⟩ : Fin 4) = h := Fin.ext (by show (h.val * 256 + e.val) / 256 = h.val; omega)
  have he : (⟨(h * 256 + e) % 256, by omega⟩ : Fin 256) = e := Fin.ext (by show (h.val * 256 + e.val) % 256 = e.val; omega)
  rw [kvRow, dif_pos (by show h.val * 256 + e.val < 1024; omega)]
  exact congrArg₂ (fun a b => dkRow x0 x1 x2 a n b r) hh he

theorem kvRow_v (n : Fin 256) (C : Fin 2048) (r : Fin R) (h : Fin 4) (e : Fin 256) (hC : C.val = 1024 + h * 256 + e) :
    kvRow x0 x1 x2 n C r = dvRow x0 x1 x2 h n e r := by
  obtain ⟨C, _⟩ := C
  obtain rfl : C = 1024 + h * 256 + e := hC
  have hh : (⟨(1024 + h * 256 + e) / 256 - 4, by omega⟩ : Fin 4) = h :=
    Fin.ext (by show (1024 + h.val * 256 + e.val) / 256 - 4 = h.val; omega)
  have he : (⟨(1024 + h * 256 + e) % 256, by omega⟩ : Fin 256) = e :=
    Fin.ext (by show (1024 + h.val * 256 + e.val) % 256 = e.val; omega)
  rw [kvRow, dif_neg (by show ¬(1024 + h.val * 256 + e.val < 1024); omega)]
  exact congrArg₂ (fun a b => dvRow x0 x1 x2 a n b r) hh he

theorem dqAt_eq (r : Fin R) (C : Fin 1024) (h : Fin 4) (e : Fin 256) (hC : C.val = h * 256 + e) :
    dqAt x0 x1 x2 r C = dqv x0 x1 x2 h r e := by
  obtain ⟨C, _⟩ := C
  obtain rfl : C = h * 256 + e := hC
  have hh : (⟨(h * 256 + e) / 256, by omega⟩ : Fin 4) = h := Fin.ext (by show (h.val * 256 + e.val) / 256 = h.val; omega)
  have he : (⟨(h * 256 + e) % 256, by omega⟩ : Fin 256) = e := Fin.ext (by show (h.val * 256 + e.val) % 256 = e.val; omega)
  rw [dqAt]
  exact congrArg₂ (fun a b => dqv x0 x1 x2 a r b) hh he

end

section
variable {R R' : ℕ} {x0 x2 : Fin R → Fin 1024 → EReal} {x1 x1' : Fin 256 → Fin 2048 → EReal}
  {x0' x2' : Fin R' → Fin 1024 → EReal} {r : Fin R} {r' : Fin R'}

/-- The gradient of a query reads the query's own row only. -/
theorem dqAt_congr (h0 : x0 r = x0' r') (h1 : x1 = x1') (h2 : x2 r = x2' r') (C : Fin 1024) :
    dqAt x0 x1 x2 r C = dqAt x0' x1' x2' r' C := by
  subst h1
  simp only [dqAt, dqv, dsc]
  have hs : ∀ h, sco x0 x1 h r = sco x0' x1 h r' := fun h => by funext n; simp only [sco, h0]
  have hd : ∀ h, dpr x1 x2 h r = dpr x1 x2' h r' := fun h => by funext n; simp only [dpr, h2]
  simp only [hs, hd]

/-- So does its contribution to keys and values. -/
theorem kvRow_congr (h0 : x0 r = x0' r') (h1 : x1 = x1') (h2 : x2 r = x2' r') (n : Fin 256) (C : Fin 2048) :
    kvRow x0 x1 x2 n C r = kvRow x0' x1' x2' n C r' := by
  subst h1
  have hs : ∀ h, sco x0 x1 h r = sco x0' x1 h r' := fun h => by funext n; simp only [sco, h0]
  have hd : ∀ h, dpr x1 x2 h r = dpr x1 x2' h r' := fun h => by funext n; simp only [dpr, h2]
  simp only [kvRow, dkRow, dvRow, dsc, hs, hd, h0, h2]
end

end Cert.MemAttn

end
-- ==== Proof.MemAttn.Head.lean ====
module

public import proofs.«01_k».proof.Proof.MemAttn.Spec
public import proofs.«01_k».proof.Proof.Gen.KernelIdeal.Skeleton

/-! What the kernel's body computes for one head of one block of queries: the values of its stored vectors at an index,
in terms of the row functions. -/

@[expose] public section

set_option maxRecDepth 16384
noncomputable section

namespace Cert.KernelIdeal.MemAttn

open Cert.KernelIdeal Cert.KernelIdeal.Gen Cert.MemAttn Idealize.ShloMosaic

/-- The scores of query row `r` of a block against the keys. -/
abbrev sc (q : FVec Ideal S512x256 .bf16) (mk : FVec Ideal S256x256 .bf16) (r : Fin 512) (n : Fin 256) : EReal :=
  (∑ e : Fin 256, q (ix2 r e) * mk (ix2 n e)) * scale

/-- The gradient with respect to the probabilities of query row `r`. -/
abbrev dp (dy : FVec Ideal S512x256 .f32) (mv : FVec Ideal S256x256 .bf16) (r : Fin 512) (n : Fin 256) : EReal :=
  ∑ e : Fin 256, dy (ix2 r e) * mv (ix2 n e)

/-- The probabilities. -/
theorem pay3_at (q : FVec Ideal S512x256 .bf16) (mk : FVec Ideal S256x256 .bf16) (r : Fin 512) (n : Fin 256) :
    k0_pay3 (F := Ideal) q mk (ix2 r n) = prob (sc q mk r) n := by
  pointwise [k0_pay3, prob, den, expo, top, ofBits_bot]

/-- The scaled gradient of the scores. -/
theorem pay5_at (q : FVec Ideal S512x256 .bf16) (mk : FVec Ideal S256x256 .bf16) (dy : FVec Ideal S512x256 .f32)
    (mv : FVec Ideal S256x256 .bf16) (r : Fin 512) (n : Fin 256) :
    k0_pay5 (F := Ideal) q mk dy mv (ix2 r n) = grad (sc q mk r) (dp dy mv r) n * scale := by
  pointwise [k0_pay5, k0_pay4, pay3_at, grad]

/-- The gradient of the queries. -/
theorem pay6_at (q : FVec Ideal S512x256 .bf16) (mk : FVec Ideal S256x256 .bf16) (dy : FVec Ideal S512x256 .f32)
    (mv : FVec Ideal S256x256 .bf16) (mk' : FVec Ideal S256x256 .bf16) (r : Fin 512) (e : Fin 256) :
    k0_pay6 (F := Ideal) q mk dy mv mk' (ix2 r e)
      = ∑ n : Fin 256, grad (sc q mk r) (dp dy mv r) n * scale * mk' (ix2 n e) := by
  pointwise [k0_pay6, pay5_at]

/-- The gradient of the keys: what the block adds to the accumulator. -/
theorem pay7_at (q : FVec Ideal S512x256 .bf16) (mk : FVec Ideal S256x256 .bf16) (dy : FVec Ideal S512x256 .f32)
    (mv : FVec Ideal S256x256 .bf16) (acc : FVec Ideal S256x256 .f32) (n e : Fin 256) :
    k0_pay7 (F := Ideal) q (k0_pay5 q mk dy mv) acc (ix2 n e)
      = acc (ix2 n e) + ∑ r : Fin 512, grad (sc q mk r) (dp dy mv r) n * scale * q (ix2 r e) := by
  pointwise [k0_pay7, pay5_at]

/-- The gradient of the values: what the block adds to the accumulator. -/
theorem pay8_at (q : FVec Ideal S512x256 .bf16) (mk : FVec Ideal S256x256 .bf16) (dy : FVec Ideal S512x256 .f32)
    (acc : FVec Ideal S256x256 .f32) (n e : Fin 256) :
    k0_pay8 (F := Ideal) (k0_pay3 q mk) (k0_pay4 dy) acc (ix2 n e)
      = acc (ix2 n e) + ∑ r : Fin 512, prob (sc q mk r) n * dy (ix2 r e) := by
  pointwise [k0_pay8, k0_pay4, pay3_at]

section Bridges
variable (q : FVec Ideal S512x256 .bf16) (mk mk' mv : FVec Ideal S256x256 .bf16) (dy : FVec Ideal S512x256 .f32)
  (acc : FVec Ideal S256x256 .f32)

theorem dq1 : k0_pay13 (F := Ideal) (k0_pay11 q mk dy mv) mk' = k0_pay6 q mk dy mv mk' := rfl
theorem dk1 : k0_pay14 (F := Ideal) q (k0_pay11 q mk dy mv) acc = k0_pay7 q (k0_pay5 q mk dy mv) acc := rfl
theorem dv1 : k0_pay15 (F := Ideal) (k0_pay9 q mk) (k0_pay10 dy) acc = k0_pay8 (k0_pay3 q mk) (k0_pay4 dy) acc := rfl
theorem dq2 : k0_pay19 (F := Ideal) (k0_pay16 q mk) dy mv mk' = k0_pay6 q mk dy mv mk' := rfl
theorem dk2 : k0_pay20 (F := Ideal) q (k0_pay16 q mk) dy mv acc = k0_pay7 q (k0_pay5 q mk dy mv) acc := rfl
theorem dv2 : k0_pay21 (F := Ideal) (k0_pay16 q mk) dy acc = k0_pay8 (k0_pay3 q mk) (k0_pay4 dy) acc := rfl
theorem dq3 : k0_pay26 (F := Ideal) (k0_pay22 q mk) dy mv mk' = k0_pay6 q mk dy mv mk' := rfl
theorem dk3 : k0_pay27 (F := Ideal) q (k0_pay22 q mk) dy mv acc = k0_pay7 q (k0_pay5 q mk dy mv) acc := rfl
theorem dv3 : k0_pay1 (F := Ideal) (k0_pay24 dy) (k0_pay28 acc) (k0_pay29 (k0_pay22 q mk))
    = k0_pay8 (k0_pay3 q mk) (k0_pay4 dy) acc := rfl
end Bridges

end Cert.KernelIdeal.MemAttn

end
-- ==== Proof.MemAttn.Block.lean ====
module

public import proofs.«01_k».proof.Proof.MemAttn.Head
public import proofs.«01_k».proof.Proof.Gen.KernelIdeal.Value
public import Idealize.ShloMosaic.Lib.Pipeline.ValueKit
public import Idealize.ShloMosaic.Lib.Pipeline.ReadBack

/-! One grid point: what the body leaves in the two output blocks, from the blocks of queries `x0`, memory keys and
values `x1`, and cotangent `x2` it reads. -/

@[expose] public section

set_option maxRecDepth 16384
noncomputable section

namespace Cert.KernelIdeal.MemAttn

open Cert.KernelIdeal Cert.KernelIdeal.Gen Cert.MemAttn Idealize.ShloMosaic

section
variable (X0 : FVec Ideal S512x1024 .bf16) (X1 : FVec Ideal S256x2048 .bf16) (X2 : FVec Ideal S512x1024 .f32)
  (A : FVec Ideal S256x2048 .f32)
  (q : FVec Ideal S512x256 .bf16) (mk mv : FVec Ideal S256x256 .bf16) (dy : FVec Ideal S512x256 .f32)
  (acc : FVec Ideal S256x256 .f32) (h : Fin 4)

/-- The queries' store of head `h`. -/
theorem store_dq (x : S512x256.Idx) (j : S512x1024.Idx) (j0 : (j 0 : ℕ) = x 0) (j1 : (j 1 : ℕ) = h * 256 + x 1)
    (hq : ∀ r e, q (ix2 r e) = X0 (ix2 r (col h e))) (hk : ∀ n e, mk (ix2 n e) = X1 (ix2 n (kcol h e)))
    (hd : ∀ r e, dy (ix2 r e) = X2 (ix2 r (col h e))) (hv : ∀ n e, mv (ix2 n e) = X1 (ix2 n (vcol h e))) :
    k0_pay6 (F := Ideal) q mk dy mv mk x = dqAt (mat X0) (mat X1) (mat X2) (j 0) (j 1) := by
  have hs : sc q mk = sco (mat X0) (mat X1) h := by funext r n; simp only [sc, sco, hq, hk]
  have hp : dp dy mv = dpr (mat X1) (mat X2) h := by funext r n; simp only [dp, dpr, hd, hv]
  idx_vars x
  rw [pay6_at, hs, hp]
  refine Eq.trans ?_ (dqAt_eq (mat X0) (mat X1) (mat X2) (j 0) (j 1) h x1 j1).symm
  rw [show (j 0 : Fin 512) = x0 from Fin.ext j0]
  simp only [hk, dqv, dsc]

/-- The keys' store of head `h`. -/
theorem store_dk (x : S256x256.Idx) (j : S256x2048.Idx) (j0 : (j 0 : ℕ) = x 0) (j1 : (j 1 : ℕ) = h * 256 + x 1)
    (hq : ∀ r e, q (ix2 r e) = X0 (ix2 r (col h e))) (hk : ∀ n e, mk (ix2 n e) = X1 (ix2 n (kcol h e)))
    (hd : ∀ r e, dy (ix2 r e) = X2 (ix2 r (col h e))) (hv : ∀ n e, mv (ix2 n e) = X1 (ix2 n (vcol h e)))
    (ha : acc x = A j) :
    k0_pay7 (F := Ideal) q (k0_pay5 q mk dy mv) acc x
      = A j + ∑ r : Fin 512, kvRow (mat X0) (mat X1) (mat X2) (j 0) (j 1) r := by
  have hs : sc q mk = sco (mat X0) (mat X1) h := by funext r n; simp only [sc, sco, hq, hk]
  have hp : dp dy mv = dpr (mat X1) (mat X2) h := by funext r n; simp only [dp, dpr, hd, hv]
  idx_vars x
  rw [pay7_at, hs, hp, show (j 0 : Fin 256) = x0 from Fin.ext j0, ha]
  simp only [hq, kvRow_k _ _ _ _ _ _ h x1 j1, dkRow, dsc]

/-- The values' store of head `h`. -/
theorem store_dv (x : S256x256.Idx) (j : S256x2048.Idx) (j0 : (j 0 : ℕ) = x 0) (j1 : (j 1 : ℕ) = 1024 + h * 256 + x 1)
    (hq : ∀ r e, q (ix2 r e) = X0 (ix2 r (col h e))) (hk : ∀ n e, mk (ix2 n e) = X1 (ix2 n (kcol h e)))
    (hd : ∀ r e, dy (ix2 r e) = X2 (ix2 r (col h e))) (ha : acc x = A j) :
    k0_pay8 (F := Ideal) (k0_pay3 q mk) (k0_pay4 dy) acc x
      = A j + ∑ r : Fin 512, kvRow (mat X0) (mat X1) (mat X2) (j 0) (j 1) r := by
  have hs : sc q mk = sco (mat X0) (mat X1) h := by funext r n; simp only [sc, sco, hq, hk]
  idx_vars x
  rw [pay8_at, hs, show (j 0 : Fin 256) = x0 from Fin.ext j0, ha]
  simp only [hd, kvRow_v _ _ _ _ _ _ h x1 j1, dvRow]

end

section
variable (c : Dev nD) (i : grid0.Coords) (X0 : FVec Ideal S512x1024 .bf16) (X1 : FVec Ideal S256x2048 .bf16)
  (X2 : FVec Ideal S512x1024 .f32) (A : FVec Ideal S256x2048 .f32)

/-- Earlier stores do not show where later stores cover. -/
theorem canon_append_of_cover {Val : EltTy → Type} {S : Shape} {e : EltTy} [∀ e, Nonempty (Val e)]
    (L' : List (View.Piece Val S e)) (y : S.Idx) : ∀ L : List (View.Piece Val S e), (∃ p ∈ L, y ∈ p.1.set) →
    View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' y L ?_
      obtain ⟨q, hq, hyq⟩ := hy
      rcases List.mem_cons.mp hq with rfl | hq'
      · exact absurd hyq hm
      · exact ⟨q, hq', hyq⟩

/-- A point after the first adds the block's rows to the accumulator. -/
theorem out4_B (a1 ha1 a2 ha2 a3 ha3 a4 ha4 a5 ha5 hc) (j : S256x2048.Idx) :
    out0_B_4 (F := Ideal) c i a1 ha1 a2 ha2 a3 ha3 a4 ha4 a5 ha5 hc X0 X1 X2 A j
      = A j + ∑ r : Fin 512, kvRow (mat X0) (mat X1) (mat X2) (j 0) (j 1) r := by
  frame_out
  canon_tiles x h
  case piece0 => exact (congrFun (dv3 _ _ _ _) x).trans (store_dv X0 X1 X2 A _ _ _ _ 3 x j h0 (by omega) (fun r e => by pointwise; rfl) (fun r e => by pointwise; rfl)
      (fun r e => by pointwise; rfl) (by pointwise; blk_ext))
  case piece1 => exact (congrFun (dk3 _ _ _ _ _) x).trans (store_dk X0 X1 X2 A _ _ _ _ _ 3 x j h0 (by omega) (fun r e => by pointwise; rfl) (fun r e => by pointwise; rfl)
      (fun r e => by pointwise; rfl) (fun r e => by pointwise; rfl) (by pointwise; blk_ext))
  case piece2 => exact (congrFun (dv2 _ _ _ _) x).trans (store_dv X0 X1 X2 A _ _ _ _ 2 x j h0 (by omega) (fun r e => by pointwise; rfl) (fun r e => by pointwise; rfl)
      (fun r e => by pointwise; rfl) (by pointwise; blk_ext))
  case piece3 => exact (congrFun (dk2 _ _ _ _ _) x).trans (store_dk X0 X1 X2 A _ _ _ _ _ 2 x j h0 (by omega) (fun r e => by pointwise; rfl) (fun r e => by pointwise; rfl)
      (fun r e => by pointwise; rfl) (fun r e => by pointwise; rfl) (by pointwise; blk_ext))
  case piece4 => exact (congrFun (dv1 _ _ _ _) x).trans (store_dv X0 X1 X2 A _ _ _ _ 1 x j h0 (by omega) (fun r e => by pointwise; rfl) (fun r e => by pointwise; rfl)
      (fun r e => by pointwise; rfl) (by pointwise; blk_ext))
  case piece5 => exact (congrFun (dk1 _ _ _ _ _) x).trans (store_dk X0 X1 X2 A _ _ _ _ _ 1 x j h0 (by omega) (fun r e => by pointwise; rfl) (fun r e => by pointwise; rfl)
      (fun r e => by pointwise; rfl) (fun r e => by pointwise; rfl) (by pointwise; blk_ext))
  case piece6 => exact (store_dv X0 X1 X2 A _ _ _ _ 0 x j h0 (by omega) (fun r e => by pointwise; exact congrArg (X0 <| ix2 r ·) (Fin.ext (Nat.zero_add e.val).symm))
      (fun r e => by pointwise; exact congrArg (X1 <| ix2 r ·) (Fin.ext (Nat.zero_add e.val).symm))
      (fun r e => by pointwise; exact congrArg (X2 <| ix2 r ·) (Fin.ext (Nat.zero_add e.val).symm)) (by pointwise; blk_ext))
  case piece7 => exact (store_dk X0 X1 X2 A _ _ _ _ _ 0 x j h0 (by omega) (fun r e => by pointwise; exact congrArg (X0 <| ix2 r ·) (Fin.ext (Nat.zero_add e.val).symm))
      (fun r e => by pointwise; exact congrArg (X1 <| ix2 r ·) (Fin.ext (Nat.zero_add e.val).symm))
      (fun r e => by pointwise; exact congrArg (X2 <| ix2 r ·) (Fin.ext (Nat.zero_add e.val).symm)) (fun r e => by pointwise; rfl) (by pointwise; blk_ext))

/-- The fill is zero. -/
theorem fill_at (j : S256x2048.Idx) : k0_pay2 (F := Ideal) j = 0 := by
  pointwise [k0_pay2]

/-- The first point starts from zero. -/
theorem out4_A (a1 ha1 a2 ha2 a3 ha3 a4 ha4 a5 ha5 hc) (j : S256x2048.Idx) :
    out0_A_4 (F := Ideal) c i a1 ha1 a2 ha2 a3 ha3 a4 ha4 a5 ha5 hc X0 X1 X2 j
      = ∑ r : Fin 512, kvRow (mat X0) (mat X1) (mat X2) (j 0) (j 1) r := by
  rw [← zero_add (∑ r : Fin 512, kvRow (mat X0) (mat X1) (mat X2) (j 0) (j 1) r), ← fill_at j]
  frame_out
  simp (disch := first | rfl | decide) only [↓View.readCov_skip, ↓View.readCov_fill]
  refine (canon_append_of_cover [_] j [_, _, _, _, _, _, _, _]
    (View.cover_of_tiledL _ ![256, 256] (by sl_kernel_rfl) j)).trans ?_
  canon_tiles x h
  case piece0 => exact (congrFun (dv3 _ _ _ _) x).trans (store_dv X0 X1 X2 (k0_pay2 (F := Ideal)) _ _ _ _ 3 x j h0 (by omega) (fun r e => by pointwise; rfl) (fun r e => by pointwise; rfl)
      (fun r e => by pointwise; rfl) ((fill_at _).trans (fill_at j).symm))
  case piece1 => exact (congrFun (dk3 _ _ _ _ _) x).trans (store_dk X0 X1 X2 (k0_pay2 (F := Ideal)) _ _ _ _ _ 3 x j h0 (by omega) (fun r e => by pointwise; rfl) (fun r e => by pointwise; rfl)
      (fun r e => by pointwise; rfl) (fun r e => by pointwise; rfl) ((fill_at _).trans (fill_at j).symm))
  case piece2 => exact (congrFun (dv2 _ _ _ _) x).trans (store_dv X0 X1 X2 (k0_pay2 (F := Ideal)) _ _ _ _ 2 x j h0 (by omega) (fun r e => by pointwise; rfl) (fun r e => by pointwise; rfl)
      (fun r e => by pointwise; rfl) ((fill_at _).trans (fill_at j).symm))
  case piece3 => exact (congrFun (dk2 _ _ _ _ _) x).trans (store_dk X0 X1 X2 (k0_pay2 (F := Ideal)) _ _ _ _ _ 2 x j h0 (by omega) (fun r e => by pointwise; rfl) (fun r e => by pointwise; rfl)
      (fun r e => by pointwise; rfl) (fun r e => by pointwise; rfl) ((fill_at _).trans (fill_at j).symm))
  case piece4 => exact (congrFun (dv1 _ _ _ _) x).trans (store_dv X0 X1 X2 (k0_pay2 (F := Ideal)) _ _ _ _ 1 x j h0 (by omega) (fun r e => by pointwise; rfl) (fun r e => by pointwise; rfl)
      (fun r e => by pointwise; rfl) ((fill_at _).trans (fill_at j).symm))
  case piece5 => exact (congrFun (dk1 _ _ _ _ _) x).trans (store_dk X0 X1 X2 (k0_pay2 (F := Ideal)) _ _ _ _ _ 1 x j h0 (by omega) (fun r e => by pointwise; rfl) (fun r e => by pointwise; rfl)
      (fun r e => by pointwise; rfl) (fun r e => by pointwise; rfl) ((fill_at _).trans (fill_at j).symm))
  case piece6 => exact (store_dv X0 X1 X2 (k0_pay2 (F := Ideal)) _ _ _ _ 0 x j h0 (by omega) (fun r e => by pointwise; exact congrArg (X0 <| ix2 r ·) (Fin.ext (Nat.zero_add e.val).symm))
      (fun r e => by pointwise; exact congrArg (X1 <| ix2 r ·) (Fin.ext (Nat.zero_add e.val).symm))
      (fun r e => by pointwise; exact congrArg (X2 <| ix2 r ·) (Fin.ext (Nat.zero_add e.val).symm)) ((fill_at _).trans (fill_at j).symm))
  case piece7 => exact (store_dk X0 X1 X2 (k0_pay2 (F := Ideal)) _ _ _ _ _ 0 x j h0 (by omega) (fun r e => by pointwise; exact congrArg (X0 <| ix2 r ·) (Fin.ext (Nat.zero_add e.val).symm))
      (fun r e => by pointwise; exact congrArg (X1 <| ix2 r ·) (Fin.ext (Nat.zero_add e.val).symm))
      (fun r e => by pointwise; exact congrArg (X2 <| ix2 r ·) (Fin.ext (Nat.zero_add e.val).symm)) (fun r e => by pointwise; rfl) ((fill_at _).trans (fill_at j).symm))

/-- Every point stores the gradient of its queries: at the first point, -/
theorem out3_A (a1 ha1 a2 ha2 a3 ha3 a4 ha4 a5 ha5 hc) (j : S512x1024.Idx) :
    out0_A_3 (F := Ideal) c i a1 ha1 a2 ha2 a3 ha3 a4 ha4 a5 ha5 hc X0 X1 X2 j
      = dqAt (mat X0) (mat X1) (mat X2) (j 0) (j 1) := by
  frame_out
  canon_tiles x h
  case piece0 => exact (congrFun (dq3 _ _ _ _ _) x).trans (store_dq X0 X1 X2 _ _ _ _ 3 x j h0 (by omega) (fun r e => by pointwise; rfl) (fun r e => by pointwise; rfl)
      (fun r e => by pointwise; rfl) (fun r e => by pointwise; rfl))
  case piece1 => exact (congrFun (dq2 _ _ _ _ _) x).trans (store_dq X0 X1 X2 _ _ _ _ 2 x j h0 (by omega) (fun r e => by pointwise; rfl) (fun r e => by pointwise; rfl)
      (fun r e => by pointwise; rfl) (fun r e => by pointwise; rfl))
  case piece2 => exact (congrFun (dq1 _ _ _ _ _) x).trans (store_dq X0 X1 X2 _ _ _ _ 1 x j h0 (by omega) (fun r e => by pointwise; rfl) (fun r e => by pointwise; rfl)
      (fun r e => by pointwise; rfl) (fun r e => by pointwise; rfl))
  case piece3 => exact (store_dq X0 X1 X2 _ _ _ _ 0 x j h0 (by omega) (fun r e => by pointwise; exact congrArg (X0 <| ix2 r ·) (Fin.ext (Nat.zero_add e.val).symm))
      (fun r e => by pointwise; exact congrArg (X1 <| ix2 r ·) (Fin.ext (Nat.zero_add e.val).symm))
      (fun r e => by pointwise; exact congrArg (X2 <| ix2 r ·) (Fin.ext (Nat.zero_add e.val).symm)) (fun r e => by pointwise; rfl))

/-- and at the others. -/
theorem out3_B (a1 ha1 a2 ha2 a3 ha3 a4 ha4 a5 ha5 hc) (j : S512x1024.Idx) :
    out0_B_3 (F := Ideal) c i a1 ha1 a2 ha2 a3 ha3 a4 ha4 a5 ha5 hc X0 X1 X2 A j
      = dqAt (mat X0) (mat X1) (mat X2) (j 0) (j 1) := by
  frame_out
  canon_tiles x h
  case piece0 => exact (congrFun (dq3 _ _ _ _ _) x).trans (store_dq X0 X1 X2 _ _ _ _ 3 x j h0 (by omega) (fun r e => by pointwise; rfl) (fun r e => by pointwise; rfl)
      (fun r e => by pointwise; rfl) (fun r e => by pointwise; rfl))
  case piece1 => exact (congrFun (dq2 _ _ _ _ _) x).trans (store_dq X0 X1 X2 _ _ _ _ 2 x j h0 (by omega) (fun r e => by pointwise; rfl) (fun r e => by pointwise; rfl)
      (fun r e => by pointwise; rfl) (fun r e => by pointwise; rfl))
  case piece2 => exact (congrFun (dq1 _ _ _ _ _) x).trans (store_dq X0 X1 X2 _ _ _ _ 1 x j h0 (by omega) (fun r e => by pointwise; rfl) (fun r e => by pointwise; rfl)
      (fun r e => by pointwise; rfl) (fun r e => by pointwise; rfl))
  case piece3 => exact (store_dq X0 X1 X2 _ _ _ _ 0 x j h0 (by omega) (fun r e => by pointwise; exact congrArg (X0 <| ix2 r ·) (Fin.ext (Nat.zero_add e.val).symm))
      (fun r e => by pointwise; exact congrArg (X1 <| ix2 r ·) (Fin.ext (Nat.zero_add e.val).symm))
      (fun r e => by pointwise; exact congrArg (X2 <| ix2 r ·) (Fin.ext (Nat.zero_add e.val).symm)) (fun r e => by pointwise; rfl))

end

end Cert.KernelIdeal.MemAttn

end
-- ==== Proof.MemAttn.Arrays.lean ====
module

public import proofs.«01_k».proof.Proof.MemAttn.Block

/-! The two result arrays after the run: the gradient of the queries row block by row block, and the gradient of keys
and values as one sum over all 8192 rows (16 points of 512 rows each). -/

@[expose] public section

set_option maxRecDepth 16384
noncomputable section

namespace Cert.KernelIdeal.MemAttn

open Cert.KernelIdeal Cert.KernelIdeal.Gen Cert.MemAttn Idealize.ShloMosaic Idealize.ShloMosaic.TcCoe

variable (m : (ℓ : Loc nD τ sig) → Buf (Elt Ideal) ℓ) (c : Dev nD)

/-- The arguments: queries, keys and values, cotangent. -/
abbrev Q : FVec Ideal S8192x1024 .bf16 := m ((c : Thread nD τ).loc main_arg0)
abbrev KV : FVec Ideal S256x2048 .bf16 := m ((c : Thread nD τ).loc main_arg1)
abbrev DY : FVec Ideal S8192x1024 .f32 := m ((c : Thread nD τ).loc main_arg2)

/-- The blocks the points read and write. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

theorem row_lt (t : Fin cfg0.N) (r : Fin 512) : t.val * 512 + r.val < 8192 := by
  have := lt_of_lt_of_eq t.isLt N_0; omega

/-- The blocks of a point as matrices of numbers. -/
abbrev B0 (t : Fin cfg0.N) : FVec Ideal S512x1024 .bf16 := iblk m c 0 t
abbrev B1 (t : Fin cfg0.N) : FVec Ideal S256x2048 .bf16 := iblk m c 1 t
abbrev B2 (t : Fin cfg0.N) : FVec Ideal S512x1024 .f32 := iblk m c 2 t

theorem blk0 (t : Fin cfg0.N) (r : Fin 512) :
    mat (B0 m c t) r = mat (Q m c) ⟨t.val * 512 + r, row_lt t r⟩ := by
  funext e
  have ht := lt_of_lt_of_eq t.isLt N_0
  unfold mat
  blk_point [iblk, V, idx t]

theorem blk1 (t : Fin cfg0.N) : mat (B1 m c t) = mat (KV m c) := by
  funext n e
  unfold mat
  blk_point [iblk, V, idx t]

theorem blk2 (t : Fin cfg0.N) (r : Fin 512) :
    mat (B2 m c t) r = mat (DY m c) ⟨t.val * 512 + r, row_lt t r⟩ := by
  funext e
  have ht := lt_of_lt_of_eq t.isLt N_0
  unfold mat
  blk_point [iblk, V, idx t]

theorem point3 (t : Fin cfg0.N) (y : S512x1024.Idx) :
    (outsAt0 m c t.val t.isLt).1 y = dqAt (mat (B0 m c t)) (mat (B1 m c t)) (mat (B2 m c t)) (y 0) (y 1) := by
  by_cases h : t.val % 16 = 0
  · rw [outsAt0_A m c t h]; dsimp only
    exact out3_A c (grid0.coords t) (B0 m c t) (B1 m c t) (B2 m c t) (ms0_0 t) (hs0_0 t) (ms0_1 t) (hs0_1 t) (ms0_2 t) (hs0_2 t) (ms0_3 t) (hs0_3 t) (ms0_4 t) (hs0_4 t)
      ((hcond0_0 t).mpr h) y
  · rw [outsAt0_B m c t h]; dsimp only
    generalize (outsAt0 m c (t.val - 1) _).2 = A
    exact out3_B c (grid0.coords t) (B0 m c t) (B1 m c t) (B2 m c t) A (ms0_0 t) (hs0_0 t) (ms0_1 t) (hs0_1 t) (ms0_2 t) (hs0_2 t) (ms0_3 t) (hs0_3 t) (ms0_4 t) (hs0_4 t)
      (fun h' => h ((hcond0_0 t).mp h')) y

theorem point4_A (t : Fin cfg0.N) (h : t.val % 16 = 0) (j : S256x2048.Idx) :
    (outsAt0 m c t.val t.isLt).2 j
      = ∑ r : Fin 512, kvRow (mat (B0 m c t)) (mat (B1 m c t)) (mat (B2 m c t)) (j 0) (j 1) r := by
  rw [outsAt0_A m c t h]; dsimp only
  exact out4_A c (grid0.coords t) (B0 m c t) (B1 m c t) (B2 m c t) (ms0_0 t) (hs0_0 t) (ms0_1 t) (hs0_1 t) (ms0_2 t) (hs0_2 t) (ms0_3 t) (hs0_3 t) (ms0_4 t) (hs0_4 t)
    ((hcond0_0 t).mpr h) j

theorem point4_B (t : Fin cfg0.N) (h : ¬t.val % 16 = 0) (j : S256x2048.Idx) :
    (outsAt0 m c t.val t.isLt).2 j = (outsAt0 m c (t.val - 1) (Nat.lt_of_le_of_lt (Nat.sub_le _ _) t.isLt)).2 j
      + ∑ r : Fin 512, kvRow (mat (B0 m c t)) (mat (B1 m c t)) (mat (B2 m c t)) (j 0) (j 1) r := by
  rw [outsAt0_B m c t h]; dsimp only
  generalize (outsAt0 m c (t.val - 1) _).2 = A
  exact out4_B c (grid0.coords t) (B0 m c t) (B1 m c t) (B2 m c t) A (ms0_0 t) (hs0_0 t) (ms0_1 t) (hs0_1 t) (ms0_2 t) (hs0_2 t) (ms0_3 t) (hs0_3 t) (ms0_4 t) (hs0_4 t)
    (fun h' => h ((hcond0_0 t).mp h')) j

/-- What a point leaves in the queries' block. -/
theorem outs3 (t : Fin cfg0.N) (y : S512x1024.Idx) (r : Fin 8192) (C : Fin 1024) (hr : r.val = t.val * 512 + (y 0 : ℕ))
    (hC : C.val = (y 1 : ℕ)) :
    (outsAt0 m c t.val t.isLt).1 y = dqAt (mat (Q m c)) (mat (KV m c)) (mat (DY m c)) r C := by
  obtain rfl : C = y 1 := Fin.ext hC
  obtain rfl : r = ⟨t.val * 512 + (y 0 : Fin 512), row_lt t (y 0)⟩ := Fin.ext hr
  exact (point3 m c t y).trans (dqAt_congr (blk0 m c t _) (blk1 m c t) (blk2 m c t _) _)

/-- The gradient of the queries. -/
theorem dq_final : (dats m 0 c).arrAt 3 (cfgs 0).N
    = fun i : S8192x1024.Idx => dqAt (mat (Q m c)) (mat (KV m c)) (mat (DY m c)) (i 0) (i 1) := by
  refine (dats m 0 c).arrAt_eq_of_covers 3 _ (by decide +kernel) fun t hf y => ?_
  blk_simp
  rw [after0_3]
  refine outs3 m c t y _ _ ?_ ?_ <;> (blk_simp [idx t] <;> try omega)

/-- What the last point leaves in the accumulator of keys and values: the sum over the points is the sum over the rows. -/
theorem outs4 (t : Fin cfg0.N) (hf : (cfg0.win 4).flush t = true) (y : S256x2048.Idx) :
    (outsAt0 m c t.val t.isLt).2 y = ∑ r : Fin 8192, kvRow (mat (Q m c)) (mat (KV m c)) (mat (DY m c)) (y 0) (y 1) r := by
  have hl := (flush0_4 t).mp hf
  have ht := lt_of_lt_of_eq t.isLt N_0
  rw [Pipeline.eq_sum_fin_of_reset_step_apply_of_flush (fun n h => (outsAt0 m c n h).2) 16 (fun _ => 0)
    (fun p j => ∑ r : Fin 512, kvRow (mat (B0 m c p)) (mat (B1 m c p)) (mat (B2 m c p)) (j 0) (j 1) r)
    (fun t h j => (point4_A m c t h j).trans (zero_add _).symm) (fun t h j => point4_B m c t h j)
    t hl y, zero_add]
  refine Fin.sum_mul_add_congr fun s k hl' => ?_
  refine (kvRow_congr (blk0 m c _ k) (blk1 m c _) (blk2 m c _ k) _ _).trans ?_
  refine congrArg (kvRow (mat (Q m c)) (mat (KV m c)) (mat (DY m c)) (y 0) (y 1)) (Fin.ext ?_)
  show (16 * (t.val / 16) + s.val) * 512 + k.val = s.val * 512 + k.val
  omega

/-- The gradient of keys and values. -/
theorem dkv_final : (dats m 0 c).arrAt 4 (cfgs 0).N
    = fun i : S256x2048.Idx => ∑ r : Fin 8192, kvRow (mat (Q m c)) (mat (KV m c)) (mat (DY m c)) (i 0) (i 1) r := by
  refine (dats m 0 c).arrAt_eq_of_covers 4 _ (by decide +kernel) fun t hf y => ?_
  blk_simp
  rw [after0_4]
  have h0 : ((win0_4.blk t).view.emb y 0 : ℕ) = (y 0 : ℕ) := by blk_simp [idx t] <;> try omega
  have h1 : ((win0_4.blk t).view.emb y 1 : ℕ) = (y 1 : ℕ) := by blk_simp [idx t] <;> try omega
  refine (outs4 m c t hf y).trans (Finset.sum_congr rfl fun r _ => ?_)
  exact congr (congrArg (fun a => kvRow (mat (Q m c)) (mat (KV m c)) (mat (DY m c)) a) (Fin.ext h0.symm)) (Fin.ext h1.symm) ▸ rfl

end Cert.KernelIdeal.MemAttn

end
-- ==== Proof.MemAttn.RefRead.lean ====
module

public import proofs.«01_k».proof.Proof.MemAttn.Spec
public import proofs.«01_k».proof.Proof.Gen.ReferenceIdeal.Read

/-! The reference read at an index: the vector-Jacobian product of the dense cross-attention, in terms of the row
functions. Its softmax is differentiated by the quotient rule. -/

@[expose] public section

set_option maxRecDepth 16384
noncomputable section

namespace Cert.ReferenceIdeal.MemAttn

open Cert.ReferenceIdeal Cert.ReferenceIdeal.Read Cert.MemAttn Idealize.ShloMosaic

variable (x0 : FVec Ideal S8192x1024 .bf16) (x1 : FVec Ideal S256x2048 .bf16) (x2 : FVec Ideal S8192x1024 .f32)

/-- The scores. -/
theorem v9_at (h : Fin 4) (t : Fin 8192) (n : Fin 256) :
    val_main_v9 (F := Ideal) x0 x1 (ix3 h t n) = sco (mat x0) (mat x1) h t n := by
  pointwise [val_main_v9, val_main_v8, val_main_cst, val_main_v7, val_main_v4, val_main_v5, val_main_v0, val_main_v1,
    val_main_v2, sco]
  rfl

/-- A maximum over the keys, read. -/
theorem reduceMax_at (y : FVec Ideal S4x8192x256 .f32) (z : FVec Ideal S_ .f32) (h : Fin 4) (t : Fin 8192) :
    Host.reduce (FloatOps.maximumf (F := Ideal) (φ := .f32)) y z Gen.reducesTo_S4x8192x256_S4x8192_d2 Gen.h_S_ (ix2 h t)
      = Finset.univ.fold max (z (Shape.Idx.first Gen.h_S_)) fun n : Fin 256 => y (ix3 h t n) := by
  pointwise

/-- The gradient with respect to the probabilities. -/
theorem v43_at (h : Fin 4) (t : Fin 8192) (n : Fin 256) :
    val_main_v43 (F := Ideal) x1 x2 (ix3 h t n) = dpr (mat x1) (mat x2) h t n := by
  pointwise [val_main_v43, val_main_v42, val_main_v41, val_main_v6, val_main_v3, val_main_v1, dpr]
  simp only [← Nat.add_assoc]
  rfl

/-- The largest score. -/
theorem v17_at (h : Fin 4) (t : Fin 8192) :
    val_main_v17 (F := Ideal) x0 x1 (ix2 h t) = top (sco (mat x0) (mat x1) h t) := by
  have hm : val_main_v10 (F := Ideal) x0 x1 (ix2 h t) = top (sco (mat x0) (mat x1) h t) := by
    unfold val_main_v10
    rw [reduceMax_at]
    simp only [v9_at, val_main_cst_0_apply]
    show Finset.fold max (Ideal.ofBits .f32 0xFF800000#32) _ _ = _
    rw [ofBits_bot]; rfl
  rw [val_main_v17_apply, hm, val_main_v16_apply, val_main_cst_2_apply]
  show max (Ideal.ofBits .f32 0xFF800000#32) _ = _
  rw [ofBits_bot, max_eq_right bot_le]

/-- The exponentials. -/
theorem v30_at (h : Fin 4) (t : Fin 8192) (n : Fin 256) :
    val_main_v30 (F := Ideal) x0 x1 (ix3 h t n) = expo (sco (mat x0) (mat x1) h t) n := by
  pointwise [val_main_v30, val_main_v29, val_main_v28, val_main_v27, v9_at, v17_at, expo]

/-- Their sum. -/
theorem v31_at (h : Fin 4) (t : Fin 8192) :
    val_main_v31 (F := Ideal) x0 x1 (ix2 h t) = den (sco (mat x0) (mat x1) h t) := by
  pointwise [val_main_v31, val_main_cst_8, v30_at, den]

/-- The probabilities. -/
theorem v34_at (h : Fin 4) (t : Fin 8192) (n : Fin 256) :
    val_main_v34 (F := Ideal) x0 x1 (ix3 h t n) = prob (sco (mat x0) (mat x1) h t) n := by
  pointwise [val_main_v34, val_main_v33, val_main_v32, v30_at, v31_at, prob]

/-- The gradient with respect to the scores, by the quotient rule. -/
theorem v57_at (h : Fin 4) (t : Fin 8192) (n : Fin 256) :
    val_main_v57 (F := Ideal) x0 x1 x2 (ix3 h t n)
      = gradQuot (sco (mat x0) (mat x1) h t) (dpr (mat x1) (mat x2) h t) n := by
  pointwise [val_main_v57, val_main_v56, val_main_v55, val_main_v54, val_main_v53, val_main_v52, val_main_v51,
    val_main_v50, val_main_v49, val_main_v48, val_main_v47, val_main_v46, val_main_v37, val_main_v35, val_main_v36,
    val_main_v32, val_main_cst_9, val_main_cst_10, val_main_cst_11, v43_at, v30_at, v31_at, gradQuot]
  simp only [Finset.univ_unique, Finset.sum_singleton]

/-- The gradient of the queries. -/
theorem v68_at (r : Fin 8192) (h : Fin 4) (e : Fin 256) :
    val_main_v68 (F := Ideal) x0 x1 x2 (ix2 r (col h e))
      = ∑ n : Fin 256, gradQuot (sco (mat x0) (mat x1) h r) (dpr (mat x1) (mat x2) h r) n * scale * mat x1 n (kcol h e) := by
  have h62 : val_main_v62 (F := Ideal) x0 x1 x2 (ix3 h r e)
      = ∑ n : Fin 256, gradQuot (sco (mat x0) (mat x1) h r) (dpr (mat x1) (mat x2) h r) n * scale * mat x1 n (kcol h e) := by
    pointwise [val_main_v62, val_main_v59, val_main_v58, val_main_cst_12, val_main_v5, val_main_v2, val_main_v1, v57_at]
    rfl
  have hi : idx_main_v63 (idx_main_v66 (ix2 r (col h e))) = ix3 h r e := by
    have := h.isLt
    have := e.isLt
    funext a
    match a with
    | ⟨0, _⟩ => exact Fin.ext (show (r.val * 1024 + (h.val * 256 + e.val)) / 256 % 4 = h.val by omega)
    | ⟨1, _⟩ => exact Fin.ext (show (r.val * 1024 + (h.val * 256 + e.val)) / 1024 = r.val by omega)
    | ⟨2, _⟩ => exact Fin.ext (show (r.val * 1024 + (h.val * 256 + e.val)) % 256 = e.val by omega)
  rw [val_main_v68_apply, val_main_v66_apply, val_main_v63_apply, hi, h62]
  rfl

/-- The gradient of the keys. -/
theorem v65_at (n : Fin 256) (h : Fin 4) (e : Fin 256) :
    val_main_v65 (F := Ideal) x0 x1 x2 (ix2 n (col h e))
      = ∑ r : Fin 8192, gradQuot (sco (mat x0) (mat x1) h r) (dpr (mat x1) (mat x2) h r) n * scale * mat x0 r (col h e) := by
  have h60 : val_main_v60 (F := Ideal) x0 x1 x2 (ix3 h n e)
      = ∑ r : Fin 8192, gradQuot (sco (mat x0) (mat x1) h r) (dpr (mat x1) (mat x2) h r) n * scale * mat x0 r (col h e) := by
    pointwise [val_main_v60, val_main_v59, val_main_v58, val_main_cst_12, val_main_v4, val_main_v3, val_main_v0, v57_at]
    rfl
  have hi : idx_main_v61 (idx_main_v65 (ix2 n (col h e))) = ix3 h n e := by
    have := h.isLt
    have := e.isLt
    funext a
    match a with
    | ⟨0, _⟩ => exact Fin.ext (show (n.val * 1024 + (h.val * 256 + e.val)) / 256 % 4 = h.val by omega)
    | ⟨1, _⟩ => exact Fin.ext (show (n.val * 1024 + (h.val * 256 + e.val)) / 1024 = n.val by omega)
    | ⟨2, _⟩ => exact Fin.ext (show (n.val * 1024 + (h.val * 256 + e.val)) % 256 = e.val by omega)
  rw [val_main_v65_apply, val_main_v61_apply, hi, h60]

/-- The gradient of the values. -/
theorem v64_at (n : Fin 256) (h : Fin 4) (e : Fin 256) :
    val_main_v64 (F := Ideal) x0 x1 x2 (ix2 n (col h e))
      = ∑ r : Fin 8192, mat x2 r (col h e) * prob (sco (mat x0) (mat x1) h r) n := by
  have h44 : val_main_v44 (F := Ideal) x0 x1 x2 (ix3 h e n)
      = ∑ r : Fin 8192, mat x2 r (col h e) * prob (sco (mat x0) (mat x1) h r) n := by
    pointwise [val_main_v44, val_main_v42, val_main_v41, v34_at]
    rfl
  have hi : idx_main_v45 (idx_main_v64 (ix2 n (col h e))) = ix3 h e n := by
    have := h.isLt
    have := e.isLt
    funext a
    match a with
    | ⟨0, _⟩ => exact Fin.ext (show (n.val * 1024 + (h.val * 256 + e.val)) / 256 % 4 = h.val by omega)
    | ⟨1, _⟩ => exact Fin.ext (show (n.val * 1024 + (h.val * 256 + e.val)) % 256 = e.val by omega)
    | ⟨2, _⟩ => exact Fin.ext (show (n.val * 1024 + (h.val * 256 + e.val)) / 1024 = n.val by omega)
  rw [val_main_v64_apply, val_main_v45_apply, hi, h44]

/-- Keys and values side by side. -/
theorem v67_at (n : Fin 256) (C : Fin 2048) :
    val_main_v67 (F := Ideal) x0 x1 x2 (ix2 n C)
      = if hC : C.val < 1024 then val_main_v65 (F := Ideal) x0 x1 x2 (ix2 n ⟨C, hC⟩)
        else val_main_v64 (F := Ideal) x0 x1 x2 (ix2 n ⟨C - 1024, by omega⟩) := by
  unfold val_main_v67
  generalize val_main_v65 (F := Ideal) x0 x1 x2 = a
  generalize val_main_v64 (F := Ideal) x0 x1 x2 = b
  pointwise

end Cert.ReferenceIdeal.MemAttn

end
-- ==== Proof.MemAttn.Equal.lean ====
module

public import proofs.«01_k».proof.Proof.MemAttn.RefRead
public import proofs.«01_k».proof.Proof.Gen.Pre_finite_scores
public import Idealize.ShloMosaic.Lib.ReduceAll

/-! The two sides are one function where queries and keys are finite: then every score is a real number, every
denominator of the softmax a positive real, and the quotient rule's gradient is `p · (dp − Σ dp · p)`. -/

@[expose] public section

set_option maxRecDepth 16384
noncomputable section

namespace Cert.MemAttn

open Idealize.ShloMosaic Cert.ReferenceIdeal Cert.ReferenceIdeal.Read Cert.ReferenceIdeal.MemAttn

/-- A number whose absolute value compares below infinity is real. -/
theorem real_of_abs_lt (x : EReal) (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

instance : Subsingleton (Cert.Pre_finite_scores.S_).Idx := ⟨fun a b => funext fun k => k.elim0⟩

section
variable {x0 : FVec Ideal S8192x1024 .bf16} {x1 : FVec Ideal S256x2048 .bf16} {x2 : FVec Ideal S8192x1024 .f32}

/-- The precondition, read: queries and keys are real. -/
theorem real_of_pre (h : Cert.Pre_finite_scores.fn (F := Ideal) x0 x1 x2 = fun _ => 1#1) :
    (∀ r C, ∃ x : ℝ, mat x0 r C = x) ∧ (∀ n h e, ∃ x : ℝ, mat x1 n (kcol h e) = x) := by
  have h0 := congrFun h ix0
  dsimp only [Cert.Pre_finite_scores.fn] at h0
  have h1 := IntOp.andi_eq_one.1 h0
  refine ⟨fun r C => ?_, fun n hd e => ?_⟩
  · have := Host.reduce_andi_all _ _ _ _ _ h1.1 (ix2 r C)
    exact real_of_abs_lt _ this
  · have := Host.reduce_andi_all _ _ _ _ _ h1.2 (ix2 n (col hd e))
    refine real_of_abs_lt _ (Eq.trans ?_ this)
    pointwise
    rfl

/-- The scores are then real. -/
theorem sco_real (hq : ∀ r C, ∃ x : ℝ, mat x0 r C = x) (hk : ∀ n h e, ∃ x : ℝ, mat x1 n (kcol h e) = x)
    (h : Fin 4) (r : Fin 8192) : ∃ s : Fin 256 → ℝ, sco (mat x0) (mat x1) h r = fun n => (s n : EReal) := by
  choose q hq using hq
  choose k hk using hk
  refine ⟨fun n => (∑ e, q r (col h e) * k n h e) * (1 / 16), funext fun n => ?_⟩
  have hs : scale = ((1 / 16 : ℝ) : EReal) := by
    have hr : (8388608 : ℝ) * ((2 : ℝ) ^ 27)⁻¹ = 1 / 16 := by norm_num
    rw [← hr]
    simp [Ideal.ofBits, Ideal.ieee]
  rw [sco, hs, EReal.coe_mul, coe_sum]
  simp only [hq, hk, EReal.coe_mul]

/-- The gradient of the queries. -/
theorem dq_eq (h : Cert.Pre_finite_scores.fn (F := Ideal) x0 x1 x2 = fun _ => 1#1) :
    val_main_v68 (F := Ideal) x0 x1 x2 = fun i => dqAt (mat x0) (mat x1) (mat x2) (i 0) (i 1) := by
  obtain ⟨hq, hk⟩ := real_of_pre h
  funext i
  obtain ⟨r, C, rfl⟩ : ∃ r C, i = ix2 r C := ⟨i 0, i 1, by funext a; match a with | ⟨0, _⟩ => rfl | ⟨1, _⟩ => rfl⟩
  obtain ⟨hd, e, rfl⟩ : ∃ hd e, C = col hd e :=
    ⟨⟨C / 256, by omega⟩, ⟨C % 256, by omega⟩, Fin.ext (show C.val = C.val / 256 * 256 + C.val % 256 by omega)⟩
  rw [v68_at]
  show _ = dqAt (mat x0) (mat x1) (mat x2) r (col hd e)
  rw [dqAt_eq _ _ _ r (col hd e) hd e rfl]
  obtain ⟨s, hs⟩ := sco_real hq hk hd r
  simp only [dqv, dsc, hs, gradQuot_eq]

/-- The gradient of keys and values. -/
theorem dkv_eq (h : Cert.Pre_finite_scores.fn (F := Ideal) x0 x1 x2 = fun _ => 1#1) :
    val_main_v67 (F := Ideal) x0 x1 x2
      = fun i => ∑ r : Fin 8192, kvRow (mat x0) (mat x1) (mat x2) (i 0) (i 1) r := by
  obtain ⟨hq, hk⟩ := real_of_pre h
  funext i
  obtain ⟨n, C, rfl⟩ : ∃ r C, i = ix2 r C := ⟨i 0, i 1, by funext a; match a with | ⟨0, _⟩ => rfl | ⟨1, _⟩ => rfl⟩
  rw [v67_at]
  show _ = ∑ r : Fin 8192, kvRow (mat x0) (mat x1) (mat x2) n C r
  by_cases hC : C.val < 1024
  · rw [dif_pos hC]
    obtain ⟨hd, e, hc⟩ : ∃ hd e, (⟨C.val, hC⟩ : Fin 1024) = col hd e :=
      ⟨⟨C / 256, by omega⟩, ⟨C % 256, by omega⟩, Fin.ext (show C.val = C.val / 256 * 256 + C.val % 256 by omega)⟩
    rw [hc, v65_at]
    refine Finset.sum_congr rfl fun r _ => ?_
    obtain ⟨s, hs⟩ := sco_real hq hk hd r
    rw [kvRow_k _ _ _ n C r hd e (congrArg Fin.val hc), dkRow, dsc, hs, gradQuot_eq]
  · rw [dif_neg hC]
    obtain ⟨hd, e, hc⟩ : ∃ hd e, (⟨C.val - 1024, by omega⟩ : Fin 1024) = col hd e :=
      ⟨⟨(C - 1024) / 256, by omega⟩, ⟨(C - 1024) % 256, by omega⟩,
        Fin.ext (show C.val - 1024 = (C.val - 1024) / 256 * 256 + (C.val - 1024) % 256 by omega)⟩
    have hv : C.val - 1024 = hd.val * 256 + e.val := congrArg Fin.val hc
    rw [hc, v64_at]
    refine Finset.sum_congr rfl fun r _ => ?_
    rw [kvRow_v _ _ _ n C r hd e (by omega), dvRow, mul_comm]

end

end Cert.MemAttn

end
-- ==== Proof.Proj.Block.lean ====
module

public import proofs.«01_k».proof.Proof.Gen.Kernel2Ideal.Frame
public import Idealize.ShloMosaic.Lib.Pipeline.Value
public import Idealize.ShloMosaic.Lib.Pipeline.ValueKit
public import Idealize.ShloMosaic.Lib.Pointwise
public import Idealize.ShloMosaic.PureOps.Ideal

/-! One block of each product, contracted over the whole inner axis, in the three layouts the step has: `h w`, `d wᵀ`
(alone or added to an array), `hᵀ d`. -/

@[expose] public section

set_option maxRecDepth 16384
noncomputable section

namespace Cert.Kernel2Ideal.Proj

open Cert.Kernel2Ideal Cert.Kernel2Ideal.Gen Idealize.ShloMosaic Idealize.ShloMosaic.TcCoe

theorem zero2 : (![0, 0] : Fin 2 → Nat) = fun _ => 0 := by decide

/-- A block of `h w`. -/
theorem fwd_at (a : Vec Ideal S1024x2048 .bf16) (b : Vec Ideal S2048x1024 .bf16) (i : Fin 1024) (j : Fin 1024) :
    out0_2 a b (ix2 i j) = ∑ k : Fin 2048, a (ix2 i k) * b (ix2 k j) := by
  unfold out0_2
  rw [View.canon_unit_zero zero2, View.ld_unit_zero zero2, View.ld_unit_zero zero2]
  pointwise [k0_pay1]

/-- A block of `d wᵀ`. -/
theorem dh_at (a : Vec Ideal S1024x3072 .bf16) (b : Vec Ideal S1024x3072 .bf16) (i : Fin 1024) (j : Fin 1024) :
    out3_2 a b (ix2 i j) = ∑ k : Fin 3072, a (ix2 i k) * b (ix2 j k) := by
  unfold out3_2
  rw [View.canon_unit_zero zero2, View.ld_unit_zero zero2, View.ld_unit_zero zero2]
  pointwise [k3_pay1]

/-- A block of `d wᵀ` added to one. -/
theorem dhAdd_at (a : Vec Ideal S1024x3072 .bf16) (b : Vec Ideal S512x3072 .bf16) (s : Vec Ideal S1024x512 .f32) (i : Fin 1024) (j : Fin 512) :
    out5_3 a b s (ix2 i j) = (∑ k : Fin 3072, a (ix2 i k) * b (ix2 j k)) + s (ix2 i j) := by
  unfold out5_3
  rw [View.canon_unit_zero zero2, View.ld_unit_zero zero2, View.ld_unit_zero zero2, View.ld_unit_zero zero2]
  pointwise [k5_pay1]

/-- A block of `hᵀ d`. -/
theorem dw_at (a : Vec Ideal S8192x512 .bf16) (b : Vec Ideal S8192x512 .bf16) (i : Fin 512) (j : Fin 512) :
    out4_2 a b (ix2 i j) = ∑ k : Fin 8192, a (ix2 k i) * b (ix2 k j) := by
  unfold out4_2
  rw [View.canon_unit_zero zero2, View.ld_unit_zero zero2, View.ld_unit_zero zero2]
  pointwise [k4_pay1]

/-- The products of whole arrays. -/
def fwd (h : FVec Ideal S8192x2048 .bf16) (w : FVec Ideal S2048x3072 .bf16) : S8192x3072.Idx → EReal := fun i =>
  ∑ k : Fin 2048, h (ix2 (i 0) k) * w (ix2 k (i 1))
def dh (d : FVec Ideal S8192x3072 .bf16) (w : FVec Ideal S2048x3072 .bf16) : S8192x2048.Idx → EReal := fun i =>
  ∑ k : Fin 3072, d (ix2 (i 0) k) * w (ix2 (i 1) k)
def dw (h : FVec Ideal S8192x2048 .bf16) (d : FVec Ideal S8192x3072 .bf16) : S2048x3072.Idx → EReal := fun i =>
  ∑ k : Fin 8192, h (ix2 k (i 0)) * d (ix2 k (i 1))

/-- A block is the product's block when its operands are the operands' blocks. -/
theorem fwd_block (h : FVec Ideal S8192x2048 .bf16) (w : FVec Ideal S2048x3072 .bf16) (a : Vec Ideal S1024x2048 .bf16)
    (b : Vec Ideal S2048x1024 .bf16) (y : S1024x1024.Idx) (z : S8192x3072.Idx)
    (ha : ∀ k, a (ix2 (y 0) k) = h (ix2 (z 0) k)) (hb : ∀ k, b (ix2 k (y 1)) = w (ix2 k (z 1))) :
    out0_2 a b y = fwd h w z := by
  obtain ⟨i, j, rfl⟩ : ∃ i j, y = ix2 i j := ⟨y 0, y 1, by funext a; match a with | ⟨0, _⟩ => rfl | ⟨1, _⟩ => rfl⟩
  rw [fwd_at]
  exact Finset.sum_congr rfl fun k _ => congrArg₂ (· * ·) (ha k) (hb k)

theorem dh_block (d : FVec Ideal S8192x3072 .bf16) (w : FVec Ideal S2048x3072 .bf16) (a : Vec Ideal S1024x3072 .bf16)
    (b : Vec Ideal S1024x3072 .bf16) (y : S1024x1024.Idx) (z : S8192x2048.Idx)
    (ha : ∀ k, a (ix2 (y 0) k) = d (ix2 (z 0) k)) (hb : ∀ k, b (ix2 (y 1) k) = w (ix2 (z 1) k)) :
    out3_2 a b y = dh d w z := by
  obtain ⟨i, j, rfl⟩ : ∃ i j, y = ix2 i j := ⟨y 0, y 1, by funext a; match a with | ⟨0, _⟩ => rfl | ⟨1, _⟩ => rfl⟩
  rw [dh_at]
  exact Finset.sum_congr rfl fun k _ => congrArg₂ (· * ·) (ha k) (hb k)

theorem dhAdd_block (d : FVec Ideal S8192x3072 .bf16) (w : FVec Ideal S2048x3072 .bf16) (s : FVec Ideal S8192x2048 .f32)
    (a : Vec Ideal S1024x3072 .bf16) (b : Vec Ideal S512x3072 .bf16) (e : Vec Ideal S1024x512 .f32) (y : S1024x512.Idx)
    (z : S8192x2048.Idx) (ha : ∀ k, a (ix2 (y 0) k) = d (ix2 (z 0) k)) (hb : ∀ k, b (ix2 (y 1) k) = w (ix2 (z 1) k))
    (he : e y = s z) : out5_3 a b e y = dh d w z + s z := by
  obtain ⟨i, j, rfl⟩ : ∃ i j, y = ix2 i j := ⟨y 0, y 1, by funext a; match a with | ⟨0, _⟩ => rfl | ⟨1, _⟩ => rfl⟩
  rw [dhAdd_at, he]
  exact congrArg (· + s z) (Finset.sum_congr rfl fun k _ => congrArg₂ (· * ·) (ha k) (hb k))

theorem dw_block (h : FVec Ideal S8192x2048 .bf16) (d : FVec Ideal S8192x3072 .bf16) (a : Vec Ideal S8192x512 .bf16)
    (b : Vec Ideal S8192x512 .bf16) (y : S512x512.Idx) (z : S2048x3072.Idx)
    (ha : ∀ k, a (ix2 k (y 0)) = h (ix2 k (z 0))) (hb : ∀ k, b (ix2 k (y 1)) = d (ix2 k (z 1))) :
    out4_2 a b y = dw h d z := by
  obtain ⟨i, j, rfl⟩ : ∃ i j, y = ix2 i j := ⟨y 0, y 1, by funext a; match a with | ⟨0, _⟩ => rfl | ⟨1, _⟩ => rfl⟩
  rw [dw_at]
  exact Finset.sum_congr rfl fun k _ => congrArg₂ (· * ·) (ha k) (hb k)

end Cert.Kernel2Ideal.Proj

end
-- ==== Proof.Proj.Arrays.lean ====
module

public import proofs.«01_k».proof.Proof.Proj.Block

/-! Each region's result array, from whatever its operands hold when it is entered (`V`): the product of the whole
arrays. -/

@[expose] public section

set_option maxRecDepth 16384
noncomputable section

namespace Cert.Kernel2Ideal.Proj

open Cert.Kernel2Ideal Cert.Kernel2Ideal.Gen Idealize.ShloMosaic Idealize.ShloMosaic.TcCoe

variable (V : (c : Dev nD) → (b : Ref sig .tc) → Buf (Elt Ideal) ((c : Thread nD τ).loc b)) (c : Dev nD)

/-- Region 0: the queries' segment. -/
theorem idx0 : ∀ t : Fin cfg0.N, win0_0.index t = ![t.val / 3, 0] ∧ win0_1.index t = ![0, t.val % 3] ∧ win0_2.index t = ![t.val / 3, t.val % 3] :=
  (by decide +kernel : ∀ t : Fin grid0.N, _)

theorem final0 : (dat0 (F := Ideal) V c).arrAt 2 cfg0.N = fwd (V c main_arg0) (V c main_arg1) := by
  refine (dat0 (F := Ideal) V c).arrAt_eq_of_covers 2 _ (by decide +kernel) fun t hf y => ?_
  have ht := lt_of_lt_of_eq t.isLt N_0
  blk_simp
  rw [after0_2]
  refine fwd_block _ _ _ _ y _ (fun k => ?_) (fun k => ?_) <;> blk_point [iblk0, idx0 t]

/-- Region 1: the keys' segment. -/
theorem idx1 : ∀ t : Fin cfg1.N, win1_0.index t = ![t.val / 3, 0] ∧ win1_1.index t = ![0, t.val % 3] ∧ win1_2.index t = ![t.val / 3, t.val % 3] :=
  (by decide +kernel : ∀ t : Fin grid1.N, _)

theorem final1 : (dat1 (F := Ideal) V c).arrAt 2 cfg1.N = fwd (V c main_arg0) (V c main_arg2) := by
  refine (dat1 (F := Ideal) V c).arrAt_eq_of_covers 2 _ (by decide +kernel) fun t hf y => ?_
  have ht := lt_of_lt_of_eq t.isLt N_1
  blk_simp
  rw [after1_2]
  refine fwd_block _ _ _ _ y _ (fun k => ?_) (fun k => ?_) <;> blk_point [iblk1, idx1 t]

/-- Region 2: the values' segment. -/
theorem idx2 : ∀ t : Fin cfg2.N, win2_0.index t = ![t.val / 3, 0] ∧ win2_1.index t = ![0, t.val % 3] ∧ win2_2.index t = ![t.val / 3, t.val % 3] :=
  (by decide +kernel : ∀ t : Fin grid2.N, _)

theorem final2 : (dat2 (F := Ideal) V c).arrAt 2 cfg2.N = fwd (V c main_arg0) (V c main_arg3) := by
  refine (dat2 (F := Ideal) V c).arrAt_eq_of_covers 2 _ (by decide +kernel) fun t hf y => ?_
  have ht := lt_of_lt_of_eq t.isLt N_2
  blk_simp
  rw [after2_2]
  refine fwd_block _ _ _ _ y _ (fun k => ?_) (fun k => ?_) <;> blk_point [iblk2, idx2 t]

/-- Region 3: the input's gradient through the queries. -/
theorem idx3 : ∀ t : Fin cfg3.N, win3_0.index t = ![t.val / 2, 0] ∧ win3_1.index t = ![t.val % 2, 0] ∧ win3_2.index t = ![t.val / 2, t.val % 2] :=
  (by decide +kernel : ∀ t : Fin grid3.N, _)

theorem final3 : (dat3 (F := Ideal) V c).arrAt 2 cfg3.N = dh (V c main_arg4) (V c main_arg1) := by
  refine (dat3 (F := Ideal) V c).arrAt_eq_of_covers 2 _ (by decide +kernel) fun t hf y => ?_
  have ht := lt_of_lt_of_eq t.isLt N_3
  blk_simp
  rw [after3_2]
  refine dh_block _ _ _ _ y _ (fun k => ?_) (fun k => ?_) <;> blk_point [iblk3, idx3 t]

/-- Region 4: the gradient of the queries' weight. -/
theorem idx4 : ∀ t : Fin cfg4.N, win4_0.index t = ![0, t.val / 6] ∧ win4_1.index t = ![0, t.val % 6] ∧ win4_2.index t = ![t.val / 6, t.val % 6] :=
  (by decide +kernel : ∀ t : Fin grid4.N, _)

theorem final4 : (dat4 (F := Ideal) V c).arrAt 2 cfg4.N = dw (V c main_arg0) (V c main_arg4) := by
  refine (dat4 (F := Ideal) V c).arrAt_eq_of_covers 2 _ (by decide +kernel) fun t hf y => ?_
  have ht := lt_of_lt_of_eq t.isLt N_4
  blk_simp
  rw [after4_2]
  refine dw_block _ _ _ _ y _ (fun k => ?_) (fun k => ?_) <;> blk_point [iblk4, idx4 t]

/-- Region 5: the input's gradient, the keys' part added. -/
theorem idx5 : ∀ t : Fin cfg5.N, win5_0.index t = ![t.val / 4, 0] ∧ win5_1.index t = ![t.val % 4, 0] ∧ win5_2.index t = ![t.val / 4, t.val % 4] ∧ win5_3.index t = ![t.val / 4, t.val % 4] :=
  (by decide +kernel : ∀ t : Fin grid5.N, _)

theorem final5 : (dat5 (F := Ideal) V c).arrAt 3 cfg5.N = fun z => dh (V c main_arg5) (V c main_arg2) z + V c main_v3 z := by
  refine (dat5 (F := Ideal) V c).arrAt_eq_of_covers 3 _ (by decide +kernel) fun t hf y => ?_
  have ht := lt_of_lt_of_eq t.isLt N_5
  blk_simp
  rw [after5_3]
  refine dhAdd_block _ _ _ _ _ _ y _ (fun k => ?_) (fun k => ?_) ?_ <;> blk_point [iblk5, idx5 t]

/-- Region 6: the gradient of the keys' weight. -/
theorem idx6 : ∀ t : Fin cfg6.N, win6_0.index t = ![0, t.val / 6] ∧ win6_1.index t = ![0, t.val % 6] ∧ win6_2.index t = ![t.val / 6, t.val % 6] :=
  (by decide +kernel : ∀ t : Fin grid6.N, _)

theorem final6 : (dat6 (F := Ideal) V c).arrAt 2 cfg6.N = dw (V c main_arg0) (V c main_arg5) := by
  refine (dat6 (F := Ideal) V c).arrAt_eq_of_covers 2 _ (by decide +kernel) fun t hf y => ?_
  have ht := lt_of_lt_of_eq t.isLt N_6
  blk_simp
  rw [after6_2]
  refine dw_block _ _ _ _ y _ (fun k => ?_) (fun k => ?_) <;> blk_point [iblk6, idx6 t]

/-- Region 7: the input's gradient, the values' part added. -/
theorem idx7 : ∀ t : Fin cfg7.N, win7_0.index t = ![t.val / 4, 0] ∧ win7_1.index t = ![t.val % 4, 0] ∧ win7_2.index t = ![t.val / 4, t.val % 4] ∧ win7_3.index t = ![t.val / 4, t.val % 4] :=
  (by decide +kernel : ∀ t : Fin grid7.N, _)

theorem final7 : (dat7 (F := Ideal) V c).arrAt 3 cfg7.N = fun z => dh (V c main_arg6) (V c main_arg3) z + V c main_v5 z := by
  refine (dat7 (F := Ideal) V c).arrAt_eq_of_covers 3 _ (by decide +kernel) fun t hf y => ?_
  have ht := lt_of_lt_of_eq t.isLt N_7
  blk_simp
  rw [after7_3]
  refine dhAdd_block _ _ _ _ _ _ y _ (fun k => ?_) (fun k => ?_) ?_ <;> blk_point [iblk7, idx7 t]

/-- Region 8: the gradient of the values' weight. -/
theorem idx8 : ∀ t : Fin cfg8.N, win8_0.index t = ![0, t.val / 6] ∧ win8_1.index t = ![0, t.val % 6] ∧ win8_2.index t = ![t.val / 6, t.val % 6] :=
  (by decide +kernel : ∀ t : Fin grid8.N, _)

theorem final8 : (dat8 (F := Ideal) V c).arrAt 2 cfg8.N = dw (V c main_arg0) (V c main_arg6) := by
  refine (dat8 (F := Ideal) V c).arrAt_eq_of_covers 2 _ (by decide +kernel) fun t hf y => ?_
  have ht := lt_of_lt_of_eq t.isLt N_8
  blk_simp
  rw [after8_2]
  refine dw_block _ _ _ _ y _ (fun k => ?_) (fun k => ?_) <;> blk_point [iblk8, idx8 t]

end Cert.Kernel2Ideal.Proj

end
-- ==== Proof.Proj.Run.lean ====
module

public import proofs.«01_k».proof.Proof.Proj.Arrays

/-! The run of the nine products, every array of the main memory read at its end; then the seven results as products
of the arguments. -/

@[expose] public section

set_option maxRecDepth 16384
noncomputable section

namespace Cert.Kernel2Ideal.Proj

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the launch's implicit arguments are found by unifying its conclusion with the one stated
set_option backward.isDefEq.respectTransparency.types false in
/-- Every run ends, with each array as the last segment leaves it. -/
theorem run_held {F} [FloatOps F] (m : (ℓ : Loc nD τ sig) → Buf (Elt F) ℓ) (ρ : Dev nD → PrngReg) :
    θ_run defs (onTc (τ := τ) (main (F := F))) ⟨m, fun _ => 0, ρ⟩ fun r =>
      ∀ c : Dev nD, ∀ b ∈ Pipeline.ucRefs τ sig, r.2.mem (((c : Thread nD τ)).1, b) = W9 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

section
variable (m : (ℓ : Loc nD τ sig) → Buf (Elt Ideal) ℓ) (ρ : Dev nD → PrngReg) (c : Dev nD)

/-- The queries. -/
theorem v0_end : W9 m ρ c main_v0 = fwd (m ((c : Thread nD τ).loc main_arg0)) (m ((c : Thread nD τ).loc main_arg1)) := by
  rw [W9_of m ρ c main_v0 (by decide +kernel), W8_of m ρ c main_v0 (by decide +kernel), W7_of m ρ c main_v0 (by decide +kernel), W6_of m ρ c main_v0 (by decide +kernel), W5_of m ρ c main_v0 (by decide +kernel), W4_of m ρ c main_v0 (by decide +kernel), W3_of m ρ c main_v0 (by decide +kernel), W2_of m ρ c main_v0 (by decide +kernel)]
  refine (W1_arr m ρ c 2).trans ((final0 (V0 m ρ) c).trans ?_)
  exact congrArg₂ fwd (W0_args m ρ c main_arg0 (by decide)) (W0_args m ρ c main_arg1 (by decide))

/-- The keys. -/
theorem v1_end : W9 m ρ c main_v1 = fwd (m ((c : Thread nD τ).loc main_arg0)) (m ((c : Thread nD τ).loc main_arg2)) := by
  rw [W9_of m ρ c main_v1 (by decide +kernel), W8_of m ρ c main_v1 (by decide +kernel), W7_of m ρ c main_v1 (by decide +kernel), W6_of m ρ c main_v1 (by decide +kernel), W5_of m ρ c main_v1 (by decide +kernel), W4_of m ρ c main_v1 (by decide +kernel), W3_of m ρ c main_v1 (by decide +kernel)]
  refine (W2_arr m ρ c 2).trans ((final1 (V1 m ρ) c).trans ?_)
  exact congrArg₂ fwd (W1_args m ρ c main_arg0 (by decide)) (W1_args m ρ c main_arg2 (by decide))

/-- The values. -/
theorem v2_end : W9 m ρ c main_v2 = fwd (m ((c : Thread nD τ).loc main_arg0)) (m ((c : Thread nD τ).loc main_arg3)) := by
  rw [W9_of m ρ c main_v2 (by decide +kernel), W8_of m ρ c main_v2 (by decide +kernel), W7_of m ρ c main_v2 (by decide +kernel), W6_of m ρ c main_v2 (by decide +kernel), W5_of m ρ c main_v2 (by decide +kernel), W4_of m ρ c main_v2 (by decide +kernel)]
  refine (W3_arr m ρ c 2).trans ((final2 (V2 m ρ) c).trans ?_)
  exact congrArg₂ fwd (W2_args m ρ c main_arg0 (by decide)) (W2_args m ρ c main_arg3 (by decide))

/-- The gradient of the queries' weight. -/
theorem v4_end : W9 m ρ c main_v4 = dw (m ((c : Thread nD τ).loc main_arg0)) (m ((c : Thread nD τ).loc main_arg4)) := by
  rw [W9_of m ρ c main_v4 (by decide +kernel), W8_of m ρ c main_v4 (by decide +kernel), W7_of m ρ c main_v4 (by decide +kernel), W6_of m ρ c main_v4 (by decide +kernel)]
  refine (W5_arr m ρ c 2).trans ((final4 (V4 m ρ) c).trans ?_)
  exact congrArg₂ dw (W4_args m ρ c main_arg0 (by decide)) (W4_args m ρ c main_arg4 (by decide))

/-- The gradient of the keys' weight. -/
theorem v6_end : W9 m ρ c main_v6 = dw (m ((c : Thread nD τ).loc main_arg0)) (m ((c : Thread nD τ).loc main_arg5)) := by
  rw [W9_of m ρ c main_v6 (by decide +kernel), W8_of m ρ c main_v6 (by decide +kernel)]
  refine (W7_arr m ρ c 2).trans ((final6 (V6 m ρ) c).trans ?_)
  exact congrArg₂ dw (W6_args m ρ c main_arg0 (by decide)) (W6_args m ρ c main_arg5 (by decide))

/-- The gradient of the values' weight. -/
theorem v8_end : W9 m ρ c main_v8 = dw (m ((c : Thread nD τ).loc main_arg0)) (m ((c : Thread nD τ).loc main_arg6)) := by
  refine (W9_arr m ρ c 2).trans ((final8 (V8 m ρ) c).trans ?_)
  exact congrArg₂ dw (W8_args m ρ c main_arg0 (by decide)) (W8_args m ρ c main_arg6 (by decide))

/-- The queries' part of the input's gradient. -/
theorem v3_mid : W4 m ρ c main_v3 = dh (m ((c : Thread nD τ).loc main_arg4)) (m ((c : Thread nD τ).loc main_arg1)) :=
  (W4_arr m ρ c 2).trans ((final3 (V3 m ρ) c).trans
    (congrArg₂ dh (W3_args m ρ c main_arg4 (by decide)) (W3_args m ρ c main_arg1 (by decide))))

/-- The keys' part added. -/
theorem v5_mid : W6 m ρ c main_v5 = fun z => dh (m ((c : Thread nD τ).loc main_arg5)) (m ((c : Thread nD τ).loc main_arg2)) z + dh (m ((c : Thread nD τ).loc main_arg4)) (m ((c : Thread nD τ).loc main_arg1)) z := by
  refine (W6_arr m ρ c 3).trans ((final5 (V5 m ρ) c).trans ?_)
  have h : V5 m ρ c main_v3 = dh (m ((c : Thread nD τ).loc main_arg4)) (m ((c : Thread nD τ).loc main_arg1)) := (W5_of m ρ c main_v3 (by decide +kernel)).trans (v3_mid m ρ c)
  rw [h, show V5 m ρ c main_arg5 = _ from W5_args m ρ c main_arg5 (by decide),
    show V5 m ρ c main_arg2 = _ from W5_args m ρ c main_arg2 (by decide)]

/-- The input's gradient. -/
theorem v7_end : W9 m ρ c main_v7
    = fun z => dh (m ((c : Thread nD τ).loc main_arg6)) (m ((c : Thread nD τ).loc main_arg3)) z + (dh (m ((c : Thread nD τ).loc main_arg5)) (m ((c : Thread nD τ).loc main_arg2)) z + dh (m ((c : Thread nD τ).loc main_arg4)) (m ((c : Thread nD τ).loc main_arg1)) z) := by
  rw [W9_of m ρ c main_v7 (by decide +kernel)]
  refine (W8_arr m ρ c 3).trans ((final7 (V7 m ρ) c).trans ?_)
  have h : V7 m ρ c main_v5 = fun z => dh (m ((c : Thread nD τ).loc main_arg5)) (m ((c : Thread nD τ).loc main_arg2)) z + dh (m ((c : Thread nD τ).loc main_arg4)) (m ((c : Thread nD τ).loc main_arg1)) z :=
    (W7_of m ρ c main_v5 (by decide +kernel)).trans (v5_mid m ρ c)
  rw [h, show V7 m ρ c main_arg6 = _ from W7_args m ρ c main_arg6 (by decide),
    show V7 m ρ c main_arg3 = _ from W7_args m ρ c main_arg3 (by decide)]

end

end Cert.Kernel2Ideal.Proj

end
-- ==== Proof.Proj.RefRead.lean ====
module

public import proofs.«01_k».proof.Proof.Proj.Block
public import proofs.«01_k».proof.Proof.Gen.Reference2Ideal.Read

/-! The reference's results, read at an index: the same products. Its weights' gradients are transposes of `dᵀ h`, and
it adds the parts of the input's gradient in another order. -/

@[expose] public section

set_option maxRecDepth 16384
noncomputable section

namespace Cert.Reference2Ideal.Proj

open Cert.Reference2Ideal Cert.Reference2Ideal.Read Cert.Kernel2Ideal.Proj Idealize.ShloMosaic

variable (h : FVec Ideal S8192x2048 .bf16) (wq wk wv : FVec Ideal S2048x3072 .bf16) (dq dk dv : FVec Ideal S8192x3072 .bf16)

theorem ext2 {n m : Nat} {f g : (⟨2, ![n, m]⟩ : Shape).Idx → EReal} (H : ∀ i j, f (ix2 i j) = g (ix2 i j)) : f = g := by
  funext z
  obtain ⟨i, j, rfl⟩ : ∃ i j, z = ix2 i j := ⟨z 0, z 1, by funext a; match a with | ⟨0, _⟩ => rfl | ⟨1, _⟩ => rfl⟩
  exact H i j

theorem v21_read : val_main_v21 (F := Ideal) h wq = fwd h wq :=
  ext2 fun i j => by pointwise [val_main_v21, val_main_v4, val_main_v0, val_main_v1, fwd]

theorem v22_read : val_main_v22 (F := Ideal) h wk = fwd h wk := v21_read h wk

theorem v23_read : val_main_v23 (F := Ideal) h wv = fwd h wv := v21_read h wv

/-- One part of the input's gradient. -/
theorem v19_at (i : Fin 8192) (j : Fin 2048) : val_main_v19 (F := Ideal) wq dq (ix2 i j) = dh dq wq (ix2 i j) := by
  pointwise [val_main_v19, val_main_v7, val_main_v1, dh]

theorem v20_read : val_main_v20 (F := Ideal) wq wk wv dq dk dv = fun z => dh dv wv z + (dh dk wk z + dh dq wq z) :=
  ext2 fun i j => by
    show (val_main_v19 (F := Ideal) wv dv (ix2 i j) + val_main_v19 (F := Ideal) wk dk (ix2 i j) : EReal)
      + val_main_v19 (F := Ideal) wq dq (ix2 i j) = _
    rw [v19_at, v19_at, v19_at, add_assoc]

theorem v24_read : val_main_v24 (F := Ideal) h dq = dw h dq :=
  ext2 fun i j => by
    have : val_main_v24 (F := Ideal) h dq (ix2 i j) = ∑ k : Fin 8192, dq (ix2 k j) * h (ix2 k i) := by
      pointwise [val_main_v24, val_main_v18, val_main_v17, val_main_v7, val_main_v0]
    rw [this]
    exact Finset.sum_congr rfl fun k _ => mul_comm _ _

theorem v25_read : val_main_v25 (F := Ideal) h dk = dw h dk := v24_read h dk

theorem v26_read : val_main_v26 (F := Ideal) h dv = dw h dv := v24_read h dv

end Cert.Reference2Ideal.Proj

end
-- ==== Proof.Products.lean ====
module

public import Idealize.ShloMosaic.Lib.Pointwise
public import Idealize.ShloMosaic.PureOps.Ideal

/-! Products of matrices over the extended reals, in the three layouts the step has (`a b`, `a bᵀ`, `aᵀ b`), and when a
block holds a product's block. -/

@[expose] public section

set_option maxRecDepth 16384
noncomputable section

namespace Cert.Products

open Idealize.ShloMosaic

/-- An `r × c` matrix. -/
abbrev Mat (r c : Nat) := (⟨2, ![r, c]⟩ : Shape).Idx → EReal

variable {r c s r' c' : Nat}

def nn (a : Mat r s) (b : Mat s c) : Mat r c := fun i => ∑ k : Fin s, a (ix2 (i 0) k) * b (ix2 k (i 1))
def nt (a : Mat r s) (b : Mat c s) : Mat r c := fun i => ∑ k : Fin s, a (ix2 (i 0) k) * b (ix2 (i 1) k)
def tn (a : Mat s r) (b : Mat s c) : Mat r c := fun i => ∑ k : Fin s, a (ix2 k (i 0)) * b (ix2 k (i 1))

theorem eta (y : (⟨2, ![r, c]⟩ : Shape).Idx) : ∃ (i : Fin r) (j : Fin c), y = ix2 i j :=
  ⟨y 0, y 1, by
    funext a
    match a with
    | ⟨0, _⟩ => rfl
    | ⟨1, _⟩ => rfl⟩

theorem ext2 {f g : Mat r c} (h : ∀ i j, f (ix2 i j) = g (ix2 i j)) : f = g :=
  funext fun y => by obtain ⟨i, j, rfl⟩ := eta y; exact h i j

/-- A product's block, from the operands' blocks. -/
theorem nn_block {o : Mat r' c'} {x : Mat r' s} {y : Mat s c'} (a : Mat r s) (b : Mat s c)
    (ho : ∀ i j, o (ix2 i j) = ∑ k : Fin s, x (ix2 i k) * y (ix2 k j)) (p : (⟨2, ![r', c']⟩ : Shape).Idx)
    (q : (⟨2, ![r, c]⟩ : Shape).Idx) (hx : ∀ k, x (ix2 (p 0) k) = a (ix2 (q 0) k))
    (hy : ∀ k, y (ix2 k (p 1)) = b (ix2 k (q 1))) : o p = nn a b q := by
  obtain ⟨i, j, rfl⟩ := eta p
  rw [ho]
  exact Finset.sum_congr rfl fun k _ => congrArg₂ (· * ·) (hx k) (hy k)

theorem nt_block {o : Mat r' c'} {x : Mat r' s} {y : Mat c' s} (a : Mat r s) (b : Mat c s)
    (ho : ∀ i j, o (ix2 i j) = ∑ k : Fin s, x (ix2 i k) * y (ix2 j k)) (p : (⟨2, ![r', c']⟩ : Shape).Idx)
    (q : (⟨2, ![r, c]⟩ : Shape).Idx) (hx : ∀ k, x (ix2 (p 0) k) = a (ix2 (q 0) k))
    (hy : ∀ k, y (ix2 (p 1) k) = b (ix2 (q 1) k)) : o p = nt a b q := by
  obtain ⟨i, j, rfl⟩ := eta p
  rw [ho]
  exact Finset.sum_congr rfl fun k _ => congrArg₂ (· * ·) (hx k) (hy k)

theorem tn_block {o : Mat r' c'} {x : Mat s r'} {y : Mat s c'} (a : Mat s r) (b : Mat s c)
    (ho : ∀ i j, o (ix2 i j) = ∑ k : Fin s, x (ix2 k i) * y (ix2 k j)) (p : (⟨2, ![r', c']⟩ : Shape).Idx)
    (q : (⟨2, ![r, c]⟩ : Shape).Idx) (hx : ∀ k, x (ix2 k (p 0)) = a (ix2 k (q 0)))
    (hy : ∀ k, y (ix2 k (p 1)) = b (ix2 k (q 1))) : o p = tn a b q := by
  obtain ⟨i, j, rfl⟩ := eta p
  rw [ho]
  exact Finset.sum_congr rfl fun k _ => congrArg₂ (· * ·) (hx k) (hy k)

/-- The same with a block of `e` added. -/
theorem nn_add_block {o : Mat r' c'} {x : Mat r' s} {y : Mat s c'} {z : Mat r' c'} (a : Mat r s) (b : Mat s c) (e : Mat r c)
    (ho : ∀ i j, o (ix2 i j) = (∑ k : Fin s, x (ix2 i k) * y (ix2 k j)) + z (ix2 i j)) (p : (⟨2, ![r', c']⟩ : Shape).Idx)
    (q : (⟨2, ![r, c]⟩ : Shape).Idx) (hx : ∀ k, x (ix2 (p 0) k) = a (ix2 (q 0) k))
    (hy : ∀ k, y (ix2 k (p 1)) = b (ix2 k (q 1))) (hz : z p = e q) : o p = nn a b q + e q := by
  obtain ⟨i, j, rfl⟩ := eta p
  rw [← hz, ho]
  exact congrArg (· + _) (Finset.sum_congr rfl fun k _ => congrArg₂ (· * ·) (hx k) (hy k))

theorem nt_add_block {o : Mat r' c'} {x : Mat r' s} {y : Mat c' s} {z : Mat r' c'} (a : Mat r s) (b : Mat c s) (e : Mat r c)
    (ho : ∀ i j, o (ix2 i j) = (∑ k : Fin s, x (ix2 i k) * y (ix2 j k)) + z (ix2 i j)) (p : (⟨2, ![r', c']⟩ : Shape).Idx)
    (q : (⟨2, ![r, c]⟩ : Shape).Idx) (hx : ∀ k, x (ix2 (p 0) k) = a (ix2 (q 0) k))
    (hy : ∀ k, y (ix2 (p 1) k) = b (ix2 (q 1) k)) (hz : z p = e q) : o p = nt a b q + e q := by
  obtain ⟨i, j, rfl⟩ := eta p
  rw [← hz, ho]
  exact congrArg (· + _) (Finset.sum_congr rfl fun k _ => congrArg₂ (· * ·) (hx k) (hy k))

end Cert.Products

end
-- ==== Proof.Layer.Block.lean ====
module

public import proofs.«01_k».proof.Proof.Products
public import proofs.«01_k».proof.Proof.Gen.Kernel3Ideal.Frame
public import Idealize.ShloMosaic.Lib.Pipeline.Value
public import Idealize.ShloMosaic.Lib.Pipeline.ValueKit

/-! One block of each product of a layer, contracted over the whole inner axis: what a region stores at one grid point. -/

@[expose] public section

set_option maxRecDepth 16384
noncomputable section

namespace Cert.Kernel3Ideal.Layer

open Cert.Kernel3Ideal Cert.Kernel3Ideal.Gen Cert.Products Idealize.ShloMosaic Idealize.ShloMosaic.TcCoe

theorem zero2 : (![0, 0] : Fin 2 → Nat) = fun _ => 0 := by decide

/-- Region 0: the convolved channels' segment. -/
theorem at0 (a : Vec Ideal S1024x2048 .bf16) (b : Vec Ideal S2048x1024 .bf16) (i : Fin 1024) (j : Fin 1024) :
    out0_2 a b (ix2 i j) = ∑ k : Fin 2048, a (ix2 i k) * b (ix2 k j) := by
  unfold out0_2
  rw [View.canon_unit_zero zero2, View.ld_unit_zero zero2, View.ld_unit_zero zero2]
  pointwise [k0_pay1]

/-- Region 1: the memory queries' segment. -/
theorem at1 (a : Vec Ideal S1024x2048 .bf16) (b : Vec Ideal S2048x1024 .bf16) (i : Fin 1024) (j : Fin 1024) :
    out1_2 a b (ix2 i j) = ∑ k : Fin 2048, a (ix2 i k) * b (ix2 k j) := by
  unfold out1_2
  rw [View.canon_unit_zero zero2, View.ld_unit_zero zero2, View.ld_unit_zero zero2]
  pointwise [k1_pay1]

/-- Region 2: the gate's segment. -/
theorem at2 (a : Vec Ideal S1024x2048 .bf16) (b : Vec Ideal S2048x1024 .bf16) (i : Fin 1024) (j : Fin 1024) :
    out2_2 a b (ix2 i j) = ∑ k : Fin 2048, a (ix2 i k) * b (ix2 k j) := by
  unfold out2_2
  rw [View.canon_unit_zero zero2, View.ld_unit_zero zero2, View.ld_unit_zero zero2]
  pointwise [k2_pay1]

/-- Region 3: the output projection and its residual. -/
theorem at3 (a : Vec Ideal S1024x4096 .bf16) (b : Vec Ideal S4096x512 .bf16) (e : Vec Ideal S1024x512 .f32) (i : Fin 1024) (j : Fin 512) :
    out3_3 a b e (ix2 i j) = (∑ k : Fin 4096, a (ix2 i k) * b (ix2 k j)) + e (ix2 i j) := by
  unfold out3_3
  rw [View.canon_unit_zero zero2, View.ld_unit_zero zero2, View.ld_unit_zero zero2, View.ld_unit_zero zero2]
  pointwise [k3_pay1]

/-- Region 4: the gradient of the gated mix. -/
theorem at4 (a : Vec Ideal S1024x2048 .bf16) (b : Vec Ideal S1024x2048 .bf16) (i : Fin 1024) (j : Fin 1024) :
    out4_2 a b (ix2 i j) = ∑ k : Fin 2048, a (ix2 i k) * b (ix2 j k) := by
  unfold out4_2
  rw [View.canon_unit_zero zero2, View.ld_unit_zero zero2, View.ld_unit_zero zero2]
  pointwise [k4_pay1]

/-- Region 5: the gradient of the output weight. -/
theorem at5 (a : Vec Ideal S8192x512 .bf16) (b : Vec Ideal S8192x512 .bf16) (i : Fin 512) (j : Fin 512) :
    out5_2 a b (ix2 i j) = ∑ k : Fin 8192, a (ix2 k i) * b (ix2 k j) := by
  unfold out5_2
  rw [View.canon_unit_zero zero2, View.ld_unit_zero zero2, View.ld_unit_zero zero2]
  pointwise [k5_pay1]

/-- Region 6: the input's gradient through the convolved channels. -/
theorem at6 (a : Vec Ideal S1024x5120 .bf16) (b : Vec Ideal S512x5120 .bf16) (i : Fin 1024) (j : Fin 512) :
    out6_2 a b (ix2 i j) = ∑ k : Fin 5120, a (ix2 i k) * b (ix2 j k) := by
  unfold out6_2
  rw [View.canon_unit_zero zero2, View.ld_unit_zero zero2, View.ld_unit_zero zero2]
  pointwise [k6_pay1]

/-- Region 7: the gradient of the convolved channels' weight. -/
theorem at7 (a : Vec Ideal S8192x512 .bf16) (b : Vec Ideal S8192x512 .bf16) (i : Fin 512) (j : Fin 512) :
    out7_2 a b (ix2 i j) = ∑ k : Fin 8192, a (ix2 k i) * b (ix2 k j) := by
  unfold out7_2
  rw [View.canon_unit_zero zero2, View.ld_unit_zero zero2, View.ld_unit_zero zero2]
  pointwise [k7_pay1]

/-- Region 8: the memory queries' part of the input's gradient added. -/
theorem at8 (a : Vec Ideal S1024x1024 .bf16) (b : Vec Ideal S1024x1024 .bf16) (e : Vec Ideal S1024x1024 .f32) (i : Fin 1024) (j : Fin 1024) :
    out8_3 a b e (ix2 i j) = (∑ k : Fin 1024, a (ix2 i k) * b (ix2 j k)) + e (ix2 i j) := by
  unfold out8_3
  rw [View.canon_unit_zero zero2, View.ld_unit_zero zero2, View.ld_unit_zero zero2, View.ld_unit_zero zero2]
  pointwise [k8_pay1]

/-- Region 9: the gradient of the memory queries' weight. -/
theorem at9 (a : Vec Ideal S8192x512 .bf16) (b : Vec Ideal S8192x512 .bf16) (i : Fin 512) (j : Fin 512) :
    out9_2 a b (ix2 i j) = ∑ k : Fin 8192, a (ix2 k i) * b (ix2 k j) := by
  unfold out9_2
  rw [View.canon_unit_zero zero2, View.ld_unit_zero zero2, View.ld_unit_zero zero2]
  pointwise [k9_pay1]

/-- Region 10: the gate's part of the input's gradient added. -/
theorem at10 (a : Vec Ideal S1024x4096 .bf16) (b : Vec Ideal S512x4096 .bf16) (e : Vec Ideal S1024x512 .f32) (i : Fin 1024) (j : Fin 512) :
    out10_3 a b e (ix2 i j) = (∑ k : Fin 4096, a (ix2 i k) * b (ix2 j k)) + e (ix2 i j) := by
  unfold out10_3
  rw [View.canon_unit_zero zero2, View.ld_unit_zero zero2, View.ld_unit_zero zero2, View.ld_unit_zero zero2]
  pointwise [k10_pay1]

/-- Region 11: the gradient of the gate's weight. -/
theorem at11 (a : Vec Ideal S8192x512 .bf16) (b : Vec Ideal S8192x512 .bf16) (i : Fin 512) (j : Fin 512) :
    out11_2 a b (ix2 i j) = ∑ k : Fin 8192, a (ix2 k i) * b (ix2 k j) := by
  unfold out11_2
  rw [View.canon_unit_zero zero2, View.ld_unit_zero zero2, View.ld_unit_zero zero2]
  pointwise [k11_pay1]

end Cert.Kernel3Ideal.Layer

end
-- ==== Proof.Layer.Arrays.lean ====
module

public import proofs.«01_k».proof.Proof.Layer.Block

/-! Each region's result array, from whatever its operands hold when it is entered (`V`): the product of the whole
arrays. -/

@[expose] public section

set_option maxRecDepth 16384
noncomputable section

namespace Cert.Kernel3Ideal.Layer

open Cert.Kernel3Ideal Cert.Kernel3Ideal.Gen Cert.Products Idealize.ShloMosaic Idealize.ShloMosaic.TcCoe

variable (V : (c : Dev nD) → (b : Ref sig .tc) → Buf (Elt Ideal) ((c : Thread nD τ).loc b)) (c : Dev nD)

/-- Region 0: the convolved channels' segment. -/
theorem idx0 : ∀ t : Fin cfg0.N, win0_0.index t = ![t.val / 5, 0] ∧ win0_1.index t = ![0, t.val % 5] ∧ win0_2.index t = ![t.val / 5, t.val % 5] :=
  (by decide +kernel : ∀ t : Fin grid0.N, _)

theorem final0 : (dat0 (F := Ideal) V c).arrAt 2 cfg0.N = nn (V c main_arg0) (V c main_arg1) := by
  refine (dat0 (F := Ideal) V c).arrAt_eq_of_covers 2 _ (by decide +kernel) fun t hf y => ?_
  have ht := lt_of_lt_of_eq t.isLt N_0
  blk_simp
  rw [after0_2]
  refine nn_block _ _ (at0 _ _) y _ (fun k => ?_) (fun k => ?_) <;> blk_point [iblk0, idx0 t]

/-- Region 1: the memory queries' segment. -/
theorem idx1 : ∀ t : Fin cfg1.N, win1_0.index t = ![t.val, 0] ∧ win1_1.index t = ![0, 0] ∧ win1_2.index t = ![t.val, 0] :=
  (by decide +kernel : ∀ t : Fin grid1.N, _)

theorem final1 : (dat1 (F := Ideal) V c).arrAt 2 cfg1.N = nn (V c main_arg0) (V c main_arg2) := by
  refine (dat1 (F := Ideal) V c).arrAt_eq_of_covers 2 _ (by decide +kernel) fun t hf y => ?_
  have ht := lt_of_lt_of_eq t.isLt N_1
  blk_simp
  rw [after1_2]
  refine nn_block _ _ (at1 _ _) y _ (fun k => ?_) (fun k => ?_) <;> blk_point [iblk1, idx1 t]

/-- Region 2: the gate's segment. -/
theorem idx2 : ∀ t : Fin cfg2.N, win2_0.index t = ![t.val / 4, 0] ∧ win2_1.index t = ![0, t.val % 4] ∧ win2_2.index t = ![t.val / 4, t.val % 4] :=
  (by decide +kernel : ∀ t : Fin grid2.N, _)

theorem final2 : (dat2 (F := Ideal) V c).arrAt 2 cfg2.N = nn (V c main_arg0) (V c main_arg3) := by
  refine (dat2 (F := Ideal) V c).arrAt_eq_of_covers 2 _ (by decide +kernel) fun t hf y => ?_
  have ht := lt_of_lt_of_eq t.isLt N_2
  blk_simp
  rw [after2_2]
  refine nn_block _ _ (at2 _ _) y _ (fun k => ?_) (fun k => ?_) <;> blk_point [iblk2, idx2 t]

/-- Region 3: the output projection and its residual. -/
theorem idx3 : ∀ t : Fin cfg3.N, win3_0.index t = ![t.val / 4, 0] ∧ win3_1.index t = ![0, t.val % 4] ∧ win3_2.index t = ![t.val / 4, t.val % 4] ∧ win3_3.index t = ![t.val / 4, t.val % 4] :=
  (by decide +kernel : ∀ t : Fin grid3.N, _)

theorem final3 : (dat3 (F := Ideal) V c).arrAt 3 cfg3.N = fun z => nn (V c main_arg7) (V c main_arg8) z + V c main_arg9 z := by
  refine (dat3 (F := Ideal) V c).arrAt_eq_of_covers 3 _ (by decide +kernel) fun t hf y => ?_
  have ht := lt_of_lt_of_eq t.isLt N_3
  blk_simp
  rw [after3_3]
  refine nn_add_block _ _ _ (at3 _ _ _) y _ (fun k => ?_) (fun k => ?_) ?_ <;> blk_point [iblk3, idx3 t]

/-- Region 4: the gradient of the gated mix. -/
theorem idx4 : ∀ t : Fin cfg4.N, win4_0.index t = ![t.val / 4, 0] ∧ win4_1.index t = ![t.val % 4, 0] ∧ win4_2.index t = ![t.val / 4, t.val % 4] :=
  (by decide +kernel : ∀ t : Fin grid4.N, _)

theorem final4 : (dat4 (F := Ideal) V c).arrAt 2 cfg4.N = nt (V c main_arg10) (V c main_arg8) := by
  refine (dat4 (F := Ideal) V c).arrAt_eq_of_covers 2 _ (by decide +kernel) fun t hf y => ?_
  have ht := lt_of_lt_of_eq t.isLt N_4
  blk_simp
  rw [after4_2]
  refine nt_block _ _ (at4 _ _) y _ (fun k => ?_) (fun k => ?_) <;> blk_point [iblk4, idx4 t]

/-- Region 5: the gradient of the output weight. -/
theorem idx5 : ∀ t : Fin cfg5.N, win5_0.index t = ![0, t.val / 4] ∧ win5_1.index t = ![0, t.val % 4] ∧ win5_2.index t = ![t.val / 4, t.val % 4] :=
  (by decide +kernel : ∀ t : Fin grid5.N, _)

theorem final5 : (dat5 (F := Ideal) V c).arrAt 2 cfg5.N = tn (V c main_arg7) (V c main_arg10) := by
  refine (dat5 (F := Ideal) V c).arrAt_eq_of_covers 2 _ (by decide +kernel) fun t hf y => ?_
  have ht := lt_of_lt_of_eq t.isLt N_5
  blk_simp
  rw [after5_2]
  refine tn_block _ _ (at5 _ _) y _ (fun k => ?_) (fun k => ?_) <;> blk_point [iblk5, idx5 t]

/-- Region 6: the input's gradient through the convolved channels. -/
theorem idx6 : ∀ t : Fin cfg6.N, win6_0.index t = ![t.val / 4, 0] ∧ win6_1.index t = ![t.val % 4, 0] ∧ win6_2.index t = ![t.val / 4, t.val % 4] :=
  (by decide +kernel : ∀ t : Fin grid6.N, _)

theorem final6 : (dat6 (F := Ideal) V c).arrAt 2 cfg6.N = nt (V c main_arg4) (V c main_arg1) := by
  refine (dat6 (F := Ideal) V c).arrAt_eq_of_covers 2 _ (by decide +kernel) fun t hf y => ?_
  have ht := lt_of_lt_of_eq t.isLt N_6
  blk_simp
  rw [after6_2]
  refine nt_block _ _ (at6 _ _) y _ (fun k => ?_) (fun k => ?_) <;> blk_point [iblk6, idx6 t]

/-- Region 7: the gradient of the convolved channels' weight. -/
theorem idx7 : ∀ t : Fin cfg7.N, win7_0.index t = ![0, t.val / 10] ∧ win7_1.index t = ![0, t.val % 10] ∧ win7_2.index t = ![t.val / 10, t.val % 10] :=
  (by decide +kernel : ∀ t : Fin grid7.N, _)

theorem final7 : (dat7 (F := Ideal) V c).arrAt 2 cfg7.N = tn (V c main_arg0) (V c main_arg4) := by
  refine (dat7 (F := Ideal) V c).arrAt_eq_of_covers 2 _ (by decide +kernel) fun t hf y => ?_
  have ht := lt_of_lt_of_eq t.isLt N_7
  blk_simp
  rw [after7_2]
  refine tn_block _ _ (at7 _ _) y _ (fun k => ?_) (fun k => ?_) <;> blk_point [iblk7, idx7 t]

/-- Region 8: the memory queries' part of the input's gradient added. -/
theorem idx8 : ∀ t : Fin cfg8.N, win8_0.index t = ![t.val / 2, 0] ∧ win8_1.index t = ![t.val % 2, 0] ∧ win8_2.index t = ![t.val / 2, t.val % 2] ∧ win8_3.index t = ![t.val / 2, t.val % 2] :=
  (by decide +kernel : ∀ t : Fin grid8.N, _)

theorem final8 : (dat8 (F := Ideal) V c).arrAt 3 cfg8.N = fun z => nt (V c main_arg5) (V c main_arg2) z + V c main_v6 z := by
  refine (dat8 (F := Ideal) V c).arrAt_eq_of_covers 3 _ (by decide +kernel) fun t hf y => ?_
  have ht := lt_of_lt_of_eq t.isLt N_8
  blk_simp
  rw [after8_3]
  refine nt_add_block _ _ _ (at8 _ _ _) y _ (fun k => ?_) (fun k => ?_) ?_ <;> blk_point [iblk8, idx8 t]

/-- Region 9: the gradient of the memory queries' weight. -/
theorem idx9 : ∀ t : Fin cfg9.N, win9_0.index t = ![0, t.val / 2] ∧ win9_1.index t = ![0, t.val % 2] ∧ win9_2.index t = ![t.val / 2, t.val % 2] :=
  (by decide +kernel : ∀ t : Fin grid9.N, _)

theorem final9 : (dat9 (F := Ideal) V c).arrAt 2 cfg9.N = tn (V c main_arg0) (V c main_arg5) := by
  refine (dat9 (F := Ideal) V c).arrAt_eq_of_covers 2 _ (by decide +kernel) fun t hf y => ?_
  have ht := lt_of_lt_of_eq t.isLt N_9
  blk_simp
  rw [after9_2]
  refine tn_block _ _ (at9 _ _) y _ (fun k => ?_) (fun k => ?_) <;> blk_point [iblk9, idx9 t]

/-- Region 10: the gate's part of the input's gradient added. -/
theorem idx10 : ∀ t : Fin cfg10.N, win10_0.index t = ![t.val / 4, 0] ∧ win10_1.index t = ![t.val % 4, 0] ∧ win10_2.index t = ![t.val / 4, t.val % 4] ∧ win10_3.index t = ![t.val / 4, t.val % 4] :=
  (by decide +kernel : ∀ t : Fin grid10.N, _)

theorem final10 : (dat10 (F := Ideal) V c).arrAt 3 cfg10.N = fun z => nt (V c main_arg6) (V c main_arg3) z + V c main_v8 z := by
  refine (dat10 (F := Ideal) V c).arrAt_eq_of_covers 3 _ (by decide +kernel) fun t hf y => ?_
  have ht := lt_of_lt_of_eq t.isLt N_10
  blk_simp
  rw [after10_3]
  refine nt_add_block _ _ _ (at10 _ _ _) y _ (fun k => ?_) (fun k => ?_) ?_ <;> blk_point [iblk10, idx10 t]

/-- Region 11: the gradient of the gate's weight. -/
theorem idx11 : ∀ t : Fin cfg11.N, win11_0.index t = ![0, t.val / 8] ∧ win11_1.index t = ![0, t.val % 8] ∧ win11_2.index t = ![t.val / 8, t.val % 8] :=
  (by decide +kernel : ∀ t : Fin grid11.N, _)

theorem final11 : (dat11 (F := Ideal) V c).arrAt 2 cfg11.N = tn (V c main_arg0) (V c main_arg6) := by
  refine (dat11 (F := Ideal) V c).arrAt_eq_of_covers 2 _ (by decide +kernel) fun t hf y => ?_
  have ht := lt_of_lt_of_eq t.isLt N_11
  blk_simp
  rw [after11_2]
  refine tn_block _ _ (at11 _ _) y _ (fun k => ?_) (fun k => ?_) <;> blk_point [iblk11, idx11 t]

end Cert.Kernel3Ideal.Layer

end
-- ==== Proof.Layer.Run.lean ====
module

public import proofs.«01_k».proof.Proof.Layer.Arrays

/-! The run of the twelve products, every array of the main memory read at its end; then the ten results as products
of the arguments. -/

@[expose] public section

set_option maxRecDepth 16384
noncomputable section

namespace Cert.Kernel3Ideal.Layer

open Cert.Kernel3Ideal Cert.Kernel3Ideal.Gen Cert.Products Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the launch's implicit arguments are found by unifying its conclusion with the one stated
set_option backward.isDefEq.respectTransparency.types false in
/-- Every run ends, with each array as the last segment leaves it. -/
theorem run_held {F} [FloatOps F] (m : (ℓ : Loc nD τ sig) → Buf (Elt F) ℓ) (ρ : Dev nD → PrngReg) :
    θ_run defs (onTc (τ := τ) (main (F := F))) ⟨m, fun _ => 0, ρ⟩ fun r =>
      ∀ c : Dev nD, ∀ b ∈ Pipeline.ucRefs τ sig, r.2.mem (((c : Thread nD τ)).1, b) = W12 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

section
variable (m : (ℓ : Loc nD τ sig) → Buf (Elt Ideal) ℓ) (ρ : Dev nD → PrngReg) (c : Dev nD)

/-- The convolved channels' segment. -/
theorem v0_end : W12 m ρ c main_v0 = nn (m ((c : Thread nD τ).loc main_arg0)) (m ((c : Thread nD τ).loc main_arg1)) := by
  rw [W12_of m ρ c main_v0 (by decide +kernel), W11_of m ρ c main_v0 (by decide +kernel), W10_of m ρ c main_v0 (by decide +kernel), W9_of m ρ c main_v0 (by decide +kernel), W8_of m ρ c main_v0 (by decide +kernel), W7_of m ρ c main_v0 (by decide +kernel), W6_of m ρ c main_v0 (by decide +kernel), W5_of m ρ c main_v0 (by decide +kernel), W4_of m ρ c main_v0 (by decide +kernel), W3_of m ρ c main_v0 (by decide +kernel), W2_of m ρ c main_v0 (by decide +kernel)]
  refine (W1_arr m ρ c 2).trans ((final0 (V0 m ρ) c).trans ?_)
  exact congrArg₂ nn (W0_args m ρ c main_arg0 (by decide)) (W0_args m ρ c main_arg1 (by decide))

/-- The memory queries' segment. -/
theorem v1_end : W12 m ρ c main_v1 = nn (m ((c : Thread nD τ).loc main_arg0)) (m ((c : Thread nD τ).loc main_arg2)) := by
  rw [W12_of m ρ c main_v1 (by decide +kernel), W11_of m ρ c main_v1 (by decide +kernel), W10_of m ρ c main_v1 (by decide +kernel), W9_of m ρ c main_v1 (by decide +kernel), W8_of m ρ c main_v1 (by decide +kernel), W7_of m ρ c main_v1 (by decide +kernel), W6_of m ρ c main_v1 (by decide +kernel), W5_of m ρ c main_v1 (by decide +kernel), W4_of m ρ c main_v1 (by decide +kernel), W3_of m ρ c main_v1 (by decide +kernel)]
  refine (W2_arr m ρ c 2).trans ((final1 (V1 m ρ) c).trans ?_)
  exact congrArg₂ nn (W1_args m ρ c main_arg0 (by decide)) (W1_args m ρ c main_arg2 (by decide))

/-- The gate's segment. -/
theorem v2_end : W12 m ρ c main_v2 = nn (m ((c : Thread nD τ).loc main_arg0)) (m ((c : Thread nD τ).loc main_arg3)) := by
  rw [W12_of m ρ c main_v2 (by decide +kernel), W11_of m ρ c main_v2 (by decide +kernel), W10_of m ρ c main_v2 (by decide +kernel), W9_of m ρ c main_v2 (by decide +kernel), W8_of m ρ c main_v2 (by decide +kernel), W7_of m ρ c main_v2 (by decide +kernel), W6_of m ρ c main_v2 (by decide +kernel), W5_of m ρ c main_v2 (by decide +kernel), W4_of m ρ c main_v2 (by decide +kernel)]
  refine (W3_arr m ρ c 2).trans ((final2 (V2 m ρ) c).trans ?_)
  exact congrArg₂ nn (W2_args m ρ c main_arg0 (by decide)) (W2_args m ρ c main_arg3 (by decide))

/-- The gradient of the gated mix. -/
theorem v4_end : W12 m ρ c main_v4 = nt (m ((c : Thread nD τ).loc main_arg10)) (m ((c : Thread nD τ).loc main_arg8)) := by
  rw [W12_of m ρ c main_v4 (by decide +kernel), W11_of m ρ c main_v4 (by decide +kernel), W10_of m ρ c main_v4 (by decide +kernel), W9_of m ρ c main_v4 (by decide +kernel), W8_of m ρ c main_v4 (by decide +kernel), W7_of m ρ c main_v4 (by decide +kernel), W6_of m ρ c main_v4 (by decide +kernel)]
  refine (W5_arr m ρ c 2).trans ((final4 (V4 m ρ) c).trans ?_)
  exact congrArg₂ nt (W4_args m ρ c main_arg10 (by decide)) (W4_args m ρ c main_arg8 (by decide))

/-- The gradient of the output weight. -/
theorem v5_end : W12 m ρ c main_v5 = tn (m ((c : Thread nD τ).loc main_arg7)) (m ((c : Thread nD τ).loc main_arg10)) := by
  rw [W12_of m ρ c main_v5 (by decide +kernel), W11_of m ρ c main_v5 (by decide +kernel), W10_of m ρ c main_v5 (by decide +kernel), W9_of m ρ c main_v5 (by decide +kernel), W8_of m ρ c main_v5 (by decide +kernel), W7_of m ρ c main_v5 (by decide +kernel)]
  refine (W6_arr m ρ c 2).trans ((final5 (V5 m ρ) c).trans ?_)
  exact congrArg₂ tn (W5_args m ρ c main_arg7 (by decide)) (W5_args m ρ c main_arg10 (by decide))

/-- The gradient of the convolved channels' weight. -/
theorem v7_end : W12 m ρ c main_v7 = tn (m ((c : Thread nD τ).loc main_arg0)) (m ((c : Thread nD τ).loc main_arg4)) := by
  rw [W12_of m ρ c main_v7 (by decide +kernel), W11_of m ρ c main_v7 (by decide +kernel), W10_of m ρ c main_v7 (by decide +kernel), W9_of m ρ c main_v7 (by decide +kernel)]
  refine (W8_arr m ρ c 2).trans ((final7 (V7 m ρ) c).trans ?_)
  exact congrArg₂ tn (W7_args m ρ c main_arg0 (by decide)) (W7_args m ρ c main_arg4 (by decide))

/-- The gradient of the memory queries' weight. -/
theorem v9_end : W12 m ρ c main_v9 = tn (m ((c : Thread nD τ).loc main_arg0)) (m ((c : Thread nD τ).loc main_arg5)) := by
  rw [W12_of m ρ c main_v9 (by decide +kernel), W11_of m ρ c main_v9 (by decide +kernel)]
  refine (W10_arr m ρ c 2).trans ((final9 (V9 m ρ) c).trans ?_)
  exact congrArg₂ tn (W9_args m ρ c main_arg0 (by decide)) (W9_args m ρ c main_arg5 (by decide))

/-- The gradient of the gate's weight. -/
theorem v11_end : W12 m ρ c main_v11 = tn (m ((c : Thread nD τ).loc main_arg0)) (m ((c : Thread nD τ).loc main_arg6)) := by
  refine (W12_arr m ρ c 2).trans ((final11 (V11 m ρ) c).trans ?_)
  exact congrArg₂ tn (W11_args m ρ c main_arg0 (by decide)) (W11_args m ρ c main_arg6 (by decide))

/-- The output projection and its residual. -/
theorem v3_end : W12 m ρ c main_v3 = fun z => nn (m ((c : Thread nD τ).loc main_arg7)) (m ((c : Thread nD τ).loc main_arg8)) z + (m ((c : Thread nD τ).loc main_arg9)) z := by
  rw [W12_of m ρ c main_v3 (by decide +kernel), W11_of m ρ c main_v3 (by decide +kernel), W10_of m ρ c main_v3 (by decide +kernel), W9_of m ρ c main_v3 (by decide +kernel), W8_of m ρ c main_v3 (by decide +kernel), W7_of m ρ c main_v3 (by decide +kernel), W6_of m ρ c main_v3 (by decide +kernel), W5_of m ρ c main_v3 (by decide +kernel)]
  refine (W4_arr m ρ c 3).trans ((final3 (V3 m ρ) c).trans ?_)
  rw [show V3 m ρ c main_arg7 = _ from W3_args m ρ c main_arg7 (by decide),
    show V3 m ρ c main_arg8 = _ from W3_args m ρ c main_arg8 (by decide),
    show V3 m ρ c main_arg9 = _ from W3_args m ρ c main_arg9 (by decide)]

/-- The convolved channels' part of the input's gradient. -/
theorem v6_mid : W7 m ρ c main_v6 = nt (m ((c : Thread nD τ).loc main_arg4)) (m ((c : Thread nD τ).loc main_arg1)) :=
  (W7_arr m ρ c 2).trans ((final6 (V6 m ρ) c).trans
    (congrArg₂ nt (W6_args m ρ c main_arg4 (by decide)) (W6_args m ρ c main_arg1 (by decide))))

/-- The memory queries' part added. -/
theorem v8_mid : W9 m ρ c main_v8 = fun z => nt (m ((c : Thread nD τ).loc main_arg5)) (m ((c : Thread nD τ).loc main_arg2)) z + nt (m ((c : Thread nD τ).loc main_arg4)) (m ((c : Thread nD τ).loc main_arg1)) z := by
  refine (W9_arr m ρ c 3).trans ((final8 (V8 m ρ) c).trans ?_)
  have h : V8 m ρ c main_v6 = nt (m ((c : Thread nD τ).loc main_arg4)) (m ((c : Thread nD τ).loc main_arg1)) := (W8_of m ρ c main_v6 (by decide +kernel)).trans (v6_mid m ρ c)
  rw [h, show V8 m ρ c main_arg5 = _ from W8_args m ρ c main_arg5 (by decide),
    show V8 m ρ c main_arg2 = _ from W8_args m ρ c main_arg2 (by decide)]

/-- The input's gradient. -/
theorem v10_end : W12 m ρ c main_v10
    = fun z => nt (m ((c : Thread nD τ).loc main_arg6)) (m ((c : Thread nD τ).loc main_arg3)) z + (nt (m ((c : Thread nD τ).loc main_arg5)) (m ((c : Thread nD τ).loc main_arg2)) z + nt (m ((c : Thread nD τ).loc main_arg4)) (m ((c : Thread nD τ).loc main_arg1)) z) := by
  rw [W12_of m ρ c main_v10 (by decide +kernel)]
  refine (W11_arr m ρ c 3).trans ((final10 (V10 m ρ) c).trans ?_)
  have h : V10 m ρ c main_v8 = fun z => nt (m ((c : Thread nD τ).loc main_arg5)) (m ((c : Thread nD τ).loc main_arg2)) z + nt (m ((c : Thread nD τ).loc main_arg4)) (m ((c : Thread nD τ).loc main_arg1)) z :=
    (W10_of m ρ c main_v8 (by decide +kernel)).trans (v8_mid m ρ c)
  rw [h, show V10 m ρ c main_arg6 = _ from W10_args m ρ c main_arg6 (by decide),
    show V10 m ρ c main_arg3 = _ from W10_args m ρ c main_arg3 (by decide)]

end

end Cert.Kernel3Ideal.Layer

end
-- ==== Proof.Layer.RefRead.lean ====
module

public import proofs.«01_k».proof.Proof.Products
public import proofs.«01_k».proof.Proof.Gen.Reference3Ideal.Read

/-! The reference's results, read at an index: the same products. Its weights' gradients are transposes of `dᵀ h`, and
it adds the parts of the input's gradient in another order. -/

@[expose] public section

set_option maxRecDepth 16384
noncomputable section

namespace Cert.Reference3Ideal.Layer

open Cert.Reference3Ideal Cert.Reference3Ideal.Read Cert.Products Idealize.ShloMosaic

variable (h : FVec Ideal S8192x2048 .bf16) (wx : FVec Ideal S2048x5120 .bf16) (wm : FVec Ideal S2048x1024 .bf16)
  (wz : FVec Ideal S2048x4096 .bf16) (dx : FVec Ideal S8192x5120 .bf16) (dm : FVec Ideal S8192x1024 .bf16)
  (dz : FVec Ideal S8192x4096 .bf16) (g : FVec Ideal S8192x4096 .bf16) (wo : FVec Ideal S4096x2048 .bf16)
  (x : FVec Ideal S8192x2048 .f32) (d : FVec Ideal S8192x2048 .bf16)

theorem v6_read : val_main_v6 (F := Ideal) h wx = nn h wx :=
  ext2 fun i j => by pointwise [val_main_v6, val_main_v0, val_main_v1, nn]

theorem v29_read : val_main_v29 (F := Ideal) h wm = nn h wm :=
  ext2 fun i j => by pointwise [val_main_v29, val_main_v7, val_main_v0, val_main_v2, nn]

theorem v8_read : val_main_v8 (F := Ideal) h wz = nn h wz :=
  ext2 fun i j => by pointwise [val_main_v8, val_main_v0, val_main_v3, nn]

/-- The output projection and its residual. -/
theorem v10_read : val_main_v10 (F := Ideal) g wo x = fun z => nn g wo z + x z := by
  have hv : val_main_v9 (F := Ideal) g wo = nn g wo :=
    ext2 fun i j => by pointwise [val_main_v9, val_main_v4, val_main_v5, nn]
  funext z
  show (x z + val_main_v9 (F := Ideal) g wo z : EReal) = _
  rw [hv, add_comm]

theorem v30_read : val_main_v30 (F := Ideal) wo d = nt d wo :=
  ext2 fun i j => by pointwise [val_main_v30, val_main_v17, val_main_v14, val_main_v5, nt]

theorem v31_read : val_main_v31 (F := Ideal) g d = tn g d :=
  ext2 fun i j => by
    have : val_main_v31 (F := Ideal) g d (ix2 i j) = ∑ k : Fin 8192, d (ix2 k j) * g (ix2 k i) := by
      pointwise [val_main_v31, val_main_v16, val_main_v15, val_main_v14, val_main_v4]
    rw [this]
    exact Finset.sum_congr rfl fun k _ => mul_comm _ _

/-- The three parts of the input's gradient. -/
theorem v28_read : val_main_v28 (F := Ideal) wx wm wz dx dm dz = fun z => nt dz wz z + (nt dm wm z + nt dx wx z) := by
  have hz : val_main_v20 (F := Ideal) wz dz = nt dz wz :=
    ext2 fun i j => by pointwise [val_main_v20, val_main_v13, val_main_v3, nt]
  have hm : val_main_v23 (F := Ideal) wm dm = nt dm wm :=
    ext2 fun i j => by pointwise [val_main_v23, val_main_v12, val_main_v2, nt]
  have hx : val_main_v27 (F := Ideal) wx dx = nt dx wx :=
    ext2 fun i j => by pointwise [val_main_v27, val_main_v11, val_main_v1, nt]
  funext z
  show (val_main_v20 (F := Ideal) wz dz z + val_main_v23 (F := Ideal) wm dm z : EReal) + val_main_v27 (F := Ideal) wx dx z = _
  rw [hz, hm, hx, add_assoc]

theorem v32_read : val_main_v32 (F := Ideal) h dx = tn h dx :=
  ext2 fun i j => by
    have : val_main_v32 (F := Ideal) h dx (ix2 i j) = ∑ k : Fin 8192, dx (ix2 k j) * h (ix2 k i) := by
      pointwise [val_main_v32, val_main_v26, val_main_v25, val_main_v11, val_main_v0]
    rw [this]
    exact Finset.sum_congr rfl fun k _ => mul_comm _ _

theorem v33_read : val_main_v33 (F := Ideal) h dm = tn h dm :=
  ext2 fun i j => by
    have : val_main_v33 (F := Ideal) h dm (ix2 i j) = ∑ k : Fin 8192, dm (ix2 k j) * h (ix2 k i) := by
      pointwise [val_main_v33, val_main_v22, val_main_v21, val_main_v12, val_main_v0]
    rw [this]
    exact Finset.sum_congr rfl fun k _ => mul_comm _ _

theorem v34_read : val_main_v34 (F := Ideal) h dz = tn h dz :=
  ext2 fun i j => by
    have : val_main_v34 (F := Ideal) h dz (ix2 i j) = ∑ k : Fin 8192, dz (ix2 k j) * h (ix2 k i) := by
      pointwise [val_main_v34, val_main_v19, val_main_v18, val_main_v13, val_main_v0]
    rw [this]
    exact Finset.sum_congr rfl fun k _ => mul_comm _ _

end Cert.Reference3Ideal.Layer

end
-- ==== Proof.Dil.Row.lean ====
module

public import proofs.«01_k».proof.Proof.MemAttn.Row

/-!
# The gradient of a masked softmax, one query at a time, over the extended reals

`n` keys, `d` channels; `ok` says which keys the query sees, `S` are the scores, `V` the values, `D` the cotangent of
the query's output and `y` that of its log-sum. The kernel forms `p (D·V + y − D·o)` with `p = exp (S − lse)`; the
derivative taken operation by operation goes through the largest score too, whose cotangent is shared between the keys
that attain it. That cotangent is zero, and the two agree when the numbers are real.
-/

@[expose] public section

noncomputable section

namespace Cert.Dil

open Idealize.ShloMosaic Cert.MemAttn

variable {n d : ℕ}

/-- Channel `e` of the unnormalised output. -/
def pv (s : Fin n → EReal) (V : Fin n → Fin d → EReal) (e : Fin d) : EReal := ∑ k, V k e * expo s k

/-- Channel `e` of the output. -/
def outp (s : Fin n → EReal) (V : Fin n → Fin d → EReal) (e : Fin d) : EReal := Ideal.div (pv s V e) (den s)

/-- The log-sum. -/
def lse (s : Fin n → EReal) : EReal := top s + Ideal.log (den s)

/-- The row term: the log-sum's cotangent less the product of the output and its cotangent. -/
def rterm (s : Fin n → EReal) (V : Fin n → Fin d → EReal) (D : Fin d → EReal) (y : EReal) : EReal :=
  y - ∑ e, D e * outp s V e

/-- Whether a key attains the largest score. -/
def atTop (s : Fin n → EReal) (k : Fin n) : EReal := if s k = top s then 1 else 0

/-- The gradient of the shifted scores, by the quotient rule. -/
def gradRaw (s : Fin n → EReal) (V : Fin n → Fin d → EReal) (D : Fin d → EReal) (y : EReal) (k : Fin n) : EReal :=
  ((∑ e, Ideal.div (D e) (den s) * V k e)
    + (Ideal.div y (den s) + -(∑ e, D e * Ideal.div 1 (den s * den s) * pv s V e))) * expo s k

/-- The gradient of the scores, the largest score's share added. -/
def gradTop (s : Fin n → EReal) (V : Fin n → Fin d → EReal) (D : Fin d → EReal) (y : EReal) (k : Fin n) : EReal :=
  gradRaw s V D y k + Ideal.div (y + ∑ l, -(gradRaw s V D y l)) (∑ l, atTop s l) * atTop s k

/-- The scores a query sees, the others `⊥`. -/
def masked (ok : Fin n → Prop) [DecidablePred ok] (S : Fin n → EReal) (k : Fin n) : EReal := if ok k then S k else ⊥

/-- The probability of a key, from the log-sum `L`. -/
def seen (ok : Fin n → Prop) [DecidablePred ok] (S : Fin n → EReal) (L : EReal) (k : Fin n) : EReal :=
  if ok k then Ideal.exp (S k - L) else 0

section
variable (ok : Fin n → Prop) [DecidablePred ok] (S : Fin n → ℝ)

theorem masked_top (h : ∃ k, ok k) : (∃ r : ℝ, top (masked ok fun k => (S k : EReal)) = r)
    ∧ ∃ k, masked ok (fun k => (S k : EReal)) k = top (masked ok fun k => (S k : EReal)) := by
  have key : ∀ T : Finset (Fin n), (T.fold max ⊥ (masked ok fun k => (S k : EReal)) = ⊥ ∧ ∀ k ∈ T, ¬ok k)
      ∨ ∃ k, ok k ∧ T.fold max ⊥ (masked ok fun k => (S k : EReal)) = S k := by
    intro T
    induction T using Finset.cons_induction with
    | empty => exact .inl ⟨by simp, by simp⟩
    | cons a T ha ih =>
      rw [Finset.fold_cons]
      by_cases hk : ok a
      · have hm : masked ok (fun k => (S k : EReal)) a = S a := if_pos hk
        rcases ih with ⟨hb, _⟩ | ⟨k, hk', hb⟩
        · exact .inr ⟨a, hk, by rw [hb, hm, max_eq_left bot_le]⟩
        · rcases le_total (S a : EReal) (S k) with hle | hle
          · exact .inr ⟨k, hk', by rw [hb, hm, max_eq_right hle]⟩
          · exact .inr ⟨a, hk, by rw [hb, hm, max_eq_left hle]⟩
      · have hm : masked ok (fun k => (S k : EReal)) a = ⊥ := if_neg hk
        rw [hm, max_eq_right bot_le]
        rcases ih with ⟨hb, hn⟩ | hr
        · refine .inl ⟨hb, fun k hkT => ?_⟩
          rcases Finset.mem_cons.mp hkT with rfl | hkT
          · exact hk
          · exact hn k hkT
        · exact .inr hr
  rcases key Finset.univ with ⟨_, hn⟩ | ⟨k, hk, hr⟩
  · exact absurd h.choose_spec (hn _ (Finset.mem_univ _))
  · exact ⟨⟨S k, hr⟩, k, by rw [top, hr]; exact if_pos hk⟩

/-- Over real scores the exponentials are reals, positive where the query sees the key and zero elsewhere. -/
theorem masked_expo (h : ∃ k, ok k) : ∃ (r : ℝ) (x : Fin n → ℝ), top (masked ok fun k => (S k : EReal)) = r
    ∧ (∀ k, expo (masked ok fun k => (S k : EReal)) k = x k) ∧ (∀ k, ok k → x k = Real.exp (S k - r))
    ∧ ∀ k, ¬ok k → x k = 0 := by
  obtain ⟨⟨r, hr⟩, _⟩ := masked_top ok S h
  refine ⟨r, fun k => if ok k then Real.exp (S k - r) else 0, hr, fun k => ?_, fun k hk => if_pos hk, fun k hk => if_neg hk⟩
  show _ = ((if ok k then Real.exp (S k - r) else 0 : ℝ) : EReal)
  rw [expo, hr, masked]
  by_cases hk : ok k
  · rw [if_pos hk, if_pos hk, ← EReal.coe_sub, Ideal.exp_coe]
  · rw [if_neg hk, if_neg hk, EReal.bot_sub, Ideal.exp_bot, EReal.coe_zero]

end

/-- THE EQUATION for one query: with real numbers and at least one key in view, the derivative taken operation by
    operation is the kernel's product, and the unnormalised weight over the sum is the kernel's probability. -/
theorem row_eq (ok : Fin n → Prop) [DecidablePred ok] (h : ∃ k, ok k) (S : Fin n → ℝ) (V : Fin n → Fin d → ℝ)
    (D : Fin d → ℝ) (y : ℝ) (k : Fin n) :
    (if ok k then gradTop (masked ok fun k => (S k : EReal)) (fun k e => (V k e : EReal)) (fun e => (D e : EReal)) y k else 0)
        = seen ok (fun k => (S k : EReal)) (lse (masked ok fun k => (S k : EReal))) k
          * ((∑ e, (D e : EReal) * (V k e : EReal))
            + rterm (masked ok fun k => (S k : EReal)) (fun k e => (V k e : EReal)) (fun e => (D e : EReal)) y)
      ∧ ∀ e, Ideal.div (D e : EReal) (den (masked ok fun k => (S k : EReal))) * expo (masked ok fun k => (S k : EReal)) k
        = seen ok (fun k => (S k : EReal)) (lse (masked ok fun k => (S k : EReal))) k * (D e : EReal) := by
  obtain ⟨r, x, hr, hx, hpos, hzero⟩ := masked_expo ok S h
  obtain ⟨-, k₀, hk₀⟩ := masked_top ok S h
  set s := masked ok fun k => (S k : EReal) with hs
  have hden : den s = ((∑ l, x l : ℝ) : EReal) := by
    rw [den, coe_sum]; exact Finset.sum_congr rfl fun l _ => hx l
  set t : ℝ := ∑ l, x l with ht
  have htp : 0 < t := by
    obtain ⟨l, hl⟩ := h
    refine Finset.sum_pos' (fun k _ => ?_) ⟨l, Finset.mem_univ _, by rw [hpos l hl]; exact Real.exp_pos _⟩
    by_cases hk : ok k
    · rw [hpos k hk]; exact (Real.exp_pos _).le
    · rw [hzero k hk]
  have hlse : lse s = ((r + Real.log t : ℝ) : EReal) := by
    rw [lse, hr, hden, EReal.coe_add]
    rw [Ideal.log_coe, if_neg (not_le.mpr htp)]
  have hseen : seen ok (fun k => (S k : EReal)) (lse s) k = ((x k / t : ℝ) : EReal) := by
    rw [seen, hlse]
    split
    · next hk =>
      rw [← EReal.coe_sub, Ideal.exp_coe, hpos k hk]
      congr 1
      rw [← sub_sub, Real.exp_sub, Real.exp_log htp]
    · next hk => rw [hzero k hk]; simp
  have hpv : ∀ e, pv s (fun k e => (V k e : EReal)) e = ((∑ l, V l e * x l : ℝ) : EReal) := fun e => by
    rw [pv, coe_sum]
    exact Finset.sum_congr rfl fun l _ => by rw [hx, EReal.coe_mul]
  set w : Fin d → ℝ := fun e => ∑ l, V l e * x l with hw
  have hdiv : ∀ z : ℝ, Ideal.div (z : EReal) (den s) = ((z / t : ℝ) : EReal) := fun z => by
    rw [hden, Ideal.div_coe htp.ne', ← EReal.coe_mul, mul_one_div]
  have hone : Ideal.div 1 (den s * den s) = ((1 / (t * t) : ℝ) : EReal) := by
    rw [hden, ← EReal.coe_mul, Ideal.div_coe (mul_pos htp htp).ne', one_mul]
  have hrt : rterm s (fun k e => (V k e : EReal)) (fun e => (D e : EReal)) y = ((y - ∑ e, D e * (w e / t) : ℝ) : EReal) := by
    rw [rterm, EReal.coe_sub, coe_sum]
    congr 1
    exact Finset.sum_congr rfl fun e _ => by rw [outp, hpv, hdiv, EReal.coe_mul]
  have hraw : ∀ l, gradRaw s (fun k e => (V k e : EReal)) (fun e => (D e : EReal)) y l
      = ((x l / t * ((∑ e, D e * V l e) + (y - ∑ e, D e * (w e / t))) : ℝ) : EReal) := fun l => by
    have h1 : (∑ e, Ideal.div (D e : EReal) (den s) * (V l e : EReal)) = (((∑ e, D e * V l e) / t : ℝ) : EReal) := by
      rw [Finset.sum_div, coe_sum]
      exact Finset.sum_congr rfl fun e _ => by rw [hdiv, ← EReal.coe_mul, div_mul_eq_mul_div]
    have h2 : (∑ e, (D e : EReal) * Ideal.div 1 (den s * den s) * pv s (fun k e => (V k e : EReal)) e)
        = (((∑ e, D e * (w e / t)) / t : ℝ) : EReal) := by
      rw [Finset.sum_div, coe_sum]
      exact Finset.sum_congr rfl fun e _ => by
        rw [hone, hpv, ← EReal.coe_mul, ← EReal.coe_mul]
        congr 1
        simp only [hw]
        field_simp
    rw [gradRaw, h1, h2, hdiv, hx, ← EReal.coe_neg, ← EReal.coe_add, ← EReal.coe_add, ← EReal.coe_mul]
    congr 1
    ring
  have hzero' : y + ∑ l, -(x l / t * ((∑ e, D e * V l e) + (y - ∑ e, D e * (w e / t)))) = 0 := by
    have h1 : ∑ l, x l / t * (∑ e, D e * V l e) = ∑ e, D e * (w e / t) := by
      simp only [Finset.mul_sum]
      rw [Finset.sum_comm]
      refine Finset.sum_congr rfl fun e _ => ?_
      simp only [hw]
      rw [Finset.sum_div, Finset.mul_sum]
      exact Finset.sum_congr rfl fun l _ => by ring
    have h2 : ∑ l, x l / t = 1 := by rw [← Finset.sum_div, ← ht, div_self htp.ne']
    rw [Finset.sum_neg_distrib]
    simp only [mul_add, Finset.sum_add_distrib, ← Finset.sum_mul]
    rw [h1, h2]
    ring
  have hsum : (y : EReal) + ∑ l, -(gradRaw s (fun k e => (V k e : EReal)) (fun e => (D e : EReal)) y l) = 0 := by
    simp only [hraw, ← EReal.coe_neg]
    rw [← coe_sum, ← EReal.coe_add, hzero', EReal.coe_zero]
  have hcnt : ∃ q : ℝ, q ≠ 0 ∧ ∑ l, atTop s l = q := by
    refine ⟨∑ l, if s l = top s then 1 else 0, ?_, ?_⟩
    · refine ne_of_gt (Finset.sum_pos' (fun l _ => by split <;> norm_num) ⟨k₀, Finset.mem_univ _, ?_⟩)
      rw [if_pos hk₀]; norm_num
    · rw [coe_sum]
      exact Finset.sum_congr rfl fun l _ => by rw [atTop]; split <;> simp
  obtain ⟨q, hq, hq'⟩ := hcnt
  refine ⟨?_, fun e => ?_⟩
  · rw [hseen, hrt]
    have hdv : (∑ e, (D e : EReal) * (V k e : EReal)) = ((∑ e, D e * V k e : ℝ) : EReal) := by
      rw [coe_sum]; exact Finset.sum_congr rfl fun e _ => by rw [EReal.coe_mul]
    rw [hdv, ← EReal.coe_add, ← EReal.coe_mul]
    split
    · rw [gradTop, hsum, hq', Ideal.div_coe hq, zero_mul, zero_mul, add_zero, hraw]
    · next hk => rw [hzero k hk]; simp
  · rw [hseen, hdiv, hx, ← EReal.coe_mul, ← EReal.coe_mul]
    congr 1
    ring

end Cert.Dil

end
-- ==== Proof.Dil.Head.lean ====
module

public import proofs.«01_k».proof.Proof.Gen.Kernel4Ideal.Skeleton

/-!
# One head of one point

The body treats 24 heads one after another, each with its own slope and its own 128 columns. This module says once
what it computes for a head, from the head's columns of the blocks.
-/

@[expose] public section

set_option maxRecDepth 16384

noncomputable section

namespace Cert.Dil

open Idealize.ShloMosaic Idealize.ShloMosaic.TcCoe Idealize.SL.Sem
open Cert.Kernel4Ideal Cert.Kernel4Ideal.Gen

variable {F : FTy → Type} [FloatOps F]

/-- The words of the heads' slopes, each times the dilation. -/
def slopeBits : Fin 24 → BitVec 32 :=
  ![0x3EBC2043#32, 0x3EAE2E5E#32, 0x3EA14518#32, 0x3E9550D3#32, 0x3E8A3F66#32, 0x3E800000#32, 0x3E6D0620#32, 0x3E5B7457#32,
    0x3E4B2FF5#32, 0x3E3C2043#32, 0x3E2E2E5E#32, 0x3E214518#32, 0x3E1550D3#32, 0x3E0A3F66#32, 0x3E000000#32, 0x3DED0620#32,
    0x3DDB7457#32, 0x3DCB2FF5#32, 0x3DBC2043#32, 0x3DAE2E5E#32, 0x3DA14518#32, 0x3D9550D3#32, 0x3D8A3F66#32, 0x3D800000#32]

/-- A head's slope. -/
def slope (h : Fin 24) : F .f32 := Scalar.ofBits .f32 (slopeBits h)

/-- Column `h` of a side array, along every slot. -/
def colOf (h : Fin 24) (v : FVec F S128x128 .f32) : FVec F S128x256 .f32 :=
  broadcastTo S128x256 (shapeCast S128x1 (multiReduction .add [1] S128
    (select (cmpi .eq (iota .tc S128x128 32 [1] iota_S128x128_d1_w32) (broadcast S128x128 (BitVec.ofNat 32 h.val))) v
      (broadcast S128x128 (Scalar.ofBits .f32 0x00000000#32 : F .f32))) 0x00000000#32 reduces_S128x128_S128 (.inl rfl) rfl)
    shapeCasts_S128_S128x1) broadcasts_S128x1_S128x256

section
variable (h : Fin 24) (valid : IVec S128x256 1) (q kp kc vp vc dO : FVec F S128x128 .bf16) (ct lt : FVec F S128x128 .f32)

/-- The window's 256 slots: the block before, then the point's own. -/
def window (a b : FVec F S128x128 .bf16) : FVec F S256x128 .bf16 :=
  concatenate S256x128 0 [⟨S128x128, a⟩, ⟨S128x128, b⟩] concatenates_S128x128_S128x128_S256x128_d0

/-- The masked scores. -/
def headScore : FVec F S128x256 .f32 :=
  select valid
    (subf (mulf (matmul dot_S128x128_S256x128_S128x256_1_1_0_0_n_n none q (window kp kc) (constant S128x256 .f32 0x00000000#32))
        (broadcast S128x256 (Scalar.ofBits .f32 0x3DB504F3#32 : F .f32)))
      (mulf (broadcast S128x256 (slope h : F .f32)) (k0_pay10 (F := F))))
    (broadcast S128x256 (Scalar.ofBits .f32 0xF149F2CA#32 : F .f32))

/-- The probabilities, from the saved log-sums. -/
def headProb : FVec F S128x256 .f32 :=
  select valid (exp (subf (headScore h valid q kp kc) (colOf h lt)))
    (broadcast S128x256 (Scalar.ofBits .f32 0x00000000#32 : F .f32))

/-- The scaled gradient of the scores. -/
def headDs : FVec F S128x256 .bf16 :=
  truncf .bf16 (mulf (mulf (headProb h valid q kp kc lt)
      (addf (matmul dot_S128x128_S256x128_S128x256_1_1_0_0_n_n none dO (window vp vc) (constant S128x256 .f32 0x00000000#32))
        (colOf h ct)))
    (broadcast S128x256 (Scalar.ofBits .f32 0x3DB504F3#32 : F .f32))) bitsLt_bf16_f32

/-- The gradient of the queries. -/
def headDq : FVec F S128x128 .bf16 :=
  truncf .bf16 (matmul dot_S128x256_S256x128_S128x128_1_0_0_1_n_n none (headDs h valid q kp kc vp vc dO ct lt) (window kp kc)
    (constant S128x128 .f32 0x00000000#32)) bitsLt_bf16_f32

/-- The gradient of the window's keys. -/
def headDk : FVec F S256x128 .f32 :=
  matmul dot_S128x256_S128x128_S256x128_0_0_1_1_n_n none (headDs h valid q kp kc vp vc dO ct lt) q
    (constant S256x128 .f32 0x00000000#32)

/-- The gradient of the window's values. -/
def headDv : FVec F S256x128 .f32 :=
  matmul dot_S128x256_S128x128_S256x128_0_0_1_1_n_n none (truncf .bf16 (headProb h valid q kp kc lt) bitsLt_bf16_f32) dO
    (constant S256x128 .f32 0x00000000#32)

end

/-- What is written back for the block before: the carried half and the window's first half. -/
def early (x : FVec F S256x128 .f32) (a : FVec F S128x128 .f32) : FVec F S128x128 .bf16 :=
  truncf .bf16 (addf a (extractStridedSlice S128x128 ![0, 0] x slices_S256x128_o0_0_S128x128)) bitsLt_bf16_f32

/-- What is carried for the point's own block: the window's second half. -/
def late (x : FVec F S256x128 .f32) : FVec F S128x128 .f32 :=
  shapeCast S128x128 (extractStridedSlice S128x128 ![128, 0] x slices_S256x128_o128_0_S128x128) shapeCasts_S128x128_S128x128

theorem inbCols (h : Fin 24) : ∀ a : Fin 2, (![0, h.val * 128] : Fin 2 → ℕ) a + S128x128.size a ≤ S128x3072.size a := by
  intro a
  have := h.isLt
  match a with
  | ⟨0, _⟩ => exact le_of_eq rfl
  | ⟨1, _⟩ => exact (show h.val * 128 + 128 ≤ 3072 by omega)

/-- A head's columns of a block. -/
abbrev cols (h : Fin 24) : Rect S128x3072 := Rect.unit ![0, h.val * 128] S128x128.size (inbCols h)

/-- The heads in the order their stores are listed, the last first. -/
def heads : List (Fin 24) :=
  [⟨23, by decide⟩, ⟨22, by decide⟩, ⟨21, by decide⟩, ⟨20, by decide⟩, ⟨19, by decide⟩, ⟨18, by decide⟩, ⟨17, by decide⟩,
    ⟨16, by decide⟩, ⟨15, by decide⟩, ⟨14, by decide⟩, ⟨13, by decide⟩, ⟨12, by decide⟩, ⟨11, by decide⟩, ⟨10, by decide⟩,
    ⟨9, by decide⟩, ⟨8, by decide⟩, ⟨7, by decide⟩, ⟨6, by decide⟩, ⟨5, by decide⟩, ⟨4, by decide⟩, ⟨3, by decide⟩,
    ⟨2, by decide⟩, ⟨1, by decide⟩, ⟨0, by decide⟩]

theorem mem_heads (h : Fin 24) : h ∈ heads := by revert h; decide

end Cert.Dil

end
-- ==== Proof.Dil.Spec.lean ====
module

public import proofs.«01_k».proof.Proof.Dil.Row
public import proofs.«01_k».proof.Proof.Dil.Head

/-!
# The gradient of the dilated attention, as functions of its arrays

Arrays of 8192 rows and 3072 columns: 16 residue classes of 512 rows, 24 heads of 128 columns. A query sees the keys of
its class at most 128 places before it.
-/

@[expose] public section

set_option maxRecDepth 16384

noncomputable section

namespace Cert.Dil

open Idealize.ShloMosaic Cert.MemAttn

/-- An array of rows and columns, and one of a number per row and head. -/
abbrev Arr : Type := FVec Ideal ⟨2, ![8192, 3072]⟩ .bf16
abbrev Side : Type := FVec Ideal ⟨2, ![8192, 24]⟩ .f32

/-- Row `n` of class `r`. -/
def rowOf (r : Fin 16) (n : Fin 512) : Fin 8192 := ⟨r * 512 + n, by omega⟩
/-- Column `e` of head `h`. -/
def col (h : Fin 24) (e : Fin 128) : Fin 3072 := ⟨h * 128 + e, by omega⟩

/-- An array's entry by class, head, row and column. -/
def ent (x : Arr) (r : Fin 16) (h : Fin 24) (n : Fin 512) (e : Fin 128) : EReal := x (ix2 (rowOf r n) (col h e))
/-- A side array's entry by class, head and row. -/
def sent (x : Side) (r : Fin 16) (h : Fin 24) (n : Fin 512) : EReal := x (ix2 (rowOf r n) h)

/-- The scale of the scores, the word both programs hold. -/
abbrev scl : EReal := Ideal.ofBits .f32 0x3DB504F3#32

/-- The distance from a key to a query, in 32-bit arithmetic read as a signed integer. -/
def dist (n k : ℕ) : EReal := (((BitVec.ofNat 32 n - BitVec.ofNat 32 k).toInt : ℝ) : EReal)

/-- A difference of small numbers in 32-bit arithmetic is the difference. -/
theorem toInt_sub (n k : ℕ) (hn : n < 1000000) (hk : k < 1000000) :
    (BitVec.ofNat 32 n - BitVec.ofNat 32 k).toInt = (n : ℤ) - k := by
  rw [BitVec.toInt_sub, BitVec.toInt_ofNat', BitVec.toInt_ofNat']
  simp only [Int.bmod]
  omega

theorem dist_eq (n k : ℕ) (hn : n < 1000000) (hk : k < 1000000) : dist n k = (((n : ℝ) - k : ℝ) : EReal) := by
  rw [dist, toInt_sub n k hn hk, Int.cast_sub, Int.cast_natCast, Int.cast_natCast]

/-- The keys a query sees. -/
def near (n k : Fin 512) : Prop := k.val ≤ n.val ∧ n.val ≤ k.val + 128

instance (n : Fin 512) : DecidablePred (near n) := fun k => inferInstanceAs (Decidable (_ ∧ _))

theorem near_self (n : Fin 512) : ∃ k, near n k := ⟨n, le_refl _, Nat.le_add_right _ _⟩

section
variable (x0 x1 x2 x3 : Arr) (x4 : Side) (r : Fin 16) (h : Fin 24)

/-- The scores. -/
def sc (n k : Fin 512) : EReal :=
  (∑ e : Fin 128, ent x0 r h n e * ent x1 r h k e) * scl - slope (F := Ideal) h * dist n.val k.val

/-- The scores in view. -/
def scm (n : Fin 512) : Fin 512 → EReal := masked (near n) (sc x0 x1 r h n)

/-- A query's log-sum. -/
def lseAt (n : Fin 512) : EReal := lse (scm x0 x1 r h n)

/-- A query's row term. -/
def termAt (n : Fin 512) : EReal :=
  rterm (scm x0 x1 r h n) (fun k e => ent x2 r h k e) (fun e => ent x3 r h n e) (sent x4 r h n)

/-- A query's probabilities. -/
def probAt (n k : Fin 512) : EReal := seen (near n) (sc x0 x1 r h n) (lseAt x0 x1 r h n) k

/-- The scaled gradient of the scores. -/
def dsAt (n k : Fin 512) : EReal :=
  probAt x0 x1 r h n k * ((∑ e : Fin 128, ent x3 r h n e * ent x2 r h k e) + termAt x0 x1 x2 x3 x4 r h n) * scl

/-- The gradient of the queries. -/
def dqAt (n : Fin 512) (e : Fin 128) : EReal := ∑ k : Fin 512, dsAt x0 x1 x2 x3 x4 r h n k * ent x1 r h k e

/-- The gradient of the keys. -/
def dkAt (k : Fin 512) (e : Fin 128) : EReal := ∑ n : Fin 512, dsAt x0 x1 x2 x3 x4 r h n k * ent x0 r h n e

/-- The gradient of the values. -/
def dvAt (k : Fin 512) (e : Fin 128) : EReal := ∑ n : Fin 512, probAt x0 x1 r h n k * ent x3 r h n e

end

end Cert.Dil

end
-- ==== Proof.Dil.HeadAt.lean ====
module

public import proofs.«01_k».proof.Proof.Dil.Spec
public import Idealize.ShloMosaic.Lib.Pointwise

/-!
# A head of a point read at an index

At point `j` of class `r` the body holds the queries' block `j`, and the keys' and values' blocks `j - 1` and `j`: the
window's slot `k` is key `128 j + k - 128`. What it computes for a head is the gradient's functions at those rows.
-/

@[expose] public section

set_option maxRecDepth 16384

noncomputable section

namespace Cert.Dil

open Idealize.ShloMosaic Idealize.ShloMosaic.TcCoe Idealize.SL.Sem Cert.MemAttn
open Cert.Kernel4Ideal Cert.Kernel4Ideal.Gen

/-- Row `i` of block `j`. -/
def qrow (j : Fin 4) (i : Fin 128) : Fin 512 := ⟨128 * j + i, by omega⟩
/-- The key in slot `k` of the window of block `j`. -/
def key (j : Fin 4) (k : Fin 256) : Fin 512 := ⟨128 * j + k - 128, by omega⟩

/-- Slot `i` of the window's first half. -/
def first (i : Fin 128) : Fin 256 := ⟨i.val, by omega⟩
/-- Head `h`'s column of a side array. -/
def lane (h : Fin 24) : Fin 128 := ⟨h.val, by omega⟩

/-- The slots in use: the first block has no block before it. -/
def slot (j : Fin 4) (k : Fin 256) : Prop := 128 ≤ k.val ∨ 0 < j.val
instance (j : Fin 4) (k : Fin 256) : Decidable (slot j k) := inferInstanceAs (Decidable (_ ∨ _))

/-- Column `h` of a side array. -/
theorem colOf_at (h : Fin 24) (v : FVec Ideal S128x128 .f32) (i : Fin 128) (k : Fin 256) :
    colOf h v (ix2 i k) = v (ix2 i ⟨h.val, by omega⟩) := by
  pointwise [colOf]
  have hx : ∀ x : Fin 128, Scalar.select (IntOp.cmpi .eq (BitVec.ofNat 32 x.val) (BitVec.ofNat 32 h.val)) (v (ix2 i x)) 0
      = if x = ⟨h.val, by omega⟩ then v (ix2 i x) else 0 := fun x => by
    have hxl := x.isLt
    have hhl := h.isLt
    by_cases hx : x.val = h.val
    · rw [if_pos (Fin.ext hx), hx]
      simp [IntOp.cmpi, Scalar.select]
    · rw [if_neg (fun e => hx (congrArg Fin.val e))]
      have hne : BitVec.ofNat 32 x.val ≠ BitVec.ofNat 32 h.val := fun e => hx (by
        have e' := congrArg BitVec.toNat e
        simp only [BitVec.toNat_ofNat] at e'
        omega)
      simp only [IntOp.cmpi, Scalar.select, beq_eq_false_iff_ne.mpr hne]
      exact if_neg (by decide)
  simp only [hx]
  rw [Finset.sum_ite_eq' Finset.univ (⟨h.val, by omega⟩ : Fin 128) fun x => v (ix2 i x), if_pos (Finset.mem_univ _)]

/-- The window's slots. -/
theorem window_at (a b : FVec Ideal S128x128 .bf16) (k : Fin 256) (e : Fin 128) :
    window a b (ix2 k e) = if hk : k.val < 128 then a (ix2 ⟨k.val, hk⟩ e) else b (ix2 ⟨k.val - 128, by omega⟩ e) := by
  pointwise [window]

/-- The distances of a window. -/
theorem rel_at (i : Fin 128) (k : Fin 256) :
    (k0_pay8 (ix2 i k)) = BitVec.ofNat 32 (i.val + 128) - BitVec.ofNat 32 k.val := by
  pointwise [k0_pay8]
  rw [BitVec.ofNat_add]
  rfl

/-- The mask of a window. -/
theorem valid_at (j : Fin 4) (i : Fin 128) (k : Fin 256) :
    k0_pay9 (BitVec.ofNat 32 j.val) (ix2 i k) = if slot j k ∧ near (qrow j i) (key j k) then 1#1 else 0#1 := by
  pointwise [k0_pay9, rel_at]
  have hs := toInt_sub (i.val + 128) k.val (by omega) (by omega)
  have hj : (BitVec.ofNat 32 j.val).toInt = j.val := by
    have := toInt_sub j.val 0 (by omega) (by omega)
    simpa using this
  have hk : (BitVec.ofNat 32 k.val).toInt = k.val := by
    have := toInt_sub k.val 0 (by omega) (by omega)
    simpa using this
  have h0 : (0#32 : BitVec 32).toInt = 0 := by decide
  have h1 : (128#32 : BitVec 32).toInt = 128 := by decide
  have hiff : (slot j k ∧ near (qrow j i) (key j k)) ↔
      ((k.val ≤ i.val + 128 ∧ i.val ≤ k.val) ∧ (128 ≤ k.val ∨ 0 < j.val)) := by
    simp only [slot, near, qrow, key]
    omega
  simp only [Scalar.cmpi, IntOp.cmpi, IntOp.andi, IntOp.ori, BitVec.sle, BitVec.slt, hs, hj, hk, h0, h1]
  rw [if_congr hiff rfl rfl]
  by_cases c1 : k.val ≤ i.val + 128
  · by_cases c2 : i.val ≤ k.val
    · rw [decide_eq_true (p := (0 : ℤ) ≤ _) (by omega), decide_eq_true (p := _ ≤ (128 : ℤ)) (by omega)]
      by_cases c3 : 128 ≤ k.val
      · rw [if_pos ⟨⟨c1, c2⟩, .inl c3⟩, decide_eq_true (p := (128 : ℤ) ≤ _) (by omega)]
        by_cases c4 : 0 < j.val
        · rw [decide_eq_true (p := (0 : ℤ) < _) (by omega)]; rfl
        · rw [decide_eq_false (p := (0 : ℤ) < _) (by omega)]; rfl
      · rw [decide_eq_false (p := (128 : ℤ) ≤ _) (by omega)]
        by_cases c4 : 0 < j.val
        · rw [if_pos ⟨⟨c1, c2⟩, .inr c4⟩, decide_eq_true (p := (0 : ℤ) < _) (by omega)]; rfl
        · rw [if_neg (by omega), decide_eq_false (p := (0 : ℤ) < _) (by omega)]; rfl
    · rw [if_neg (by omega), decide_eq_true (p := (0 : ℤ) ≤ _) (by omega), decide_eq_false (p := _ ≤ (128 : ℤ)) (by omega)]
      exact BitVec.zero_and
  · rw [if_neg (by omega), decide_eq_false (p := (0 : ℤ) ≤ _) (by omega), decide_eq_true (p := _ ≤ (128 : ℤ)) (by omega)]
    exact BitVec.zero_and

section
variable (h : Fin 24) (valid : IVec S128x256 1) (q kp kc vp vc dO : FVec Ideal S128x128 .bf16) (ct lt : FVec Ideal S128x128 .f32)

theorem headProb_at (i : Fin 128) (k : Fin 256) : headProb h valid q kp kc lt (ix2 i k)
    = if valid (ix2 i k) = 1#1 then Ideal.exp ((∑ e : Fin 128, q (ix2 i e) * window kp kc (ix2 k e)) * scl
        - slope (F := Ideal) h * dist (i.val + 128) k.val - lt (ix2 i ⟨h.val, by omega⟩)) else 0 := by
  pointwise [headProb, headScore, colOf_at, k0_pay10, rel_at]
  by_cases hv : valid (ix2 i k) = 1#1
  · rw [hv, if_pos rfl]; rfl
  · rw [if_neg hv]; exact if_neg hv

theorem headDs_at (i : Fin 128) (k : Fin 256) : headDs h valid q kp kc vp vc dO ct lt (ix2 i k)
    = headProb h valid q kp kc lt (ix2 i k)
      * ((∑ e : Fin 128, dO (ix2 i e) * window vp vc (ix2 k e)) + ct (ix2 i ⟨h.val, by omega⟩)) * scl := by
  pointwise [headDs, colOf_at]

theorem headDq_at (i : Fin 128) (e : Fin 128) : headDq h valid q kp kc vp vc dO ct lt (ix2 i e)
    = ∑ k : Fin 256, headDs h valid q kp kc vp vc dO ct lt (ix2 i k) * window kp kc (ix2 k e) := by
  pointwise [headDq]

theorem headDk_at (k : Fin 256) (e : Fin 128) : headDk h valid q kp kc vp vc dO ct lt (ix2 k e)
    = ∑ i : Fin 128, headDs h valid q kp kc vp vc dO ct lt (ix2 i k) * q (ix2 i e) := by
  pointwise [headDk]

theorem headDv_at (k : Fin 256) (e : Fin 128) : headDv h valid q kp kc dO lt (ix2 k e)
    = ∑ i : Fin 128, headProb h valid q kp kc lt (ix2 i k) * dO (ix2 i e) := by
  pointwise [headDv]

end

/-! ## At point `j` of class `r` -/

section
variable {x0 x1 x2 x3 : Arr} {x4 : Side} {r : Fin 16} {h : Fin 24} {j : Fin 4}

/-- The window holds the keys' rows. -/
theorem window_ent {x : Arr} {a b : FVec Ideal S128x128 .bf16}
    (ha : 0 < j.val → ∀ (i e : Fin 128), a (ix2 i e) = ent x r h (key j (first i)) e)
    (hb : ∀ (i e : Fin 128), b (ix2 i e) = ent x r h (qrow j i) e) (k : Fin 256) (hk : slot j k) (e : Fin 128) :
    window a b (ix2 k e) = ent x r h (key j k) e := by
  rw [window_at]
  by_cases hk' : k.val < 128
  · rw [dif_pos hk', ha (hk.resolve_left (by omega))]
    rfl
  · rw [dif_neg hk', hb]
    exact congrArg (fun n => ent x r h n e) (Fin.ext (show 128 * j.val + (k.val - 128) = 128 * j.val + k.val - 128 by omega))

variable {q kp kc vp vc dO : FVec Ideal S128x128 .bf16} {ct lt : FVec Ideal S128x128 .f32}
variable (hq : ∀ (i e : Fin 128), q (ix2 i e) = ent x0 r h (qrow j i) e)
variable (hkp : 0 < j.val → ∀ (i e : Fin 128), kp (ix2 i e) = ent x1 r h (key j (first i)) e)
variable (hkc : ∀ (i e : Fin 128), kc (ix2 i e) = ent x1 r h (qrow j i) e)
variable (hvp : 0 < j.val → ∀ (i e : Fin 128), vp (ix2 i e) = ent x2 r h (key j (first i)) e)
variable (hvc : ∀ (i e : Fin 128), vc (ix2 i e) = ent x2 r h (qrow j i) e)
variable (hdo : ∀ (i e : Fin 128), dO (ix2 i e) = ent x3 r h (qrow j i) e)
variable (hct : ∀ i : Fin 128, ct (ix2 i (lane h)) = termAt x0 x1 x2 x3 x4 r h (qrow j i))
variable (hlt : ∀ i : Fin 128, lt (ix2 i (lane h)) = lseAt x0 x1 r h (qrow j i))

include hq hkp hkc hlt in
/-- The probabilities. -/
theorem prob_point (i : Fin 128) (k : Fin 256) : headProb h (k0_pay9 (BitVec.ofNat 32 j.val)) q kp kc lt (ix2 i k)
    = if slot j k then probAt x0 x1 r h (qrow j i) (key j k) else 0 := by
  rw [headProb_at, valid_at]
  by_cases hs : slot j k
  · rw [if_pos hs, probAt, seen]
    by_cases hn : near (qrow j i) (key j k)
    · rw [if_pos (show slot j k ∧ near (qrow j i) (key j k) from ⟨hs, hn⟩), if_pos rfl, if_pos hn,
        show lt (ix2 i ⟨h.val, _⟩) = _ from hlt i, sc]
      have hd : dist (i.val + 128) k.val = dist (qrow j i).val (key j k).val := by
        rw [dist_eq _ _ (by omega) (by omega), dist_eq _ _ (by omega) (by omega)]
        have h1 : 128 ≤ 128 * j.val + k.val := by unfold slot at hs; omega
        simp only [qrow, key]
        rw [Nat.cast_sub h1]
        refine congrArg Real.toEReal ?_
        push_cast
        ring
      rw [hd]
      simp only [hq, window_ent hkp hkc k hs]
    · rw [if_neg (show ¬(slot j k ∧ near (qrow j i) (key j k)) from fun e => hn e.2),
        if_neg (show ¬((0#1 : BitVec 1) = 1#1) by decide), if_neg hn]
  · rw [if_neg (show ¬(slot j k ∧ near (qrow j i) (key j k)) from fun e => hs e.1),
      if_neg (show ¬((0#1 : BitVec 1) = 1#1) by decide), if_neg hs]

include hq hkp hkc hvp hvc hdo hct hlt in
/-- The scaled gradient of the scores. -/
theorem ds_point (i : Fin 128) (k : Fin 256) :
    headDs h (k0_pay9 (BitVec.ofNat 32 j.val)) q kp kc vp vc dO ct lt (ix2 i k)
      = if slot j k then dsAt x0 x1 x2 x3 x4 r h (qrow j i) (key j k) else 0 := by
  rw [headDs_at, prob_point hq hkp hkc hlt]
  by_cases hs : slot j k
  · rw [if_pos hs, if_pos hs, dsAt, show ct (ix2 i ⟨h.val, _⟩) = _ from hct i]
    simp only [hdo, window_ent hvp hvc k hs]
  · rw [if_neg hs, if_neg hs, zero_mul, zero_mul]

end

/-- A key out of view has probability zero, -/
theorem probAt_far (x0 x1 : Arr) (r : Fin 16) (h : Fin 24) (n k : Fin 512) (hf : ¬near n k) : probAt x0 x1 r h n k = 0 :=
  if_neg hf

/-- and its score no gradient. -/
theorem dsAt_far (x0 x1 x2 x3 : Arr) (x4 : Side) (r : Fin 16) (h : Fin 24) (n k : Fin 512) (hf : ¬near n k) :
    dsAt x0 x1 x2 x3 x4 r h n k = 0 := by
  rw [dsAt, probAt_far _ _ _ _ _ _ hf, zero_mul, zero_mul]

/-- A sum over the window's slots is the sum over all keys, of what vanishes out of view. -/
theorem sum_window (j : Fin 4) (i : Fin 128) (f : Fin 512 → EReal) (hf : ∀ n, ¬near (qrow j i) n → f n = 0) :
    ∑ k : Fin 256, (if slot j k then f (key j k) else 0) = ∑ n : Fin 512, f n := by
  refine Finset.sum_bij_ne_zero (fun k _ _ => key j k) (fun _ _ _ => Finset.mem_univ _) ?_ ?_ ?_
  · intro a _ ha b _ hb e
    have h1 : slot j a := by by_contra hs; exact ha (if_neg hs)
    have h2 : slot j b := by by_contra hs; exact hb (if_neg hs)
    have e' := congrArg Fin.val e
    unfold slot at h1 h2
    simp only [key] at e'
    exact Fin.ext (by omega)
  · intro n _ hn
    have h1 : near (qrow j i) n := by by_contra hs; exact hn (hf n hs)
    unfold near qrow at h1
    simp only at h1
    have hk : key j ⟨n.val + 128 - 128 * j.val, by omega⟩ = n :=
      Fin.ext (show 128 * j.val + (n.val + 128 - 128 * j.val) - 128 = n.val by omega)
    have hs : slot j ⟨n.val + 128 - 128 * j.val, by omega⟩ := by unfold slot; simp only; omega
    exact ⟨⟨n.val + 128 - 128 * j.val, by omega⟩, Finset.mem_univ _, by rw [if_pos hs, hk]; exact hn, hk⟩
  · intro k _ hk
    have hs : slot j k := by by_contra hs; exact hk (if_neg hs)
    rw [if_pos hs]

/-- A sum over all queries, block by block. -/
theorem sum_blocks (f : Fin 512 → EReal) : ∑ n : Fin 512, f n = ∑ j : Fin 4, ∑ i : Fin 128, f (qrow j i) := by
  refine ((Equiv.sum_comp (finProdFinEquiv (m := 4) (n := 128)) f).symm.trans (Fintype.sum_prod_type _)).trans ?_
  refine Finset.sum_congr rfl fun j _ => Finset.sum_congr rfl fun i _ => congrArg f (Fin.ext ?_)
  show i.val + 128 * j.val = 128 * j.val + i.val
  omega

/-- The queries that see a key of block `b` lie in blocks `b` and `b + 1`. -/
theorem sum_queries (b : Fin 4) (a : Fin 128) (f : Fin 512 → EReal) (hf : ∀ n, ¬near n (qrow b a) → f n = 0) :
    ∑ n : Fin 512, f n = (∑ i : Fin 128, f (qrow b i))
      + if hb : b.val + 1 < 4 then ∑ i : Fin 128, f (qrow ⟨b.val + 1, hb⟩ i) else 0 := by
  have hz : ∀ j : Fin 4, j.val ≠ b.val → j.val ≠ b.val + 1 → ∑ i : Fin 128, f (qrow j i) = 0 := fun j h1 h2 =>
    Finset.sum_eq_zero fun i _ => hf _ (by unfold near qrow; simp only; omega)
  rw [sum_blocks]
  by_cases hb : b.val + 1 < 4
  · rw [dif_pos hb]
    have hne : b ≠ (⟨b.val + 1, hb⟩ : Fin 4) := fun e => absurd (congrArg Fin.val e) (by simp)
    rw [← Finset.sum_pair (f := fun j : Fin 4 => ∑ i : Fin 128, f (qrow j i)) hne]
    refine (Finset.sum_subset (Finset.subset_univ _) fun j _ hj => hz j ?_ ?_).symm
    · exact fun e => hj (by rw [Finset.mem_insert]; exact .inl (Fin.ext e))
    · exact fun e => hj (by rw [Finset.mem_insert, Finset.mem_singleton]; exact .inr (Fin.ext e))
  · rw [dif_neg hb, add_zero]
    exact Finset.sum_eq_single b (fun j _ hj => hz j (fun e => hj (Fin.ext e)) (by omega)) (fun hb => absurd (Finset.mem_univ _) hb)

theorem early_at (x : FVec Ideal S256x128 .f32) (a : FVec Ideal S128x128 .f32) (i e : Fin 128) :
    early x a (ix2 i e) = a (ix2 i e) + x (ix2 ⟨i.val, by omega⟩ e) := by
  pointwise [early]

theorem late_at (x : FVec Ideal S256x128 .f32) (i e : Fin 128) :
    late x (ix2 i e) = x (ix2 ⟨128 + i.val, by omega⟩ e) := by
  pointwise [late]

end Cert.Dil

end
-- ==== Proof.Dil.Point.lean ====
module

public import proofs.«01_k».proof.Proof.Dil.HeadAt

/-!
# What a point adds to the gradients

The gradient of a point's queries is complete after the point. The gradient of a block's keys and values has two halves,
the queries of the same block and those of the block after it; a point computes one half of each of two blocks.
-/

@[expose] public section

set_option maxRecDepth 16384

noncomputable section

namespace Cert.Dil

open Idealize.ShloMosaic Idealize.ShloMosaic.TcCoe Idealize.SL.Sem Cert.MemAttn
open Cert.Kernel4Ideal Cert.Kernel4Ideal.Gen

section
variable (x0 x1 x2 x3 : Arr) (x4 : Side) (r : Fin 16) (h : Fin 24)

/-- What the queries of block `j` add to the gradient of key `n`. -/
def dkPart (j : Fin 4) (n : Fin 512) (e : Fin 128) : EReal :=
  ∑ i : Fin 128, dsAt x0 x1 x2 x3 x4 r h (qrow j i) n * ent x0 r h (qrow j i) e

/-- What the queries of block `j` add to the gradient of value `n`. -/
def dvPart (j : Fin 4) (n : Fin 512) (e : Fin 128) : EReal :=
  ∑ i : Fin 128, probAt x0 x1 r h (qrow j i) n * ent x3 r h (qrow j i) e

/-- The gradient of a key of block `b` that has a block after it. -/
theorem dkAt_two (b : Fin 4) (hb : b.val + 1 < 4) (a e : Fin 128) : dkAt x0 x1 x2 x3 x4 r h (qrow b a) e
    = dkPart x0 x1 x2 x3 x4 r h b (qrow b a) e + dkPart x0 x1 x2 x3 x4 r h ⟨b.val + 1, hb⟩ (qrow b a) e := by
  rw [dkAt, sum_queries b a _ fun n hn => by rw [dsAt_far _ _ _ _ _ _ _ _ _ hn, zero_mul], dif_pos hb]
  rfl

/-- The gradient of a key of the last block. -/
theorem dkAt_one (b : Fin 4) (hb : ¬b.val + 1 < 4) (a e : Fin 128) :
    dkAt x0 x1 x2 x3 x4 r h (qrow b a) e = dkPart x0 x1 x2 x3 x4 r h b (qrow b a) e := by
  rw [dkAt, sum_queries b a _ fun n hn => by rw [dsAt_far _ _ _ _ _ _ _ _ _ hn, zero_mul], dif_neg hb, add_zero]
  rfl

/-- The gradient of a value of block `b` that has a block after it. -/
theorem dvAt_two (b : Fin 4) (hb : b.val + 1 < 4) (a e : Fin 128) : dvAt x0 x1 x3 r h (qrow b a) e
    = dvPart x0 x1 x3 r h b (qrow b a) e + dvPart x0 x1 x3 r h ⟨b.val + 1, hb⟩ (qrow b a) e := by
  rw [dvAt, sum_queries b a _ fun n hn => by rw [probAt_far _ _ _ _ _ _ hn, zero_mul], dif_pos hb]
  rfl

/-- The gradient of a value of the last block. -/
theorem dvAt_one (b : Fin 4) (hb : ¬b.val + 1 < 4) (a e : Fin 128) :
    dvAt x0 x1 x3 r h (qrow b a) e = dvPart x0 x1 x3 r h b (qrow b a) e := by
  rw [dvAt, sum_queries b a _ fun n hn => by rw [probAt_far _ _ _ _ _ _ hn, zero_mul], dif_neg hb, add_zero]
  rfl

end

section
variable {x0 x1 x2 x3 : Arr} {x4 : Side} {r : Fin 16} {h : Fin 24} {j : Fin 4}
variable {q kp kc vp vc dO : FVec Ideal S128x128 .bf16} {ct lt : FVec Ideal S128x128 .f32}
variable (hq : ∀ (i e : Fin 128), q (ix2 i e) = ent x0 r h (qrow j i) e)
variable (hkp : 0 < j.val → ∀ (i e : Fin 128), kp (ix2 i e) = ent x1 r h (key j (first i)) e)
variable (hkc : ∀ (i e : Fin 128), kc (ix2 i e) = ent x1 r h (qrow j i) e)
variable (hvp : 0 < j.val → ∀ (i e : Fin 128), vp (ix2 i e) = ent x2 r h (key j (first i)) e)
variable (hvc : ∀ (i e : Fin 128), vc (ix2 i e) = ent x2 r h (qrow j i) e)
variable (hdo : ∀ (i e : Fin 128), dO (ix2 i e) = ent x3 r h (qrow j i) e)
variable (hct : ∀ i : Fin 128, ct (ix2 i (lane h)) = termAt x0 x1 x2 x3 x4 r h (qrow j i))
variable (hlt : ∀ i : Fin 128, lt (ix2 i (lane h)) = lseAt x0 x1 r h (qrow j i))

include hq hkp hkc hvp hvc hdo hct hlt in
/-- The gradient of the queries. -/
theorem dq_point (i e : Fin 128) :
    headDq h (k0_pay9 (BitVec.ofNat 32 j.val)) q kp kc vp vc dO ct lt (ix2 i e)
      = dqAt x0 x1 x2 x3 x4 r h (qrow j i) e := by
  rw [headDq_at, dqAt, ← sum_window j i (fun n => dsAt x0 x1 x2 x3 x4 r h (qrow j i) n * ent x1 r h n e)
    fun n hn => by rw [dsAt_far _ _ _ _ _ _ _ _ _ hn, zero_mul]]
  refine Finset.sum_congr rfl fun k _ => ?_
  rw [ds_point hq hkp hkc hvp hvc hdo hct hlt]
  by_cases hs : slot j k
  · rw [if_pos hs, if_pos hs, window_ent hkp hkc k hs]
  · rw [if_neg hs, if_neg hs, zero_mul]

include hq hkp hkc hvp hvc hdo hct hlt in
/-- The gradient of the window's keys. -/
theorem dk_point (k : Fin 256) (hs : slot j k) (e : Fin 128) :
    headDk h (k0_pay9 (BitVec.ofNat 32 j.val)) q kp kc vp vc dO ct lt (ix2 k e)
      = dkPart x0 x1 x2 x3 x4 r h j (key j k) e := by
  rw [headDk_at, dkPart]
  refine Finset.sum_congr rfl fun i _ => ?_
  rw [ds_point hq hkp hkc hvp hvc hdo hct hlt, if_pos hs, hq]

include hq hkp hkc hdo hlt in
/-- The gradient of the window's values. -/
theorem dv_point (k : Fin 256) (hs : slot j k) (e : Fin 128) :
    headDv h (k0_pay9 (BitVec.ofNat 32 j.val)) q kp kc dO lt (ix2 k e) = dvPart x0 x1 x3 r h j (key j k) e := by
  rw [headDv_at, dvPart]
  refine Finset.sum_congr rfl fun i _ => ?_
  rw [prob_point hq hkp hkc hlt, if_pos hs, hdo]

end

/-- The window's second half is the point's own block. -/
theorem key_late (j : Fin 4) (a : Fin 128) : key j ⟨128 + a.val, by omega⟩ = qrow j a :=
  Fin.ext (show 128 * j.val + (128 + a.val) - 128 = 128 * j.val + a.val by omega)

/-- The window's first half is the block before. -/
theorem key_early (b : Fin 4) (hb : b.val + 1 < 4) (a : Fin 128) :
    key ⟨b.val + 1, hb⟩ ⟨a.val, by omega⟩ = qrow b a :=
  Fin.ext (show 128 * (b.val + 1) + a.val - 128 = 128 * b.val + a.val by omega)

end Cert.Dil

end
-- ==== Proof.Dil.RunB.lean ====
module

public import proofs.«01_k».proof.Proof.Gen.Kernel4Ideal.Frame
public import proofs.«01_k».proof.Proof.Gen.Kernel4Ideal.Skeleton

/-!
# The body at an inner point of a residue class
-/

@[expose] public section

set_option maxRecDepth 16384

noncomputable section

namespace Cert.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The point is the first of its residue class. -/
abbrev C0 (i : grid0.Coords) : Prop :=
  (Scalar.cmpi .ne (Scalar.extui (Scalar.cmpi .eq (BitVec.ofNat 32 (i 1).val) 0#32)) 0#32) = 1#1

/-- The point has a block of queries of its own. -/
abbrev C1 (i : grid0.Coords) : Prop := k0_cond2 i = 1#1

/-- The point is the last of its residue class, which only writes back what is carried. -/
abbrev C2 (i : grid0.Coords) : Prop := k0_cond3 i = 1#1

set_option maxHeartbeats 40000000 in
/-- What the body leaves in the three output blocks and the two carried blocks at an inner point, as the list of
    its stores, with the proof that it runs. -/
def runB (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (hc0 : ¬C0 i) (hc1 : C1 i) (hc2 : ¬C2 i)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) (x11 : Vec F S128x3072 .f32) (x12 : Vec F S128x3072 .f32) :
    Σ' (L8 : List (View.Piece (Elt F) S128x3072 .bf16)), Σ' (L9 : List (View.Piece (Elt F) S128x3072 .bf16)), Σ' (L10 : List (View.Piece (Elt F) S128x3072 .bf16)), Σ' (L11 : List (View.Piece (Elt F) S128x3072 .f32)), { L12 : List (View.Piece (Elt F) S128x3072 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ d, owns (c : Thread nD τ) a8 fullShare d)
          ∗ (∃ d, owns (c : Thread nD τ) a9 fullShare d)
          ∗ (∃ d, owns (c : Thread nD τ) a10 fullShare d)
          ∗ owns (c : Thread nD τ) a11 fullShare x11
          ∗ owns (c : Thread nD τ) a12 fullShare x12
          ∗ (iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ f, a8.view.loc (c : Thread nD τ) ↦[a8.view.set]{fullShare} a8.view.writes (Elt F) f L8)
          ∗ (∃ f, a9.view.loc (c : Thread nD τ) ↦[a9.view.set]{fullShare} a9.view.writes (Elt F) f L9)
          ∗ (∃ f, a10.view.loc (c : Thread nD τ) ↦[a10.view.set]{fullShare} a10.view.writes (Elt F) f L10)
          ∗ (∃ f, a11.view.loc (c : Thread nD τ) ↦[a11.view.set]{fullShare} a11.view.writes (Elt F) f L11)
          ∗ (∃ f, a12.view.loc (c : Thread nD τ) ↦[a12.view.set]{fullShare} a12.view.writes (Elt F) f L12)) -∗ K ⟨⟩))
          ⊢ wp frame (wpE (defs₀ (F := F)) Variants.none c none) E (cc0_dil_bwd i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_dil_bwd_eq_skeleton]; unfold cc0_dil_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h11.eq_unread hf11
    obtain rfl := h12.eq_unread hf12
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    iexists _; iexact H12

end Cert.Dil

end
-- ==== Proof.Dil.RunA.lean ====
module

public import proofs.«01_k».proof.Proof.Gen.Kernel4Ideal.Frame
public import proofs.«01_k».proof.Proof.Gen.Kernel4Ideal.Skeleton
public import proofs.«01_k».proof.Proof.Dil.RunB

/-!
# The body at the first point of a residue class
-/

@[expose] public section

set_option maxRecDepth 16384

noncomputable section

namespace Cert.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 40000000 in
/-- What the body leaves at the first point, where the carried blocks are first cleared. -/
def runA (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (hc0 : C0 i) (hc1 : C1 i) (hc2 : ¬C2 i)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) :
    Σ' (L8 : List (View.Piece (Elt F) S128x3072 .bf16)), Σ' (L9 : List (View.Piece (Elt F) S128x3072 .bf16)), Σ' (L10 : List (View.Piece (Elt F) S128x3072 .bf16)), Σ' (L11 : List (View.Piece (Elt F) S128x3072 .f32)), { L12 : List (View.Piece (Elt F) S128x3072 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ d, owns (c : Thread nD τ) a8 fullShare d)
          ∗ (∃ d, owns (c : Thread nD τ) a9 fullShare d)
          ∗ (∃ d, owns (c : Thread nD τ) a10 fullShare d)
          ∗ (∃ d, owns (c : Thread nD τ) a11 fullShare d)
          ∗ (∃ d, owns (c : Thread nD τ) a12 fullShare d)
          ∗ (iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ f, a8.view.loc (c : Thread nD τ) ↦[a8.view.set]{fullShare} a8.view.writes (Elt F) f L8)
          ∗ (∃ f, a9.view.loc (c : Thread nD τ) ↦[a9.view.set]{fullShare} a9.view.writes (Elt F) f L9)
          ∗ (∃ f, a10.view.loc (c : Thread nD τ) ↦[a10.view.set]{fullShare} a10.view.writes (Elt F) f L10)
          ∗ (∃ f, a11.view.loc (c : Thread nD τ) ↦[a11.view.set]{fullShare} a11.view.writes (Elt F) f L11)
          ∗ (∃ f, a12.view.loc (c : Thread nD τ) ↦[a12.view.set]{fullShare} a12.view.writes (Elt F) f L12)) -∗ K ⟨⟩))
          ⊢ wp frame (wpE (defs₀ (F := F)) Variants.none c none) E (cc0_dil_bwd i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_dil_bwd_eq_skeleton]; unfold cc0_dil_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    iexists _; iexact H12

end Cert.Dil

end
-- ==== Proof.Dil.RunC.lean ====
module

public import proofs.«01_k».proof.Proof.Gen.Kernel4Ideal.Frame
public import proofs.«01_k».proof.Proof.Gen.Kernel4Ideal.Skeleton
public import proofs.«01_k».proof.Proof.Dil.RunB

/-!
# The body at the last point of a residue class
-/

@[expose] public section

set_option maxRecDepth 16384

noncomputable section

namespace Cert.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 40000000 in
/-- What the body leaves at the last point: only the gradients of the keys and of the values are stored, from what
    is carried. -/
def runC (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (hc0 : ¬C0 i) (hc1 : ¬C1 i) (hc2 : C2 i)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) (x8 : Vec F S128x3072 .bf16) (x11 : Vec F S128x3072 .f32) (x12 : Vec F S128x3072 .f32) :
    Σ' (L9 : List (View.Piece (Elt F) S128x3072 .bf16)), { L10 : List (View.Piece (Elt F) S128x3072 .bf16) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ (∃ d, owns (c : Thread nD τ) a10 fullShare d)
          ∗ owns (c : Thread nD τ) a11 fullShare x11
          ∗ owns (c : Thread nD τ) a12 fullShare x12
          ∗ (iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ f, a9.view.loc (c : Thread nD τ) ↦[a9.view.set]{fullShare} a9.view.writes (Elt F) f L9)
          ∗ (∃ f, a10.view.loc (c : Thread nD τ) ↦[a10.view.set]{fullShare} a10.view.writes (Elt F) f L10)
          ∗ owns (c : Thread nD τ) a11 fullShare x11
          ∗ owns (c : Thread nD τ) a12 fullShare x12) -∗ K ⟨⟩))
          ⊢ wp frame (wpE (defs₀ (F := F)) Variants.none c none) E (cc0_dil_bwd i a0 h0 a1 h1 a2 h2 a3 h3 a4 h4 a5 h5 a6 h6 a7 h7 a8 h8 a9 h9 a10 h10 a11 h11 a12 h12) K } := by
  refine ⟨?_, ?_, fun E K => ?run⟩
  case run =>
    simp only [cc0_dil_bwd_eq_skeleton]; unfold cc0_dil_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h11.eq_unread hf11
    obtain rfl := h12.eq_unread hf12
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]
    · iexists _; isplitr; · ipureintro; exact h11.read_unread _
      iexact H11
    iexists _; isplitr; · ipureintro; exact h12.read_unread _
    iexact H12

end Cert.Dil

end
-- ==== Proof.Dil.Pieces.lean ====
module

public import proofs.«01_k».proof.Proof.Dil.RunA
public import proofs.«01_k».proof.Proof.Dil.RunC
public import proofs.«01_k».proof.Proof.Dil.Head
public import Idealize.ShloMosaic.Lib.Pipeline.Value

/-!
# The stores of a point, head by head

The lists of stores the body leaves at a point are the 24 heads' stores, each the head's function of its columns.
-/

@[expose] public section

set_option maxRecDepth 16384

noncomputable section

namespace Cert.Dil

open Idealize.ShloMosaic Idealize.ShloMosaic.TcCoe Idealize.ShloMosaic.Tactic Idealize.SL.Sem
open Cert.Kernel4Ideal Cert.Kernel4Ideal.Gen

variable {F : FTy → Type} [FloatOps F]

theorem zero2 : (![0, 0] : Fin 2 → ℕ) = fun _ => 0 := by
  funext a
  match a with
  | ⟨0, _⟩ => rfl
  | ⟨1, _⟩ => rfl

section
variable (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) (x8 : Vec F S128x3072 .bf16) (x11 : Vec F S128x3072 .f32) (x12 : Vec F S128x3072 .f32)

/-- The slots in use at a point. -/
abbrev validAt (i : grid0.Coords) : IVec S128x256 1 := k0_pay9 (BitVec.ofNat 32 (i 1).val)

/-- The whole of a side array, as the body reads it. -/
abbrev wholeOf (x : Vec F S128x128 .f32) : FVec F S128x128 .f32 :=
  shapeCast S128x128 (View.ld x (Rect.unit ![0, 0] ![128, 128] inb_S128x128_S128x128_0_0)) shapeCasts_S128x128_S128x128

/-- A head's gradient of the queries at a point. -/
def dqOf (h : Fin 24) : FVec F S128x128 .bf16 :=
  headDq h (validAt i) (View.ld x0 (cols h)) (View.ld x1 (cols h)) (View.ld x2 (cols h)) (View.ld x3 (cols h))
    (View.ld x4 (cols h)) (View.ld x5 (cols h)) (wholeOf x6) (wholeOf x7)

/-- A head's gradient of the window's keys at a point. -/
def dkOf (h : Fin 24) : FVec F S256x128 .f32 :=
  headDk h (validAt i) (View.ld x0 (cols h)) (View.ld x1 (cols h)) (View.ld x2 (cols h)) (View.ld x3 (cols h))
    (View.ld x4 (cols h)) (View.ld x5 (cols h)) (wholeOf x6) (wholeOf x7)

/-- A head's gradient of the window's values at a point. -/
def dvOf (h : Fin 24) : FVec F S256x128 .f32 :=
  headDv h (validAt i) (View.ld x0 (cols h)) (View.ld x1 (cols h)) (View.ld x2 (cols h)) (View.ld x5 (cols h)) (wholeOf x7)

/-- The stores of the queries' gradient. -/
def storesQ : List (View.Piece (Elt F) S128x3072 .bf16) :=
  heads.map fun h => ⟨cols h, dqOf i x0 x1 x2 x3 x4 x5 x6 x7 h⟩

/-- The stores of the keys' gradient. -/
def storesK : List (View.Piece (Elt F) S128x3072 .bf16) :=
  heads.map fun h => ⟨cols h, early (dkOf i x0 x1 x2 x3 x4 x5 x6 x7 h) (View.ld x11 (cols h))⟩

/-- The stores of the values' gradient. -/
def storesV : List (View.Piece (Elt F) S128x3072 .bf16) :=
  heads.map fun h => ⟨cols h, early (dvOf i x0 x1 x2 x5 x7 h) (View.ld x12 (cols h))⟩

/-- The stores of the keys' carried half. -/
def carryK : List (View.Piece (Elt F) S128x3072 .f32) :=
  heads.map fun h => ⟨cols h, late (dkOf i x0 x1 x2 x3 x4 x5 x6 x7 h)⟩

/-- The stores of the values' carried half. -/
def carryV : List (View.Piece (Elt F) S128x3072 .f32) :=
  heads.map fun h => ⟨cols h, late (dvOf i x0 x1 x2 x5 x7 h)⟩

set_option maxHeartbeats 40000000 in
/-- At an inner point: the queries' gradient. -/
theorem runB_q (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).1 = storesQ i x0 x1 x2 x3 x4 x5 x6 x7 := by
  unfold runB
  sl_unfold_words
  simp only [View.readAt_eq_ld, Memref.IsWhole.read_unread]
  rfl

set_option maxHeartbeats 40000000 in
/-- At an inner point: the keys' gradient. -/
theorem runB_k (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.1 = storesK i x0 x1 x2 x3 x4 x5 x6 x7 x11 := by
  unfold runB
  sl_unfold_words
  simp only [View.readAt_eq_ld, Memref.IsWhole.read_unread]
  rfl

set_option maxHeartbeats 40000000 in
/-- At an inner point: the values' gradient. -/
theorem runB_v (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.2.1 = storesV i x0 x1 x2 x5 x7 x12 := by
  unfold runB
  sl_unfold_words
  simp only [View.readAt_eq_ld, Memref.IsWhole.read_unread]
  rfl

set_option maxHeartbeats 40000000 in
/-- At an inner point: the keys' carried half. -/
theorem runB_ck (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.2.2.1 = carryK i x0 x1 x2 x3 x4 x5 x6 x7 := by
  unfold runB
  sl_unfold_words
  simp only [View.readAt_eq_ld, Memref.IsWhole.read_unread]
  rfl

set_option maxHeartbeats 40000000 in
/-- At an inner point: the values' carried half. -/
theorem runB_cv (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.2.2.2.1 = carryV i x0 x1 x2 x5 x7 := by
  unfold runB
  sl_unfold_words
  simp only [View.readAt_eq_ld, Memref.IsWhole.read_unread]
  rfl

set_option maxHeartbeats 40000000 in
/-- At the first point of a class: the queries' gradient. -/
theorem runA_q (hc0 : C0 i) (hc1 : C1 i) (hc2 : ¬C2 i) :
    (runA c i a0 h0 a1 h1 a2 h2 a3 h3 a4 h4 a5 h5 a6 h6 a7 h7 a8 h8 a9 h9 a10 h10 a11 h11 a12 h12 hc0 hc1 hc2 x0 x1 x2 x3 x4 x5 x6 x7).1 = storesQ i x0 x1 x2 x3 x4 x5 x6 x7 := by
  unfold runA
  sl_unfold_words
  simp only [View.readAt_eq_ld, Memref.IsWhole.read_unread]
  rfl

set_option maxHeartbeats 40000000 in
/-- At the first point of a class: the keys' carried half, over what cleared it. -/
theorem runA_ck (hc0 : C0 i) (hc1 : C1 i) (hc2 : ¬C2 i) :
    ∃ L, (runA c i a0 h0 a1 h1 a2 h2 a3 h3 a4 h4 a5 h5 a6 h6 a7 h7 a8 h8 a9 h9 a10 h10 a11 h11 a12 h12 hc0 hc1 hc2 x0 x1 x2 x3 x4 x5 x6 x7).2.2.2.1 = carryK i x0 x1 x2 x3 x4 x5 x6 x7 ++ L := by
  unfold runA
  sl_unfold_words
  simp only [View.readAt_eq_ld, Memref.IsWhole.read_unread]
  exact ⟨_, rfl⟩

set_option maxHeartbeats 40000000 in
/-- At the first point of a class: the values' carried half, over what cleared it. -/
theorem runA_cv (hc0 : C0 i) (hc1 : C1 i) (hc2 : ¬C2 i) :
    ∃ L, (runA c i a0 h0 a1 h1 a2 h2 a3 h3 a4 h4 a5 h5 a6 h6 a7 h7 a8 h8 a9 h9 a10 h10 a11 h11 a12 h12 hc0 hc1 hc2 x0 x1 x2 x3 x4 x5 x6 x7).2.2.2.2.1 = carryV i x0 x1 x2 x5 x7 ++ L := by
  unfold runA
  sl_unfold_words
  simp only [View.readAt_eq_ld, Memref.IsWhole.read_unread]
  exact ⟨_, rfl⟩

set_option maxHeartbeats 40000000 in
/-- At the last point of a class: the keys' gradient is what is carried. -/
theorem runC_k [∀ e, Nonempty (Elt F e)] (hc0 : ¬C0 i) (hc1 : ¬C1 i) (hc2 : C2 i) :
    View.canon (runC c i a0 h0 a1 h1 a2 h2 a3 h3 a4 h4 a5 h5 a6 h6 a7 h7 a8 h8 a9 h9 a10 h10 a11 h11 a12 h12 hc0 hc1 hc2 x0 x1 x2 x3 x4 x5 x6 x7 x8 x11 x12).1 = truncf .bf16 x11 bitsLt_bf16_f32 := by
  unfold runC
  sl_unfold_words
  simp only [View.readAt_eq_ld, Memref.IsWhole.read_unread]
  rw [View.canon_unit_zero zero2, View.ld_unit_zero zero2]
  rfl

set_option maxHeartbeats 40000000 in
/-- At the last point of a class: the values' gradient is what is carried. -/
theorem runC_v [∀ e, Nonempty (Elt F e)] (hc0 : ¬C0 i) (hc1 : ¬C1 i) (hc2 : C2 i) :
    View.canon (runC c i a0 h0 a1 h1 a2 h2 a3 h3 a4 h4 a5 h5 a6 h6 a7 h7 a8 h8 a9 h9 a10 h10 a11 h11 a12 h12 hc0 hc1 hc2 x0 x1 x2 x3 x4 x5 x6 x7 x8 x11 x12).2.1 = truncf .bf16 x12 bitsLt_bf16_f32 := by
  unfold runC
  sl_unfold_words
  simp only [View.readAt_eq_ld, Memref.IsWhole.read_unread]
  rw [View.canon_unit_zero zero2, View.ld_unit_zero zero2]
  rfl

end

end Cert.Dil

end
-- ==== Proof.Dil.Stores.lean ====
module

public import proofs.«01_k».proof.Proof.Dil.Pieces
public import proofs.«01_k».proof.Proof.Dil.Spec
public import Idealize.ShloMosaic.Lib.Pipeline.CanonAppend

/-!
# Stores head by head, read

A block stored by 24 heads holds, at a head's columns, what that head stored.
-/

@[expose] public section

set_option maxRecDepth 16384

noncomputable section

namespace Cert.Dil

open Idealize.ShloMosaic Idealize.ShloMosaic.TcCoe Idealize.SL.Sem Cert.MemAttn
open Cert.Kernel4Ideal Cert.Kernel4Ideal.Gen

/-- A head's columns of a block, read. -/
theorem ld_cols {φ : EltTy} (x : S128x3072.Idx → Elt Ideal φ) (h : Fin 24) (i e : Fin 128) :
    View.ld x (cols h) (ix2 i e) = x (ix2 i (col h e)) := by
  refine congrArg x ?_
  funext a
  match a with
  | ⟨0, _⟩ => exact Fin.ext (show 0 + 1 * i.val = i.val by omega)
  | ⟨1, _⟩ => exact Fin.ext (show h.val * 128 + 1 * e.val = h.val * 128 + e.val by omega)

theorem col_mk (h : Fin 24) (e : Fin 128) (p q) :
    (⟨(col h e).val / 128, p⟩ : Fin 24) = h ∧ (⟨(col h e).val % 128, q⟩ : Fin 128) = e :=
  ⟨Fin.ext (show (h.val * 128 + e.val) / 128 = h.val by omega), Fin.ext (show (h.val * 128 + e.val) % 128 = e.val by omega)⟩

/-- A function of a block, given head by head. -/
def byHead {φ : EltTy} (P : Fin 24 → S128x128.Idx → Elt Ideal φ) (y : S128x3072.Idx) : Elt Ideal φ :=
  have hy : (y 1).val < 3072 := (y 1).isLt
  P ⟨(y 1).val / 128, by omega⟩ (ix2 (y 0) ⟨(y 1).val % 128, Nat.mod_lt _ (by decide)⟩)

theorem byHead_at {φ : EltTy} (P : Fin 24 → S128x128.Idx → Elt Ideal φ) (i : Fin 128) (h : Fin 24) (e : Fin 128) :
    byHead P (ix2 i (col h e)) = P h (ix2 i e) := by
  have h1 := col_mk h e (by have := (col h e).isLt; omega) (Nat.mod_lt _ (by decide))
  show P ⟨(col h e).val / 128, _⟩ (ix2 i ⟨(col h e).val % 128, _⟩) = _
  rw [h1.1, h1.2]

/-- What the heads' stores leave at a head's columns. -/
theorem canon_heads {φ : EltTy} (P : Fin 24 → S128x128.Idx → Elt Ideal φ) (L : List (View.Piece (Elt Ideal) S128x3072 φ))
    (i : Fin 128) (h : Fin 24) (e : Fin 128) :
    View.canon (heads.map (fun h => (⟨cols h, P h⟩ : View.Piece (Elt Ideal) S128x3072 φ)) ++ L) (ix2 i (col h e))
      = P h (ix2 i e) := by
  have emb : ∀ (h : Fin 24) (x : S128x128.Idx), (cols h).emb x = ix2 (x 0) (col h (x 1)) := fun h x => by
    funext a
    match a with
    | ⟨0, _⟩ => exact Fin.ext (show 0 + 1 * (x 0).val = (x 0).val by omega)
    | ⟨1, _⟩ => exact Fin.ext (show h.val * 128 + 1 * (x 1).val = h.val * 128 + (x 1).val by omega)
  refine (View.canon_append_of_pieces (byHead P) L _ (fun p hp x => ?_) _ ?_).trans (byHead_at P i h e)
  · obtain ⟨h', _, rfl⟩ := List.mem_map.mp hp
    refine Eq.trans ?_ ((congrArg (byHead P) (emb h' x)).trans (byHead_at P (x 0) h' (x 1))).symm
    exact congrArg (P h') (by funext a; match a with | ⟨0, _⟩ => rfl | ⟨1, _⟩ => rfl)
  · refine ⟨_, List.mem_map.mpr ⟨h, mem_heads h, rfl⟩, ?_⟩
    rw [show (ix2 i (col h e) : S128x3072.Idx) = (cols h).emb (ix2 i e) from (emb h (ix2 i e)).symm]
    exact (cols h).idx_mem _

/-- The whole of a side array, read. -/
theorem wholeOf_at (x : Vec Ideal S128x128 .f32) (i k : Fin 128) : wholeOf x (ix2 i k) = x (ix2 i k) := by
  unfold wholeOf
  rw [View.ld_unit_zero zero2]
  pointwise

end Cert.Dil

end
-- ==== Proof.Dil.Host.lean ====
module

public import proofs.«01_k».proof.Proof.Gen.Kernel4Ideal.Frame
public import proofs.«01_k».proof.Proof.Gen.Reference4Ideal.Read

/-!
# What the host lines before the launch leave

The host computes the attention's forward pass and from it the two side arrays of the launch: the row log-sums and the
row terms `c`, each padded to 128 lanes. The forward pass is the reference's own, so both are read as the reference's
named values.
-/

@[expose] public section

set_option maxRecDepth 16384

noncomputable section

namespace Cert.Dil

open Idealize.ShloMosaic Idealize.ShloMosaic.TcCoe Idealize.SL.Sem Idealize.ShloMosaic.StableHlo
open Cert.Kernel4Ideal Cert.Kernel4Ideal.Gen

variable {F : FTy → Type} [FloatOps F]

/-- The buffers after the lines up to the masked scores' two operands. -/
def host1 (V0 : Valuation τ sig (Elt F)) : Valuation τ sig (Elt F) := after hostOps0 V0
/-- The buffers after the masking of the scores. -/
def host2 (V0 : Valuation τ sig (Elt F)) : Valuation τ sig (Elt F) := after hostOps0_1 (host1 V0)
/-- The buffers after the forward pass and the row terms. -/
def host3 (V0 : Valuation τ sig (Elt F)) : Valuation τ sig (Elt F) := after hostOps0_2 (host2 V0)
/-- The buffers after the padding of the row terms. -/
def host4 (V0 : Valuation τ sig (Elt F)) : Valuation τ sig (Elt F) := after hostOps0_3 (host3 V0)
/-- The buffers after the reshaping of the log-sums. -/
def host5 (V0 : Valuation τ sig (Elt F)) : Valuation τ sig (Elt F) := after hostOps0_4 (host4 V0)
/-- The buffers after the padding of the log-sums. -/
def host6 (V0 : Valuation τ sig (Elt F)) : Valuation τ sig (Elt F) := after hostOps0_5 (host5 V0)

theorem host6_eq (V0 : Valuation τ sig (Elt F)) :
    after (List.flatten [hostOps0, hostOps0_1, hostOps0_2, hostOps0_3, hostOps0_4, hostOps0_5]) V0 = host6 V0 := by
  simp only [List.flatten_cons, List.flatten_nil, List.append_nil, after_append]
  rfl

variable (V0 : Valuation τ sig (Elt F))

set_option maxHeartbeats 8000000 in
theorem host1_v53 : host1 V0 (no_index (Proc.devRef .tc main_v53))
    = Reference4Ideal.Read.val_main_v53 (V0 (Proc.devRef .tc main_arg0)) (V0 (Proc.devRef .tc main_arg1)) := by
  unfold host1
  simp only [hostOps0]
  after_results_simp
  try dsimp only [Matrix.cons_val]
  try after_results_simp
  rfl

set_option maxHeartbeats 8000000 in
theorem host1_v41 : host1 V0 (no_index (Proc.devRef .tc main_v41)) = Reference4Ideal.Read.val_main_v41 (F := F) := by
  unfold host1
  simp only [hostOps0]
  after_results_simp
  rfl

set_option maxHeartbeats 8000000 in
theorem host1_cst_25 : host1 V0 (no_index (Proc.devRef .tc main_cst_25)) = Reference4Ideal.Read.val_main_cst_25 (F := F) := by
  unfold host1
  simp only [hostOps0]
  after_results_simp
  rfl

set_option maxHeartbeats 8000000 in
theorem host1_v2 : host1 V0 (no_index (Proc.devRef .tc main_v2)) = extf .f32 (V0 (Proc.devRef .tc main_arg2)) bitsLt_bf16_f32 := by
  unfold host1
  simp only [hostOps0]
  after_results_simp

set_option maxHeartbeats 8000000 in
theorem host1_arg3 : host1 V0 (no_index (Proc.devRef .tc main_arg3)) = V0 (Proc.devRef .tc main_arg3) := by
  unfold host1
  simp only [hostOps0]
  after_results_simp

set_option maxHeartbeats 8000000 in
theorem host1_arg4 : host1 V0 (no_index (Proc.devRef .tc main_arg4)) = V0 (Proc.devRef .tc main_arg4) := by
  unfold host1
  simp only [hostOps0]
  after_results_simp

theorem host2_v54 : host2 V0 (no_index (Proc.devRef .tc main_v54))
    = Reference4Ideal.Read.val_main_v54_0 (V0 (Proc.devRef .tc main_arg0)) (V0 (Proc.devRef .tc main_arg1)) := by
  unfold host2
  simp only [hostOps0_1, TRef.nullary, TRef.ternary, TRef.unary, TRef.toBuf, TRef.ofBuf, cast_eq]
  after_results_simp
  simp only [host1_v53, host1_v41, host1_cst_25]
  rfl

theorem host2_v2 : host2 V0 (no_index (Proc.devRef .tc main_v2)) = extf .f32 (V0 (Proc.devRef .tc main_arg2)) bitsLt_bf16_f32 := by
  unfold host2
  simp only [hostOps0_1, TRef.nullary, TRef.ternary, TRef.unary, TRef.toBuf, TRef.ofBuf, cast_eq]
  after_results_simp
  simp only [host1_v2]

theorem host2_arg3 : host2 V0 (no_index (Proc.devRef .tc main_arg3)) = V0 (Proc.devRef .tc main_arg3) := by
  unfold host2
  simp only [hostOps0_1, TRef.nullary, TRef.ternary, TRef.unary, TRef.toBuf, TRef.ofBuf, cast_eq]
  after_results_simp
  simp only [host1_arg3]

theorem host2_arg4 : host2 V0 (no_index (Proc.devRef .tc main_arg4)) = V0 (Proc.devRef .tc main_arg4) := by
  unfold host2
  simp only [hostOps0_1, TRef.nullary, TRef.ternary, TRef.unary, TRef.toBuf, TRef.ofBuf, cast_eq]
  after_results_simp
  simp only [host1_arg4]

set_option maxHeartbeats 8000000 in
theorem host3_v71 : host3 V0 (no_index (Proc.devRef .tc main_v71))
    = Reference4Ideal.Read.val_main_v79 (V0 (Proc.devRef .tc main_arg0)) (V0 (Proc.devRef .tc main_arg1)) := by
  unfold host3
  simp only [hostOps0_2]
  after_results_simp
  simp only [host2_v54]
  rfl

/-- The row terms: the log-sum's cotangent less the row sums of the output's cotangent times the output. -/
def rowTerm (x0 x1 x2 x3 : (⟨S8192x3072, .bf16⟩ : BufTy).Contents (Elt F)) (x4 : (⟨S8192x24, .f32⟩ : BufTy).Contents (Elt F)) :
    (⟨S8192x24, .f32⟩ : BufTy).Contents (Elt F) :=
  subf x4 (shapeCast _ (Host.reduceAdd (mulf (shapeCast _ (extf .f32 x3 bitsLt_bf16_f32) shapeCasts_S8192x3072_S16x512x24x128)
    (Reference4Ideal.Read.val_main_v72 x0 x1 x2)) (constant S_ .f32 0x00000000#32) reducesTo_S16x512x24x128_S16x512x24_d3 h_S_)
    shapeCasts_S16x512x24_S8192x24)

set_option maxHeartbeats 8000000 in
theorem host3_v77 : host3 V0 (no_index (Proc.devRef .tc main_v77))
    = rowTerm (V0 (Proc.devRef .tc main_arg0)) (V0 (Proc.devRef .tc main_arg1)) (V0 (Proc.devRef .tc main_arg2))
        (V0 (Proc.devRef .tc main_arg3)) (V0 (Proc.devRef .tc main_arg4)) := by
  unfold host3
  simp only [hostOps0_2]
  after_results_simp
  simp only [host2_v54, host2_v2, host2_arg3, host2_arg4]
  rfl

theorem host3_c_29 : host3 V0 (no_index (Proc.devRef .tc main_c_29)) = constantI S_ 32 0#32 := by
  unfold host3
  simp only [hostOps0_2]
  after_results_simp

/-- An array of one number per row and head, padded with zeros to 128 lanes. -/
def lanes (x : (⟨S8192x24, .f32⟩ : BufTy).Contents (Elt F)) : (⟨S8192x128, .f32⟩ : BufTy).Contents (Elt F) :=
  pad S8192x128 ![0, 0] ![0, 104] ![0, 0] x (sitofp .f32 (constantI S_ 32 0#32)) pads_S8192x24_S8192x128_000_01040 h_S_

theorem host4_v78 : host4 V0 (no_index (Proc.devRef .tc main_v78)) = lanes (host3 V0 (Proc.devRef .tc main_v77)) := by
  unfold host4
  simp only [hostOps0_3, TRef.nullary, TRef.ternary, TRef.unary, TRef.binary, TRef.toBuf, TRef.ofBuf, cast_eq]
  after_results_simp
  simp only [host3_c_29]
  rfl

theorem host4_v71 : host4 V0 (no_index (Proc.devRef .tc main_v71)) = host3 V0 (Proc.devRef .tc main_v71) := by
  unfold host4
  simp only [hostOps0_3, TRef.nullary, TRef.ternary, TRef.unary, TRef.binary, TRef.toBuf, TRef.ofBuf, cast_eq]
  after_results_simp

theorem host5_v79 : host5 V0 (no_index (Proc.devRef .tc main_v79))
    = Reference4Ideal.Read.val_main_v81 (V0 (Proc.devRef .tc main_arg0)) (V0 (Proc.devRef .tc main_arg1)) := by
  unfold host5
  simp only [hostOps0_4]
  after_results_simp
  simp only [host4_v71, host3_v71]
  rfl

theorem host5_v78 : host5 V0 (no_index (Proc.devRef .tc main_v78)) = host4 V0 (Proc.devRef .tc main_v78) := by
  unfold host5
  simp only [hostOps0_4]
  after_results_simp

theorem host5_c_30 : host5 V0 (no_index (Proc.devRef .tc main_c_30)) = constantI S_ 32 0#32 := by
  unfold host5
  simp only [hostOps0_4]
  after_results_simp

theorem host6_v80 : host6 V0 (no_index (Proc.devRef .tc main_v80))
    = lanes (Reference4Ideal.Read.val_main_v81 (V0 (Proc.devRef .tc main_arg0)) (V0 (Proc.devRef .tc main_arg1))) := by
  unfold host6
  simp only [hostOps0_5, TRef.nullary, TRef.ternary, TRef.unary, TRef.binary, TRef.toBuf, TRef.ofBuf, cast_eq]
  after_results_simp
  simp only [host5_c_30, host5_v79]
  rfl

theorem host6_v78 : host6 V0 (no_index (Proc.devRef .tc main_v78)) = lanes (rowTerm (V0 (Proc.devRef .tc main_arg0))
    (V0 (Proc.devRef .tc main_arg1)) (V0 (Proc.devRef .tc main_arg2)) (V0 (Proc.devRef .tc main_arg3))
    (V0 (Proc.devRef .tc main_arg4))) := by
  unfold host6
  simp only [hostOps0_5, TRef.nullary, TRef.ternary, TRef.unary, TRef.binary, TRef.toBuf, TRef.ofBuf, cast_eq]
  after_results_simp
  simp only [host5_v78, host4_v78, host3_v77]

variable (m : (ℓ : Loc nD τ sig) → Buf (Elt F) ℓ) (c : Dev nD)

/-- The log-sums the launch finds. -/
theorem V_lse : V m c main_v80 = lanes (Reference4Ideal.Read.val_main_v81 (m ((c : Thread nD τ).loc main_arg0))
    (m ((c : Thread nD τ).loc main_arg1))) :=
  (congrFun (host6_eq _) (Proc.devRef .tc main_v80)).trans (host6_v80 _)

/-- The row terms the launch finds. -/
theorem V_c : V m c main_v78 = lanes (rowTerm (m ((c : Thread nD τ).loc main_arg0)) (m ((c : Thread nD τ).loc main_arg1))
    (m ((c : Thread nD τ).loc main_arg2)) (m ((c : Thread nD τ).loc main_arg3)) (m ((c : Thread nD τ).loc main_arg4))) :=
  (congrFun (host6_eq _) (Proc.devRef .tc main_v78)).trans (host6_v78 _)

end Cert.Dil

end
-- ==== Proof.Dil.RefRead.lean ====
module

public import proofs.«01_k».proof.Proof.Dil.Spec
public import proofs.«01_k».proof.Proof.Gen.Reference4Ideal.Read

/-!
# The reference read at an index

The reference differentiates the dense masked attention operation by operation; here each of its arrays is read in terms
of the row functions.
-/

@[expose] public section

set_option maxRecDepth 16384

noncomputable section

namespace Cert.Dil

open Idealize.ShloMosaic Cert.MemAttn Cert.Reference4Ideal Cert.Reference4Ideal.Read

variable (x0 x1 x2 x3 : Arr) (x4 : Side) (r : Fin 16) (h : Fin 24)

/-- The slopes. -/
theorem v29_at (h : Fin 24) : val_main_v29 (F := Ideal) (ix4 0 h 0 0) = slope (F := Ideal) h := by
  fin_cases h <;> rfl

/-- The queries, by class and head. -/
theorem v42_at (n : Fin 512) (e : Fin 128) : val_main_v42 (F := Ideal) x0 (ix4 r n h e) = ent x0 r h n e := by
  pointwise [val_main_v42, val_main_v0, ent]
  rfl

/-- The keys, by class and head. -/
theorem v43_at (n : Fin 512) (e : Fin 128) : val_main_v43 (F := Ideal) x1 (ix4 r n h e) = ent x1 r h n e :=
  (congrFun (show val_main_v43 (F := Ideal) x1 = val_main_v42 (F := Ideal) x1 from rfl) _).trans (v42_at x1 r h n e)

/-- The values, by class and head. -/
theorem v66_at (n : Fin 512) (e : Fin 128) : val_main_v66 (F := Ideal) x2 (ix4 r n h e) = ent x2 r h n e :=
  (congrFun (show val_main_v66 (F := Ideal) x2 = val_main_v42 (F := Ideal) x2 from rfl) _).trans (v42_at x2 r h n e)

/-- The cotangent of the output, by class and head. -/
theorem v84_at (n : Fin 512) (e : Fin 128) : val_main_v84 (F := Ideal) x3 (ix4 r n h e) = ent x3 r h n e :=
  (congrFun (show val_main_v84 (F := Ideal) x3 = val_main_v42 (F := Ideal) x3 from rfl) _).trans (v42_at x3 r h n e)

/-- The distances. -/
theorem v36_at (n k : Fin 512) :
    val_main_v36 (F := Ideal) (ix2 n k) = BitVec.ofNat 32 n.val - BitVec.ofNat 32 k.val := by
  pointwise [val_main_v36, val_main_v34, val_main_v35, val_main_v31, val_main_v33, val_main_v30, val_main_v32]
  rfl

/-- The unmasked scores. -/
theorem v53_at (n k : Fin 512) : val_main_v53 (F := Ideal) x0 x1 (ix4 r h n k) = sc x0 x1 r h n k := by
  pointwise [val_main_v53, val_main_v52, val_main_v51, val_main_v50, val_main_v49, val_main_v48, val_main_v47,
    val_main_v46, val_main_v45, val_main_cst_24, val_main_v44, sc]
  simp only [v42_at, v43_at, v29_at, v36_at]
  rfl

/-- A maximum over the keys, read. -/
theorem reduceMax_at (y : FVec Ideal S16x24x512x512 .f32) (z : FVec Ideal S_ .f32) (r : Fin 16) (h : Fin 24) (n : Fin 512) :
    Host.reduce (FloatOps.maximumf (F := Ideal) (φ := .f32)) y z Gen.reducesTo_S16x24x512x512_S16x24x512_d3 Gen.h_S_ (ix3 r h n)
      = Finset.univ.fold max (z (Shape.Idx.first Gen.h_S_)) fun k : Fin 512 => y (ix4 r h n k) := by
  pointwise

/-- The keys in view. -/
theorem v41_at (n k : Fin 512) : val_main_v41 (F := Ideal) (ix2 n k) = if near n k then 1#1 else 0#1 := by
  pointwise [val_main_v41, val_main_v40, val_main_v39, val_main_v38, val_main_v37, val_main_c, val_main_c_23, v36_at]
  have hi := toInt_sub n.val k.val (by omega) (by omega)
  simp only [IntOp.cmpi, IntOp.andi, BitVec.sle, hi]
  have h0 : (0#32 : BitVec 32).toInt = 0 := by decide
  have h1 : (128#32 : BitVec 32).toInt = 128 := by decide
  rw [h0, h1]
  by_cases h2 : k.val ≤ n.val <;> by_cases h3 : n.val ≤ k.val + 128
  · rw [if_pos ⟨h2, h3⟩, decide_eq_true (by omega), decide_eq_true (by omega)]; rfl
  · rw [if_neg (fun e => h3 e.2), decide_eq_true (by omega), decide_eq_false (by omega)]; rfl
  · rw [if_neg (fun e => h2 e.1), decide_eq_false (by omega), decide_eq_true (by omega)]; rfl
  · rw [if_neg (fun e => h2 e.1), decide_eq_false (by omega), decide_eq_false (by omega)]; rfl

/-- The masked scores. -/
theorem v54_at (n k : Fin 512) : val_main_v54_0 (F := Ideal) x0 x1 (ix4 r h n k) = scm x0 x1 r h n k := by
  pointwise [val_main_v54_0, val_main_v54_1, val_main_call0_v2, val_main_call0_v0, val_main_cst_25, v53_at, v41_at]
  show Scalar.select _ _ (Ideal.ofBits .f32 0xFF800000#32) = _
  rw [show Ideal.ofBits .f32 0xFF800000#32 = ⊥ by simp [Ideal.ofBits, Ideal.ieee], scm, masked]
  by_cases hk : near n k
  · rw [if_pos hk, if_pos hk]; rfl
  · rw [if_neg hk, if_neg hk]; rfl

/-- The largest score. -/
theorem v55_at (n : Fin 512) : val_main_v55 (F := Ideal) x0 x1 (ix3 r h n) = top (scm x0 x1 r h n) := by
  unfold val_main_v55
  rw [reduceMax_at]
  simp only [v54_at, val_main_cst_26_apply]
  show Finset.fold max (Ideal.ofBits .f32 0xFF800000#32) _ _ = _
  rw [show Ideal.ofBits .f32 0xFF800000#32 = ⊥ by simp [Ideal.ofBits, Ideal.ieee]]
  rfl

/-- The keys that attain it. -/
theorem v59_at (n k : Fin 512) : val_main_v59 (F := Ideal) x0 x1 (ix4 r h n k) = atTop (scm x0 x1 r h n) k := by
  pointwise [val_main_v59, val_main_v58, val_main_v57, val_main_v56, v54_at, v55_at]
  rw [atTop]
  by_cases hk : scm x0 x1 r h n k = top (scm x0 x1 r h n)
  · rw [if_pos hk, decide_eq_true hk]
    show (((1#1 : BitVec 1).toNat : ℝ) : EReal) = 1
    norm_num
  · rw [if_neg hk, decide_eq_false hk]
    show (((0#1 : BitVec 1).toNat : ℝ) : EReal) = 0
    norm_num

/-- Their number. -/
theorem v60_at (n : Fin 512) : val_main_v60 (F := Ideal) x0 x1 (ix3 r h n) = ∑ k, atTop (scm x0 x1 r h n) k := by
  pointwise [val_main_v60, val_main_cst_27, v59_at]

/-- The shifted exponentials. -/
theorem v64_at (n k : Fin 512) : val_main_v64 (F := Ideal) x0 x1 (ix4 r h n k) = expo (scm x0 x1 r h n) k := by
  pointwise [val_main_v64, val_main_v63, val_main_v62, val_main_v61, v54_at, v55_at, expo]

/-- Their sum. -/
theorem v65_at (n : Fin 512) : val_main_v65 (F := Ideal) x0 x1 (ix3 r h n) = den (scm x0 x1 r h n) := by
  pointwise [val_main_v65, val_main_cst_28, v64_at, den]

/-- The unnormalised output. -/
theorem v68_at (n : Fin 512) (e : Fin 128) : val_main_v68 (F := Ideal) x0 x1 x2 (ix4 r n h e)
    = pv (scm x0 x1 r h n) (fun k e => ent x2 r h k e) e := by
  pointwise [val_main_v68, val_main_v67, v64_at, pv]
  simp only [v66_at]

/-- The sum of the exponentials, by row. -/
theorem v70_at (n : Fin 512) : val_main_v70 (F := Ideal) x0 x1 (ix4 r n h 0) = den (scm x0 x1 r h n) := by
  pointwise [val_main_v70, val_main_v69, v65_at]

/-- The output. -/
theorem v72_at (n : Fin 512) (e : Fin 128) : val_main_v72 (F := Ideal) x0 x1 x2 (ix4 r n h e)
    = outp (scm x0 x1 r h n) (fun k e => ent x2 r h k e) e := by
  pointwise [val_main_v72, val_main_v71, v70_at, v68_at, outp]

/-- The largest score, by row. -/
theorem v76_at (n : Fin 512) : val_main_v76 (F := Ideal) x0 x1 (ix3 r h n) = top (scm x0 x1 r h n) := by
  have hi : idx_main_v61 (idx_main_v76 (ix3 r h n)) = ix3 r h n := by
    have := h.isLt
    have := n.isLt
    funext a
    match a with
    | ⟨0, _⟩ => exact Fin.ext (show ((r.val * 24 + h.val) * 512 + n.val) / 12288 = r.val by omega)
    | ⟨1, _⟩ => exact Fin.ext (show ((r.val * 24 + h.val) * 512 + n.val) / 512 % 24 = h.val by omega)
    | ⟨2, _⟩ => exact Fin.ext (show ((r.val * 24 + h.val) * 512 + n.val) / 1 % 512 = n.val by omega)
  rw [val_main_v76_apply, val_main_v61_apply, hi, v55_at]

/-- The log-sums. -/
theorem v79_at (n : Fin 512) : val_main_v79 (F := Ideal) x0 x1 (ix3 r n h) = lseAt x0 x1 r h n := by
  have hi : idx_main_v79 (ix3 r n h) = ix3 r h n := by
    funext a
    match a with
    | ⟨0, _⟩ => rfl
    | ⟨1, _⟩ => rfl
    | ⟨2, _⟩ => rfl
  rw [val_main_v79_apply, hi, val_main_v78_apply, val_main_v77_apply, v76_at, v65_at]
  rfl

/-- The cotangent of the log-sums, by class and head. -/
theorem v85_at (n : Fin 512) : val_main_v85 (F := Ideal) x4 (ix3 r h n) = sent x4 r h n := by
  have hi : idx_main_v83 (idx_main_v85 (ix3 r h n)) = ix2 (rowOf r n) h := by
    have := h.isLt
    have := n.isLt
    funext a
    match a with
    | ⟨0, _⟩ => exact Fin.ext (show ((r.val * 512 + n.val) * 24 + h.val) / 24 = r.val * 512 + n.val by omega)
    | ⟨1, _⟩ => exact Fin.ext (show ((r.val * 512 + n.val) * 24 + h.val) % 24 = h.val by omega)
  rw [val_main_v85_apply, val_main_v83_apply, hi, sent]

/-- The sum's cotangent. -/
theorem v98_at (n : Fin 512) : val_main_v98 (F := Ideal) x0 x1 x2 x3 x4 (ix3 r h n)
    = Ideal.div (sent x4 r h n) (den (scm x0 x1 r h n))
      + -(∑ e : Fin 128, ent x3 r h n e * Ideal.div 1 (den (scm x0 x1 r h n) * den (scm x0 x1 r h n))
          * pv (scm x0 x1 r h n) (fun k e => ent x2 r h k e) e) := by
  pointwise [val_main_v98, val_main_v86, val_main_v97, val_main_v96, val_main_cst_31, val_main_v93, val_main_v92,
    val_main_v91, val_main_cst_30, val_main_v90, val_main_v89, val_main_v88, val_main_v75, val_main_v74, val_main_cst_29,
    val_main_v73, v70_at, v65_at, v68_at, v84_at, v85_at]
  simp only [Finset.univ_unique, Finset.sum_singleton]

/-- The output's cotangent over the sum. -/
theorem v99_at (n : Fin 512) (e : Fin 128) : val_main_v99 (F := Ideal) x0 x1 x3 (ix4 r h e n)
    = Ideal.div (ent x3 r h n e) (den (scm x0 x1 r h n)) := by
  pointwise [val_main_v99, val_main_v95, val_main_v94, v70_at, v84_at]

/-- The gradient of the shifted scores. -/
theorem v106_at (n k : Fin 512) : val_main_v106 (F := Ideal) x0 x1 x2 x3 x4 (ix4 r h n k)
    = gradRaw (scm x0 x1 r h n) (fun k e => ent x2 r h k e) (fun e => ent x3 r h n e) (sent x4 r h n) k := by
  pointwise [val_main_v106, val_main_v105, val_main_v104, val_main_v100, v98_at, v99_at, v64_at, gradRaw]
  simp only [v66_at]

/-- The gradient of the scores, the largest score's share added. -/
theorem v115_at (n k : Fin 512) : val_main_v115 (F := Ideal) x0 x1 x2 x3 x4 (ix4 r h n k)
    = gradTop (scm x0 x1 r h n) (fun k e => ent x2 r h k e) (fun e => ent x3 r h n e) (sent x4 r h n) k := by
  pointwise [val_main_v115, val_main_v114, val_main_v113, val_main_v112, val_main_v111, val_main_cst_33, val_main_v110,
    val_main_v109, val_main_v108, val_main_cst_32, val_main_v107, val_main_v87, v106_at, v85_at, v60_at, v59_at, gradTop]
  simp only [Finset.univ_unique, Finset.sum_singleton]

/-- The scaled gradient of the scores in view. -/
theorem v118_at (n k : Fin 512) : val_main_v118 (F := Ideal) x0 x1 x2 x3 x4 (ix4 r h n k)
    = (if near n k then gradTop (scm x0 x1 r h n) (fun k e => ent x2 r h k e) (fun e => ent x3 r h n e) (sent x4 r h n) k
        else 0) * scl := by
  pointwise [val_main_v118, val_main_v117, val_main_cst_34, val_main_v116, val_main_v54_1, val_main_call1_v0,
    val_main_call1_cst, v115_at, v41_at]
  by_cases hk : near n k
  · rw [if_pos hk, if_pos hk]; rfl
  · rw [if_neg hk, if_neg hk, zero_mul]; rfl

theorem idx_eq (n : Fin 512) (e : Fin 128) : idx_main_v124 (ix2 (rowOf r n) (col h e)) = ix4 r n h e := by
  have := h.isLt
  have := e.isLt
  have := n.isLt
  funext a
  match a with
  | ⟨0, _⟩ => exact Fin.ext (show ((r.val * 512 + n.val) * 3072 + (h.val * 128 + e.val)) / 1572864 = r.val by omega)
  | ⟨1, _⟩ => exact Fin.ext (show ((r.val * 512 + n.val) * 3072 + (h.val * 128 + e.val)) / 3072 % 512 = n.val by omega)
  | ⟨2, _⟩ => exact Fin.ext (show ((r.val * 512 + n.val) * 3072 + (h.val * 128 + e.val)) / 128 % 24 = h.val by omega)
  | ⟨3, _⟩ => exact Fin.ext (show ((r.val * 512 + n.val) * 3072 + (h.val * 128 + e.val)) % 128 = e.val by omega)

/-- A result's entry by class, head, row and column. -/
theorem v125_at (n : Fin 512) (e : Fin 128) : val_main_v125 (F := Ideal) x0 x1 x2 x3 x4 (ix2 (rowOf r n) (col h e))
    = ∑ k : Fin 512, val_main_v118 (F := Ideal) x0 x1 x2 x3 x4 (ix4 r h n k) * ent x1 r h k e := by
  have h0 : val_main_v122 (F := Ideal) x0 x1 x2 x3 x4 (ix4 r n h e)
      = ∑ k : Fin 512, val_main_v118 (F := Ideal) x0 x1 x2 x3 x4 (ix4 r h n k) * ent x1 r h k e := by
    pointwise [val_main_v122, val_main_v121]
    simp only [v43_at]
  rw [← h0, val_main_v125_apply, val_main_v124_apply, idx_eq r h n e]
  rfl

theorem v126_at (k : Fin 512) (e : Fin 128) : val_main_v126 (F := Ideal) x0 x1 x2 x3 x4 (ix2 (rowOf r k) (col h e))
    = ∑ n : Fin 512, val_main_v118 (F := Ideal) x0 x1 x2 x3 x4 (ix4 r h n k) * ent x0 r h n e := by
  have h0 : val_main_v120 (F := Ideal) x0 x1 x2 x3 x4 (ix4 r k h e)
      = ∑ n : Fin 512, val_main_v118 (F := Ideal) x0 x1 x2 x3 x4 (ix4 r h n k) * ent x0 r h n e := by
    pointwise [val_main_v120, val_main_v119]
    simp only [v42_at]
  rw [← h0, val_main_v126_apply, val_main_v123_apply]
  show val_main_v120 (F := Ideal) x0 x1 x2 x3 x4 (idx_main_v124 _) = _
  rw [idx_eq r h k e]

theorem v127_at (k : Fin 512) (e : Fin 128) : val_main_v127 (F := Ideal) x0 x1 x3 (ix2 (rowOf r k) (col h e))
    = ∑ n : Fin 512, Ideal.div (ent x3 r h n e) (den (scm x0 x1 r h n)) * expo (scm x0 x1 r h n) k := by
  have h0 : val_main_v102 (F := Ideal) x0 x1 x3 (ix4 r k h e)
      = ∑ n : Fin 512, Ideal.div (ent x3 r h n e) (den (scm x0 x1 r h n)) * expo (scm x0 x1 r h n) k := by
    pointwise [val_main_v102, val_main_v101]
    simp only [v99_at, v64_at]
  rw [← h0, val_main_v127_apply, val_main_v103_apply]
  show val_main_v102 (F := Ideal) x0 x1 x3 (idx_main_v124 _) = _
  rw [idx_eq r h k e]

/-- The log-sums as the launch is handed them. -/
theorem v81_at (n : Fin 512) : val_main_v81 (F := Ideal) x0 x1 (ix2 (rowOf r n) h) = lseAt x0 x1 r h n := by
  have hi : idx_main_v81 (ix2 (rowOf r n) h) = ix3 r n h := by
    have := h.isLt
    have := n.isLt
    funext a
    match a with
    | ⟨0, _⟩ => exact Fin.ext (show ((r.val * 512 + n.val) * 24 + h.val) / 12288 = r.val by omega)
    | ⟨1, _⟩ => exact Fin.ext (show ((r.val * 512 + n.val) * 24 + h.val) / 24 % 512 = n.val by omega)
    | ⟨2, _⟩ => exact Fin.ext (show ((r.val * 512 + n.val) * 24 + h.val) % 24 = h.val by omega)
  rw [val_main_v81_apply, hi, v79_at]

end Cert.Dil

end
-- ==== Proof.Dil.Side.lean ====
module

public import proofs.«01_k».proof.Proof.Dil.Host
public import proofs.«01_k».proof.Proof.Dil.RefRead

/-!
# The side arrays of the launch, read

Column `h` of the two padded arrays holds the log-sums and the row terms of head `h`.
-/

@[expose] public section

set_option maxRecDepth 16384

noncomputable section

namespace Cert.Dil

open Idealize.ShloMosaic Idealize.ShloMosaic.TcCoe Idealize.SL.Sem Cert.MemAttn
open Cert.Kernel4Ideal Cert.Kernel4Ideal.Gen

/-- The padding leaves the heads' columns as they are. -/
theorem lanes_at (x : FVec Ideal S8192x24 .f32) (R : Fin 8192) (h : Fin 24) :
    lanes (F := Ideal) x (ix2 R ⟨h.val, by omega⟩) = x (ix2 R h) := by
  pointwise [lanes]

/-- A sum over a head's columns, read. -/
theorem reduceAdd_at (y : FVec Ideal S16x512x24x128 .f32) (r : Fin 16) (n : Fin 512) (h : Fin 24) :
    Host.reduceAdd (F := Ideal) y (constant S_ .f32 0x00000000#32) reducesTo_S16x512x24x128_S16x512x24_d3 h_S_ (ix3 r n h)
      = ∑ e : Fin 128, y (ix4 r n h e) := by
  pointwise

/-- The row terms. -/
theorem rowTerm_at (x0 x1 x2 x3 : Arr) (x4 : Side) (r : Fin 16) (h : Fin 24) (n : Fin 512) :
    rowTerm (F := Ideal) x0 x1 x2 x3 x4 (ix2 (rowOf r n) h) = termAt x0 x1 x2 x3 x4 r h n := by
  unfold rowTerm
  refine Eq.trans (congrArg (fun z => x4 (ix2 (rowOf r n) h) - z) (Eq.trans (shapeCast_apply _
    shapeCasts_S16x512x24_S8192x24 (ix2 (rowOf r n) h) (ix3 r n h) ?_) (reduceAdd_at _ r n h))) ?_
  · rw [Shape.rowMajor_val_three, Shape.rowMajor_val_two]
    rfl
  · rw [termAt, rterm, sent]
    refine congrArg _ (Finset.sum_congr rfl fun e _ => ?_)
    rw [← v72_at, ← v84_at x3 r h n e]
    rfl

variable (m : (ℓ : Loc nD τ sig) → Buf (Elt Ideal) ℓ) (c : Dev nD)

/-- The arguments: queries, keys, values and the cotangents of output and log-sums. -/
abbrev AQ : Arr := m ((c : Thread nD τ).loc main_arg0)
abbrev AK : Arr := m ((c : Thread nD τ).loc main_arg1)
abbrev AV : Arr := m ((c : Thread nD τ).loc main_arg2)
abbrev AO : Arr := m ((c : Thread nD τ).loc main_arg3)
abbrev AL : Side := m ((c : Thread nD τ).loc main_arg4)

/-- The log-sums the launch finds. -/
theorem lse_at (r : Fin 16) (n : Fin 512) (h : Fin 24) (hh : h.val < 128) :
    (V m c main_v80 : FVec Ideal S8192x128 .f32) (ix2 (rowOf r n) ⟨h.val, hh⟩) = lseAt (AQ m c) (AK m c) r h n := by
  rw [V_lse]
  exact (lanes_at _ _ _).trans (v81_at _ _ r h n)

/-- The row terms the launch finds. -/
theorem c_at (r : Fin 16) (n : Fin 512) (h : Fin 24) (hh : h.val < 128) :
    (V m c main_v78 : FVec Ideal S8192x128 .f32) (ix2 (rowOf r n) ⟨h.val, hh⟩)
      = termAt (AQ m c) (AK m c) (AV m c) (AO m c) (AL m c) r h n := by
  rw [V_c]
  exact (lanes_at _ _ _).trans (rowTerm_at _ _ _ _ _ r h n)

end Cert.Dil

end
-- ==== Proof.Dil.Frame.lean ====
module

public import proofs.«01_k».proof.Proof.Gen.Kernel4Ideal.Frame
public import proofs.«01_k».proof.Proof.Gen.Kernel4Ideal.Skeleton
public import proofs.«01_k».proof.Proof.Dil.RunA
public import proofs.«01_k».proof.Proof.Dil.RunC
public import Idealize.ShloMosaic.Lib.Claim

/-!
# The run of the whole call

The grid walks, for each residue class, its four blocks of queries and one point more. What the two carried blocks and
the three output blocks hold after a point is stated by recursion on the points (`held`); at the last point of a class
the query gradient's block is left as the point before left it.
-/

@[expose] public section

set_option maxRecDepth 16384

noncomputable section

namespace Cert.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem c0_iff : ∀ t : Fin cfg0.N, C0 (grid0.coords t) ↔ t.val % 5 = 0 :=
  (by decide +kernel : ∀ t : Fin grid0.N, C0 (grid0.coords t) ↔ t.val % 5 = 0)

theorem c1_iff : ∀ t : Fin cfg0.N, C1 (grid0.coords t) ↔ t.val % 5 ≠ 4 :=
  (by decide +kernel : ∀ t : Fin grid0.N, C1 (grid0.coords t) ↔ t.val % 5 ≠ 4)

theorem c2_iff : ∀ t : Fin cfg0.N, C2 (grid0.coords t) ↔ t.val % 5 = 4 :=
  (by decide +kernel : ∀ t : Fin grid0.N, C2 (grid0.coords t) ↔ t.val % 5 = 4)

/-- The two blocks of scratch memory that carry the other half of the gradients of keys and values. -/
abbrev scr0 : Memref sig .tc .vmem S128x3072 .f32 := Memref.whole cc0_scratch0
abbrev scr1 : Memref sig .tc .vmem S128x3072 .f32 := Memref.whole cc0_scratch1

theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The body at the first point `t` of a class, on the blocks the point is handed. -/
def atA (c : Dev nD) (t : Fin cfg0.N) (h : t.val % 5 = 0) :=
  runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scr0 (Memref.isWhole_whole _) scr1 (Memref.isWhole_whole _)
    ((c0_iff t).mpr h) ((c1_iff t).mpr (by omega)) (fun e => absurd ((c2_iff t).mp e) (by omega))
    (iblk m c 0 t) (iblk m c 1 t) (iblk m c 2 t) (iblk m c 3 t) (iblk m c 4 t) (iblk m c 5 t) (iblk m c 6 t) (iblk m c 7 t)

/-- The body at an inner point `t`, on the blocks the point is handed and what is carried. -/
def atB (c : Dev nD) (t : Fin cfg0.N) (h : t.val % 5 ≠ 0) (h' : t.val % 5 ≠ 4) (x11 x12 : Vec F S128x3072 .f32) :=
  runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scr0 (Memref.isWhole_whole _) scr1 (Memref.isWhole_whole _)
    (fun e => h ((c0_iff t).mp e)) ((c1_iff t).mpr h') (fun e => h' ((c2_iff t).mp e))
    (iblk m c 0 t) (iblk m c 1 t) (iblk m c 2 t) (iblk m c 3 t) (iblk m c 4 t) (iblk m c 5 t) (iblk m c 6 t) (iblk m c 7 t) x11 x12

/-- The body at the last point `t` of a class. -/
def atC (c : Dev nD) (t : Fin cfg0.N) (h : t.val % 5 = 4) (x8 : Vec F S128x3072 .bf16) (x11 x12 : Vec F S128x3072 .f32) :=
  runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scr0 (Memref.isWhole_whole _) scr1 (Memref.isWhole_whole _)
    (fun e => absurd ((c0_iff t).mp e) (by omega)) (fun e => (c1_iff t).mp e h) ((c2_iff t).mpr h)
    (iblk m c 0 t) (iblk m c 1 t) (iblk m c 2 t) (iblk m c 3 t) (iblk m c 4 t) (iblk m c 5 t) (iblk m c 6 t) (iblk m c 7 t) x8 x11 x12

/-- A block's contents after a point: the gradients of queries, keys and values, and the two carried blocks. -/
abbrev Held (F : FTy → Type) : Type :=
  Vec F S128x3072 .bf16 × Vec F S128x3072 .bf16 × Vec F S128x3072 .bf16 × Vec F S128x3072 .f32 × Vec F S128x3072 .f32

/-- What one point leaves, over what the point before left. -/
def next (c : Dev nD) (t : Fin cfg0.N) (p : Held F) : Held F :=
  if h : t.val % 5 = 0 then
    (View.canon (atA m c t h).1, View.canon (atA m c t h).2.1, View.canon (atA m c t h).2.2.1,
      View.canon (atA m c t h).2.2.2.1, View.canon (atA m c t h).2.2.2.2.1)
  else if h' : t.val % 5 = 4 then
    (p.1, View.canon (atC m c t h' p.1 p.2.2.2.1 p.2.2.2.2).1, View.canon (atC m c t h' p.1 p.2.2.2.1 p.2.2.2.2).2.1,
      p.2.2.2.1, p.2.2.2.2)
  else
    (View.canon (atB m c t h h' p.2.2.2.1 p.2.2.2.2).1, View.canon (atB m c t h h' p.2.2.2.1 p.2.2.2.2).2.1,
      View.canon (atB m c t h h' p.2.2.2.1 p.2.2.2.2).2.2.1, View.canon (atB m c t h h' p.2.2.2.1 p.2.2.2.2).2.2.2.1,
      View.canon (atB m c t h h' p.2.2.2.1 p.2.2.2.2).2.2.2.2.1)

set_option maxHeartbeats 8000000 in
theorem next_A (c : Dev nD) (t : Fin cfg0.N) (p : Held F) (h : t.val % 5 = 0) :
    next m c t p = (View.canon (atA m c t h).1, View.canon (atA m c t h).2.1, View.canon (atA m c t h).2.2.1,
      View.canon (atA m c t h).2.2.2.1, View.canon (atA m c t h).2.2.2.2.1) := by
  unfold next; rw [dif_pos h]

set_option maxHeartbeats 8000000 in
theorem next_B (c : Dev nD) (t : Fin cfg0.N) (p : Held F) (h : t.val % 5 ≠ 0) (h' : t.val % 5 ≠ 4) :
    next m c t p = (View.canon (atB m c t h h' p.2.2.2.1 p.2.2.2.2).1,
      View.canon (atB m c t h h' p.2.2.2.1 p.2.2.2.2).2.1,
      View.canon (atB m c t h h' p.2.2.2.1 p.2.2.2.2).2.2.1,
      View.canon (atB m c t h h' p.2.2.2.1 p.2.2.2.2).2.2.2.1,
      View.canon (atB m c t h h' p.2.2.2.1 p.2.2.2.2).2.2.2.2.1) := by
  unfold next; rw [dif_neg h, dif_neg h']

set_option maxHeartbeats 8000000 in
theorem next_C (c : Dev nD) (t : Fin cfg0.N) (p : Held F) (h : t.val % 5 = 4) :
    next m c t p = (p.1,
      View.canon (atC m c t h p.1 p.2.2.2.1 p.2.2.2.2).1,
      View.canon (atC m c t h p.1 p.2.2.2.1 p.2.2.2.2).2.1,
      p.2.2.2.1, p.2.2.2.2) := by
  unfold next; rw [dif_neg (by omega), dif_pos h]

set_option maxHeartbeats 8000000 in
/-- What the blocks hold after point `n`. -/
def held (c : Dev nD) : (n : ℕ) → n < cfg0.N → Held F
  | 0, hn => (View.canon (atA m c ⟨0, hn⟩ rfl).1, View.canon (atA m c ⟨0, hn⟩ rfl).2.1,
      View.canon (atA m c ⟨0, hn⟩ rfl).2.2.1, View.canon (atA m c ⟨0, hn⟩ rfl).2.2.2.1,
      View.canon (atA m c ⟨0, hn⟩ rfl).2.2.2.2.1)
  | n + 1, hn => next m c ⟨n + 1, hn⟩ (held c n (Nat.lt_of_succ_lt hn))

/-- What the point before `t` left. -/
def prior (c : Dev nD) (t : Fin cfg0.N) : Held F :=
  held m c (t.val - 1) (Nat.lt_of_le_of_lt (Nat.sub_le _ _) t.isLt)

set_option maxHeartbeats 8000000 in
theorem held_zero (c : Dev nD) (hn : 0 < cfg0.N) :
    held m c 0 hn = (View.canon (atA m c ⟨0, hn⟩ rfl).1, View.canon (atA m c ⟨0, hn⟩ rfl).2.1,
      View.canon (atA m c ⟨0, hn⟩ rfl).2.2.1, View.canon (atA m c ⟨0, hn⟩ rfl).2.2.2.1,
      View.canon (atA m c ⟨0, hn⟩ rfl).2.2.2.2.1) := by
  rw [held]

set_option maxHeartbeats 8000000 in
theorem held_succ (c : Dev nD) (n : ℕ) (hn : n + 1 < cfg0.N) :
    held m c (n + 1) hn = next m c ⟨n + 1, hn⟩ (prior m c ⟨n + 1, hn⟩) := by
  rw [held, prior]
  rfl

set_option maxHeartbeats 8000000 in
theorem held_A (c : Dev nD) (t : Fin cfg0.N) (h : t.val % 5 = 0) :
    held m c t.val t.isLt = (View.canon (atA m c t h).1, View.canon (atA m c t h).2.1, View.canon (atA m c t h).2.2.1,
      View.canon (atA m c t h).2.2.2.1, View.canon (atA m c t h).2.2.2.2.1) := by
  obtain ⟨n, hn⟩ := t
  cases n with
  | zero => exact held_zero m c hn
  | succ n => exact (held_succ m c n hn).trans (next_A m c ⟨n + 1, hn⟩ _ h)

set_option maxHeartbeats 8000000 in
theorem held_B (c : Dev nD) (t : Fin cfg0.N) (h : t.val % 5 ≠ 0) (h' : t.val % 5 ≠ 4) :
    held m c t.val t.isLt = (View.canon (atB m c t h h' (prior m c t).2.2.2.1 (prior m c t).2.2.2.2).1,
      View.canon (atB m c t h h' (prior m c t).2.2.2.1 (prior m c t).2.2.2.2).2.1,
      View.canon (atB m c t h h' (prior m c t).2.2.2.1 (prior m c t).2.2.2.2).2.2.1,
      View.canon (atB m c t h h' (prior m c t).2.2.2.1 (prior m c t).2.2.2.2).2.2.2.1,
      View.canon (atB m c t h h' (prior m c t).2.2.2.1 (prior m c t).2.2.2.2).2.2.2.2.1) := by
  obtain ⟨n, hn⟩ := t
  cases n with
  | zero => exact absurd (Nat.zero_mod _) h
  | succ n => exact (held_succ m c n hn).trans (next_B m c ⟨n + 1, hn⟩ _ h h')

set_option maxHeartbeats 8000000 in
theorem held_C (c : Dev nD) (t : Fin cfg0.N) (h : t.val % 5 = 4) :
    held m c t.val t.isLt = ((prior m c t).1,
      View.canon (atC m c t h (prior m c t).1 (prior m c t).2.2.2.1 (prior m c t).2.2.2.2).1,
      View.canon (atC m c t h (prior m c t).1 (prior m c t).2.2.2.1 (prior m c t).2.2.2.2).2.1,
      (prior m c t).2.2.2.1, (prior m c t).2.2.2.2) := by
  obtain ⟨n, hn⟩ := t
  cases n with
  | zero => exact absurd h (by simp)
  | succ n => exact (held_succ m c n hn).trans (next_C m c ⟨n + 1, hn⟩ _ h)

/-! ## The stores of a point cover their blocks -/

theorem covA8 (c : Dev nD) (t : Fin cfg0.N) (h : t.val % 5 = 0) :
    ∀ y, ∃ p ∈ (atA m c t h).1, y ∈ p.1.set :=
  View.cover_of_tiledL (atA m c t h).1 S128x128.size (by sl_kernel_rfl)

theorem covA9 (c : Dev nD) (t : Fin cfg0.N) (h : t.val % 5 = 0) :
    ∀ y, ∃ p ∈ (atA m c t h).2.1, y ∈ p.1.set :=
  View.cover_of_tiledL (atA m c t h).2.1 S128x128.size (by sl_kernel_rfl)

theorem covA10 (c : Dev nD) (t : Fin cfg0.N) (h : t.val % 5 = 0) :
    ∀ y, ∃ p ∈ (atA m c t h).2.2.1, y ∈ p.1.set :=
  View.cover_of_tiledL (atA m c t h).2.2.1 S128x128.size (by sl_kernel_rfl)

theorem covA11 (c : Dev nD) (t : Fin cfg0.N) (h : t.val % 5 = 0) :
    ∀ y, ∃ p ∈ (atA m c t h).2.2.2.1, y ∈ p.1.set :=
  View.cover_of_wholeMem (atA m c t h).2.2.2.1 (by sl_whole_mem)

theorem covA12 (c : Dev nD) (t : Fin cfg0.N) (h : t.val % 5 = 0) :
    ∀ y, ∃ p ∈ (atA m c t h).2.2.2.2.1, y ∈ p.1.set :=
  View.cover_of_wholeMem (atA m c t h).2.2.2.2.1 (by sl_whole_mem)

theorem covB8 (c : Dev nD) (t : Fin cfg0.N) (h : t.val % 5 ≠ 0) (h' : t.val % 5 ≠ 4) (x11 x12 : Vec F S128x3072 .f32) :
    ∀ y, ∃ p ∈ (atB m c t h h' x11 x12).1, y ∈ p.1.set :=
  View.cover_of_tiledL (atB m c t h h' x11 x12).1 S128x128.size (by sl_kernel_rfl)

theorem covB9 (c : Dev nD) (t : Fin cfg0.N) (h : t.val % 5 ≠ 0) (h' : t.val % 5 ≠ 4) (x11 x12 : Vec F S128x3072 .f32) :
    ∀ y, ∃ p ∈ (atB m c t h h' x11 x12).2.1, y ∈ p.1.set :=
  View.cover_of_tiledL (atB m c t h h' x11 x12).2.1 S128x128.size (by sl_kernel_rfl)

theorem covB10 (c : Dev nD) (t : Fin cfg0.N) (h : t.val % 5 ≠ 0) (h' : t.val % 5 ≠ 4) (x11 x12 : Vec F S128x3072 .f32) :
    ∀ y, ∃ p ∈ (atB m c t h h' x11 x12).2.2.1, y ∈ p.1.set :=
  View.cover_of_tiledL (atB m c t h h' x11 x12).2.2.1 S128x128.size (by sl_kernel_rfl)

theorem covB11 (c : Dev nD) (t : Fin cfg0.N) (h : t.val % 5 ≠ 0) (h' : t.val % 5 ≠ 4) (x11 x12 : Vec F S128x3072 .f32) :
    ∀ y, ∃ p ∈ (atB m c t h h' x11 x12).2.2.2.1, y ∈ p.1.set :=
  View.cover_of_tiledL (atB m c t h h' x11 x12).2.2.2.1 S128x128.size (by sl_kernel_rfl)

theorem covB12 (c : Dev nD) (t : Fin cfg0.N) (h : t.val % 5 ≠ 0) (h' : t.val % 5 ≠ 4) (x11 x12 : Vec F S128x3072 .f32) :
    ∀ y, ∃ p ∈ (atB m c t h h' x11 x12).2.2.2.2.1, y ∈ p.1.set :=
  View.cover_of_tiledL (atB m c t h h' x11 x12).2.2.2.2.1 S128x128.size (by sl_kernel_rfl)

theorem covC9 (c : Dev nD) (t : Fin cfg0.N) (h : t.val % 5 = 4) (x8 : Vec F S128x3072 .bf16) (x11 x12 : Vec F S128x3072 .f32) :
    ∀ y, ∃ p ∈ (atC m c t h x8 x11 x12).1, y ∈ p.1.set :=
  View.cover_of_wholeMem (atC m c t h x8 x11 x12).1 (by sl_whole_mem)

theorem covC10 (c : Dev nD) (t : Fin cfg0.N) (h : t.val % 5 = 4) (x8 : Vec F S128x3072 .bf16) (x11 x12 : Vec F S128x3072 .f32) :
    ∀ y, ∃ p ∈ (atC m c t h x8 x11 x12).2.1, y ∈ p.1.set :=
  View.cover_of_wholeMem (atC m c t h x8 x11 x12).2.1 (by sl_whole_mem)

/-! ## The pipeline's data -/

/-- What holds between points: the carried blocks at what the last point left. -/
def inv (c : Dev nD) : (n : ℕ) → n ≤ cfg0.N → sProp 𝕄
  | 0, _ => Pipeline.ΦA spec0 c
  | n + 1, hn => iprop(iprop(owns (c : Thread nD τ) scr0 fullShare (held m c n hn).2.2.2.1
      ∗ owns (c : Thread nD τ) scr1 fullShare (held m c n hn).2.2.2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr0 fullShare (held m c n hn).2.2.2.1
      ∗ owns (c : Thread nD τ) scr1 fullShare (held m c n hn).2.2.2.2) ∗ (∃ r, prngReg c r)) := rfl

theorem inv_pos (c : Dev nD) (n : ℕ) (h : n ≤ cfg0.N) (hz : n ≠ 0) :
    inv m c n h = iprop(iprop(owns (c : Thread nD τ) scr0 fullShare (held m c (n - 1) (by omega)).2.2.2.1
      ∗ owns (c : Thread nD τ) scr1 fullShare (held m c (n - 1) (by omega)).2.2.2.2) ∗ (∃ r, prngReg c r)) := by
  cases n with
  | zero => exact absurd rfl hz
  | succ n => rfl

/-- The arrays as the call finds them; after each point the inputs' blocks unchanged and the outputs' as `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (held m c t.val t.isLt).1
    | ⟨9, _⟩ => (held m c t.val t.isLt).2.1
    | ⟨10, _⟩ => (held m c t.val t.isLt).2.2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (held m c t.val t.isLt).1 := by dsimp only [dats]
theorem after_9 (c : Dev nD) (t : Fin cfg0.N) : (dats m 0 c).after 9 t = (held m c t.val t.isLt).2.1 := by dsimp only [dats]
theorem after_10 (c : Dev nD) (t : Fin cfg0.N) : (dats m 0 c).after 10 t = (held m c t.val t.isLt).2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem not_flush_8 : ∀ t : Fin cfg0.N, t.val % 5 = 3 → (cfg0.win 8).flush t = false :=
  (by decide +kernel : ∀ t : Fin grid0.N, t.val % 5 = 3 → (cfg0.win 8).flush t = false)

theorem flush_8 : ∀ t : Fin cfg0.N, t.val % 5 = 4 → (cfg0.win 8).flush t = true :=
  (by decide +kernel : ∀ t : Fin grid0.N, t.val % 5 = 4 → (cfg0.win 8).flush t = true)

theorem live_8 (t : Fin cfg0.N) (h : t.val % 5 ≠ 4) : cfg0.idle 8 (grid0.coords t) = false := by
  have e : C1 (grid0.coords t) := (c1_iff t).mpr h
  show (!(k0_cond2 (grid0.coords t) == 1#1)) = false
  rw [show k0_cond2 (grid0.coords t) = 1#1 from e]; rfl

theorem idle_8 (t : Fin cfg0.N) (h : t.val % 5 = 4) : cfg0.idle 8 (grid0.coords t) = true := by
  have e : ¬C1 (grid0.coords t) := fun e => (c1_iff t).mp e h
  show (!(k0_cond2 (grid0.coords t) == 1#1)) = true
  rw [show (k0_cond2 (grid0.coords t) == 1#1) = false from beq_eq_false_iff_ne.mpr e]; rfl

theorem live_9 (t : Fin cfg0.N) : (!(k0_cond2 (grid0.coords t) == 1#1) && !(k0_cond3 (grid0.coords t) == 1#1)) = false := by
  by_cases h : t.val % 5 = 4
  · rw [show k0_cond3 (grid0.coords t) = 1#1 from (c2_iff t).mpr h]; simp
  · rw [show k0_cond2 (grid0.coords t) = 1#1 from (c1_iff t).mpr h]; simp

/-- At the last point of a class the query gradient's buffer still holds what the point before left. -/
theorem before_8 (c : Dev nD) (t : Fin cfg0.N) (h : t.val % 5 = 4) (d) :
    (dats m 0 c).before 8 t d = (prior m c t).1 := by
  rw [(dats m 0 c).before_of_pos 8 t (by omega) rfl, not_flush_8 _ (by show (t.val - 1) % 5 = 3; omega), if_neg Bool.false_ne_true]
  unfold Dat.left
  rw [live_8 _ (by show (t.val - 1) % 5 ≠ 4; omega)]
  exact after_8 m c _

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_9 (c : Dev nD) (t : Fin cfg0.N) : (dats m 0 c).leavesExact 9 t = owns (c : Thread nD τ) (st0_9 t) fullShare (held m c t.val t.isLt).2.1 := by
  unfold Dat.leavesExact; rw [show cfg0.idle 9 (grid0.coords t) = false from live_9 t, after_9]
theorem leaves_10 (c : Dev nD) (t : Fin cfg0.N) : (dats m 0 c).leavesExact 10 t = owns (c : Thread nD τ) (st0_10 t) fullShare (held m c t.val t.isLt).2.2.1 := by
  unfold Dat.leavesExact; rw [show cfg0.idle 10 (grid0.coords t) = false from live_9 t, after_10]
theorem leaves_8 (c : Dev nD) (t : Fin cfg0.N) : (dats m 0 c).leavesExact 8 t = owns (c : Thread nD τ) (st0_8 t) fullShare (held m c t.val t.isLt).1 := by
  unfold Dat.leavesExact
  by_cases h : t.val % 5 = 4
  · rw [idle_8 t h, flush_8 t h, after_8]
  · rw [live_8 t h, after_8]

set_option maxHeartbeats 4800000 in
theorem body_A0 (c : Dev nD) (t : Fin cfg0.N) (h : t.val % 5 = 0) (hz : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_zero m c _ _ hz, inv_eq]
  rw [held_A m c t h]
  dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  iintro ⟨H0, H1, H2, H3, H4, H5, H6, H7, ⟨%e8, H8⟩, ⟨%e9, H9⟩, ⟨%e10, H10⟩, ⟨%f0, S0⟩, ⟨%f1, S1⟩⟩
  isplitl [S0 S1 Hg]
  · isplitl [S0 S1]
    · isplitl [S0]
      · unfold owns; iexists _; isplitr
        swap; · iexact S0
        ipureintro; exact View.read_writes_eq_canon _ _ _ (covA11 m c t h)
      unfold owns; iexists _; isplitr
      swap; · iexact S1
      ipureintro; exact View.read_writes_eq_canon _ _ _ (covA12 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (covA8 m c t h)
  isplitl [H9]
  · unfold owns; iexists _; isplitr
    swap; · iexact H9
    ipureintro; exact View.read_writes_eq_canon _ _ _ (covA9 m c t h)
  unfold owns; iexists _; isplitr
  swap; · iexact H10
  ipureintro; exact View.read_writes_eq_canon _ _ _ (covA10 m c t h)

set_option maxHeartbeats 4800000 in
theorem body_A1 (c : Dev nD) (t : Fin cfg0.N) (h : t.val % 5 = 0) (hz : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_pos m c _ _ hz]
  rw [held_A m c t h]
  dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexists _; iexact S0
  isplitl [S1]; · iexists _; iexact S1
  iintro ⟨H0, H1, H2, H3, H4, H5, H6, H7, ⟨%e8, H8⟩, ⟨%e9, H9⟩, ⟨%e10, H10⟩, ⟨%f0, S0⟩, ⟨%f1, S1⟩⟩
  isplitl [S0 S1 Hg]
  · isplitl [S0 S1]
    · isplitl [S0]
      · unfold owns; iexists _; isplitr
        swap; · iexact S0
        ipureintro; exact View.read_writes_eq_canon _ _ _ (covA11 m c t h)
      unfold owns; iexists _; isplitr
      swap; · iexact S1
      ipureintro; exact View.read_writes_eq_canon _ _ _ (covA12 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (covA8 m c t h)
  isplitl [H9]
  · unfold owns; iexists _; isplitr
    swap; · iexact H9
    ipureintro; exact View.read_writes_eq_canon _ _ _ (covA9 m c t h)
  unfold owns; iexists _; isplitr
  swap; · iexact H10
  ipureintro; exact View.read_writes_eq_canon _ _ _ (covA10 m c t h)

set_option maxHeartbeats 4800000 in
theorem body_B (c : Dev nD) (t : Fin cfg0.N) (h : t.val % 5 ≠ 0) (h' : t.val % 5 ≠ 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_pos m c _ _ (by omega)]
  rw [held_B m c t h h']
  dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atB m c t h h' (prior m c t).2.2.2.1 (prior m c t).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  iintro ⟨H0, H1, H2, H3, H4, H5, H6, H7, ⟨%e8, H8⟩, ⟨%e9, H9⟩, ⟨%e10, H10⟩, ⟨%f0, S0⟩, ⟨%f1, S1⟩⟩
  isplitl [S0 S1 Hg]
  · isplitl [S0 S1]
    · isplitl [S0]
      · unfold owns; iexists _; isplitr
        swap; · iexact S0
        ipureintro; exact View.read_writes_eq_canon _ _ _ (covB11 m c t h h' _ _)
      unfold owns; iexists _; isplitr
      swap; · iexact S1
      ipureintro; exact View.read_writes_eq_canon _ _ _ (covB12 m c t h h' _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (covB8 m c t h h' _ _)
  isplitl [H9]
  · unfold owns; iexists _; isplitr
    swap; · iexact H9
    ipureintro; exact View.read_writes_eq_canon _ _ _ (covB9 m c t h h' _ _)
  unfold owns; iexists _; isplitr
  swap; · iexact H10
  ipureintro; exact View.read_writes_eq_canon _ _ _ (covB10 m c t h h' _ _)

set_option maxHeartbeats 4800000 in
theorem body_C (c : Dev nD) (t : Fin cfg0.N) (h : t.val % 5 = 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_pos m c _ _ (by omega)]
  rw [held_C m c t h]
  simp only [before_8 m c t h]
  try dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atC m c t h (prior m c t).1 (prior m c t).2.2.2.1 (prior m c t).2.2.2.2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  iintro ⟨H0, H1, H2, H3, H4, H5, H6, H7, H8, ⟨%e9, H9⟩, ⟨%e10, H10⟩, S0, S1⟩
  isplitl [S0 S1 Hg]
  · isplitl [S0 S1]
    · isplitl [S0]
      · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (covC9 m c t h _ _ _)
  unfold owns; iexists _; isplitr
  swap; · iexact H10
  ipureintro; exact View.read_writes_eq_canon _ _ _ (covC10 m c t h _ _ _)

theorem body_at (c : Dev nD) (t : Fin cfg0.N) :
    bodyPre m c t ⊢ wp frame (wpE (defs₀ (F := F)) Variants.none c none) Set.univ (bodyAt0 t) (fun _ => bodyPost m c t) := by
  by_cases h : t.val % 5 = 0
  · by_cases hz : t.val = 0
    · exact body_A0 m c t h hz
    · exact body_A1 m c t h hz
  · by_cases h' : t.val % 5 = 4
    · exact body_C m c t h'
    · exact body_B m c t h h'

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 80 := N_0; omega), inv_eq]
  iintro ⟨⟨S0, S1⟩, Hg⟩
  isplitl [S0 S1]
  · isplitl [S0]
    · iexists _; iexact S0
    iexists _; iexact S1
  iexact Hg

/-! ## The run -/

set_option backward.isDefEq.respectTransparency.types false in
/-- Every execution ends with each array as the points' write-backs leave it and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Dil

end
-- ==== Proof.Dil.Blocks.lean ====
module

public import proofs.«01_k».proof.Proof.Dil.Point
public import proofs.«01_k».proof.Proof.Dil.Stores
public import proofs.«01_k».proof.Proof.Dil.Side
public import proofs.«01_k».proof.Proof.Dil.Frame
public import Idealize.ShloMosaic.Lib.Pipeline.ValueKit

/-!
# The blocks a point is handed

Point `t` belongs to class `t / 5` and is handed the block `min (t % 5) 3` of its queries, and of keys and values that
block and the one before.
-/

@[expose] public section

set_option maxRecDepth 16384

noncomputable section

namespace Cert.Dil

open Idealize.ShloMosaic Idealize.ShloMosaic.TcCoe Idealize.SL.Sem Cert.MemAttn
open Cert.Kernel4Ideal Cert.Kernel4Ideal.Gen

variable (m : (ℓ : Loc nD τ sig) → Buf (Elt Ideal) ℓ) (c : Dev nD) (t : Fin cfg0.N)

theorem pts (t : Fin cfg0.N) : t.val < 80 := lt_of_lt_of_eq t.isLt N_0

/-- The class of a point, -/
def cls (t : Fin cfg0.N) : Fin 16 := ⟨t.val / 5, by have := pts t; omega⟩
/-- and its block. -/
def at_ (t : Fin cfg0.N) : Fin 4 := ⟨min (t.val % 5) 3, by omega⟩

/-- The blocks the points read and write. -/
theorem idx : ∀ t : Fin cfg0.N, win0_0.index t = ![4 * (t.val / 5) + min (t.val % 5) 3, 0]
    ∧ win0_1.index t = ![4 * (t.val / 5) + (min (t.val % 5) 3 - 1), 0]
    ∧ win0_2.index t = ![4 * (t.val / 5) + min (t.val % 5) 3, 0]
    ∧ win0_3.index t = ![4 * (t.val / 5) + (min (t.val % 5) 3 - 1), 0]
    ∧ win0_4.index t = ![4 * (t.val / 5) + min (t.val % 5) 3, 0]
    ∧ win0_5.index t = ![4 * (t.val / 5) + min (t.val % 5) 3, 0]
    ∧ win0_6.index t = ![4 * (t.val / 5) + min (t.val % 5) 3, 0]
    ∧ win0_7.index t = ![4 * (t.val / 5) + min (t.val % 5) 3, 0]
    ∧ win0_8.index t = ![4 * (t.val / 5) + min (t.val % 5) 3, 0]
    ∧ win0_9.index t = ![4 * (t.val / 5) + (t.val % 5 - 1), 0]
    ∧ win0_10.index t = ![4 * (t.val / 5) + (t.val % 5 - 1), 0] :=
  (by decide +kernel : ∀ t : Fin grid0.N, _)

/-- The point's second coordinate. -/
theorem coord_one : ∀ t : Fin cfg0.N, (grid0.coords t 1).val = t.val % 5 :=
  (by decide +kernel : ∀ t : Fin grid0.N, (grid0.coords t 1).val = t.val % 5)

/-- The slots in use at a point, by its block. -/
theorem valid_eq (h : t.val % 5 ≠ 4) : validAt (grid0.coords t) = k0_pay9 (BitVec.ofNat 32 (at_ t).val) := by
  have : (at_ t).val = t.val % 5 := show min (t.val % 5) 3 = t.val % 5 by omega
  rw [validAt, coord_one, this]

/-- The blocks of a point as matrices of numbers. -/
abbrev X0 : Vec Ideal S128x3072 .bf16 := iblk m c 0 t
abbrev X1 : Vec Ideal S128x3072 .bf16 := iblk m c 1 t
abbrev X2 : Vec Ideal S128x3072 .bf16 := iblk m c 2 t
abbrev X3 : Vec Ideal S128x3072 .bf16 := iblk m c 3 t
abbrev X4 : Vec Ideal S128x3072 .bf16 := iblk m c 4 t
abbrev X5 : Vec Ideal S128x3072 .bf16 := iblk m c 5 t
abbrev X6 : Vec Ideal S128x128 .f32 := iblk m c 6 t
abbrev X7 : Vec Ideal S128x128 .f32 := iblk m c 7 t

/-- The queries of the block. -/
theorem blk0 (h : Fin 24) (i e : Fin 128) : View.ld (X0 m c t) (cols h) (ix2 i e)
    = ent (AQ m c) (cls t) h (qrow (at_ t) i) e := by
  have ht := pts t
  rw [ld_cols, ent]
  simp only [rowOf, col, cls, qrow, at_]
  blk_point [iblk, V_main_arg0, idx t]

/-- The keys of the block before. -/
theorem blk1 (h : Fin 24) (hj : 0 < (at_ t).val) (i e : Fin 128) : View.ld (X1 m c t) (cols h) (ix2 i e)
    = ent (AK m c) (cls t) h (key (at_ t) (first i)) e := by
  have ht := pts t
  rw [ld_cols, ent]
  simp only [at_] at hj
  simp only [rowOf, col, cls, key, first, at_]
  blk_point [iblk, V_main_arg1, idx t]

/-- The keys of the block. -/
theorem blk2 (h : Fin 24) (i e : Fin 128) : View.ld (X2 m c t) (cols h) (ix2 i e)
    = ent (AK m c) (cls t) h (qrow (at_ t) i) e := by
  have ht := pts t
  rw [ld_cols, ent]
  simp only [rowOf, col, cls, qrow, at_]
  blk_point [iblk, V_main_arg1, idx t]

/-- The values of the block before. -/
theorem blk3 (h : Fin 24) (hj : 0 < (at_ t).val) (i e : Fin 128) : View.ld (X3 m c t) (cols h) (ix2 i e)
    = ent (AV m c) (cls t) h (key (at_ t) (first i)) e := by
  have ht := pts t
  rw [ld_cols, ent]
  simp only [at_] at hj
  simp only [rowOf, col, cls, key, first, at_]
  blk_point [iblk, V_main_arg2, idx t]

/-- The values of the block. -/
theorem blk4 (h : Fin 24) (i e : Fin 128) : View.ld (X4 m c t) (cols h) (ix2 i e)
    = ent (AV m c) (cls t) h (qrow (at_ t) i) e := by
  have ht := pts t
  rw [ld_cols, ent]
  simp only [rowOf, col, cls, qrow, at_]
  blk_point [iblk, V_main_arg2, idx t]

/-- The output's cotangent. -/
theorem blk5 (h : Fin 24) (i e : Fin 128) : View.ld (X5 m c t) (cols h) (ix2 i e)
    = ent (AO m c) (cls t) h (qrow (at_ t) i) e := by
  have ht := pts t
  rw [ld_cols, ent]
  simp only [rowOf, col, cls, qrow, at_]
  blk_point [iblk, V_main_arg3, idx t]

/-- The row terms. -/
theorem blk6 (h : Fin 24) (i : Fin 128) : wholeOf (X6 m c t) (ix2 i (lane h))
    = termAt (AQ m c) (AK m c) (AV m c) (AO m c) (AL m c) (cls t) h (qrow (at_ t) i) := by
  have ht := pts t
  rw [wholeOf_at, ← c_at m c (cls t) (qrow (at_ t) i) h (by omega)]
  simp only [rowOf, cls, qrow, at_, lane]
  blk_point [iblk, idx t]

/-- The log-sums. -/
theorem blk7 (h : Fin 24) (i : Fin 128) : wholeOf (X7 m c t) (ix2 i (lane h))
    = lseAt (AQ m c) (AK m c) (cls t) h (qrow (at_ t) i) := by
  have ht := pts t
  rw [wholeOf_at, ← lse_at m c (cls t) (qrow (at_ t) i) h (by omega)]
  simp only [rowOf, cls, qrow, at_, lane]
  blk_point [iblk, idx t]

/-! ## The heads at a point -/

/-- The gradient of the queries at a point. -/
theorem dqOf_at (ht : t.val % 5 ≠ 4) (h : Fin 24) (i e : Fin 128) :
    dqOf (grid0.coords t) (X0 m c t) (X1 m c t) (X2 m c t) (X3 m c t) (X4 m c t) (X5 m c t) (X6 m c t) (X7 m c t) h (ix2 i e)
      = dqAt (AQ m c) (AK m c) (AV m c) (AO m c) (AL m c) (cls t) h (qrow (at_ t) i) e := by
  rw [dqOf, valid_eq t ht]
  exact dq_point (blk0 m c t h) (blk1 m c t h) (blk2 m c t h) (blk3 m c t h) (blk4 m c t h) (blk5 m c t h)
    (blk6 m c t h) (blk7 m c t h) i e

/-- The gradient of the window's keys at a point. -/
theorem dkOf_at (ht : t.val % 5 ≠ 4) (h : Fin 24) (k : Fin 256) (hs : slot (at_ t) k) (e : Fin 128) :
    dkOf (grid0.coords t) (X0 m c t) (X1 m c t) (X2 m c t) (X3 m c t) (X4 m c t) (X5 m c t) (X6 m c t) (X7 m c t) h (ix2 k e)
      = dkPart (AQ m c) (AK m c) (AV m c) (AO m c) (AL m c) (cls t) h (at_ t) (key (at_ t) k) e := by
  rw [dkOf, valid_eq t ht]
  exact dk_point (blk0 m c t h) (blk1 m c t h) (blk2 m c t h) (blk3 m c t h) (blk4 m c t h) (blk5 m c t h)
    (blk6 m c t h) (blk7 m c t h) k hs e

/-- The gradient of the window's values at a point. -/
theorem dvOf_at (ht : t.val % 5 ≠ 4) (h : Fin 24) (k : Fin 256) (hs : slot (at_ t) k) (e : Fin 128) :
    dvOf (grid0.coords t) (X0 m c t) (X1 m c t) (X2 m c t) (X5 m c t) (X7 m c t) h (ix2 k e)
      = dvPart (AQ m c) (AK m c) (AO m c) (cls t) h (at_ t) (key (at_ t) k) e := by
  rw [dvOf, valid_eq t ht]
  exact dv_point (blk0 m c t h) (blk1 m c t h) (blk2 m c t h) (blk5 m c t h) (blk7 m c t h) k hs e

end Cert.Dil

end
-- ==== Proof.Dil.Arrays.lean ====
module

public import proofs.«01_k».proof.Proof.Dil.Blocks

/-!
# The three result arrays after the run

The gradient of the queries is written block by block. The gradient of a block of keys or values is written at the point
after the block's own: what was carried, and the half of the queries of the block after it.
-/

@[expose] public section

set_option maxRecDepth 16384

noncomputable section

namespace Cert.Dil

open Idealize.ShloMosaic Idealize.ShloMosaic.TcCoe Idealize.SL.Sem Cert.MemAttn
open Cert.Kernel4Ideal Cert.Kernel4Ideal.Gen

variable (m : (ℓ : Loc nD τ sig) → Buf (Elt Ideal) ℓ) (c : Dev nD) (t : Fin cfg0.N)

/-- The point before. -/
def back (t : Fin cfg0.N) : Fin cfg0.N := ⟨t.val - 1, Nat.lt_of_le_of_lt (Nat.sub_le _ _) t.isLt⟩

/-- The point before is of the same class and, where it is not the last block's, of the block before. -/
theorem back_eq (h0 : t.val % 5 ≠ 0) : cls (back t) = cls t
    ∧ (t.val % 5 ≠ 4 → ∀ hb : (at_ (back t)).val + 1 < 4, at_ t = ⟨(at_ (back t)).val + 1, hb⟩) :=
  ⟨Fin.ext (show (t.val - 1) / 5 = t.val / 5 by omega),
    fun h4 _ => Fin.ext (show min (t.val % 5) 3 = min ((t.val - 1) % 5) 3 + 1 by omega)⟩

/-- An array given by class, head, row and column. -/
def byEnt (f : Fin 16 → Fin 24 → Fin 512 → Fin 128 → EReal) : Arr := fun y =>
  have h0 : (y 0).val < 8192 := (y 0).isLt
  have h1 : (y 1).val < 3072 := (y 1).isLt
  f ⟨(y 0).val / 512, by omega⟩ ⟨(y 1).val / 128, by omega⟩ ⟨(y 0).val % 512, by omega⟩ ⟨(y 1).val % 128, by omega⟩

theorem byEnt_at (f : Fin 16 → Fin 24 → Fin 512 → Fin 128 → EReal) (r : Fin 16) (h : Fin 24) (n : Fin 512) (e : Fin 128) :
    byEnt f (ix2 (rowOf r n) (col h e)) = f r h n e := by
  have key : ∀ a b c d, a = r → b = h → c = n → d = e → f a b c d = f r h n e := by
    rintro _ _ _ _ rfl rfl rfl rfl
    rfl
  exact key _ _ _ _ (Fin.ext (show (r.val * 512 + n.val) / 512 = r.val by omega))
    (Fin.ext (show (h.val * 128 + e.val) / 128 = h.val by omega))
    (Fin.ext (show (r.val * 512 + n.val) % 512 = n.val by omega))
    (Fin.ext (show (h.val * 128 + e.val) % 128 = e.val by omega))

/-- An index of a block by row, head and column. -/
theorem blk_idx (y : S128x3072.Idx) : ∃ (i : Fin 128) (h : Fin 24) (e : Fin 128), y = ix2 i (col h e) := by
  have h1 : (y 1).val < 3072 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

theorem flush_9 : ∀ t : Fin cfg0.N, (cfg0.win 9).flush t = true → t.val % 5 ≠ 0 :=
  (by decide +kernel : ∀ t : Fin grid0.N, (cfg0.win 9).flush t = true → t.val % 5 ≠ 0)

theorem flush_10 : ∀ t : Fin cfg0.N, (cfg0.win 10).flush t = true → t.val % 5 ≠ 0 :=
  (by decide +kernel : ∀ t : Fin grid0.N, (cfg0.win 10).flush t = true → t.val % 5 ≠ 0)

/-- A narrowing changes nothing over the reals. -/
theorem narrow_at (x : FVec Ideal S128x3072 .f32) (y : S128x3072.Idx) :
    (truncf (F := Ideal) (s := S128x3072) .bf16 x bitsLt_bf16_f32 : FVec Ideal S128x3072 .bf16) y = x y := rfl

set_option maxHeartbeats 8000000 in
/-- The gradient of the queries, at a point that computes it. -/
theorem inner_at (ht : t.val % 5 ≠ 4) (h : Fin 24) (i e : Fin 128) :
    (held m c t.val t.isLt).1 (ix2 i (col h e)) = dqAt (AQ m c) (AK m c) (AV m c) (AO m c) (AL m c) (cls t) h (qrow (at_ t) i) e := by
  by_cases h0 : t.val % 5 = 0
  · rw [held_A m c t h0]
    have hL : (atA m c t h0).1 = storesQ (grid0.coords t) (X0 m c t) (X1 m c t) (X2 m c t) (X3 m c t) (X4 m c t) (X5 m c t) (X6 m c t) (X7 m c t) := by
      unfold atA
      exact runA_q ..
    show View.canon (atA m c t h0).1 _ = _
    rw [hL, ← List.append_nil (storesQ (grid0.coords t) (X0 m c t) (X1 m c t) (X2 m c t) (X3 m c t) (X4 m c t) (X5 m c t) (X6 m c t) (X7 m c t)), storesQ, canon_heads]
    exact dqOf_at m c t ht h i e
  · rw [held_B m c t h0 ht]
    have hL : (atB m c t h0 ht (prior m c t).2.2.2.1 (prior m c t).2.2.2.2).1 = storesQ (grid0.coords t) (X0 m c t) (X1 m c t) (X2 m c t) (X3 m c t) (X4 m c t) (X5 m c t) (X6 m c t) (X7 m c t) := by
      unfold atB
      exact runB_q ..
    show View.canon (atB m c t h0 ht (prior m c t).2.2.2.1 (prior m c t).2.2.2.2).1 _ = _
    rw [hL, ← List.append_nil (storesQ (grid0.coords t) (X0 m c t) (X1 m c t) (X2 m c t) (X3 m c t) (X4 m c t) (X5 m c t) (X6 m c t) (X7 m c t)), storesQ, canon_heads]
    exact dqOf_at m c t ht h i e

set_option maxHeartbeats 8000000 in
/-- What a point leaves in the queries' block: the last point of a class leaves what the one before left. -/
theorem outQ_at (h : Fin 24) (i e : Fin 128) :
    (held m c t.val t.isLt).1 (ix2 i (col h e)) = dqAt (AQ m c) (AK m c) (AV m c) (AO m c) (AL m c) (cls t) h (qrow (at_ t) i) e := by
  by_cases h4 : t.val % 5 = 4
  · rw [held_C m c t h4, ← (back_eq t (by omega)).1,
      show at_ t = at_ (back t) from Fin.ext (show min (t.val % 5) 3 = min ((t.val - 1) % 5) 3 by omega)]
    exact inner_at m c (back t) (by show (t.val - 1) % 5 ≠ 4; omega) h i e
  · exact inner_at m c t h4 h i e

set_option maxHeartbeats 8000000 in
/-- What is carried of the keys' gradient: the half of the block's own queries. -/
theorem carryK_at (ht : t.val % 5 ≠ 4) (h : Fin 24) (a e : Fin 128) :
    (held m c t.val t.isLt).2.2.2.1 (ix2 a (col h e)) = dkPart (AQ m c) (AK m c) (AV m c) (AO m c) (AL m c) (cls t) h (at_ t) (qrow (at_ t) a) e := by
  have key : late (dkOf (grid0.coords t) (X0 m c t) (X1 m c t) (X2 m c t) (X3 m c t) (X4 m c t) (X5 m c t) (X6 m c t) (X7 m c t) h) (ix2 a e)
      = dkPart (AQ m c) (AK m c) (AV m c) (AO m c) (AL m c) (cls t) h (at_ t) (qrow (at_ t) a) e := by
    rw [late_at, dkOf_at m c t ht h _ (.inl (Nat.le_add_right _ _)), key_late]
  by_cases h0 : t.val % 5 = 0
  · rw [held_A m c t h0]
    obtain ⟨L, hL⟩ : ∃ L, (atA m c t h0).2.2.2.1 = carryK (grid0.coords t) (X0 m c t) (X1 m c t) (X2 m c t) (X3 m c t) (X4 m c t) (X5 m c t) (X6 m c t) (X7 m c t) ++ L := by
      unfold atA
      exact runA_ck ..
    show View.canon (atA m c t h0).2.2.2.1 _ = _
    rw [hL, carryK, canon_heads]
    exact key
  · rw [held_B m c t h0 ht]
    have hL : (atB m c t h0 ht (prior m c t).2.2.2.1 (prior m c t).2.2.2.2).2.2.2.1
        = carryK (grid0.coords t) (X0 m c t) (X1 m c t) (X2 m c t) (X3 m c t) (X4 m c t) (X5 m c t) (X6 m c t) (X7 m c t) := by
      unfold atB
      exact runB_ck ..
    show View.canon (atB m c t h0 ht (prior m c t).2.2.2.1 (prior m c t).2.2.2.2).2.2.2.1 _ = _
    rw [hL, ← List.append_nil (carryK (grid0.coords t) (X0 m c t) (X1 m c t) (X2 m c t) (X3 m c t) (X4 m c t) (X5 m c t) (X6 m c t) (X7 m c t)), carryK, canon_heads]
    exact key

set_option maxHeartbeats 8000000 in
/-- What is carried of the values' gradient: the half of the block's own queries. -/
theorem carryV_at (ht : t.val % 5 ≠ 4) (h : Fin 24) (a e : Fin 128) :
    (held m c t.val t.isLt).2.2.2.2 (ix2 a (col h e)) = dvPart (AQ m c) (AK m c) (AO m c) (cls t) h (at_ t) (qrow (at_ t) a) e := by
  have key : late (dvOf (grid0.coords t) (X0 m c t) (X1 m c t) (X2 m c t) (X5 m c t) (X7 m c t) h) (ix2 a e)
      = dvPart (AQ m c) (AK m c) (AO m c) (cls t) h (at_ t) (qrow (at_ t) a) e := by
    rw [late_at, dvOf_at m c t ht h _ (.inl (Nat.le_add_right _ _)), key_late]
  by_cases h0 : t.val % 5 = 0
  · rw [held_A m c t h0]
    obtain ⟨L, hL⟩ : ∃ L, (atA m c t h0).2.2.2.2.1 = carryV (grid0.coords t) (X0 m c t) (X1 m c t) (X2 m c t) (X5 m c t) (X7 m c t) ++ L := by
      unfold atA
      exact runA_cv ..
    show View.canon (atA m c t h0).2.2.2.2.1 _ = _
    rw [hL, carryV, canon_heads]
    exact key
  · rw [held_B m c t h0 ht]
    have hL : (atB m c t h0 ht (prior m c t).2.2.2.1 (prior m c t).2.2.2.2).2.2.2.2.1
        = carryV (grid0.coords t) (X0 m c t) (X1 m c t) (X2 m c t) (X5 m c t) (X7 m c t) := by
      unfold atB
      exact runB_cv ..
    show View.canon (atB m c t h0 ht (prior m c t).2.2.2.1 (prior m c t).2.2.2.2).2.2.2.2.1 _ = _
    rw [hL, ← List.append_nil (carryV (grid0.coords t) (X0 m c t) (X1 m c t) (X2 m c t) (X5 m c t) (X7 m c t)), carryV, canon_heads]
    exact key

/-- At the last point of a class the keys' block is the carried block. -/
theorem lastK (h4 : t.val % 5 = 4) : (held m c t.val t.isLt).2.1
    = (truncf (F := Ideal) (s := S128x3072) .bf16 (prior m c t).2.2.2.1 bitsLt_bf16_f32 : FVec Ideal S128x3072 .bf16) := by
  have e : (held m c t.val t.isLt).2.1
      = View.canon (atC m c t h4 (prior m c t).1 (prior m c t).2.2.2.1 (prior m c t).2.2.2.2).1 := by
    rw [held_C m c t h4]
  rw [e]
  unfold atC
  exact runC_k ..

/-- At the last point of a class the values' block is the carried block. -/
theorem lastV (h4 : t.val % 5 = 4) : (held m c t.val t.isLt).2.2.1
    = (truncf (F := Ideal) (s := S128x3072) .bf16 (prior m c t).2.2.2.2 bitsLt_bf16_f32 : FVec Ideal S128x3072 .bf16) := by
  have e : (held m c t.val t.isLt).2.2.1
      = View.canon (atC m c t h4 (prior m c t).1 (prior m c t).2.2.2.1 (prior m c t).2.2.2.2).2.1 := by
    rw [held_C m c t h4]
  rw [e]
  unfold atC
  exact runC_v ..

set_option maxHeartbeats 8000000 in
/-- What a point leaves in the keys' block: the whole gradient of the block before. -/
theorem outK_at (h0 : t.val % 5 ≠ 0) (h : Fin 24) (a e : Fin 128) :
    (held m c t.val t.isLt).2.1 (ix2 a (col h e)) = dkAt (AQ m c) (AK m c) (AV m c) (AO m c) (AL m c) (cls t) h (qrow (at_ (back t)) a) e := by
  obtain ⟨hc, hb⟩ := back_eq t h0
  have hp : (prior m c t).2.2.2.1 (ix2 a (col h e))
      = dkPart (AQ m c) (AK m c) (AV m c) (AO m c) (AL m c) (cls t) h (at_ (back t)) (qrow (at_ (back t)) a) e := by
    rw [← hc]
    exact carryK_at m c (back t) (by show (t.val - 1) % 5 ≠ 4; omega) h a e
  by_cases h4 : t.val % 5 = 4
  · have hb4 : ¬(at_ (back t)).val + 1 < 4 := by show ¬min ((t.val - 1) % 5) 3 + 1 < 4; omega
    rw [lastK m c t h4, narrow_at, dkAt_one _ _ _ _ _ _ _ _ hb4]
    exact hp
  · have hb4 : (at_ (back t)).val + 1 < 4 := by show min ((t.val - 1) % 5) 3 + 1 < 4; omega
    have hj := hb h4 hb4
    rw [held_B m c t h0 h4]
    have hL : (atB m c t h0 h4 (prior m c t).2.2.2.1 (prior m c t).2.2.2.2).2.1
        = storesK (grid0.coords t) (X0 m c t) (X1 m c t) (X2 m c t) (X3 m c t) (X4 m c t) (X5 m c t) (X6 m c t) (X7 m c t) (prior m c t).2.2.2.1 := by
      unfold atB
      exact runB_k ..
    show View.canon (atB m c t h0 h4 (prior m c t).2.2.2.1 (prior m c t).2.2.2.2).2.1 _ = _
    rw [hL, ← List.append_nil (storesK (grid0.coords t) (X0 m c t) (X1 m c t) (X2 m c t) (X3 m c t) (X4 m c t) (X5 m c t) (X6 m c t) (X7 m c t) (prior m c t).2.2.2.1), storesK, canon_heads,
      dkAt_two _ _ _ _ _ _ _ _ hb4, early_at, ld_cols, hp,
      dkOf_at m c t h4 h _ (.inr (by rw [hj]; exact Nat.succ_pos _)), hj]
    exact congrArg (fun n => _ + dkPart (AQ m c) (AK m c) (AV m c) (AO m c) (AL m c) (cls t) h _ n e) (key_early (at_ (back t)) hb4 a)

set_option maxHeartbeats 8000000 in
/-- What a point leaves in the values' block: the whole gradient of the block before. -/
theorem outV_at (h0 : t.val % 5 ≠ 0) (h : Fin 24) (a e : Fin 128) :
    (held m c t.val t.isLt).2.2.1 (ix2 a (col h e)) = dvAt (AQ m c) (AK m c) (AO m c) (cls t) h (qrow (at_ (back t)) a) e := by
  obtain ⟨hc, hb⟩ := back_eq t h0
  have hp : (prior m c t).2.2.2.2 (ix2 a (col h e))
      = dvPart (AQ m c) (AK m c) (AO m c) (cls t) h (at_ (back t)) (qrow (at_ (back t)) a) e := by
    rw [← hc]
    exact carryV_at m c (back t) (by show (t.val - 1) % 5 ≠ 4; omega) h a e
  by_cases h4 : t.val % 5 = 4
  · have hb4 : ¬(at_ (back t)).val + 1 < 4 := by show ¬min ((t.val - 1) % 5) 3 + 1 < 4; omega
    rw [lastV m c t h4, narrow_at, dvAt_one _ _ _ _ _ _ hb4]
    exact hp
  · have hb4 : (at_ (back t)).val + 1 < 4 := by show min ((t.val - 1) % 5) 3 + 1 < 4; omega
    have hj := hb h4 hb4
    rw [held_B m c t h0 h4]
    have hL : (atB m c t h0 h4 (prior m c t).2.2.2.1 (prior m c t).2.2.2.2).2.2.1
        = storesV (grid0.coords t) (X0 m c t) (X1 m c t) (X2 m c t) (X5 m c t) (X7 m c t) (prior m c t).2.2.2.2 := by
      unfold atB
      exact runB_v ..
    show View.canon (atB m c t h0 h4 (prior m c t).2.2.2.1 (prior m c t).2.2.2.2).2.2.1 _ = _
    rw [hL, ← List.append_nil (storesV (grid0.coords t) (X0 m c t) (X1 m c t) (X2 m c t) (X5 m c t) (X7 m c t) (prior m c t).2.2.2.2), storesV, canon_heads,
      dvAt_two _ _ _ _ _ _ hb4, early_at, ld_cols, hp,
      dvOf_at m c t h4 h _ (.inr (by rw [hj]; exact Nat.succ_pos _)), hj]
    exact congrArg (fun n => _ + dvPart (AQ m c) (AK m c) (AO m c) (cls t) h _ n e) (key_early (at_ (back t)) hb4 a)

/-- The gradient of the queries. -/
theorem dQ_final : (dats m 0 c).arrAt 8 (cfgs 0).N = byEnt (dqAt (AQ m c) (AK m c) (AV m c) (AO m c) (AL m c)) := by
  refine (dats m 0 c).arrAt_eq_of_covers 8 _ (by decide +kernel) fun t hf y => ?_
  obtain ⟨i, h, e, rfl⟩ := blk_idx y
  have ht := pts t
  have he : (win0_8.blk t).view.emb (ix2 i (col h e)) = ix2 (rowOf (cls t) (qrow (at_ t) i)) (col h e) := by

    funext a
    match a with
    | ⟨0, _⟩ => exact Fin.ext (by
        blk_simp [idx t]
        show _ = t.val / 5 * 512 + (128 * min (t.val % 5) 3 + i.val)
        omega)
    | ⟨1, _⟩ => exact Fin.ext (by simp only [col]; blk_simp [idx t] <;> try omega)
  blk_simp
  rw [after_8]
  refine Eq.trans ?_ (congrArg (byEnt (dqAt (AQ m c) (AK m c) (AV m c) (AO m c) (AL m c))) he).symm
  rw [byEnt_at]
  exact outQ_at m c t h i e

/-- The gradient of the keys. -/
theorem dK_final : (dats m 0 c).arrAt 9 (cfgs 0).N = byEnt (dkAt (AQ m c) (AK m c) (AV m c) (AO m c) (AL m c)) := by
  refine (dats m 0 c).arrAt_eq_of_covers 9 _ (by decide +kernel) fun t hf y => ?_
  obtain ⟨i, h, e, rfl⟩ := blk_idx y
  have ht := pts t
  have he : (win0_9.blk t).view.emb (ix2 i (col h e)) = ix2 (rowOf (cls t) (qrow (at_ (back t)) i)) (col h e) := by
    have h0 := flush_9 t hf
    funext a
    match a with
    | ⟨0, _⟩ => exact Fin.ext (by
        blk_simp [idx t]
        show _ = t.val / 5 * 512 + (128 * min ((t.val - 1) % 5) 3 + i.val)
        omega)
    | ⟨1, _⟩ => exact Fin.ext (by simp only [col]; blk_simp [idx t] <;> try omega)
  blk_simp
  rw [after_9]
  refine Eq.trans ?_ (congrArg (byEnt (dkAt (AQ m c) (AK m c) (AV m c) (AO m c) (AL m c))) he).symm
  rw [byEnt_at]
  exact outK_at m c t (flush_9 t hf) h i e

/-- The gradient of the values. -/
theorem dV_final : (dats m 0 c).arrAt 10 (cfgs 0).N = byEnt (dvAt (AQ m c) (AK m c) (AO m c)) := by
  refine (dats m 0 c).arrAt_eq_of_covers 10 _ (by decide +kernel) fun t hf y => ?_
  obtain ⟨i, h, e, rfl⟩ := blk_idx y
  have ht := pts t
  have he : (win0_10.blk t).view.emb (ix2 i (col h e)) = ix2 (rowOf (cls t) (qrow (at_ (back t)) i)) (col h e) := by
    have h0 := flush_10 t hf
    funext a
    match a with
    | ⟨0, _⟩ => exact Fin.ext (by
        blk_simp [idx t]
        show _ = t.val / 5 * 512 + (128 * min ((t.val - 1) % 5) 3 + i.val)
        omega)
    | ⟨1, _⟩ => exact Fin.ext (by simp only [col]; blk_simp [idx t] <;> try omega)
  blk_simp
  rw [after_10]
  refine Eq.trans ?_ (congrArg (byEnt (dvAt (AQ m c) (AK m c) (AO m c))) he).symm
  rw [byEnt_at]
  exact outV_at m c t (flush_10 t hf) h i e

end Cert.Dil

end
-- ==== Proof.Dil.Result.lean ====
module

public import proofs.«01_k».proof.Proof.Dil.Arrays

/-!
# What the call returns

The run ends with the three arrays of gradients, and the arguments as they were.
-/

@[expose] public section

noncomputable section

namespace Cert.Dil

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg)

/-- The run, its three results named. -/
theorem run_result : θ_run defs (onTc (τ := τ) (main (F := Ideal))) ⟨m, fun _ => 0, ρ⟩ fun r => ∀ c : Dev nD,
      r.2.mem ((c : Thread nD τ).loc main_v81_0) = byEnt (dqAt (AQ m c) (AK m c) (AV m c) (AO m c) (AL m c))
      ∧ r.2.mem ((c : Thread nD τ).loc main_v81_1) = byEnt (dkAt (AQ m c) (AK m c) (AV m c) (AO m c) (AL m c))
      ∧ r.2.mem ((c : Thread nD τ).loc main_v81_2) = byEnt (dvAt (AQ m c) (AK m c) (AO m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1.1 c).1 8).trans (dQ_final m c), ((h.1.1 c).1 9).trans (dK_final m c),
      ((h.1.1 c).1 10).trans (dV_final m c), h.2.1 c⟩)
    (θ_run_and (run_all m ρ) (frame m ρ))

end Cert.Dil

end
-- ==== Proof.Dil.Equal.lean ====
module

public import proofs.«01_k».proof.Proof.Dil.RefRead
public import proofs.«01_k».proof.Proof.Dil.Arrays
public import proofs.«01_k».proof.Proof.MemAttn.Equal
public import proofs.«01_k».proof.Proof.Gen.Pre_finite_inputs

/-!
# The reference computes the same arrays

Under the precondition every entry is real, and then each query's row is covered by the equation of one row.
-/

@[expose] public section

set_option maxRecDepth 16384

noncomputable section

namespace Cert.Dil

open Idealize.ShloMosaic Cert.MemAttn Cert.Reference4Ideal Cert.Reference4Ideal.Read

instance : Subsingleton (Cert.Pre_finite_inputs.S_).Idx := ⟨fun a b => funext fun k => k.elim0⟩

/-- A word whose exponent is not all ones is a real. -/
theorem real_word (b : BitVec 32) (hb : (b.extractLsb' 23 8).toNat ≠ 2 ^ 8 - 1) : ∃ x : ℝ, Ideal.ofBits .f32 b = x := by
  show ∃ x : ℝ, Ideal.ieee 8 23 b = x
  unfold Ideal.ieee
  dsimp only
  rw [if_neg hb]
  split <;> exact ⟨_, rfl⟩

theorem scl_real : ∃ x : ℝ, scl = x := real_word _ (by decide)

theorem slope_real (h : Fin 24) : ∃ x : ℝ, slope (F := Ideal) h = x :=
  real_word (slopeBits h) ((by decide : ∀ h : Fin 24, ((slopeBits h).extractLsb' 23 8).toNat ≠ 2 ^ 8 - 1) h)

section
variable {x0 x1 x2 x3 : Arr} {x4 : Side}

/-- The precondition, read: every entry is real. -/
theorem real_of_inputs (hp : Cert.Pre_finite_inputs.fn (F := Ideal) x0 x1 x2 x3 x4 = fun _ => 1#1) :
    (∀ r h n e, ∃ x : ℝ, ent x0 r h n e = x) ∧ (∀ r h n e, ∃ x : ℝ, ent x1 r h n e = x)
      ∧ (∀ r h n e, ∃ x : ℝ, ent x2 r h n e = x) ∧ (∀ r h n e, ∃ x : ℝ, ent x3 r h n e = x)
      ∧ ∀ r h n, ∃ x : ℝ, sent x4 r h n = x := by
  have h0 := congrFun hp ix0
  dsimp only [Cert.Pre_finite_inputs.fn, Cert.Pre_finite_inputs.fn_part1] at h0
  have h4 := IntOp.andi_eq_one.1 h0
  have h3 := IntOp.andi_eq_one.1 h4.1
  have h2 := IntOp.andi_eq_one.1 h3.1
  have h1 := IntOp.andi_eq_one.1 h2.1
  exact ⟨fun r h n e => real_of_abs_lt _ (Host.reduce_andi_all _ _ _ _ _ h1.1 (ix2 (rowOf r n) (col h e))),
    fun r h n e => real_of_abs_lt _ (Host.reduce_andi_all _ _ _ _ _ h1.2 (ix2 (rowOf r n) (col h e))),
    fun r h n e => real_of_abs_lt _ (Host.reduce_andi_all _ _ _ _ _ h2.2 (ix2 (rowOf r n) (col h e))),
    fun r h n e => real_of_abs_lt _ (Host.reduce_andi_all _ _ _ _ _ h3.2 (ix2 (rowOf r n) (col h e))),
    fun r h n => real_of_abs_lt _ (Host.reduce_andi_all _ _ _ _ _ h4.2 (ix2 (rowOf r n) h))⟩

/-- The scores are then real. -/
theorem sc_real (hq : ∀ r h n e, ∃ x : ℝ, ent x0 r h n e = x) (hk : ∀ r h n e, ∃ x : ℝ, ent x1 r h n e = x)
    (r : Fin 16) (h : Fin 24) (n : Fin 512) : ∃ s : Fin 512 → ℝ, sc x0 x1 r h n = fun k => (s k : EReal) := by
  choose q hq using hq
  choose k hk using hk
  obtain ⟨c, hc⟩ := scl_real
  obtain ⟨w, hw⟩ := slope_real h
  refine ⟨fun l => (∑ e, q r h n e * k r h l e) * c - w * ((n.val : ℝ) - l.val), funext fun l => ?_⟩
  show _ = (((∑ e, q r h n e * k r h l e) * c - w * ((n.val : ℝ) - l.val) : ℝ) : EReal)
  rw [sc, hc, hw, dist_eq n.val l.val (by omega) (by omega)]
  simp only [EReal.coe_sub, EReal.coe_mul, coe_sum, hq, hk]

/-- One row: the derivative taken operation by operation is the product with the saved log-sum, and the weight over the
    sum is the probability. -/
theorem row_at (hp : Cert.Pre_finite_inputs.fn (F := Ideal) x0 x1 x2 x3 x4 = fun _ => 1#1)
    (r : Fin 16) (h : Fin 24) (n k : Fin 512) :
    val_main_v118 (F := Ideal) x0 x1 x2 x3 x4 (ix4 r h n k) = dsAt x0 x1 x2 x3 x4 r h n k
      ∧ ∀ e, Ideal.div (ent x3 r h n e) (den (scm x0 x1 r h n)) * expo (scm x0 x1 r h n) k
        = probAt x0 x1 r h n k * ent x3 r h n e := by
  obtain ⟨hq, hk, hv, hd, hy⟩ := real_of_inputs hp
  obtain ⟨s, hs⟩ := sc_real hq hk r h n
  choose v hv using hv
  choose d hd using hd
  obtain ⟨y, hy⟩ := hy r h n
  have hv' : (fun k e => ent x2 r h k e) = fun k e => (v r h k e : EReal) := funext fun k => funext fun e => hv r h k e
  have hd' : (fun e => ent x3 r h n e) = fun e => (d r h n e : EReal) := funext fun e => hd r h n e
  have key := row_eq (near n) (near_self n) s (fun k e => v r h k e) (fun e => d r h n e) y k
  have hm : scm x0 x1 r h n = masked (near n) fun k => (s k : EReal) := by rw [scm, hs]
  refine ⟨?_, fun e => ?_⟩
  · rw [v118_at, dsAt, probAt, lseAt, termAt, hm, hs, hv', hd', hy]
    simp only [hv, hd]
    rw [key.1]
  · rw [probAt, lseAt, hm, hs, hd]
    exact key.2 e

/-- An index of an array by class, head, row and column. -/
theorem arr_idx (y : (⟨2, ![8192, 3072]⟩ : Shape).Idx) : ∃ r n h e, y = ix2 (rowOf r n) (col h e) := by
  have h0 : (y 0).val < 8192 := (y 0).isLt
  have h1 : (y 1).val < 3072 := (y 1).isLt
  refine ⟨⟨(y 0).val / 512, by omega⟩, ⟨(y 0).val % 512, by omega⟩, ⟨(y 1).val / 128, by omega⟩,
    ⟨(y 1).val % 128, by omega⟩, ?_⟩
  funext a
  match a with
  | ⟨0, _⟩ => exact Fin.ext (show (y 0).val = (y 0).val / 512 * 512 + (y 0).val % 512 by omega)
  | ⟨1, _⟩ => exact Fin.ext (show (y 1).val = (y 1).val / 128 * 128 + (y 1).val % 128 by omega)

/-- The gradient of the queries. -/
theorem dq_eq (hp : Cert.Pre_finite_inputs.fn (F := Ideal) x0 x1 x2 x3 x4 = fun _ => 1#1) :
    val_main_v125 (F := Ideal) x0 x1 x2 x3 x4 = byEnt (dqAt x0 x1 x2 x3 x4) := by
  funext y
  obtain ⟨r, n, h, e, rfl⟩ := arr_idx y
  rw [v125_at, byEnt_at, dqAt]
  exact Finset.sum_congr rfl fun k _ => by rw [(row_at hp r h n k).1]

/-- The gradient of the keys. -/
theorem dk_eq (hp : Cert.Pre_finite_inputs.fn (F := Ideal) x0 x1 x2 x3 x4 = fun _ => 1#1) :
    val_main_v126 (F := Ideal) x0 x1 x2 x3 x4 = byEnt (dkAt x0 x1 x2 x3 x4) := by
  funext y
  obtain ⟨r, n, h, e, rfl⟩ := arr_idx y
  rw [v126_at, byEnt_at, dkAt]
  exact Finset.sum_congr rfl fun k _ => by rw [(row_at hp r h k n).1]

/-- The gradient of the values. -/
theorem dv_eq (hp : Cert.Pre_finite_inputs.fn (F := Ideal) x0 x1 x2 x3 x4 = fun _ => 1#1) :
    val_main_v127 (F := Ideal) x0 x1 x3 = byEnt (dvAt x0 x1 x3) := by
  funext y
  obtain ⟨r, n, h, e, rfl⟩ := arr_idx y
  rw [v127_at, byEnt_at, dvAt]
  exact Finset.sum_congr rfl fun k _ => (row_at hp r h k n).2 e

end

end Cert.Dil

end
-- ==== Proof.Dil.Printed.lean ====
module

public import proofs.«01_k».proof.Proof.Gen.Kernel4
public import proofs.«01_k».proof.Proof.Dil.Frame

/-!
# The run of the program as printed

The program and its idealized form are the same text where no operation is rewritten, and the run above is stated at any
floats; so it is the run of the program as printed too.
-/

@[expose] public section

set_option maxRecDepth 65536

noncomputable section

namespace Cert.Dil

open Idealize.ShloMosaic Idealize.SL.Sem
attribute [local instance] Cert.Kernel4.Gen.facts Cert.Kernel4Ideal.Gen.facts

variable {F : FTy → Type} [FloatOps F]

set_option maxHeartbeats 8000000 in
theorem body_eq : @Cert.Kernel4.cc0_dil_bwd F _ _ = @Cert.Kernel4Ideal.cc0_dil_bwd F _ _ := rfl

set_option maxHeartbeats 8000000 in
theorem bodies_eq : Cert.Kernel4.defs₀ (F := F) = Cert.Kernel4Ideal.defs₀ (F := F) := by
  unfold Cert.Kernel4.defs₀ Cert.Kernel4Ideal.defs₀
  refine congrArg Defs.onTc (funext fun l => funext fun ts => ?_)
  match l, ts with
  | 0, (t, s) =>
    dsimp only
    rw [body_eq]
    rfl
  | ⟨_ + 1, h⟩, _ => exact absurd h (Nat.not_lt.2 (Nat.le_add_left _ _))

set_option maxHeartbeats 8000000 in
theorem defs_eq : Cert.Kernel4.defs (F := F) = Cert.Kernel4Ideal.defs (F := F) :=
  congrArg (fun d => Pipeline.defs (Cert.Kernel4Ideal.pcfgs (F := F)) d) bodies_eq

set_option maxHeartbeats 8000000 in
theorem main_eq : Cert.Kernel4.main (F := F) = Cert.Kernel4Ideal.main (F := F) := rfl

set_option maxHeartbeats 8000000 in
/-- The arguments end unchanged and every counter at zero. -/
theorem frame_printed (m : (ℓ : Loc Cert.Kernel4.nD Cert.Kernel4.τ Cert.Kernel4.sig) → Buf (Elt F) ℓ)
    (ρ : Dev Cert.Kernel4.nD → PrngReg) :
    θ_run (Cert.Kernel4.defs (F := F)) (onTc (τ := Cert.Kernel4.τ) (Cert.Kernel4.main (F := F))) ⟨m, fun _ => 0, ρ⟩
      (fun r => (∀ c : Dev Cert.Kernel4.nD,
        r.2.mem ((c.tc : Thread Cert.Kernel4.nD Cert.Kernel4.τ).loc Cert.Kernel4.main_arg0)
          = m ((c.tc : Thread Cert.Kernel4.nD Cert.Kernel4.τ).loc Cert.Kernel4.main_arg0)
        ∧ r.2.mem ((c.tc : Thread Cert.Kernel4.nD Cert.Kernel4.τ).loc Cert.Kernel4.main_arg1)
          = m ((c.tc : Thread Cert.Kernel4.nD Cert.Kernel4.τ).loc Cert.Kernel4.main_arg1)
        ∧ r.2.mem ((c.tc : Thread Cert.Kernel4.nD Cert.Kernel4.τ).loc Cert.Kernel4.main_arg2)
          = m ((c.tc : Thread Cert.Kernel4.nD Cert.Kernel4.τ).loc Cert.Kernel4.main_arg2)
        ∧ r.2.mem ((c.tc : Thread Cert.Kernel4.nD Cert.Kernel4.τ).loc Cert.Kernel4.main_arg3)
          = m ((c.tc : Thread Cert.Kernel4.nD Cert.Kernel4.τ).loc Cert.Kernel4.main_arg3)
        ∧ r.2.mem ((c.tc : Thread Cert.Kernel4.nD Cert.Kernel4.τ).loc Cert.Kernel4.main_arg4)
          = m ((c.tc : Thread Cert.Kernel4.nD Cert.Kernel4.τ).loc Cert.Kernel4.main_arg4))
        ∧ r.2.sem = fun _ => 0) := by
  rw [defs_eq, main_eq]
  exact frame m ρ

end Cert.Dil

end
-- ==== Proof.Small.Block.lean ====
module

public import proofs.«01_k».proof.Proof.Products
public import proofs.«01_k».proof.Proof.Gen.Kernel5Ideal.Frame
public import Idealize.ShloMosaic.Lib.Pipeline.Value
public import Idealize.ShloMosaic.Lib.Pipeline.ValueKit

/-! One block of each of the six small products: what a region stores at one grid point. The gradients that enter as `f32`
are rounded to `bf16` first, which over the extended reals changes nothing. -/

@[expose] public section

set_option maxRecDepth 16384
noncomputable section

namespace Cert.Kernel5Ideal.Small

open Cert.Kernel5Ideal Cert.Kernel5Ideal.Gen Cert.Products Idealize.ShloMosaic Idealize.ShloMosaic.TcCoe

theorem zero2 : (![0, 0] : Fin 2 → Nat) = fun _ => 0 := by decide

/-- Region 0: the memory keys and values. -/
theorem at0 (a : Vec Ideal S256x2048 .bf16) (b : Vec Ideal S2048x2048 .bf16) (i : Fin 256) (j : Fin 2048) :
    out0_2 a b (ix2 i j) = ∑ k : Fin 2048, a (ix2 i k) * b (ix2 k j) := by
  unfold out0_2
  rw [View.canon_unit_zero zero2, View.ld_unit_zero zero2, View.ld_unit_zero zero2]
  pointwise [k0_pay1]

/-- Region 1: the step sizes. -/
theorem at1 (a : Vec Ideal S1024x2048 .bf16) (b : Vec Ideal S2048x128 .bf16) (i : Fin 1024) (j : Fin 128) :
    out1_2 a b (ix2 i j) = ∑ k : Fin 2048, a (ix2 i k) * b (ix2 k j) := by
  unfold out1_2
  rw [View.canon_unit_zero zero2, View.ld_unit_zero zero2, View.ld_unit_zero zero2]
  pointwise [k1_pay1]

/-- Region 2: the gradient of the memory keys' and values' weight. -/
theorem at2 (a : Vec Ideal S256x1024 .bf16) (b : Vec Ideal S256x2048 .f32) (i : Fin 1024) (j : Fin 2048) :
    out2_2 a b (ix2 i j) = ∑ k : Fin 256, a (ix2 k i) * b (ix2 k j) := by
  unfold out2_2
  rw [View.canon_unit_zero zero2, View.ld_unit_zero zero2, View.ld_unit_zero zero2]
  pointwise [k2_pay1]

/-- Region 3: the memory's gradient, added. -/
theorem at3 (a : Vec Ideal S256x2048 .f32) (b : Vec Ideal S2048x2048 .bf16) (e : Vec Ideal S256x2048 .f32) (i : Fin 256) (j : Fin 2048) :
    out3_3 a b e (ix2 i j) = (∑ k : Fin 2048, a (ix2 i k) * b (ix2 j k)) + e (ix2 i j) := by
  unfold out3_3
  rw [View.canon_unit_zero zero2, View.ld_unit_zero zero2, View.ld_unit_zero zero2, View.ld_unit_zero zero2]
  pointwise [k3_pay1]

/-- Region 4: the input's gradient through the step sizes, added. -/
theorem at4 (a : Vec Ideal S1024x128 .f32) (b : Vec Ideal S1024x128 .bf16) (e : Vec Ideal S1024x1024 .f32) (i : Fin 1024) (j : Fin 1024) :
    out4_3 a b e (ix2 i j) = (∑ k : Fin 128, a (ix2 i k) * b (ix2 j k)) + e (ix2 i j) := by
  unfold out4_3
  rw [View.canon_unit_zero zero2, View.ld_unit_zero zero2, View.ld_unit_zero zero2, View.ld_unit_zero zero2]
  pointwise [k4_pay1]

/-- Region 5: the gradient of the step sizes' weight. -/
theorem at5 (a : Vec Ideal S8192x512 .bf16) (b : Vec Ideal S8192x128 .f32) (i : Fin 512) (j : Fin 128) :
    out5_2 a b (ix2 i j) = ∑ k : Fin 8192, a (ix2 k i) * b (ix2 k j) := by
  unfold out5_2
  rw [View.canon_unit_zero zero2, View.ld_unit_zero zero2, View.ld_unit_zero zero2]
  pointwise [k5_pay1]

end Cert.Kernel5Ideal.Small

end
-- ==== Proof.Small.Arrays.lean ====
module

public import proofs.«01_k».proof.Proof.Small.Block

/-! Each region's result array, from whatever its operands hold when it is entered (`V`): the product of the whole
arrays, with the addend where it has one. -/

@[expose] public section

set_option maxRecDepth 16384
noncomputable section

namespace Cert.Kernel5Ideal.Small

open Cert.Kernel5Ideal Cert.Kernel5Ideal.Gen Cert.Products Idealize.ShloMosaic Idealize.ShloMosaic.TcCoe

variable (V : (c : Dev nD) → (b : Ref sig .tc) → Buf (Elt Ideal) ((c : Thread nD τ).loc b)) (c : Dev nD)

/-- Region 0: the memory keys and values. -/
theorem idx0 : ∀ t : Fin cfg0.N, win0_0.index t = ![0, 0] ∧ win0_1.index t = ![0, 0] ∧ win0_2.index t = ![0, 0] :=
  (by decide +kernel : ∀ t : Fin grid0.N, _)

theorem final0 : (dat0 (F := Ideal) V c).arrAt 2 cfg0.N = nn (V c main_arg0) (V c main_arg1) := by
  refine (dat0 (F := Ideal) V c).arrAt_eq_of_covers 2 _ (by decide +kernel) fun t hf y => ?_
  have ht := lt_of_lt_of_eq t.isLt N_0
  blk_simp
  rw [after0_2]
  refine nn_block _ _ (at0 _ _) y _ (fun k => ?_) (fun k => ?_) <;> blk_point [iblk0, idx0 t]

/-- Region 1: the step sizes. -/
theorem idx1 : ∀ t : Fin cfg1.N, win1_0.index t = ![t.val, 0] ∧ win1_1.index t = ![0, 0] ∧ win1_2.index t = ![t.val, 0] :=
  (by decide +kernel : ∀ t : Fin grid1.N, _)

theorem final1 : (dat1 (F := Ideal) V c).arrAt 2 cfg1.N = nn (V c main_arg4) (V c main_arg5) := by
  refine (dat1 (F := Ideal) V c).arrAt_eq_of_covers 2 _ (by decide +kernel) fun t hf y => ?_
  have ht := lt_of_lt_of_eq t.isLt N_1
  blk_simp
  rw [after1_2]
  refine nn_block _ _ (at1 _ _) y _ (fun k => ?_) (fun k => ?_) <;> blk_point [iblk1, idx1 t]

/-- Region 2: the gradient of the memory keys' and values' weight. -/
theorem idx2 : ∀ t : Fin cfg2.N, win2_0.index t = ![0, t.val] ∧ win2_1.index t = ![0, 0] ∧ win2_2.index t = ![t.val, 0] :=
  (by decide +kernel : ∀ t : Fin grid2.N, _)

theorem final2 : (dat2 (F := Ideal) V c).arrAt 2 cfg2.N = tn (V c main_arg0) (V c main_arg2) := by
  refine (dat2 (F := Ideal) V c).arrAt_eq_of_covers 2 _ (by decide +kernel) fun t hf y => ?_
  have ht := lt_of_lt_of_eq t.isLt N_2
  blk_simp
  rw [after2_2]
  refine tn_block _ _ (at2 _ _) y _ (fun k => ?_) (fun k => ?_) <;> blk_point [iblk2, idx2 t]

/-- Region 3: the memory's gradient, added. -/
theorem idx3 : ∀ t : Fin cfg3.N, win3_0.index t = ![0, 0] ∧ win3_1.index t = ![0, 0] ∧ win3_2.index t = ![0, 0] ∧ win3_3.index t = ![0, 0] :=
  (by decide +kernel : ∀ t : Fin grid3.N, _)

theorem final3 : (dat3 (F := Ideal) V c).arrAt 3 cfg3.N = fun z => nt (V c main_arg2) (V c main_arg1) z + V c main_arg3 z := by
  refine (dat3 (F := Ideal) V c).arrAt_eq_of_covers 3 _ (by decide +kernel) fun t hf y => ?_
  have ht := lt_of_lt_of_eq t.isLt N_3
  blk_simp
  rw [after3_3]
  refine nt_add_block _ _ _ (at3 _ _ _) y _ (fun k => ?_) (fun k => ?_) ?_ <;> blk_point [iblk3, idx3 t]

/-- Region 4: the input's gradient through the step sizes, added. -/
theorem idx4 : ∀ t : Fin cfg4.N, win4_0.index t = ![t.val / 2, 0] ∧ win4_1.index t = ![t.val % 2, 0] ∧ win4_2.index t = ![t.val / 2, t.val % 2] ∧ win4_3.index t = ![t.val / 2, t.val % 2] :=
  (by decide +kernel : ∀ t : Fin grid4.N, _)

theorem final4 : (dat4 (F := Ideal) V c).arrAt 3 cfg4.N = fun z => nt (V c main_arg6) (V c main_arg5) z + V c main_arg7 z := by
  refine (dat4 (F := Ideal) V c).arrAt_eq_of_covers 3 _ (by decide +kernel) fun t hf y => ?_
  have ht := lt_of_lt_of_eq t.isLt N_4
  blk_simp
  rw [after4_3]
  refine nt_add_block _ _ _ (at4 _ _ _) y _ (fun k => ?_) (fun k => ?_) ?_ <;> blk_point [iblk4, idx4 t]

/-- Region 5: the gradient of the step sizes' weight. -/
theorem idx5 : ∀ t : Fin cfg5.N, win5_0.index t = ![0, t.val] ∧ win5_1.index t = ![0, 0] ∧ win5_2.index t = ![t.val, 0] :=
  (by decide +kernel : ∀ t : Fin grid5.N, _)

theorem final5 : (dat5 (F := Ideal) V c).arrAt 2 cfg5.N = tn (V c main_arg4) (V c main_arg6) := by
  refine (dat5 (F := Ideal) V c).arrAt_eq_of_covers 2 _ (by decide +kernel) fun t hf y => ?_
  have ht := lt_of_lt_of_eq t.isLt N_5
  blk_simp
  rw [after5_2]
  refine tn_block _ _ (at5 _ _) y _ (fun k => ?_) (fun k => ?_) <;> blk_point [iblk5, idx5 t]

end Cert.Kernel5Ideal.Small

end
-- ==== Proof.Small.Run.lean ====
module

public import proofs.«01_k».proof.Proof.Small.Arrays

/-! The run of the six small products, every array of the main memory read at its end; then the six results as products
of the arguments. -/

@[expose] public section

set_option maxRecDepth 16384
noncomputable section

namespace Cert.Kernel5Ideal.Small

open Cert.Kernel5Ideal Cert.Kernel5Ideal.Gen Cert.Products Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the launch's implicit arguments are found by unifying its conclusion with the one stated
set_option backward.isDefEq.respectTransparency.types false in
/-- Every run ends, with each array as the last segment leaves it. -/
theorem run_held {F} [FloatOps F] (m : (ℓ : Loc nD τ sig) → Buf (Elt F) ℓ) (ρ : Dev nD → PrngReg) :
    θ_run defs (onTc (τ := τ) (main (F := F))) ⟨m, fun _ => 0, ρ⟩ fun r =>
      ∀ c : Dev nD, ∀ b ∈ Pipeline.ucRefs τ sig, r.2.mem (((c : Thread nD τ)).1, b) = W6 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

section
variable (m : (ℓ : Loc nD τ sig) → Buf (Elt Ideal) ℓ) (ρ : Dev nD → PrngReg) (c : Dev nD)

/-- The memory keys and values. -/
theorem v0_end : W6 m ρ c main_v0 = nn (m ((c : Thread nD τ).loc main_arg0)) (m ((c : Thread nD τ).loc main_arg1)) := by
  rw [W6_of m ρ c main_v0 (by decide +kernel), W5_of m ρ c main_v0 (by decide +kernel), W4_of m ρ c main_v0 (by decide +kernel), W3_of m ρ c main_v0 (by decide +kernel), W2_of m ρ c main_v0 (by decide +kernel)]
  refine (W1_arr m ρ c 2).trans ((final0 (V0 m ρ) c).trans ?_)
  exact congrArg₂ nn (W0_args m ρ c main_arg0 (by decide)) (W0_args m ρ c main_arg1 (by decide))

/-- The step sizes. -/
theorem v1_end : W6 m ρ c main_v1 = nn (m ((c : Thread nD τ).loc main_arg4)) (m ((c : Thread nD τ).loc main_arg5)) := by
  rw [W6_of m ρ c main_v1 (by decide +kernel), W5_of m ρ c main_v1 (by decide +kernel), W4_of m ρ c main_v1 (by decide +kernel), W3_of m ρ c main_v1 (by decide +kernel)]
  refine (W2_arr m ρ c 2).trans ((final1 (V1 m ρ) c).trans ?_)
  exact congrArg₂ nn (W1_args m ρ c main_arg4 (by decide)) (W1_args m ρ c main_arg5 (by decide))

/-- The gradient of the memory keys' and values' weight. -/
theorem v2_end : W6 m ρ c main_v2 = tn (m ((c : Thread nD τ).loc main_arg0)) (m ((c : Thread nD τ).loc main_arg2)) := by
  rw [W6_of m ρ c main_v2 (by decide +kernel), W5_of m ρ c main_v2 (by decide +kernel), W4_of m ρ c main_v2 (by decide +kernel)]
  refine (W3_arr m ρ c 2).trans ((final2 (V2 m ρ) c).trans ?_)
  exact congrArg₂ tn (W2_args m ρ c main_arg0 (by decide)) (W2_args m ρ c main_arg2 (by decide))

/-- The memory's gradient, added. -/
theorem v3_end : W6 m ρ c main_v3 = fun z => nt (m ((c : Thread nD τ).loc main_arg2)) (m ((c : Thread nD τ).loc main_arg1)) z + (m ((c : Thread nD τ).loc main_arg3)) z := by
  rw [W6_of m ρ c main_v3 (by decide +kernel), W5_of m ρ c main_v3 (by decide +kernel)]
  refine (W4_arr m ρ c 3).trans ((final3 (V3 m ρ) c).trans ?_)
  rw [show V3 m ρ c main_arg2 = _ from W3_args m ρ c main_arg2 (by decide),
    show V3 m ρ c main_arg1 = _ from W3_args m ρ c main_arg1 (by decide),
    show V3 m ρ c main_arg3 = _ from W3_args m ρ c main_arg3 (by decide)]

/-- The input's gradient through the step sizes, added. -/
theorem v4_end : W6 m ρ c main_v4 = fun z => nt (m ((c : Thread nD τ).loc main_arg6)) (m ((c : Thread nD τ).loc main_arg5)) z + (m ((c : Thread nD τ).loc main_arg7)) z := by
  rw [W6_of m ρ c main_v4 (by decide +kernel)]
  refine (W5_arr m ρ c 3).trans ((final4 (V4 m ρ) c).trans ?_)
  rw [show V4 m ρ c main_arg6 = _ from W4_args m ρ c main_arg6 (by decide),
    show V4 m ρ c main_arg5 = _ from W4_args m ρ c main_arg5 (by decide),
    show V4 m ρ c main_arg7 = _ from W4_args m ρ c main_arg7 (by decide)]

/-- The gradient of the step sizes' weight. -/
theorem v5_end : W6 m ρ c main_v5 = tn (m ((c : Thread nD τ).loc main_arg4)) (m ((c : Thread nD τ).loc main_arg6)) := by
  refine (W6_arr m ρ c 2).trans ((final5 (V5 m ρ) c).trans ?_)
  exact congrArg₂ tn (W5_args m ρ c main_arg4 (by decide)) (W5_args m ρ c main_arg6 (by decide))

end

end Cert.Kernel5Ideal.Small

end
-- ==== Proof.Small.RefRead.lean ====
module

public import proofs.«01_k».proof.Proof.Products
public import proofs.«01_k».proof.Proof.Gen.Reference5Ideal.Read

/-! The reference's results, read at an index: the same products. Its weights' gradients are transposes of `dᵀ h`, and
its sums have the product second. -/

@[expose] public section

set_option maxRecDepth 16384
noncomputable section

namespace Cert.Reference5Ideal.Small

open Cert.Reference5Ideal Cert.Reference5Ideal.Read Cert.Products Idealize.ShloMosaic

variable (mem : FVec Ideal S256x2048 .bf16) (wkv : FVec Ideal S2048x2048 .bf16) (dkv dmem : FVec Ideal S256x2048 .f32)
  (h : FVec Ideal S8192x2048 .bf16) (wdt : FVec Ideal S2048x128 .bf16) (ddt : FVec Ideal S8192x128 .f32)
  (dh : FVec Ideal S8192x2048 .f32)

theorem v12_read : val_main_v12 (F := Ideal) mem wkv = nn mem wkv :=
  ext2 fun i j => by pointwise [val_main_v12, val_main_v4, val_main_v0, val_main_v1, nn]

theorem v5_read : val_main_v5 (F := Ideal) h wdt = nn h wdt :=
  ext2 fun i j => by pointwise [val_main_v5, val_main_v2, val_main_v3, nn]

theorem v13_read : val_main_v13 (F := Ideal) mem dkv = tn mem dkv :=
  ext2 fun i j => by
    have : val_main_v13 (F := Ideal) mem dkv (ix2 i j) = ∑ k : Fin 256, dkv (ix2 k j) * mem (ix2 k i) := by
      pointwise [val_main_v13, val_main_v10, val_main_v9, val_main_v0]
    rw [this]
    exact Finset.sum_congr rfl fun k _ => mul_comm _ _

theorem v14_read : val_main_v14 (F := Ideal) wkv dkv dmem = fun z => nt dkv wkv z + dmem z := by
  have hv : val_main_v11 (F := Ideal) wkv dkv = nt dkv wkv :=
    ext2 fun i j => by pointwise [val_main_v11, val_main_v1, nt]
  funext z
  show (dmem z + val_main_v11 (F := Ideal) wkv dkv z : EReal) = _
  rw [hv, add_comm]

theorem v15_read : val_main_v15 (F := Ideal) wdt ddt dh = fun z => nt ddt wdt z + dh z := by
  have hv : val_main_v8 (F := Ideal) wdt ddt = nt ddt wdt :=
    ext2 fun i j => by pointwise [val_main_v8, val_main_v3, nt]
  funext z
  show (dh z + val_main_v8 (F := Ideal) wdt ddt z : EReal) = _
  rw [hv, add_comm]

theorem v16_read : val_main_v16 (F := Ideal) h ddt = tn h ddt :=
  ext2 fun i j => by
    have : val_main_v16 (F := Ideal) h ddt (ix2 i j) = ∑ k : Fin 8192, ddt (ix2 k j) * h (ix2 k i) := by
      pointwise [val_main_v16, val_main_v7, val_main_v6, val_main_v2]
    rw [this]
    exact Finset.sum_congr rfl fun k _ => mul_comm _ _

end Cert.Reference5Ideal.Small

end
-- ==== Proof.Dil.Four.Head.lean ====
module

public import proofs.«01_k».proof.Proof.Gen.Kernel6Ideal.Skeleton

/-!
# One head of one point

The body treats 24 heads one after another, each with its own slope and its own 128 columns. This module says once
what it computes for a head, from the head's columns of the blocks.
-/

@[expose] public section

set_option maxRecDepth 16384

noncomputable section

namespace Cert.Dil.Four

open Idealize.ShloMosaic Idealize.ShloMosaic.TcCoe Idealize.SL.Sem
open Cert.Kernel6Ideal Cert.Kernel6Ideal.Gen

variable {F : FTy → Type} [FloatOps F]

/-- The words of the heads' slopes, each times the dilation. -/
def slopeBits : Fin 24 → BitVec 32 :=
  ![0x3F1550D3#32, 0x3F0A3F66#32, 0x3F000000#32, 0x3EED0620#32, 0x3EDB7457#32, 0x3ECB2FF5#32, 0x3EBC2043#32, 0x3EAE2E5E#32,
    0x3EA14518#32, 0x3E9550D3#32, 0x3E8A3F66#32, 0x3E800000#32, 0x3E6D0620#32, 0x3E5B7457#32, 0x3E4B2FF5#32, 0x3E3C2043#32,
    0x3E2E2E5E#32, 0x3E214518#32, 0x3E1550D3#32, 0x3E0A3F66#32, 0x3E000000#32, 0x3DED0620#32, 0x3DDB7457#32, 0x3DCB2FF5#32]

/-- A head's slope. -/
def slope (h : Fin 24) : F .f32 := Scalar.ofBits .f32 (slopeBits h)

/-- Column `h` of a side array, along every slot. -/
def colOf (h : Fin 24) (v : FVec F S128x128 .f32) : FVec F S128x256 .f32 :=
  broadcastTo S128x256 (shapeCast S128x1 (multiReduction .add [1] S128
    (select (cmpi .eq (iota .tc S128x128 32 [1] iota_S128x128_d1_w32) (broadcast S128x128 (BitVec.ofNat 32 h.val))) v
      (broadcast S128x128 (Scalar.ofBits .f32 0x00000000#32 : F .f32))) 0x00000000#32 reduces_S128x128_S128 (.inl rfl) rfl)
    shapeCasts_S128_S128x1) broadcasts_S128x1_S128x256

section
variable (h : Fin 24) (valid : IVec S128x256 1) (q kp kc vp vc dO : FVec F S128x128 .bf16) (ct lt : FVec F S128x128 .f32)

/-- The window's 256 slots: the block before, then the point's own. -/
def window (a b : FVec F S128x128 .bf16) : FVec F S256x128 .bf16 :=
  concatenate S256x128 0 [⟨S128x128, a⟩, ⟨S128x128, b⟩] concatenates_S128x128_S128x128_S256x128_d0

/-- The masked scores. -/
def headScore : FVec F S128x256 .f32 :=
  select valid
    (subf (mulf (matmul dot_S128x128_S256x128_S128x256_1_1_0_0_n_n none q (window kp kc) (constant S128x256 .f32 0x00000000#32))
        (broadcast S128x256 (Scalar.ofBits .f32 0x3DB504F3#32 : F .f32)))
      (mulf (broadcast S128x256 (slope h : F .f32)) (k0_pay10 (F := F))))
    (broadcast S128x256 (Scalar.ofBits .f32 0xF149F2CA#32 : F .f32))

/-- The probabilities, from the saved log-sums. -/
def headProb : FVec F S128x256 .f32 :=
  select valid (exp (subf (headScore h valid q kp kc) (colOf h lt)))
    (broadcast S128x256 (Scalar.ofBits .f32 0x00000000#32 : F .f32))

/-- The scaled gradient of the scores. -/
def headDs : FVec F S128x256 .bf16 :=
  truncf .bf16 (mulf (mulf (headProb h valid q kp kc lt)
      (addf (matmul dot_S128x128_S256x128_S128x256_1_1_0_0_n_n none dO (window vp vc) (constant S128x256 .f32 0x00000000#32))
        (colOf h ct)))
    (broadcast S128x256 (Scalar.ofBits .f32 0x3DB504F3#32 : F .f32))) bitsLt_bf16_f32

/-- The gradient of the queries. -/
def headDq : FVec F S128x128 .bf16 :=
  truncf .bf16 (matmul dot_S128x256_S256x128_S128x128_1_0_0_1_n_n none (headDs h valid q kp kc vp vc dO ct lt) (window kp kc)
    (constant S128x128 .f32 0x00000000#32)) bitsLt_bf16_f32

/-- The gradient of the window's keys. -/
def headDk : FVec F S256x128 .f32 :=
  matmul dot_S128x256_S128x128_S256x128_0_0_1_1_n_n none (headDs h valid q kp kc vp vc dO ct lt) q
    (constant S256x128 .f32 0x00000000#32)

/-- The gradient of the window's values. -/
def headDv : FVec F S256x128 .f32 :=
  matmul dot_S128x256_S128x128_S256x128_0_0_1_1_n_n none (truncf .bf16 (headProb h valid q kp kc lt) bitsLt_bf16_f32) dO
    (constant S256x128 .f32 0x00000000#32)

end

/-- What is written back for the block before: the carried half and the window's first half. -/
def early (x : FVec F S256x128 .f32) (a : FVec F S128x128 .f32) : FVec F S128x128 .bf16 :=
  truncf .bf16 (addf a (extractStridedSlice S128x128 ![0, 0] x slices_S256x128_o0_0_S128x128)) bitsLt_bf16_f32

/-- What is carried for the point's own block: the window's second half. -/
def late (x : FVec F S256x128 .f32) : FVec F S128x128 .f32 :=
  shapeCast S128x128 (extractStridedSlice S128x128 ![128, 0] x slices_S256x128_o128_0_S128x128) shapeCasts_S128x128_S128x128

theorem inbCols (h : Fin 24) : ∀ a : Fin 2, (![0, h.val * 128] : Fin 2 → ℕ) a + S128x128.size a ≤ S128x3072.size a := by
  intro a
  have := h.isLt
  match a with
  | ⟨0, _⟩ => exact le_of_eq rfl
  | ⟨1, _⟩ => exact (show h.val * 128 + 128 ≤ 3072 by omega)

/-- A head's columns of a block. -/
abbrev cols (h : Fin 24) : Rect S128x3072 := Rect.unit ![0, h.val * 128] S128x128.size (inbCols h)

/-- The heads in the order their stores are listed, the last first. -/
def heads : List (Fin 24) :=
  [⟨23, by decide⟩, ⟨22, by decide⟩, ⟨21, by decide⟩, ⟨20, by decide⟩, ⟨19, by decide⟩, ⟨18, by decide⟩, ⟨17, by decide⟩,
    ⟨16, by decide⟩, ⟨15, by decide⟩, ⟨14, by decide⟩, ⟨13, by decide⟩, ⟨12, by decide⟩, ⟨11, by decide⟩, ⟨10, by decide⟩,
    ⟨9, by decide⟩, ⟨8, by decide⟩, ⟨7, by decide⟩, ⟨6, by decide⟩, ⟨5, by decide⟩, ⟨4, by decide⟩, ⟨3, by decide⟩,
    ⟨2, by decide⟩, ⟨1, by decide⟩, ⟨0, by decide⟩]

theorem mem_heads (h : Fin 24) : h ∈ heads := by revert h; decide

end Cert.Dil.Four

end
-- ==== Proof.Dil.Four.Spec.lean ====
module

public import proofs.«01_k».proof.Proof.Dil.Row
public import proofs.«01_k».proof.Proof.Dil.Four.Head

/-!
# The gradient of the dilated attention with dilation 4, as functions of its arrays

Arrays of 8192 rows and 3072 columns: 4 residue classes of 2048 rows, 24 heads of 128 columns. A query sees the keys of
its class at most 128 places before it.
-/

@[expose] public section

set_option maxRecDepth 16384

noncomputable section

namespace Cert.Dil.Four

open Idealize.ShloMosaic Cert.MemAttn

/-- An array of rows and columns, and one of a number per row and head. -/
abbrev Arr : Type := FVec Ideal ⟨2, ![8192, 3072]⟩ .bf16
abbrev Side : Type := FVec Ideal ⟨2, ![8192, 24]⟩ .f32

/-- Row `n` of class `r`. -/
def rowOf (r : Fin 4) (n : Fin 2048) : Fin 8192 := ⟨r * 2048 + n, by omega⟩
/-- Column `e` of head `h`. -/
def col (h : Fin 24) (e : Fin 128) : Fin 3072 := ⟨h * 128 + e, by omega⟩

/-- An array's entry by class, head, row and column. -/
def ent (x : Arr) (r : Fin 4) (h : Fin 24) (n : Fin 2048) (e : Fin 128) : EReal := x (ix2 (rowOf r n) (col h e))
/-- A side array's entry by class, head and row. -/
def sent (x : Side) (r : Fin 4) (h : Fin 24) (n : Fin 2048) : EReal := x (ix2 (rowOf r n) h)

/-- The scale of the scores, the word both programs hold. -/
abbrev scl : EReal := Ideal.ofBits .f32 0x3DB504F3#32

/-- The distance from a key to a query, in 32-bit arithmetic read as a signed integer. -/
def dist (n k : ℕ) : EReal := (((BitVec.ofNat 32 n - BitVec.ofNat 32 k).toInt : ℝ) : EReal)

/-- A difference of small numbers in 32-bit arithmetic is the difference. -/
theorem toInt_sub (n k : ℕ) (hn : n < 1000000) (hk : k < 1000000) :
    (BitVec.ofNat 32 n - BitVec.ofNat 32 k).toInt = (n : ℤ) - k := by
  rw [BitVec.toInt_sub, BitVec.toInt_ofNat', BitVec.toInt_ofNat']
  simp only [Int.bmod]
  omega

theorem dist_eq (n k : ℕ) (hn : n < 1000000) (hk : k < 1000000) : dist n k = (((n : ℝ) - k : ℝ) : EReal) := by
  rw [dist, toInt_sub n k hn hk, Int.cast_sub, Int.cast_natCast, Int.cast_natCast]

/-- The keys a query sees. -/
def near (n k : Fin 2048) : Prop := k.val ≤ n.val ∧ n.val ≤ k.val + 128

instance (n : Fin 2048) : DecidablePred (near n) := fun k => inferInstanceAs (Decidable (_ ∧ _))

theorem near_self (n : Fin 2048) : ∃ k, near n k := ⟨n, le_refl _, Nat.le_add_right _ _⟩

section
variable (x0 x1 x2 x3 : Arr) (x4 : Side) (r : Fin 4) (h : Fin 24)

/-- The scores. -/
def sc (n k : Fin 2048) : EReal :=
  (∑ e : Fin 128, ent x0 r h n e * ent x1 r h k e) * scl - slope (F := Ideal) h * dist n.val k.val

/-- The scores in view. -/
def scm (n : Fin 2048) : Fin 2048 → EReal := masked (near n) (sc x0 x1 r h n)

/-- A query's log-sum. -/
def lseAt (n : Fin 2048) : EReal := lse (scm x0 x1 r h n)

/-- A query's row term. -/
def termAt (n : Fin 2048) : EReal :=
  rterm (scm x0 x1 r h n) (fun k e => ent x2 r h k e) (fun e => ent x3 r h n e) (sent x4 r h n)

/-- A query's probabilities. -/
def probAt (n k : Fin 2048) : EReal := seen (near n) (sc x0 x1 r h n) (lseAt x0 x1 r h n) k

/-- The scaled gradient of the scores. -/
def dsAt (n k : Fin 2048) : EReal :=
  probAt x0 x1 r h n k * ((∑ e : Fin 128, ent x3 r h n e * ent x2 r h k e) + termAt x0 x1 x2 x3 x4 r h n) * scl

/-- The gradient of the queries. -/
def dqAt (n : Fin 2048) (e : Fin 128) : EReal := ∑ k : Fin 2048, dsAt x0 x1 x2 x3 x4 r h n k * ent x1 r h k e

/-- The gradient of the keys. -/
def dkAt (k : Fin 2048) (e : Fin 128) : EReal := ∑ n : Fin 2048, dsAt x0 x1 x2 x3 x4 r h n k * ent x0 r h n e

/-- The gradient of the values. -/
def dvAt (k : Fin 2048) (e : Fin 128) : EReal := ∑ n : Fin 2048, probAt x0 x1 r h n k * ent x3 r h n e

end

end Cert.Dil.Four

end
-- ==== Proof.Dil.Four.HeadAt.lean ====
module

public import proofs.«01_k».proof.Proof.Dil.Four.Spec
public import Idealize.ShloMosaic.Lib.Pointwise

/-!
# A head of a point read at an index

At point `j` of class `r` the body holds the queries' block `j`, and the keys' and values' blocks `j - 1` and `j`: the
window's slot `k` is key `128 j + k - 128`. What it computes for a head is the gradient's functions at those rows.
-/

@[expose] public section

set_option maxRecDepth 16384

noncomputable section

namespace Cert.Dil.Four

open Idealize.ShloMosaic Idealize.ShloMosaic.TcCoe Idealize.SL.Sem Cert.MemAttn
open Cert.Kernel6Ideal Cert.Kernel6Ideal.Gen

/-- Row `i` of block `j`. -/
def qrow (j : Fin 16) (i : Fin 128) : Fin 2048 := ⟨128 * j + i, by omega⟩
/-- The key in slot `k` of the window of block `j`. -/
def key (j : Fin 16) (k : Fin 256) : Fin 2048 := ⟨128 * j + k - 128, by omega⟩

/-- Slot `i` of the window's first half. -/
def first (i : Fin 128) : Fin 256 := ⟨i.val, by omega⟩
/-- Head `h`'s column of a side array. -/
def lane (h : Fin 24) : Fin 128 := ⟨h.val, by omega⟩

/-- The slots in use: the first block has no block before it. -/
def slot (j : Fin 16) (k : Fin 256) : Prop := 128 ≤ k.val ∨ 0 < j.val
instance (j : Fin 16) (k : Fin 256) : Decidable (slot j k) := inferInstanceAs (Decidable (_ ∨ _))

/-- Column `h` of a side array. -/
theorem colOf_at (h : Fin 24) (v : FVec Ideal S128x128 .f32) (i : Fin 128) (k : Fin 256) :
    colOf h v (ix2 i k) = v (ix2 i ⟨h.val, by omega⟩) := by
  pointwise [colOf]
  have hx : ∀ x : Fin 128, Scalar.select (IntOp.cmpi .eq (BitVec.ofNat 32 x.val) (BitVec.ofNat 32 h.val)) (v (ix2 i x)) 0
      = if x = ⟨h.val, by omega⟩ then v (ix2 i x) else 0 := fun x => by
    have hxl := x.isLt
    have hhl := h.isLt
    by_cases hx : x.val = h.val
    · rw [if_pos (Fin.ext hx), hx]
      simp [IntOp.cmpi, Scalar.select]
    · rw [if_neg (fun e => hx (congrArg Fin.val e))]
      have hne : BitVec.ofNat 32 x.val ≠ BitVec.ofNat 32 h.val := fun e => hx (by
        have e' := congrArg BitVec.toNat e
        simp only [BitVec.toNat_ofNat] at e'
        omega)
      simp only [IntOp.cmpi, Scalar.select, beq_eq_false_iff_ne.mpr hne]
      exact if_neg (by decide)
  simp only [hx]
  rw [Finset.sum_ite_eq' Finset.univ (⟨h.val, by omega⟩ : Fin 128) fun x => v (ix2 i x), if_pos (Finset.mem_univ _)]

/-- The window's slots. -/
theorem window_at (a b : FVec Ideal S128x128 .bf16) (k : Fin 256) (e : Fin 128) :
    window a b (ix2 k e) = if hk : k.val < 128 then a (ix2 ⟨k.val, hk⟩ e) else b (ix2 ⟨k.val - 128, by omega⟩ e) := by
  pointwise [window]

/-- The distances of a window. -/
theorem rel_at (i : Fin 128) (k : Fin 256) :
    (k0_pay8 (ix2 i k)) = BitVec.ofNat 32 (i.val + 128) - BitVec.ofNat 32 k.val := by
  pointwise [k0_pay8]
  rw [BitVec.ofNat_add]
  rfl

/-- The mask of a window. -/
theorem valid_at (j : Fin 16) (i : Fin 128) (k : Fin 256) :
    k0_pay9 (BitVec.ofNat 32 j.val) (ix2 i k) = if slot j k ∧ near (qrow j i) (key j k) then 1#1 else 0#1 := by
  pointwise [k0_pay9, rel_at]
  have hs := toInt_sub (i.val + 128) k.val (by omega) (by omega)
  have hj : (BitVec.ofNat 32 j.val).toInt = j.val := by
    have := toInt_sub j.val 0 (by omega) (by omega)
    simpa using this
  have hk : (BitVec.ofNat 32 k.val).toInt = k.val := by
    have := toInt_sub k.val 0 (by omega) (by omega)
    simpa using this
  have h0 : (0#32 : BitVec 32).toInt = 0 := by decide
  have h1 : (128#32 : BitVec 32).toInt = 128 := by decide
  have hiff : (slot j k ∧ near (qrow j i) (key j k)) ↔
      ((k.val ≤ i.val + 128 ∧ i.val ≤ k.val) ∧ (128 ≤ k.val ∨ 0 < j.val)) := by
    simp only [slot, near, qrow, key]
    omega
  simp only [Scalar.cmpi, IntOp.cmpi, IntOp.andi, IntOp.ori, BitVec.sle, BitVec.slt, hs, hj, hk, h0, h1]
  rw [if_congr hiff rfl rfl]
  by_cases c1 : k.val ≤ i.val + 128
  · by_cases c2 : i.val ≤ k.val
    · rw [decide_eq_true (p := (0 : ℤ) ≤ _) (by omega), decide_eq_true (p := _ ≤ (128 : ℤ)) (by omega)]
      by_cases c3 : 128 ≤ k.val
      · rw [if_pos ⟨⟨c1, c2⟩, .inl c3⟩, decide_eq_true (p := (128 : ℤ) ≤ _) (by omega)]
        by_cases c4 : 0 < j.val
        · rw [decide_eq_true (p := (0 : ℤ) < _) (by omega)]; rfl
        · rw [decide_eq_false (p := (0 : ℤ) < _) (by omega)]; rfl
      · rw [decide_eq_false (p := (128 : ℤ) ≤ _) (by omega)]
        by_cases c4 : 0 < j.val
        · rw [if_pos ⟨⟨c1, c2⟩, .inr c4⟩, decide_eq_true (p := (0 : ℤ) < _) (by omega)]; rfl
        · rw [if_neg (by omega), decide_eq_false (p := (0 : ℤ) < _) (by omega)]; rfl
    · rw [if_neg (by omega), decide_eq_true (p := (0 : ℤ) ≤ _) (by omega), decide_eq_false (p := _ ≤ (128 : ℤ)) (by omega)]
      exact BitVec.zero_and
  · rw [if_neg (by omega), decide_eq_false (p := (0 : ℤ) ≤ _) (by omega), decide_eq_true (p := _ ≤ (128 : ℤ)) (by omega)]
    exact BitVec.zero_and

section
variable (h : Fin 24) (valid : IVec S128x256 1) (q kp kc vp vc dO : FVec Ideal S128x128 .bf16) (ct lt : FVec Ideal S128x128 .f32)

theorem headProb_at (i : Fin 128) (k : Fin 256) : headProb h valid q kp kc lt (ix2 i k)
    = if valid (ix2 i k) = 1#1 then Ideal.exp ((∑ e : Fin 128, q (ix2 i e) * window kp kc (ix2 k e)) * scl
        - slope (F := Ideal) h * dist (i.val + 128) k.val - lt (ix2 i ⟨h.val, by omega⟩)) else 0 := by
  pointwise [headProb, headScore, colOf_at, k0_pay10, rel_at]
  by_cases hv : valid (ix2 i k) = 1#1
  · rw [hv, if_pos rfl]; rfl
  · rw [if_neg hv]; exact if_neg hv

theorem headDs_at (i : Fin 128) (k : Fin 256) : headDs h valid q kp kc vp vc dO ct lt (ix2 i k)
    = headProb h valid q kp kc lt (ix2 i k)
      * ((∑ e : Fin 128, dO (ix2 i e) * window vp vc (ix2 k e)) + ct (ix2 i ⟨h.val, by omega⟩)) * scl := by
  pointwise [headDs, colOf_at]

theorem headDq_at (i : Fin 128) (e : Fin 128) : headDq h valid q kp kc vp vc dO ct lt (ix2 i e)
    = ∑ k : Fin 256, headDs h valid q kp kc vp vc dO ct lt (ix2 i k) * window kp kc (ix2 k e) := by
  pointwise [headDq]

theorem headDk_at (k : Fin 256) (e : Fin 128) : headDk h valid q kp kc vp vc dO ct lt (ix2 k e)
    = ∑ i : Fin 128, headDs h valid q kp kc vp vc dO ct lt (ix2 i k) * q (ix2 i e) := by
  pointwise [headDk]

theorem headDv_at (k : Fin 256) (e : Fin 128) : headDv h valid q kp kc dO lt (ix2 k e)
    = ∑ i : Fin 128, headProb h valid q kp kc lt (ix2 i k) * dO (ix2 i e) := by
  pointwise [headDv]

end

/-! ## At point `j` of class `r` -/

section
variable {x0 x1 x2 x3 : Arr} {x4 : Side} {r : Fin 4} {h : Fin 24} {j : Fin 16}

/-- The window holds the keys' rows. -/
theorem window_ent {x : Arr} {a b : FVec Ideal S128x128 .bf16}
    (ha : 0 < j.val → ∀ (i e : Fin 128), a (ix2 i e) = ent x r h (key j (first i)) e)
    (hb : ∀ (i e : Fin 128), b (ix2 i e) = ent x r h (qrow j i) e) (k : Fin 256) (hk : slot j k) (e : Fin 128) :
    window a b (ix2 k e) = ent x r h (key j k) e := by
  rw [window_at]
  by_cases hk' : k.val < 128
  · rw [dif_pos hk', ha (hk.resolve_left (by omega))]
    rfl
  · rw [dif_neg hk', hb]
    exact congrArg (fun n => ent x r h n e) (Fin.ext (show 128 * j.val + (k.val - 128) = 128 * j.val + k.val - 128 by omega))

variable {q kp kc vp vc dO : FVec Ideal S128x128 .bf16} {ct lt : FVec Ideal S128x128 .f32}
variable (hq : ∀ (i e : Fin 128), q (ix2 i e) = ent x0 r h (qrow j i) e)
variable (hkp : 0 < j.val → ∀ (i e : Fin 128), kp (ix2 i e) = ent x1 r h (key j (first i)) e)
variable (hkc : ∀ (i e : Fin 128), kc (ix2 i e) = ent x1 r h (qrow j i) e)
variable (hvp : 0 < j.val → ∀ (i e : Fin 128), vp (ix2 i e) = ent x2 r h (key j (first i)) e)
variable (hvc : ∀ (i e : Fin 128), vc (ix2 i e) = ent x2 r h (qrow j i) e)
variable (hdo : ∀ (i e : Fin 128), dO (ix2 i e) = ent x3 r h (qrow j i) e)
variable (hct : ∀ i : Fin 128, ct (ix2 i (lane h)) = termAt x0 x1 x2 x3 x4 r h (qrow j i))
variable (hlt : ∀ i : Fin 128, lt (ix2 i (lane h)) = lseAt x0 x1 r h (qrow j i))

include hq hkp hkc hlt in
/-- The probabilities. -/
theorem prob_point (i : Fin 128) (k : Fin 256) : headProb h (k0_pay9 (BitVec.ofNat 32 j.val)) q kp kc lt (ix2 i k)
    = if slot j k then probAt x0 x1 r h (qrow j i) (key j k) else 0 := by
  rw [headProb_at, valid_at]
  by_cases hs : slot j k
  · rw [if_pos hs, probAt, seen]
    by_cases hn : near (qrow j i) (key j k)
    · rw [if_pos (show slot j k ∧ near (qrow j i) (key j k) from ⟨hs, hn⟩), if_pos rfl, if_pos hn,
        show lt (ix2 i ⟨h.val, _⟩) = _ from hlt i, sc]
      have hd : dist (i.val + 128) k.val = dist (qrow j i).val (key j k).val := by
        rw [dist_eq _ _ (by omega) (by omega), dist_eq _ _ (by omega) (by omega)]
        have h1 : 128 ≤ 128 * j.val + k.val := by unfold slot at hs; omega
        simp only [qrow, key]
        rw [Nat.cast_sub h1]
        refine congrArg Real.toEReal ?_
        push_cast
        ring
      rw [hd]
      simp only [hq, window_ent hkp hkc k hs]
    · rw [if_neg (show ¬(slot j k ∧ near (qrow j i) (key j k)) from fun e => hn e.2),
        if_neg (show ¬((0#1 : BitVec 1) = 1#1) by decide), if_neg hn]
  · rw [if_neg (show ¬(slot j k ∧ near (qrow j i) (key j k)) from fun e => hs e.1),
      if_neg (show ¬((0#1 : BitVec 1) = 1#1) by decide), if_neg hs]

include hq hkp hkc hvp hvc hdo hct hlt in
/-- The scaled gradient of the scores. -/
theorem ds_point (i : Fin 128) (k : Fin 256) :
    headDs h (k0_pay9 (BitVec.ofNat 32 j.val)) q kp kc vp vc dO ct lt (ix2 i k)
      = if slot j k then dsAt x0 x1 x2 x3 x4 r h (qrow j i) (key j k) else 0 := by
  rw [headDs_at, prob_point hq hkp hkc hlt]
  by_cases hs : slot j k
  · rw [if_pos hs, if_pos hs, dsAt, show ct (ix2 i ⟨h.val, _⟩) = _ from hct i]
    simp only [hdo, window_ent hvp hvc k hs]
  · rw [if_neg hs, if_neg hs, zero_mul, zero_mul]

end

/-- A key out of view has probability zero, -/
theorem probAt_far (x0 x1 : Arr) (r : Fin 4) (h : Fin 24) (n k : Fin 2048) (hf : ¬near n k) : probAt x0 x1 r h n k = 0 :=
  if_neg hf

/-- and its score no gradient. -/
theorem dsAt_far (x0 x1 x2 x3 : Arr) (x4 : Side) (r : Fin 4) (h : Fin 24) (n k : Fin 2048) (hf : ¬near n k) :
    dsAt x0 x1 x2 x3 x4 r h n k = 0 := by
  rw [dsAt, probAt_far _ _ _ _ _ _ hf, zero_mul, zero_mul]

/-- A sum over the window's slots is the sum over all keys, of what vanishes out of view. -/
theorem sum_window (j : Fin 16) (i : Fin 128) (f : Fin 2048 → EReal) (hf : ∀ n, ¬near (qrow j i) n → f n = 0) :
    ∑ k : Fin 256, (if slot j k then f (key j k) else 0) = ∑ n : Fin 2048, f n := by
  refine Finset.sum_bij_ne_zero (fun k _ _ => key j k) (fun _ _ _ => Finset.mem_univ _) ?_ ?_ ?_
  · intro a _ ha b _ hb e
    have h1 : slot j a := by by_contra hs; exact ha (if_neg hs)
    have h2 : slot j b := by by_contra hs; exact hb (if_neg hs)
    have e' := congrArg Fin.val e
    unfold slot at h1 h2
    simp only [key] at e'
    exact Fin.ext (by omega)
  · intro n _ hn
    have h1 : near (qrow j i) n := by by_contra hs; exact hn (hf n hs)
    unfold near qrow at h1
    simp only at h1
    have hk : key j ⟨n.val + 128 - 128 * j.val, by omega⟩ = n :=
      Fin.ext (show 128 * j.val + (n.val + 128 - 128 * j.val) - 128 = n.val by omega)
    have hs : slot j ⟨n.val + 128 - 128 * j.val, by omega⟩ := by unfold slot; simp only; omega
    exact ⟨⟨n.val + 128 - 128 * j.val, by omega⟩, Finset.mem_univ _, by rw [if_pos hs, hk]; exact hn, hk⟩
  · intro k _ hk
    have hs : slot j k := by by_contra hs; exact hk (if_neg hs)
    rw [if_pos hs]

/-- A sum over all queries, block by block. -/
theorem sum_blocks (f : Fin 2048 → EReal) : ∑ n : Fin 2048, f n = ∑ j : Fin 16, ∑ i : Fin 128, f (qrow j i) := by
  refine ((Equiv.sum_comp (finProdFinEquiv (m := 16) (n := 128)) f).symm.trans (Fintype.sum_prod_type _)).trans ?_
  refine Finset.sum_congr rfl fun j _ => Finset.sum_congr rfl fun i _ => congrArg f (Fin.ext ?_)
  show i.val + 128 * j.val = 128 * j.val + i.val
  omega

/-- The queries that see a key of block `b` lie in blocks `b` and `b + 1`. -/
theorem sum_queries (b : Fin 16) (a : Fin 128) (f : Fin 2048 → EReal) (hf : ∀ n, ¬near n (qrow b a) → f n = 0) :
    ∑ n : Fin 2048, f n = (∑ i : Fin 128, f (qrow b i))
      + if hb : b.val + 1 < 16 then ∑ i : Fin 128, f (qrow ⟨b.val + 1, hb⟩ i) else 0 := by
  have hz : ∀ j : Fin 16, j.val ≠ b.val → j.val ≠ b.val + 1 → ∑ i : Fin 128, f (qrow j i) = 0 := fun j h1 h2 =>
    Finset.sum_eq_zero fun i _ => hf _ (by unfold near qrow; simp only; omega)
  rw [sum_blocks]
  by_cases hb : b.val + 1 < 16
  · rw [dif_pos hb]
    have hne : b ≠ (⟨b.val + 1, hb⟩ : Fin 16) := fun e => absurd (congrArg Fin.val e) (by simp)
    rw [← Finset.sum_pair (f := fun j : Fin 16 => ∑ i : Fin 128, f (qrow j i)) hne]
    refine (Finset.sum_subset (Finset.subset_univ _) fun j _ hj => hz j ?_ ?_).symm
    · exact fun e => hj (by rw [Finset.mem_insert]; exact .inl (Fin.ext e))
    · exact fun e => hj (by rw [Finset.mem_insert, Finset.mem_singleton]; exact .inr (Fin.ext e))
  · rw [dif_neg hb, add_zero]
    exact Finset.sum_eq_single b (fun j _ hj => hz j (fun e => hj (Fin.ext e)) (by omega)) (fun hb => absurd (Finset.mem_univ _) hb)

theorem early_at (x : FVec Ideal S256x128 .f32) (a : FVec Ideal S128x128 .f32) (i e : Fin 128) :
    early x a (ix2 i e) = a (ix2 i e) + x (ix2 ⟨i.val, by omega⟩ e) := by
  pointwise [early]

theorem late_at (x : FVec Ideal S256x128 .f32) (i e : Fin 128) :
    late x (ix2 i e) = x (ix2 ⟨128 + i.val, by omega⟩ e) := by
  pointwise [late]

end Cert.Dil.Four

end
-- ==== Proof.Dil.Four.Point.lean ====
module

public import proofs.«01_k».proof.Proof.Dil.Four.HeadAt

/-!
# What a point adds to the gradients

The gradient of a point's queries is complete after the point. The gradient of a block's keys and values has two halves,
the queries of the same block and those of the block after it; a point computes one half of each of two blocks.
-/

@[expose] public section

set_option maxRecDepth 16384

noncomputable section

namespace Cert.Dil.Four

open Idealize.ShloMosaic Idealize.ShloMosaic.TcCoe Idealize.SL.Sem Cert.MemAttn
open Cert.Kernel6Ideal Cert.Kernel6Ideal.Gen

section
variable (x0 x1 x2 x3 : Arr) (x4 : Side) (r : Fin 4) (h : Fin 24)

/-- What the queries of block `j` add to the gradient of key `n`. -/
def dkPart (j : Fin 16) (n : Fin 2048) (e : Fin 128) : EReal :=
  ∑ i : Fin 128, dsAt x0 x1 x2 x3 x4 r h (qrow j i) n * ent x0 r h (qrow j i) e

/-- What the queries of block `j` add to the gradient of value `n`. -/
def dvPart (j : Fin 16) (n : Fin 2048) (e : Fin 128) : EReal :=
  ∑ i : Fin 128, probAt x0 x1 r h (qrow j i) n * ent x3 r h (qrow j i) e

/-- The gradient of a key of block `b` that has a block after it. -/
theorem dkAt_two (b : Fin 16) (hb : b.val + 1 < 16) (a e : Fin 128) : dkAt x0 x1 x2 x3 x4 r h (qrow b a) e
    = dkPart x0 x1 x2 x3 x4 r h b (qrow b a) e + dkPart x0 x1 x2 x3 x4 r h ⟨b.val + 1, hb⟩ (qrow b a) e := by
  rw [dkAt, sum_queries b a _ fun n hn => by rw [dsAt_far _ _ _ _ _ _ _ _ _ hn, zero_mul], dif_pos hb]
  rfl

/-- The gradient of a key of the last block. -/
theorem dkAt_one (b : Fin 16) (hb : ¬b.val + 1 < 16) (a e : Fin 128) :
    dkAt x0 x1 x2 x3 x4 r h (qrow b a) e = dkPart x0 x1 x2 x3 x4 r h b (qrow b a) e := by
  rw [dkAt, sum_queries b a _ fun n hn => by rw [dsAt_far _ _ _ _ _ _ _ _ _ hn, zero_mul], dif_neg hb, add_zero]
  rfl

/-- The gradient of a value of block `b` that has a block after it. -/
theorem dvAt_two (b : Fin 16) (hb : b.val + 1 < 16) (a e : Fin 128) : dvAt x0 x1 x3 r h (qrow b a) e
    = dvPart x0 x1 x3 r h b (qrow b a) e + dvPart x0 x1 x3 r h ⟨b.val + 1, hb⟩ (qrow b a) e := by
  rw [dvAt, sum_queries b a _ fun n hn => by rw [probAt_far _ _ _ _ _ _ hn, zero_mul], dif_pos hb]
  rfl

/-- The gradient of a value of the last block. -/
theorem dvAt_one (b : Fin 16) (hb : ¬b.val + 1 < 16) (a e : Fin 128) :
    dvAt x0 x1 x3 r h (qrow b a) e = dvPart x0 x1 x3 r h b (qrow b a) e := by
  rw [dvAt, sum_queries b a _ fun n hn => by rw [probAt_far _ _ _ _ _ _ hn, zero_mul], dif_neg hb, add_zero]
  rfl

end

section
variable {x0 x1 x2 x3 : Arr} {x4 : Side} {r : Fin 4} {h : Fin 24} {j : Fin 16}
variable {q kp kc vp vc dO : FVec Ideal S128x128 .bf16} {ct lt : FVec Ideal S128x128 .f32}
variable (hq : ∀ (i e : Fin 128), q (ix2 i e) = ent x0 r h (qrow j i) e)
variable (hkp : 0 < j.val → ∀ (i e : Fin 128), kp (ix2 i e) = ent x1 r h (key j (first i)) e)
variable (hkc : ∀ (i e : Fin 128), kc (ix2 i e) = ent x1 r h (qrow j i) e)
variable (hvp : 0 < j.val → ∀ (i e : Fin 128), vp (ix2 i e) = ent x2 r h (key j (first i)) e)
variable (hvc : ∀ (i e : Fin 128), vc (ix2 i e) = ent x2 r h (qrow j i) e)
variable (hdo : ∀ (i e : Fin 128), dO (ix2 i e) = ent x3 r h (qrow j i) e)
variable (hct : ∀ i : Fin 128, ct (ix2 i (lane h)) = termAt x0 x1 x2 x3 x4 r h (qrow j i))
variable (hlt : ∀ i : Fin 128, lt (ix2 i (lane h)) = lseAt x0 x1 r h (qrow j i))

include hq hkp hkc hvp hvc hdo hct hlt in
/-- The gradient of the queries. -/
theorem dq_point (i e : Fin 128) :
    headDq h (k0_pay9 (BitVec.ofNat 32 j.val)) q kp kc vp vc dO ct lt (ix2 i e)
      = dqAt x0 x1 x2 x3 x4 r h (qrow j i) e := by
  rw [headDq_at, dqAt, ← sum_window j i (fun n => dsAt x0 x1 x2 x3 x4 r h (qrow j i) n * ent x1 r h n e)
    fun n hn => by rw [dsAt_far _ _ _ _ _ _ _ _ _ hn, zero_mul]]
  refine Finset.sum_congr rfl fun k _ => ?_
  rw [ds_point hq hkp hkc hvp hvc hdo hct hlt]
  by_cases hs : slot j k
  · rw [if_pos hs, if_pos hs, window_ent hkp hkc k hs]
  · rw [if_neg hs, if_neg hs, zero_mul]

include hq hkp hkc hvp hvc hdo hct hlt in
/-- The gradient of the window's keys. -/
theorem dk_point (k : Fin 256) (hs : slot j k) (e : Fin 128) :
    headDk h (k0_pay9 (BitVec.ofNat 32 j.val)) q kp kc vp vc dO ct lt (ix2 k e)
      = dkPart x0 x1 x2 x3 x4 r h j (key j k) e := by
  rw [headDk_at, dkPart]
  refine Finset.sum_congr rfl fun i _ => ?_
  rw [ds_point hq hkp hkc hvp hvc hdo hct hlt, if_pos hs, hq]

include hq hkp hkc hdo hlt in
/-- The gradient of the window's values. -/
theorem dv_point (k : Fin 256) (hs : slot j k) (e : Fin 128) :
    headDv h (k0_pay9 (BitVec.ofNat 32 j.val)) q kp kc dO lt (ix2 k e) = dvPart x0 x1 x3 r h j (key j k) e := by
  rw [headDv_at, dvPart]
  refine Finset.sum_congr rfl fun i _ => ?_
  rw [prob_point hq hkp hkc hlt, if_pos hs, hdo]

end

/-- The window's second half is the point's own block. -/
theorem key_late (j : Fin 16) (a : Fin 128) : key j ⟨128 + a.val, by omega⟩ = qrow j a :=
  Fin.ext (show 128 * j.val + (128 + a.val) - 128 = 128 * j.val + a.val by omega)

/-- The window's first half is the block before. -/
theorem key_early (b : Fin 16) (hb : b.val + 1 < 16) (a : Fin 128) :
    key ⟨b.val + 1, hb⟩ ⟨a.val, by omega⟩ = qrow b a :=
  Fin.ext (show 128 * (b.val + 1) + a.val - 128 = 128 * b.val + a.val by omega)

end Cert.Dil.Four

end
-- ==== Proof.Dil.Four.RunB.lean ====
module

public import proofs.«01_k».proof.Proof.Gen.Kernel6Ideal.Frame
public import proofs.«01_k».proof.Proof.Gen.Kernel6Ideal.Skeleton

/-!
# The body at an inner point of a residue class
-/

@[expose] public section

set_option maxRecDepth 16384

noncomputable section

namespace Cert.Dil.Four

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-- The point is the first of its residue class. -/
abbrev C0 (i : grid0.Coords) : Prop :=
  (Scalar.cmpi .ne (Scalar.extui (Scalar.cmpi .eq (BitVec.ofNat 32 (i 1).val) 0#32)) 0#32) = 1#1

/-- The point has a block of queries of its own. -/
abbrev C1 (i : grid0.Coords) : Prop := k0_cond2 i = 1#1

/-- The point is the last of its residue class, which only writes back what is carried. -/
abbrev C2 (i : grid0.Coords) : Prop := k0_cond3 i = 1#1

set_option maxHeartbeats 40000000 in
/-- What the body leaves in the three output blocks and the two carried blocks at an inner point, as the list of
    its stores, with the proof that it runs. -/
def runB (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (hc0 : ¬C0 i) (hc1 : C1 i) (hc2 : ¬C2 i)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) (x11 : Vec F S128x3072 .f32) (x12 : Vec F S128x3072 .f32) :
    Σ' (L8 : List (View.Piece (Elt F) S128x3072 .bf16)), Σ' (L9 : List (View.Piece (Elt F) S128x3072 .bf16)), Σ' (L10 : List (View.Piece (Elt F) S128x3072 .bf16)), Σ' (L11 : List (View.Piece (Elt F) S128x3072 .f32)), { L12 : List (View.Piece (Elt F) S128x3072 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ d, owns (c : Thread nD τ) a8 fullShare d)
          ∗ (∃ d, owns (c : Thread nD τ) a9 fullShare d)
          ∗ (∃ d, owns (c : Thread nD τ) a10 fullShare d)
          ∗ owns (c : Thread nD τ) a11 fullShare x11
          ∗ owns (c : Thread nD τ) a12 fullShare x12
          ∗ (iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ f, a8.view.loc (c : Thread nD τ) ↦[a8.view.set]{fullShare} a8.view.writes (Elt F) f L8)
          ∗ (∃ f, a9.view.loc (c : Thread nD τ) ↦[a9.view.set]{fullShare} a9.view.writes (Elt F) f L9)
          ∗ (∃ f, a10.view.loc (c : Thread nD τ) ↦[a10.view.set]{fullShare} a10.view.writes (Elt F) f L10)
          ∗ (∃ f, a11.view.loc (c : Thread nD τ) ↦[a11.view.set]{fullShare} a11.view.writes (Elt F) f L11)
          ∗ (∃ f, a12.view.loc (c : Thread nD τ) ↦[a12.view.set]{fullShare} a12.view.writes (Elt F) f L12)) -∗ K ⟨⟩))
          ⊢ wp frame (wpE (defs₀ (F := F)) Variants.none c none) E (cc0_dil_bwd i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_dil_bwd_eq_skeleton]; unfold cc0_dil_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h11.eq_unread hf11
    obtain rfl := h12.eq_unread hf12
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    iexists _; iexact H12

end Cert.Dil.Four

end
-- ==== Proof.Dil.Four.RunA.lean ====
module

public import proofs.«01_k».proof.Proof.Gen.Kernel6Ideal.Frame
public import proofs.«01_k».proof.Proof.Gen.Kernel6Ideal.Skeleton
public import proofs.«01_k».proof.Proof.Dil.Four.RunB

/-!
# The body at the first point of a residue class
-/

@[expose] public section

set_option maxRecDepth 16384

noncomputable section

namespace Cert.Dil.Four

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 40000000 in
/-- What the body leaves at the first point, where the carried blocks are first cleared. -/
def runA (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (hc0 : C0 i) (hc1 : C1 i) (hc2 : ¬C2 i)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) :
    Σ' (L8 : List (View.Piece (Elt F) S128x3072 .bf16)), Σ' (L9 : List (View.Piece (Elt F) S128x3072 .bf16)), Σ' (L10 : List (View.Piece (Elt F) S128x3072 .bf16)), Σ' (L11 : List (View.Piece (Elt F) S128x3072 .f32)), { L12 : List (View.Piece (Elt F) S128x3072 .f32) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ d, owns (c : Thread nD τ) a8 fullShare d)
          ∗ (∃ d, owns (c : Thread nD τ) a9 fullShare d)
          ∗ (∃ d, owns (c : Thread nD τ) a10 fullShare d)
          ∗ (∃ d, owns (c : Thread nD τ) a11 fullShare d)
          ∗ (∃ d, owns (c : Thread nD τ) a12 fullShare d)
          ∗ (iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ (∃ f, a8.view.loc (c : Thread nD τ) ↦[a8.view.set]{fullShare} a8.view.writes (Elt F) f L8)
          ∗ (∃ f, a9.view.loc (c : Thread nD τ) ↦[a9.view.set]{fullShare} a9.view.writes (Elt F) f L9)
          ∗ (∃ f, a10.view.loc (c : Thread nD τ) ↦[a10.view.set]{fullShare} a10.view.writes (Elt F) f L10)
          ∗ (∃ f, a11.view.loc (c : Thread nD τ) ↦[a11.view.set]{fullShare} a11.view.writes (Elt F) f L11)
          ∗ (∃ f, a12.view.loc (c : Thread nD τ) ↦[a12.view.set]{fullShare} a12.view.writes (Elt F) f L12)) -∗ K ⟨⟩))
          ⊢ wp frame (wpE (defs₀ (F := F)) Variants.none c none) E (cc0_dil_bwd i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_dil_bwd_eq_skeleton]; unfold cc0_dil_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    iexists _; iexact H12

end Cert.Dil.Four

end
-- ==== Proof.Dil.Four.RunC.lean ====
module

public import proofs.«01_k».proof.Proof.Gen.Kernel6Ideal.Frame
public import proofs.«01_k».proof.Proof.Gen.Kernel6Ideal.Skeleton
public import proofs.«01_k».proof.Proof.Dil.Four.RunB

/-!
# The body at the last point of a residue class
-/

@[expose] public section

set_option maxRecDepth 16384

noncomputable section

namespace Cert.Dil.Four

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 40000000 in
/-- What the body leaves at the last point: only the gradients of the keys and of the values are stored, from what
    is carried. -/
def runC (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (hc0 : ¬C0 i) (hc1 : ¬C1 i) (hc2 : C2 i)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) (x8 : Vec F S128x3072 .bf16) (x11 : Vec F S128x3072 .f32) (x12 : Vec F S128x3072 .f32) :
    Σ' (L9 : List (View.Piece (Elt F) S128x3072 .bf16)), { L10 : List (View.Piece (Elt F) S128x3072 .bf16) //
      ∀ (E : Set ℕ) (K : PUnit → sProp 𝕄),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ (∃ d, owns (c : Thread nD τ) a10 fullShare d)
          ∗ owns (c : Thread nD τ) a11 fullShare x11
          ∗ owns (c : Thread nD τ) a12 fullShare x12
          ∗ (iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ f, a9.view.loc (c : Thread nD τ) ↦[a9.view.set]{fullShare} a9.view.writes (Elt F) f L9)
          ∗ (∃ f, a10.view.loc (c : Thread nD τ) ↦[a10.view.set]{fullShare} a10.view.writes (Elt F) f L10)
          ∗ owns (c : Thread nD τ) a11 fullShare x11
          ∗ owns (c : Thread nD τ) a12 fullShare x12) -∗ K ⟨⟩))
          ⊢ wp frame (wpE (defs₀ (F := F)) Variants.none c none) E (cc0_dil_bwd i a0 h0 a1 h1 a2 h2 a3 h3 a4 h4 a5 h5 a6 h6 a7 h7 a8 h8 a9 h9 a10 h10 a11 h11 a12 h12) K } := by
  refine ⟨?_, ?_, fun E K => ?run⟩
  case run =>
    simp only [cc0_dil_bwd_eq_skeleton]; unfold cc0_dil_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h11.eq_unread hf11
    obtain rfl := h12.eq_unread hf12
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]
    · iexists _; isplitr; · ipureintro; exact h11.read_unread _
      iexact H11
    iexists _; isplitr; · ipureintro; exact h12.read_unread _
    iexact H12

end Cert.Dil.Four

end
-- ==== Proof.Dil.Four.Pieces.lean ====
module

public import proofs.«01_k».proof.Proof.Dil.Four.RunA
public import proofs.«01_k».proof.Proof.Dil.Four.RunC
public import proofs.«01_k».proof.Proof.Dil.Four.Head
public import Idealize.ShloMosaic.Lib.Pipeline.Value

/-!
# The stores of a point, head by head

The lists of stores the body leaves at a point are the 24 heads' stores, each the head's function of its columns.
-/

@[expose] public section

set_option maxRecDepth 16384

noncomputable section

namespace Cert.Dil.Four

open Idealize.ShloMosaic Idealize.ShloMosaic.TcCoe Idealize.ShloMosaic.Tactic Idealize.SL.Sem
open Cert.Kernel6Ideal Cert.Kernel6Ideal.Gen

variable {F : FTy → Type} [FloatOps F]

theorem zero2 : (![0, 0] : Fin 2 → ℕ) = fun _ => 0 := by
  funext a
  match a with
  | ⟨0, _⟩ => rfl
  | ⟨1, _⟩ => rfl

section
variable (c : Dev nD) (i : grid0.Coords)
    (a0 : Memref sig .tc .vmem S128x3072 .bf16) (h0 : a0.IsWhole)
    (a1 : Memref sig .tc .vmem S128x3072 .bf16) (h1 : a1.IsWhole)
    (a2 : Memref sig .tc .vmem S128x3072 .bf16) (h2 : a2.IsWhole)
    (a3 : Memref sig .tc .vmem S128x3072 .bf16) (h3 : a3.IsWhole)
    (a4 : Memref sig .tc .vmem S128x3072 .bf16) (h4 : a4.IsWhole)
    (a5 : Memref sig .tc .vmem S128x3072 .bf16) (h5 : a5.IsWhole)
    (a6 : Memref sig .tc .vmem S128x128 .f32) (h6 : a6.IsWhole)
    (a7 : Memref sig .tc .vmem S128x128 .f32) (h7 : a7.IsWhole)
    (a8 : Memref sig .tc .vmem S128x3072 .bf16) (h8 : a8.IsWhole)
    (a9 : Memref sig .tc .vmem S128x3072 .bf16) (h9 : a9.IsWhole)
    (a10 : Memref sig .tc .vmem S128x3072 .bf16) (h10 : a10.IsWhole)
    (a11 : Memref sig .tc .vmem S128x3072 .f32) (h11 : a11.IsWhole)
    (a12 : Memref sig .tc .vmem S128x3072 .f32) (h12 : a12.IsWhole)
    (x0 : Vec F S128x3072 .bf16) (x1 : Vec F S128x3072 .bf16) (x2 : Vec F S128x3072 .bf16) (x3 : Vec F S128x3072 .bf16) (x4 : Vec F S128x3072 .bf16) (x5 : Vec F S128x3072 .bf16) (x6 : Vec F S128x128 .f32) (x7 : Vec F S128x128 .f32) (x8 : Vec F S128x3072 .bf16) (x11 : Vec F S128x3072 .f32) (x12 : Vec F S128x3072 .f32)

/-- The slots in use at a point. -/
abbrev validAt (i : grid0.Coords) : IVec S128x256 1 := k0_pay9 (BitVec.ofNat 32 (i 1).val)

/-- The whole of a side array, as the body reads it. -/
abbrev wholeOf (x : Vec F S128x128 .f32) : FVec F S128x128 .f32 :=
  shapeCast S128x128 (View.ld x (Rect.unit ![0, 0] ![128, 128] inb_S128x128_S128x128_0_0)) shapeCasts_S128x128_S128x128

/-- A head's gradient of the queries at a point. -/
def dqOf (h : Fin 24) : FVec F S128x128 .bf16 :=
  headDq h (validAt i) (View.ld x0 (cols h)) (View.ld x1 (cols h)) (View.ld x2 (cols h)) (View.ld x3 (cols h))
    (View.ld x4 (cols h)) (View.ld x5 (cols h)) (wholeOf x6) (wholeOf x7)

/-- A head's gradient of the window's keys at a point. -/
def dkOf (h : Fin 24) : FVec F S256x128 .f32 :=
  headDk h (validAt i) (View.ld x0 (cols h)) (View.ld x1 (cols h)) (View.ld x2 (cols h)) (View.ld x3 (cols h))
    (View.ld x4 (cols h)) (View.ld x5 (cols h)) (wholeOf x6) (wholeOf x7)

/-- A head's gradient of the window's values at a point. -/
def dvOf (h : Fin 24) : FVec F S256x128 .f32 :=
  headDv h (validAt i) (View.ld x0 (cols h)) (View.ld x1 (cols h)) (View.ld x2 (cols h)) (View.ld x5 (cols h)) (wholeOf x7)

/-- The stores of the queries' gradient. -/
def storesQ : List (View.Piece (Elt F) S128x3072 .bf16) :=
  heads.map fun h => ⟨cols h, dqOf i x0 x1 x2 x3 x4 x5 x6 x7 h⟩

/-- The stores of the keys' gradient. -/
def storesK : List (View.Piece (Elt F) S128x3072 .bf16) :=
  heads.map fun h => ⟨cols h, early (dkOf i x0 x1 x2 x3 x4 x5 x6 x7 h) (View.ld x11 (cols h))⟩

/-- The stores of the values' gradient. -/
def storesV : List (View.Piece (Elt F) S128x3072 .bf16) :=
  heads.map fun h => ⟨cols h, early (dvOf i x0 x1 x2 x5 x7 h) (View.ld x12 (cols h))⟩

/-- The stores of the keys' carried half. -/
def carryK : List (View.Piece (Elt F) S128x3072 .f32) :=
  heads.map fun h => ⟨cols h, late (dkOf i x0 x1 x2 x3 x4 x5 x6 x7 h)⟩

/-- The stores of the values' carried half. -/
def carryV : List (View.Piece (Elt F) S128x3072 .f32) :=
  heads.map fun h => ⟨cols h, late (dvOf i x0 x1 x2 x5 x7 h)⟩

set_option maxHeartbeats 40000000 in
/-- At an inner point: the queries' gradient. -/
theorem runB_q (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).1 = storesQ i x0 x1 x2 x3 x4 x5 x6 x7 := by
  unfold runB
  sl_unfold_words
  simp only [View.readAt_eq_ld, Memref.IsWhole.read_unread]
  rfl

set_option maxHeartbeats 40000000 in
/-- At an inner point: the keys' gradient. -/
theorem runB_k (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.1 = storesK i x0 x1 x2 x3 x4 x5 x6 x7 x11 := by
  unfold runB
  sl_unfold_words
  simp only [View.readAt_eq_ld, Memref.IsWhole.read_unread]
  rfl

set_option maxHeartbeats 40000000 in
/-- At an inner point: the values' gradient. -/
theorem runB_v (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.2.1 = storesV i x0 x1 x2 x5 x7 x12 := by
  unfold runB
  sl_unfold_words
  simp only [View.readAt_eq_ld, Memref.IsWhole.read_unread]
  rfl

set_option maxHeartbeats 40000000 in
/-- At an inner point: the keys' carried half. -/
theorem runB_ck (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.2.2.1 = carryK i x0 x1 x2 x3 x4 x5 x6 x7 := by
  unfold runB
  sl_unfold_words
  simp only [View.readAt_eq_ld, Memref.IsWhole.read_unread]
  rfl

set_option maxHeartbeats 40000000 in
/-- At an inner point: the values' carried half. -/
theorem runB_cv (hc0 : ¬C0 i) (hc1 : C1 i) (hc2 : ¬C2 i) :
    (runB c i a0 h0 a1 h1 a2 h2 a3 h3 a4 h4 a5 h5 a6 h6 a7 h7 a8 h8 a9 h9 a10 h10 a11 h11 a12 h12 hc0 hc1 hc2 x0 x1 x2 x3 x4 x5 x6 x7 x11 x12).2.2.2.2.1 = carryV i x0 x1 x2 x5 x7 := by
  unfold runB
  sl_unfold_words
  simp only [View.readAt_eq_ld, Memref.IsWhole.read_unread]
  rfl

set_option maxHeartbeats 40000000 in
/-- At the first point of a class: the queries' gradient. -/
theorem runA_q (hc0 : C0 i) (hc1 : C1 i) (hc2 : ¬C2 i) :
    (runA c i a0 h0 a1 h1 a2 h2 a3 h3 a4 h4 a5 h5 a6 h6 a7 h7 a8 h8 a9 h9 a10 h10 a11 h11 a12 h12 hc0 hc1 hc2 x0 x1 x2 x3 x4 x5 x6 x7).1 = storesQ i x0 x1 x2 x3 x4 x5 x6 x7 := by
  unfold runA
  sl_unfold_words
  simp only [View.readAt_eq_ld, Memref.IsWhole.read_unread]
  rfl

set_option maxHeartbeats 40000000 in
/-- At the first point of a class: the keys' carried half, over what cleared it. -/
theorem runA_ck (hc0 : C0 i) (hc1 : C1 i) (hc2 : ¬C2 i) :
    ∃ L, (runA c i a0 h0 a1 h1 a2 h2 a3 h3 a4 h4 a5 h5 a6 h6 a7 h7 a8 h8 a9 h9 a10 h10 a11 h11 a12 h12 hc0 hc1 hc2 x0 x1 x2 x3 x4 x5 x6 x7).2.2.2.1 = carryK i x0 x1 x2 x3 x4 x5 x6 x7 ++ L := by
  unfold runA
  sl_unfold_words
  simp only [View.readAt_eq_ld, Memref.IsWhole.read_unread]
  exact ⟨_, rfl⟩

set_option maxHeartbeats 40000000 in
/-- At the first point of a class: the values' carried half, over what cleared it. -/
theorem runA_cv (hc0 : C0 i) (hc1 : C1 i) (hc2 : ¬C2 i) :
    ∃ L, (runA c i a0 h0 a1 h1 a2 h2 a3 h3 a4 h4 a5 h5 a6 h6 a7 h7 a8 h8 a9 h9 a10 h10 a11 h11 a12 h12 hc0 hc1 hc2 x0 x1 x2 x3 x4 x5 x6 x7).2.2.2.2.1 = carryV i x0 x1 x2 x5 x7 ++ L := by
  unfold runA
  sl_unfold_words
  simp only [View.readAt_eq_ld, Memref.IsWhole.read_unread]
  exact ⟨_, rfl⟩

set_option maxHeartbeats 40000000 in
/-- At the last point of a class: the keys' gradient is what is carried. -/
theorem runC_k [∀ e, Nonempty (Elt F e)] (hc0 : ¬C0 i) (hc1 : ¬C1 i) (hc2 : C2 i) :
    View.canon (runC c i a0 h0 a1 h1 a2 h2 a3 h3 a4 h4 a5 h5 a6 h6 a7 h7 a8 h8 a9 h9 a10 h10 a11 h11 a12 h12 hc0 hc1 hc2 x0 x1 x2 x3 x4 x5 x6 x7 x8 x11 x12).1 = truncf .bf16 x11 bitsLt_bf16_f32 := by
  unfold runC
  sl_unfold_words
  simp only [View.readAt_eq_ld, Memref.IsWhole.read_unread]
  rw [View.canon_unit_zero zero2, View.ld_unit_zero zero2]
  rfl

set_option maxHeartbeats 40000000 in
/-- At the last point of a class: the values' gradient is what is carried. -/
theorem runC_v [∀ e, Nonempty (Elt F e)] (hc0 : ¬C0 i) (hc1 : ¬C1 i) (hc2 : C2 i) :
    View.canon (runC c i a0 h0 a1 h1 a2 h2 a3 h3 a4 h4 a5 h5 a6 h6 a7 h7 a8 h8 a9 h9 a10 h10 a11 h11 a12 h12 hc0 hc1 hc2 x0 x1 x2 x3 x4 x5 x6 x7 x8 x11 x12).2.1 = truncf .bf16 x12 bitsLt_bf16_f32 := by
  unfold runC
  sl_unfold_words
  simp only [View.readAt_eq_ld, Memref.IsWhole.read_unread]
  rw [View.canon_unit_zero zero2, View.ld_unit_zero zero2]
  rfl

end

end Cert.Dil.Four

end
-- ==== Proof.Dil.Four.Stores.lean ====
module

public import proofs.«01_k».proof.Proof.Dil.Four.Pieces
public import proofs.«01_k».proof.Proof.Dil.Four.Spec
public import Idealize.ShloMosaic.Lib.Pipeline.CanonAppend

/-!
# Stores head by head, read

A block stored by 24 heads holds, at a head's columns, what that head stored.
-/

@[expose] public section

set_option maxRecDepth 16384

noncomputable section

namespace Cert.Dil.Four

open Idealize.ShloMosaic Idealize.ShloMosaic.TcCoe Idealize.SL.Sem Cert.MemAttn
open Cert.Kernel6Ideal Cert.Kernel6Ideal.Gen

/-- A head's columns of a block, read. -/
theorem ld_cols {φ : EltTy} (x : S128x3072.Idx → Elt Ideal φ) (h : Fin 24) (i e : Fin 128) :
    View.ld x (cols h) (ix2 i e) = x (ix2 i (col h e)) := by
  refine congrArg x ?_
  funext a
  match a with
  | ⟨0, _⟩ => exact Fin.ext (show 0 + 1 * i.val = i.val by omega)
  | ⟨1, _⟩ => exact Fin.ext (show h.val * 128 + 1 * e.val = h.val * 128 + e.val by omega)

theorem col_mk (h : Fin 24) (e : Fin 128) (p q) :
    (⟨(col h e).val / 128, p⟩ : Fin 24) = h ∧ (⟨(col h e).val % 128, q⟩ : Fin 128) = e :=
  ⟨Fin.ext (show (h.val * 128 + e.val) / 128 = h.val by omega), Fin.ext (show (h.val * 128 + e.val) % 128 = e.val by omega)⟩

/-- A function of a block, given head by head. -/
def byHead {φ : EltTy} (P : Fin 24 → S128x128.Idx → Elt Ideal φ) (y : S128x3072.Idx) : Elt Ideal φ :=
  have hy : (y 1).val < 3072 := (y 1).isLt
  P ⟨(y 1).val / 128, by omega⟩ (ix2 (y 0) ⟨(y 1).val % 128, Nat.mod_lt _ (by decide)⟩)

theorem byHead_at {φ : EltTy} (P : Fin 24 → S128x128.Idx → Elt Ideal φ) (i : Fin 128) (h : Fin 24) (e : Fin 128) :
    byHead P (ix2 i (col h e)) = P h (ix2 i e) := by
  have h1 := col_mk h e (by have := (col h e).isLt; omega) (Nat.mod_lt _ (by decide))
  show P ⟨(col h e).val / 128, _⟩ (ix2 i ⟨(col h e).val % 128, _⟩) = _
  rw [h1.1, h1.2]

/-- What the heads' stores leave at a head's columns. -/
theorem canon_heads {φ : EltTy} (P : Fin 24 → S128x128.Idx → Elt Ideal φ) (L : List (View.Piece (Elt Ideal) S128x3072 φ))
    (i : Fin 128) (h : Fin 24) (e : Fin 128) :
    View.canon (heads.map (fun h => (⟨cols h, P h⟩ : View.Piece (Elt Ideal) S128x3072 φ)) ++ L) (ix2 i (col h e))
      = P h (ix2 i e) := by
  have emb : ∀ (h : Fin 24) (x : S128x128.Idx), (cols h).emb x = ix2 (x 0) (col h (x 1)) := fun h x => by
    funext a
    match a with
    | ⟨0, _⟩ => exact Fin.ext (show 0 + 1 * (x 0).val = (x 0).val by omega)
    | ⟨1, _⟩ => exact Fin.ext (show h.val * 128 + 1 * (x 1).val = h.val * 128 + (x 1).val by omega)
  refine (View.canon_append_of_pieces (byHead P) L _ (fun p hp x => ?_) _ ?_).trans (byHead_at P i h e)
  · obtain ⟨h', _, rfl⟩ := List.mem_map.mp hp
    refine Eq.trans ?_ ((congrArg (byHead P) (emb h' x)).trans (byHead_at P (x 0) h' (x 1))).symm
    exact congrArg (P h') (by funext a; match a with | ⟨0, _⟩ => rfl | ⟨1, _⟩ => rfl)
  · refine ⟨_, List.mem_map.mpr ⟨h, mem_heads h, rfl⟩, ?_⟩
    rw [show (ix2 i (col h e) : S128x3072.Idx) = (cols h).emb (ix2 i e) from (emb h (ix2 i e)).symm]
    exact (cols h).idx_mem _

/-- The whole of a side array, read. -/
theorem wholeOf_at (x : Vec Ideal S128x128 .f32) (i k : Fin 128) : wholeOf x (ix2 i k) = x (ix2 i k) := by
  unfold wholeOf
  rw [View.ld_unit_zero zero2]
  pointwise

end Cert.Dil.Four

end
-- ==== Proof.Dil.Four.Host.lean ====
module

public import proofs.«01_k».proof.Proof.Gen.Kernel6Ideal.Frame
public import proofs.«01_k».proof.Proof.Gen.Reference6Ideal.Read

/-!
# What the host lines before the launch leave

The host computes the attention's forward pass and from it the two side arrays of the launch: the row log-sums and the
row terms `c`, each padded to 128 lanes. The forward pass is the reference's own, so both are read as the reference's
named values.
-/

@[expose] public section

set_option maxRecDepth 16384

noncomputable section

namespace Cert.Dil.Four

open Idealize.ShloMosaic Idealize.ShloMosaic.TcCoe Idealize.SL.Sem Idealize.ShloMosaic.StableHlo
open Cert.Kernel6Ideal Cert.Kernel6Ideal.Gen

variable {F : FTy → Type} [FloatOps F]

/-- The buffers after the lines up to the masked scores' two operands. -/
def host1 (V0 : Valuation τ sig (Elt F)) : Valuation τ sig (Elt F) := after hostOps0 V0
/-- The buffers after the masking of the scores. -/
def host2 (V0 : Valuation τ sig (Elt F)) : Valuation τ sig (Elt F) := after hostOps0_1 (host1 V0)
/-- The buffers after the forward pass and the row terms. -/
def host3 (V0 : Valuation τ sig (Elt F)) : Valuation τ sig (Elt F) := after hostOps0_2 (host2 V0)
/-- The buffers after the padding of the row terms. -/
def host4 (V0 : Valuation τ sig (Elt F)) : Valuation τ sig (Elt F) := after hostOps0_3 (host3 V0)
/-- The buffers after the reshaping of the log-sums. -/
def host5 (V0 : Valuation τ sig (Elt F)) : Valuation τ sig (Elt F) := after hostOps0_4 (host4 V0)
/-- The buffers after the padding of the log-sums. -/
def host6 (V0 : Valuation τ sig (Elt F)) : Valuation τ sig (Elt F) := after hostOps0_5 (host5 V0)

theorem host6_eq (V0 : Valuation τ sig (Elt F)) :
    after (List.flatten [hostOps0, hostOps0_1, hostOps0_2, hostOps0_3, hostOps0_4, hostOps0_5]) V0 = host6 V0 := by
  simp only [List.flatten_cons, List.flatten_nil, List.append_nil, after_append]
  rfl

variable (V0 : Valuation τ sig (Elt F))

set_option maxHeartbeats 8000000 in
theorem host1_v53 : host1 V0 (no_index (Proc.devRef .tc main_v53))
    = Reference6Ideal.Read.val_main_v53 (V0 (Proc.devRef .tc main_arg0)) (V0 (Proc.devRef .tc main_arg1)) := by
  unfold host1
  simp only [hostOps0]
  after_results_simp
  try dsimp only [Matrix.cons_val]
  try after_results_simp
  rfl

set_option maxHeartbeats 8000000 in
theorem host1_v41 : host1 V0 (no_index (Proc.devRef .tc main_v41)) = Reference6Ideal.Read.val_main_v41 (F := F) := by
  unfold host1
  simp only [hostOps0]
  after_results_simp
  rfl

set_option maxHeartbeats 8000000 in
theorem host1_cst_25 : host1 V0 (no_index (Proc.devRef .tc main_cst_25)) = Reference6Ideal.Read.val_main_cst_25 (F := F) := by
  unfold host1
  simp only [hostOps0]
  after_results_simp
  rfl

set_option maxHeartbeats 8000000 in
theorem host1_v2 : host1 V0 (no_index (Proc.devRef .tc main_v2)) = extf .f32 (V0 (Proc.devRef .tc main_arg2)) bitsLt_bf16_f32 := by
  unfold host1
  simp only [hostOps0]
  after_results_simp

set_option maxHeartbeats 8000000 in
theorem host1_arg3 : host1 V0 (no_index (Proc.devRef .tc main_arg3)) = V0 (Proc.devRef .tc main_arg3) := by
  unfold host1
  simp only [hostOps0]
  after_results_simp

set_option maxHeartbeats 8000000 in
theorem host1_arg4 : host1 V0 (no_index (Proc.devRef .tc main_arg4)) = V0 (Proc.devRef .tc main_arg4) := by
  unfold host1
  simp only [hostOps0]
  after_results_simp

theorem host2_v54 : host2 V0 (no_index (Proc.devRef .tc main_v54))
    = Reference6Ideal.Read.val_main_v54_0 (V0 (Proc.devRef .tc main_arg0)) (V0 (Proc.devRef .tc main_arg1)) := by
  unfold host2
  simp only [hostOps0_1, TRef.nullary, TRef.ternary, TRef.unary, TRef.toBuf, TRef.ofBuf, cast_eq]
  after_results_simp
  simp only [host1_v53, host1_v41, host1_cst_25]
  rfl

theorem host2_v2 : host2 V0 (no_index (Proc.devRef .tc main_v2)) = extf .f32 (V0 (Proc.devRef .tc main_arg2)) bitsLt_bf16_f32 := by
  unfold host2
  simp only [hostOps0_1, TRef.nullary, TRef.ternary, TRef.unary, TRef.toBuf, TRef.ofBuf, cast_eq]
  after_results_simp
  simp only [host1_v2]

theorem host2_arg3 : host2 V0 (no_index (Proc.devRef .tc main_arg3)) = V0 (Proc.devRef .tc main_arg3) := by
  unfold host2
  simp only [hostOps0_1, TRef.nullary, TRef.ternary, TRef.unary, TRef.toBuf, TRef.ofBuf, cast_eq]
  after_results_simp
  simp only [host1_arg3]

theorem host2_arg4 : host2 V0 (no_index (Proc.devRef .tc main_arg4)) = V0 (Proc.devRef .tc main_arg4) := by
  unfold host2
  simp only [hostOps0_1, TRef.nullary, TRef.ternary, TRef.unary, TRef.toBuf, TRef.ofBuf, cast_eq]
  after_results_simp
  simp only [host1_arg4]

set_option maxHeartbeats 8000000 in
theorem host3_v71 : host3 V0 (no_index (Proc.devRef .tc main_v71))
    = Reference6Ideal.Read.val_main_v79 (V0 (Proc.devRef .tc main_arg0)) (V0 (Proc.devRef .tc main_arg1)) := by
  unfold host3
  simp only [hostOps0_2]
  after_results_simp
  simp only [host2_v54]
  rfl

/-- The row terms: the log-sum's cotangent less the row sums of the output's cotangent times the output. -/
def rowTerm (x0 x1 x2 x3 : (⟨S8192x3072, .bf16⟩ : BufTy).Contents (Elt F)) (x4 : (⟨S8192x24, .f32⟩ : BufTy).Contents (Elt F)) :
    (⟨S8192x24, .f32⟩ : BufTy).Contents (Elt F) :=
  subf x4 (shapeCast _ (Host.reduceAdd (mulf (shapeCast _ (extf .f32 x3 bitsLt_bf16_f32) shapeCasts_S8192x3072_S4x2048x24x128)
    (Reference6Ideal.Read.val_main_v72 x0 x1 x2)) (constant S_ .f32 0x00000000#32) reducesTo_S4x2048x24x128_S4x2048x24_d3 h_S_)
    shapeCasts_S4x2048x24_S8192x24)

set_option maxHeartbeats 8000000 in
theorem host3_v77 : host3 V0 (no_index (Proc.devRef .tc main_v77))
    = rowTerm (V0 (Proc.devRef .tc main_arg0)) (V0 (Proc.devRef .tc main_arg1)) (V0 (Proc.devRef .tc main_arg2))
        (V0 (Proc.devRef .tc main_arg3)) (V0 (Proc.devRef .tc main_arg4)) := by
  unfold host3
  simp only [hostOps0_2]
  after_results_simp
  simp only [host2_v54, host2_v2, host2_arg3, host2_arg4]
  rfl

theorem host3_c_29 : host3 V0 (no_index (Proc.devRef .tc main_c_29)) = constantI S_ 32 0#32 := by
  unfold host3
  simp only [hostOps0_2]
  after_results_simp

/-- An array of one number per row and head, padded with zeros to 128 lanes. -/
def lanes (x : (⟨S8192x24, .f32⟩ : BufTy).Contents (Elt F)) : (⟨S8192x128, .f32⟩ : BufTy).Contents (Elt F) :=
  pad S8192x128 ![0, 0] ![0, 104] ![0, 0] x (sitofp .f32 (constantI S_ 32 0#32)) pads_S8192x24_S8192x128_000_01040 h_S_

theorem host4_v78 : host4 V0 (no_index (Proc.devRef .tc main_v78)) = lanes (host3 V0 (Proc.devRef .tc main_v77)) := by
  unfold host4
  simp only [hostOps0_3, TRef.nullary, TRef.ternary, TRef.unary, TRef.binary, TRef.toBuf, TRef.ofBuf, cast_eq]
  after_results_simp
  simp only [host3_c_29]
  rfl

theorem host4_v71 : host4 V0 (no_index (Proc.devRef .tc main_v71)) = host3 V0 (Proc.devRef .tc main_v71) := by
  unfold host4
  simp only [hostOps0_3, TRef.nullary, TRef.ternary, TRef.unary, TRef.binary, TRef.toBuf, TRef.ofBuf, cast_eq]
  after_results_simp

theorem host5_v79 : host5 V0 (no_index (Proc.devRef .tc main_v79))
    = Reference6Ideal.Read.val_main_v81 (V0 (Proc.devRef .tc main_arg0)) (V0 (Proc.devRef .tc main_arg1)) := by
  unfold host5
  simp only [hostOps0_4]
  after_results_simp
  simp only [host4_v71, host3_v71]
  rfl

theorem host5_v78 : host5 V0 (no_index (Proc.devRef .tc main_v78)) = host4 V0 (Proc.devRef .tc main_v78) := by
  unfold host5
  simp only [hostOps0_4]
  after_results_simp

theorem host5_c_30 : host5 V0 (no_index (Proc.devRef .tc main_c_30)) = constantI S_ 32 0#32 := by
  unfold host5
  simp only [hostOps0_4]
  after_results_simp

theorem host6_v80 : host6 V0 (no_index (Proc.devRef .tc main_v80))
    = lanes (Reference6Ideal.Read.val_main_v81 (V0 (Proc.devRef .tc main_arg0)) (V0 (Proc.devRef .tc main_arg1))) := by
  unfold host6
  simp only [hostOps0_5, TRef.nullary, TRef.ternary, TRef.unary, TRef.binary, TRef.toBuf, TRef.ofBuf, cast_eq]
  after_results_simp
  simp only [host5_c_30, host5_v79]
  rfl

theorem host6_v78 : host6 V0 (no_index (Proc.devRef .tc main_v78)) = lanes (rowTerm (V0 (Proc.devRef .tc main_arg0))
    (V0 (Proc.devRef .tc main_arg1)) (V0 (Proc.devRef .tc main_arg2)) (V0 (Proc.devRef .tc main_arg3))
    (V0 (Proc.devRef .tc main_arg4))) := by
  unfold host6
  simp only [hostOps0_5, TRef.nullary, TRef.ternary, TRef.unary, TRef.binary, TRef.toBuf, TRef.ofBuf, cast_eq]
  after_results_simp
  simp only [host5_v78, host4_v78, host3_v77]

variable (m : (ℓ : Loc nD τ sig) → Buf (Elt F) ℓ) (c : Dev nD)

/-- The log-sums the launch finds. -/
theorem V_lse : V m c main_v80 = lanes (Reference6Ideal.Read.val_main_v81 (m ((c : Thread nD τ).loc main_arg0))
    (m ((c : Thread nD τ).loc main_arg1))) :=
  (congrFun (host6_eq _) (Proc.devRef .tc main_v80)).trans (host6_v80 _)

/-- The row terms the launch finds. -/
theorem V_c : V m c main_v78 = lanes (rowTerm (m ((c : Thread nD τ).loc main_arg0)) (m ((c : Thread nD τ).loc main_arg1))
    (m ((c : Thread nD τ).loc main_arg2)) (m ((c : Thread nD τ).loc main_arg3)) (m ((c : Thread nD τ).loc main_arg4))) :=
  (congrFun (host6_eq _) (Proc.devRef .tc main_v78)).trans (host6_v78 _)

end Cert.Dil.Four

end
-- ==== Proof.Dil.Four.RefRead.lean ====
module

public import proofs.«01_k».proof.Proof.Dil.Four.Spec
public import proofs.«01_k».proof.Proof.Gen.Reference6Ideal.Read

/-!
# The reference read at an index

The reference differentiates the dense masked attention operation by operation; here each of its arrays is read in terms
of the row functions.
-/

@[expose] public section

set_option maxRecDepth 16384

noncomputable section

namespace Cert.Dil.Four

open Idealize.ShloMosaic Cert.MemAttn Cert.Reference6Ideal Cert.Reference6Ideal.Read

variable (x0 x1 x2 x3 : Arr) (x4 : Side) (r : Fin 4) (h : Fin 24)

/-- The slopes. -/
theorem v29_at (h : Fin 24) : val_main_v29 (F := Ideal) (ix4 0 h 0 0) = slope (F := Ideal) h := by
  fin_cases h <;> rfl

/-- The queries, by class and head. -/
theorem v42_at (n : Fin 2048) (e : Fin 128) : val_main_v42 (F := Ideal) x0 (ix4 r n h e) = ent x0 r h n e := by
  pointwise [val_main_v42, val_main_v0, ent]
  rfl

/-- The keys, by class and head. -/
theorem v43_at (n : Fin 2048) (e : Fin 128) : val_main_v43 (F := Ideal) x1 (ix4 r n h e) = ent x1 r h n e :=
  (congrFun (show val_main_v43 (F := Ideal) x1 = val_main_v42 (F := Ideal) x1 from rfl) _).trans (v42_at x1 r h n e)

/-- The values, by class and head. -/
theorem v66_at (n : Fin 2048) (e : Fin 128) : val_main_v66 (F := Ideal) x2 (ix4 r n h e) = ent x2 r h n e :=
  (congrFun (show val_main_v66 (F := Ideal) x2 = val_main_v42 (F := Ideal) x2 from rfl) _).trans (v42_at x2 r h n e)

/-- The cotangent of the output, by class and head. -/
theorem v84_at (n : Fin 2048) (e : Fin 128) : val_main_v84 (F := Ideal) x3 (ix4 r n h e) = ent x3 r h n e :=
  (congrFun (show val_main_v84 (F := Ideal) x3 = val_main_v42 (F := Ideal) x3 from rfl) _).trans (v42_at x3 r h n e)

/-- The distances. -/
theorem v36_at (n k : Fin 2048) :
    val_main_v36 (F := Ideal) (ix2 n k) = BitVec.ofNat 32 n.val - BitVec.ofNat 32 k.val := by
  pointwise [val_main_v36, val_main_v34, val_main_v35, val_main_v31, val_main_v33, val_main_v30, val_main_v32]
  rfl

/-- The unmasked scores. -/
theorem v53_at (n k : Fin 2048) : val_main_v53 (F := Ideal) x0 x1 (ix4 r h n k) = sc x0 x1 r h n k := by
  pointwise [val_main_v53, val_main_v52, val_main_v51, val_main_v50, val_main_v49, val_main_v48, val_main_v47,
    val_main_v46, val_main_v45, val_main_cst_24, val_main_v44, sc]
  simp only [v42_at, v43_at, v29_at, v36_at]
  rfl

/-- A maximum over the keys, read. -/
theorem reduceMax_at (y : FVec Ideal S4x24x2048x2048 .f32) (z : FVec Ideal S_ .f32) (r : Fin 4) (h : Fin 24) (n : Fin 2048) :
    Host.reduce (FloatOps.maximumf (F := Ideal) (φ := .f32)) y z Gen.reducesTo_S4x24x2048x2048_S4x24x2048_d3 Gen.h_S_ (ix3 r h n)
      = Finset.univ.fold max (z (Shape.Idx.first Gen.h_S_)) fun k : Fin 2048 => y (ix4 r h n k) := by
  pointwise

/-- The keys in view. -/
theorem v41_at (n k : Fin 2048) : val_main_v41 (F := Ideal) (ix2 n k) = if near n k then 1#1 else 0#1 := by
  pointwise [val_main_v41, val_main_v40, val_main_v39, val_main_v38, val_main_v37, val_main_c, val_main_c_23, v36_at]
  have hi := toInt_sub n.val k.val (by omega) (by omega)
  simp only [IntOp.cmpi, IntOp.andi, BitVec.sle, hi]
  have h0 : (0#32 : BitVec 32).toInt = 0 := by decide
  have h1 : (128#32 : BitVec 32).toInt = 128 := by decide
  rw [h0, h1]
  by_cases h2 : k.val ≤ n.val <;> by_cases h3 : n.val ≤ k.val + 128
  · rw [if_pos ⟨h2, h3⟩, decide_eq_true (by omega), decide_eq_true (by omega)]; rfl
  · rw [if_neg (fun e => h3 e.2), decide_eq_true (by omega), decide_eq_false (by omega)]; rfl
  · rw [if_neg (fun e => h2 e.1), decide_eq_false (by omega), decide_eq_true (by omega)]; rfl
  · rw [if_neg (fun e => h2 e.1), decide_eq_false (by omega), decide_eq_false (by omega)]; rfl

/-- The masked scores. -/
theorem v54_at (n k : Fin 2048) : val_main_v54_0 (F := Ideal) x0 x1 (ix4 r h n k) = scm x0 x1 r h n k := by
  pointwise [val_main_v54_0, val_main_v54_1, val_main_call0_v2, val_main_call0_v0, val_main_cst_25, v53_at, v41_at]
  show Scalar.select _ _ (Ideal.ofBits .f32 0xFF800000#32) = _
  rw [show Ideal.ofBits .f32 0xFF800000#32 = ⊥ by simp [Ideal.ofBits, Ideal.ieee], scm, masked]
  by_cases hk : near n k
  · rw [if_pos hk, if_pos hk]; rfl
  · rw [if_neg hk, if_neg hk]; rfl

/-- The largest score. -/
theorem v55_at (n : Fin 2048) : val_main_v55 (F := Ideal) x0 x1 (ix3 r h n) = top (scm x0 x1 r h n) := by
  unfold val_main_v55
  rw [reduceMax_at]
  simp only [v54_at, val_main_cst_26_apply]
  show Finset.fold max (Ideal.ofBits .f32 0xFF800000#32) _ _ = _
  rw [show Ideal.ofBits .f32 0xFF800000#32 = ⊥ by simp [Ideal.ofBits, Ideal.ieee]]
  rfl

/-- The keys that attain it. -/
theorem v59_at (n k : Fin 2048) : val_main_v59 (F := Ideal) x0 x1 (ix4 r h n k) = atTop (scm x0 x1 r h n) k := by
  pointwise [val_main_v59, val_main_v58, val_main_v57, val_main_v56, v54_at, v55_at]
  rw [atTop]
  by_cases hk : scm x0 x1 r h n k = top (scm x0 x1 r h n)
  · rw [if_pos hk, decide_eq_true hk]
    show (((1#1 : BitVec 1).toNat : ℝ) : EReal) = 1
    norm_num
  · rw [if_neg hk, decide_eq_false hk]
    show (((0#1 : BitVec 1).toNat : ℝ) : EReal) = 0
    norm_num

/-- Their number. -/
theorem v60_at (n : Fin 2048) : val_main_v60 (F := Ideal) x0 x1 (ix3 r h n) = ∑ k, atTop (scm x0 x1 r h n) k := by
  pointwise [val_main_v60, val_main_cst_27, v59_at]

/-- The shifted exponentials. -/
theorem v64_at (n k : Fin 2048) : val_main_v64 (F := Ideal) x0 x1 (ix4 r h n k) = expo (scm x0 x1 r h n) k := by
  pointwise [val_main_v64, val_main_v63, val_main_v62, val_main_v61, v54_at, v55_at, expo]

/-- Their sum. -/
theorem v65_at (n : Fin 2048) : val_main_v65 (F := Ideal) x0 x1 (ix3 r h n) = den (scm x0 x1 r h n) := by
  pointwise [val_main_v65, val_main_cst_28, v64_at, den]

/-- The unnormalised output. -/
theorem v68_at (n : Fin 2048) (e : Fin 128) : val_main_v68 (F := Ideal) x0 x1 x2 (ix4 r n h e)
    = pv (scm x0 x1 r h n) (fun k e => ent x2 r h k e) e := by
  pointwise [val_main_v68, val_main_v67, v64_at, pv]
  simp only [v66_at]

/-- The sum of the exponentials, by row. -/
theorem v70_at (n : Fin 2048) : val_main_v70 (F := Ideal) x0 x1 (ix4 r n h 0) = den (scm x0 x1 r h n) := by
  pointwise [val_main_v70, val_main_v69, v65_at]

/-- The output. -/
theorem v72_at (n : Fin 2048) (e : Fin 128) : val_main_v72 (F := Ideal) x0 x1 x2 (ix4 r n h e)
    = outp (scm x0 x1 r h n) (fun k e => ent x2 r h k e) e := by
  pointwise [val_main_v72, val_main_v71, v70_at, v68_at, outp]

/-- The largest score, by row. -/
theorem v76_at (n : Fin 2048) : val_main_v76 (F := Ideal) x0 x1 (ix3 r h n) = top (scm x0 x1 r h n) := by
  have hi : idx_main_v61 (idx_main_v76 (ix3 r h n)) = ix3 r h n := by
    have := h.isLt
    have := n.isLt
    funext a
    match a with
    | ⟨0, _⟩ => exact Fin.ext (show ((r.val * 24 + h.val) * 2048 + n.val) / 49152 = r.val by omega)
    | ⟨1, _⟩ => exact Fin.ext (show ((r.val * 24 + h.val) * 2048 + n.val) / 2048 % 24 = h.val by omega)
    | ⟨2, _⟩ => exact Fin.ext (show ((r.val * 24 + h.val) * 2048 + n.val) / 1 % 2048 = n.val by omega)
  rw [val_main_v76_apply, val_main_v61_apply, hi, v55_at]

/-- The log-sums. -/
theorem v79_at (n : Fin 2048) : val_main_v79 (F := Ideal) x0 x1 (ix3 r n h) = lseAt x0 x1 r h n := by
  have hi : idx_main_v79 (ix3 r n h) = ix3 r h n := by
    funext a
    match a with
    | ⟨0, _⟩ => rfl
    | ⟨1, _⟩ => rfl
    | ⟨2, _⟩ => rfl
  rw [val_main_v79_apply, hi, val_main_v78_apply, val_main_v77_apply, v76_at, v65_at]
  rfl

/-- The cotangent of the log-sums, by class and head. -/
theorem v85_at (n : Fin 2048) : val_main_v85 (F := Ideal) x4 (ix3 r h n) = sent x4 r h n := by
  have hi : idx_main_v83 (idx_main_v85 (ix3 r h n)) = ix2 (rowOf r n) h := by
    have := h.isLt
    have := n.isLt
    funext a
    match a with
    | ⟨0, _⟩ => exact Fin.ext (show ((r.val * 2048 + n.val) * 24 + h.val) / 24 = r.val * 2048 + n.val by omega)
    | ⟨1, _⟩ => exact Fin.ext (show ((r.val * 2048 + n.val) * 24 + h.val) % 24 = h.val by omega)
  rw [val_main_v85_apply, val_main_v83_apply, hi, sent]

/-- The sum's cotangent. -/
theorem v98_at (n : Fin 2048) : val_main_v98 (F := Ideal) x0 x1 x2 x3 x4 (ix3 r h n)
    = Ideal.div (sent x4 r h n) (den (scm x0 x1 r h n))
      + -(∑ e : Fin 128, ent x3 r h n e * Ideal.div 1 (den (scm x0 x1 r h n) * den (scm x0 x1 r h n))
          * pv (scm x0 x1 r h n) (fun k e => ent x2 r h k e) e) := by
  pointwise [val_main_v98, val_main_v86, val_main_v97, val_main_v96, val_main_cst_31, val_main_v93, val_main_v92,
    val_main_v91, val_main_cst_30, val_main_v90, val_main_v89, val_main_v88, val_main_v75, val_main_v74, val_main_cst_29,
    val_main_v73, v70_at, v65_at, v68_at, v84_at, v85_at]
  simp only [Finset.univ_unique, Finset.sum_singleton]

/-- The output's cotangent over the sum. -/
theorem v99_at (n : Fin 2048) (e : Fin 128) : val_main_v99 (F := Ideal) x0 x1 x3 (ix4 r h e n)
    = Ideal.div (ent x3 r h n e) (den (scm x0 x1 r h n)) := by
  pointwise [val_main_v99, val_main_v95, val_main_v94, v70_at, v84_at]

/-- The gradient of the shifted scores. -/
theorem v106_at (n k : Fin 2048) : val_main_v106 (F := Ideal) x0 x1 x2 x3 x4 (ix4 r h n k)
    = gradRaw (scm x0 x1 r h n) (fun k e => ent x2 r h k e) (fun e => ent x3 r h n e) (sent x4 r h n) k := by
  pointwise [val_main_v106, val_main_v105, val_main_v104, val_main_v100, v98_at, v99_at, v64_at, gradRaw]
  simp only [v66_at]

/-- The gradient of the scores, the largest score's share added. -/
theorem v115_at (n k : Fin 2048) : val_main_v115 (F := Ideal) x0 x1 x2 x3 x4 (ix4 r h n k)
    = gradTop (scm x0 x1 r h n) (fun k e => ent x2 r h k e) (fun e => ent x3 r h n e) (sent x4 r h n) k := by
  pointwise [val_main_v115, val_main_v114, val_main_v113, val_main_v112, val_main_v111, val_main_cst_33, val_main_v110,
    val_main_v109, val_main_v108, val_main_cst_32, val_main_v107, val_main_v87, v106_at, v85_at, v60_at, v59_at, gradTop]
  simp only [Finset.univ_unique, Finset.sum_singleton]

/-- The scaled gradient of the scores in view. -/
theorem v118_at (n k : Fin 2048) : val_main_v118 (F := Ideal) x0 x1 x2 x3 x4 (ix4 r h n k)
    = (if near n k then gradTop (scm x0 x1 r h n) (fun k e => ent x2 r h k e) (fun e => ent x3 r h n e) (sent x4 r h n) k
        else 0) * scl := by
  pointwise [val_main_v118, val_main_v117, val_main_cst_34, val_main_v116, val_main_v54_1, val_main_call1_v0,
    val_main_call1_cst, v115_at, v41_at]
  by_cases hk : near n k
  · rw [if_pos hk, if_pos hk]; rfl
  · rw [if_neg hk, if_neg hk, zero_mul]; rfl

theorem idx_eq (n : Fin 2048) (e : Fin 128) : idx_main_v124 (ix2 (rowOf r n) (col h e)) = ix4 r n h e := by
  have := h.isLt
  have := e.isLt
  have := n.isLt
  funext a
  match a with
  | ⟨0, _⟩ => exact Fin.ext (show ((r.val * 2048 + n.val) * 3072 + (h.val * 128 + e.val)) / 6291456 = r.val by omega)
  | ⟨1, _⟩ => exact Fin.ext (show ((r.val * 2048 + n.val) * 3072 + (h.val * 128 + e.val)) / 3072 % 2048 = n.val by omega)
  | ⟨2, _⟩ => exact Fin.ext (show ((r.val * 2048 + n.val) * 3072 + (h.val * 128 + e.val)) / 128 % 24 = h.val by omega)
  | ⟨3, _⟩ => exact Fin.ext (show ((r.val * 2048 + n.val) * 3072 + (h.val * 128 + e.val)) % 128 = e.val by omega)

/-- A result's entry by class, head, row and column. -/
theorem v125_at (n : Fin 2048) (e : Fin 128) : val_main_v125 (F := Ideal) x0 x1 x2 x3 x4 (ix2 (rowOf r n) (col h e))
    = ∑ k : Fin 2048, val_main_v118 (F := Ideal) x0 x1 x2 x3 x4 (ix4 r h n k) * ent x1 r h k e := by
  have h0 : val_main_v122 (F := Ideal) x0 x1 x2 x3 x4 (ix4 r n h e)
      = ∑ k : Fin 2048, val_main_v118 (F := Ideal) x0 x1 x2 x3 x4 (ix4 r h n k) * ent x1 r h k e := by
    pointwise [val_main_v122, val_main_v121]
    simp only [v43_at]
  rw [← h0, val_main_v125_apply, val_main_v124_apply, idx_eq r h n e]
  rfl

theorem v126_at (k : Fin 2048) (e : Fin 128) : val_main_v126 (F := Ideal) x0 x1 x2 x3 x4 (ix2 (rowOf r k) (col h e))
    = ∑ n : Fin 2048, val_main_v118 (F := Ideal) x0 x1 x2 x3 x4 (ix4 r h n k) * ent x0 r h n e := by
  have h0 : val_main_v120 (F := Ideal) x0 x1 x2 x3 x4 (ix4 r k h e)
      = ∑ n : Fin 2048, val_main_v118 (F := Ideal) x0 x1 x2 x3 x4 (ix4 r h n k) * ent x0 r h n e := by
    pointwise [val_main_v120, val_main_v119]
    simp only [v42_at]
  rw [← h0, val_main_v126_apply, val_main_v123_apply]
  show val_main_v120 (F := Ideal) x0 x1 x2 x3 x4 (idx_main_v124 _) = _
  rw [idx_eq r h k e]

theorem v127_at (k : Fin 2048) (e : Fin 128) : val_main_v127 (F := Ideal) x0 x1 x3 (ix2 (rowOf r k) (col h e))
    = ∑ n : Fin 2048, Ideal.div (ent x3 r h n e) (den (scm x0 x1 r h n)) * expo (scm x0 x1 r h n) k := by
  have h0 : val_main_v102 (F := Ideal) x0 x1 x3 (ix4 r k h e)
      = ∑ n : Fin 2048, Ideal.div (ent x3 r h n e) (den (scm x0 x1 r h n)) * expo (scm x0 x1 r h n) k := by
    pointwise [val_main_v102, val_main_v101]
    simp only [v99_at, v64_at]
  rw [← h0, val_main_v127_apply, val_main_v103_apply]
  show val_main_v102 (F := Ideal) x0 x1 x3 (idx_main_v124 _) = _
  rw [idx_eq r h k e]

/-- The log-sums as the launch is handed them. -/
theorem v81_at (n : Fin 2048) : val_main_v81 (F := Ideal) x0 x1 (ix2 (rowOf r n) h) = lseAt x0 x1 r h n := by
  have hi : idx_main_v81 (ix2 (rowOf r n) h) = ix3 r n h := by
    have := h.isLt
    have := n.isLt
    funext a
    match a with
    | ⟨0, _⟩ => exact Fin.ext (show ((r.val * 2048 + n.val) * 24 + h.val) / 49152 = r.val by omega)
    | ⟨1, _⟩ => exact Fin.ext (show ((r.val * 2048 + n.val) * 24 + h.val) / 24 % 2048 = n.val by omega)
    | ⟨2, _⟩ => exact Fin.ext (show ((r.val * 2048 + n.val) * 24 + h.val) % 24 = h.val by omega)
  rw [val_main_v81_apply, hi, v79_at]

end Cert.Dil.Four

end
-- ==== Proof.Dil.Four.Side.lean ====
module

public import proofs.«01_k».proof.Proof.Dil.Four.Host
public import proofs.«01_k».proof.Proof.Dil.Four.RefRead

/-!
# The side arrays of the launch, read

Column `h` of the two padded arrays holds the log-sums and the row terms of head `h`.
-/

@[expose] public section

set_option maxRecDepth 16384

noncomputable section

namespace Cert.Dil.Four

open Idealize.ShloMosaic Idealize.ShloMosaic.TcCoe Idealize.SL.Sem Cert.MemAttn
open Cert.Kernel6Ideal Cert.Kernel6Ideal.Gen

/-- The padding leaves the heads' columns as they are. -/
theorem lanes_at (x : FVec Ideal S8192x24 .f32) (R : Fin 8192) (h : Fin 24) :
    lanes (F := Ideal) x (ix2 R ⟨h.val, by omega⟩) = x (ix2 R h) := by
  pointwise [lanes]

/-- A sum over a head's columns, read. -/
theorem reduceAdd_at (y : FVec Ideal S4x2048x24x128 .f32) (r : Fin 4) (n : Fin 2048) (h : Fin 24) :
    Host.reduceAdd (F := Ideal) y (constant S_ .f32 0x00000000#32) reducesTo_S4x2048x24x128_S4x2048x24_d3 h_S_ (ix3 r n h)
      = ∑ e : Fin 128, y (ix4 r n h e) := by
  pointwise

/-- The row terms. -/
theorem rowTerm_at (x0 x1 x2 x3 : Arr) (x4 : Side) (r : Fin 4) (h : Fin 24) (n : Fin 2048) :
    rowTerm (F := Ideal) x0 x1 x2 x3 x4 (ix2 (rowOf r n) h) = termAt x0 x1 x2 x3 x4 r h n := by
  unfold rowTerm
  refine Eq.trans (congrArg (fun z => x4 (ix2 (rowOf r n) h) - z) (Eq.trans (shapeCast_apply _
    shapeCasts_S4x2048x24_S8192x24 (ix2 (rowOf r n) h) (ix3 r n h) ?_) (reduceAdd_at _ r n h))) ?_
  · rw [Shape.rowMajor_val_three, Shape.rowMajor_val_two]
    rfl
  · rw [termAt, rterm, sent]
    refine congrArg _ (Finset.sum_congr rfl fun e _ => ?_)
    rw [← v72_at, ← v84_at x3 r h n e]
    rfl

variable (m : (ℓ : Loc nD τ sig) → Buf (Elt Ideal) ℓ) (c : Dev nD)

/-- The arguments: queries, keys, values and the cotangents of output and log-sums. -/
abbrev AQ : Arr := m ((c : Thread nD τ).loc main_arg0)
abbrev AK : Arr := m ((c : Thread nD τ).loc main_arg1)
abbrev AV : Arr := m ((c : Thread nD τ).loc main_arg2)
abbrev AO : Arr := m ((c : Thread nD τ).loc main_arg3)
abbrev AL : Side := m ((c : Thread nD τ).loc main_arg4)

/-- The log-sums the launch finds. -/
theorem lse_at (r : Fin 4) (n : Fin 2048) (h : Fin 24) (hh : h.val < 128) :
    (V m c main_v80 : FVec Ideal S8192x128 .f32) (ix2 (rowOf r n) ⟨h.val, hh⟩) = lseAt (AQ m c) (AK m c) r h n := by
  rw [V_lse]
  exact (lanes_at _ _ _).trans (v81_at _ _ r h n)

/-- The row terms the launch finds. -/
theorem c_at (r : Fin 4) (n : Fin 2048) (h : Fin 24) (hh : h.val < 128) :
    (V m c main_v78 : FVec Ideal S8192x128 .f32) (ix2 (rowOf r n) ⟨h.val, hh⟩)
      = termAt (AQ m c) (AK m c) (AV m c) (AO m c) (AL m c) r h n := by
  rw [V_c]
  exact (lanes_at _ _ _).trans (rowTerm_at _ _ _ _ _ r h n)

end Cert.Dil.Four

end
-- ==== Proof.Dil.Four.Frame.lean ====
module

public import proofs.«01_k».proof.Proof.Gen.Kernel6Ideal.Frame
public import proofs.«01_k».proof.Proof.Gen.Kernel6Ideal.Skeleton
public import proofs.«01_k».proof.Proof.Dil.Four.RunA
public import proofs.«01_k».proof.Proof.Dil.Four.RunC
public import Idealize.ShloMosaic.Lib.Claim

/-!
# The run of the whole call

The grid walks, for each residue class, its four blocks of queries and one point more. What the two carried blocks and
the three output blocks hold after a point is stated by recursion on the points (`held`); at the last point of a class
the query gradient's block is left as the point before left it.
-/

@[expose] public section

set_option maxRecDepth 16384

noncomputable section

namespace Cert.Dil.Four

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem c0_iff : ∀ t : Fin cfg0.N, C0 (grid0.coords t) ↔ t.val % 17 = 0 :=
  (by decide +kernel : ∀ t : Fin grid0.N, C0 (grid0.coords t) ↔ t.val % 17 = 0)

theorem c1_iff : ∀ t : Fin cfg0.N, C1 (grid0.coords t) ↔ t.val % 17 ≠ 16 :=
  (by decide +kernel : ∀ t : Fin grid0.N, C1 (grid0.coords t) ↔ t.val % 17 ≠ 16)

theorem c2_iff : ∀ t : Fin cfg0.N, C2 (grid0.coords t) ↔ t.val % 17 = 16 :=
  (by decide +kernel : ∀ t : Fin grid0.N, C2 (grid0.coords t) ↔ t.val % 17 = 16)

/-- The two blocks of scratch memory that carry the other half of the gradients of keys and values. -/
abbrev scr0 : Memref sig .tc .vmem S128x3072 .f32 := Memref.whole cc0_scratch0
abbrev scr1 : Memref sig .tc .vmem S128x3072 .f32 := Memref.whole cc0_scratch1

theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The body at the first point `t` of a class, on the blocks the point is handed. -/
def atA (c : Dev nD) (t : Fin cfg0.N) (h : t.val % 17 = 0) :=
  runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scr0 (Memref.isWhole_whole _) scr1 (Memref.isWhole_whole _)
    ((c0_iff t).mpr h) ((c1_iff t).mpr (by omega)) (fun e => absurd ((c2_iff t).mp e) (by omega))
    (iblk m c 0 t) (iblk m c 1 t) (iblk m c 2 t) (iblk m c 3 t) (iblk m c 4 t) (iblk m c 5 t) (iblk m c 6 t) (iblk m c 7 t)

/-- The body at an inner point `t`, on the blocks the point is handed and what is carried. -/
def atB (c : Dev nD) (t : Fin cfg0.N) (h : t.val % 17 ≠ 0) (h' : t.val % 17 ≠ 16) (x11 x12 : Vec F S128x3072 .f32) :=
  runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scr0 (Memref.isWhole_whole _) scr1 (Memref.isWhole_whole _)
    (fun e => h ((c0_iff t).mp e)) ((c1_iff t).mpr h') (fun e => h' ((c2_iff t).mp e))
    (iblk m c 0 t) (iblk m c 1 t) (iblk m c 2 t) (iblk m c 3 t) (iblk m c 4 t) (iblk m c 5 t) (iblk m c 6 t) (iblk m c 7 t) x11 x12

/-- The body at the last point `t` of a class. -/
def atC (c : Dev nD) (t : Fin cfg0.N) (h : t.val % 17 = 16) (x8 : Vec F S128x3072 .bf16) (x11 x12 : Vec F S128x3072 .f32) :=
  runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scr0 (Memref.isWhole_whole _) scr1 (Memref.isWhole_whole _)
    (fun e => absurd ((c0_iff t).mp e) (by omega)) (fun e => (c1_iff t).mp e h) ((c2_iff t).mpr h)
    (iblk m c 0 t) (iblk m c 1 t) (iblk m c 2 t) (iblk m c 3 t) (iblk m c 4 t) (iblk m c 5 t) (iblk m c 6 t) (iblk m c 7 t) x8 x11 x12

/-- A block's contents after a point: the gradients of queries, keys and values, and the two carried blocks. -/
abbrev Held (F : FTy → Type) : Type :=
  Vec F S128x3072 .bf16 × Vec F S128x3072 .bf16 × Vec F S128x3072 .bf16 × Vec F S128x3072 .f32 × Vec F S128x3072 .f32

/-- What one point leaves, over what the point before left. -/
def next (c : Dev nD) (t : Fin cfg0.N) (p : Held F) : Held F :=
  if h : t.val % 17 = 0 then
    (View.canon (atA m c t h).1, View.canon (atA m c t h).2.1, View.canon (atA m c t h).2.2.1,
      View.canon (atA m c t h).2.2.2.1, View.canon (atA m c t h).2.2.2.2.1)
  else if h' : t.val % 17 = 16 then
    (p.1, View.canon (atC m c t h' p.1 p.2.2.2.1 p.2.2.2.2).1, View.canon (atC m c t h' p.1 p.2.2.2.1 p.2.2.2.2).2.1,
      p.2.2.2.1, p.2.2.2.2)
  else
    (View.canon (atB m c t h h' p.2.2.2.1 p.2.2.2.2).1, View.canon (atB m c t h h' p.2.2.2.1 p.2.2.2.2).2.1,
      View.canon (atB m c t h h' p.2.2.2.1 p.2.2.2.2).2.2.1, View.canon (atB m c t h h' p.2.2.2.1 p.2.2.2.2).2.2.2.1,
      View.canon (atB m c t h h' p.2.2.2.1 p.2.2.2.2).2.2.2.2.1)

set_option maxHeartbeats 8000000 in
theorem next_A (c : Dev nD) (t : Fin cfg0.N) (p : Held F) (h : t.val % 17 = 0) :
    next m c t p = (View.canon (atA m c t h).1, View.canon (atA m c t h).2.1, View.canon (atA m c t h).2.2.1,
      View.canon (atA m c t h).2.2.2.1, View.canon (atA m c t h).2.2.2.2.1) := by
  unfold next; rw [dif_pos h]

set_option maxHeartbeats 8000000 in
theorem next_B (c : Dev nD) (t : Fin cfg0.N) (p : Held F) (h : t.val % 17 ≠ 0) (h' : t.val % 17 ≠ 16) :
    next m c t p = (View.canon (atB m c t h h' p.2.2.2.1 p.2.2.2.2).1,
      View.canon (atB m c t h h' p.2.2.2.1 p.2.2.2.2).2.1,
      View.canon (atB m c t h h' p.2.2.2.1 p.2.2.2.2).2.2.1,
      View.canon (atB m c t h h' p.2.2.2.1 p.2.2.2.2).2.2.2.1,
      View.canon (atB m c t h h' p.2.2.2.1 p.2.2.2.2).2.2.2.2.1) := by
  unfold next; rw [dif_neg h, dif_neg h']

set_option maxHeartbeats 8000000 in
theorem next_C (c : Dev nD) (t : Fin cfg0.N) (p : Held F) (h : t.val % 17 = 16) :
    next m c t p = (p.1,
      View.canon (atC m c t h p.1 p.2.2.2.1 p.2.2.2.2).1,
      View.canon (atC m c t h p.1 p.2.2.2.1 p.2.2.2.2).2.1,
      p.2.2.2.1, p.2.2.2.2) := by
  unfold next; rw [dif_neg (by omega), dif_pos h]

set_option maxHeartbeats 8000000 in
/-- What the blocks hold after point `n`. -/
def held (c : Dev nD) : (n : ℕ) → n < cfg0.N → Held F
  | 0, hn => (View.canon (atA m c ⟨0, hn⟩ rfl).1, View.canon (atA m c ⟨0, hn⟩ rfl).2.1,
      View.canon (atA m c ⟨0, hn⟩ rfl).2.2.1, View.canon (atA m c ⟨0, hn⟩ rfl).2.2.2.1,
      View.canon (atA m c ⟨0, hn⟩ rfl).2.2.2.2.1)
  | n + 1, hn => next m c ⟨n + 1, hn⟩ (held c n (Nat.lt_of_succ_lt hn))

/-- What the point before `t` left. -/
def prior (c : Dev nD) (t : Fin cfg0.N) : Held F :=
  held m c (t.val - 1) (Nat.lt_of_le_of_lt (Nat.sub_le _ _) t.isLt)

set_option maxHeartbeats 8000000 in
theorem held_zero (c : Dev nD) (hn : 0 < cfg0.N) :
    held m c 0 hn = (View.canon (atA m c ⟨0, hn⟩ rfl).1, View.canon (atA m c ⟨0, hn⟩ rfl).2.1,
      View.canon (atA m c ⟨0, hn⟩ rfl).2.2.1, View.canon (atA m c ⟨0, hn⟩ rfl).2.2.2.1,
      View.canon (atA m c ⟨0, hn⟩ rfl).2.2.2.2.1) := by
  rw [held]

set_option maxHeartbeats 8000000 in
theorem held_succ (c : Dev nD) (n : ℕ) (hn : n + 1 < cfg0.N) :
    held m c (n + 1) hn = next m c ⟨n + 1, hn⟩ (prior m c ⟨n + 1, hn⟩) := by
  rw [held, prior]
  rfl

set_option maxHeartbeats 8000000 in
theorem held_A (c : Dev nD) (t : Fin cfg0.N) (h : t.val % 17 = 0) :
    held m c t.val t.isLt = (View.canon (atA m c t h).1, View.canon (atA m c t h).2.1, View.canon (atA m c t h).2.2.1,
      View.canon (atA m c t h).2.2.2.1, View.canon (atA m c t h).2.2.2.2.1) := by
  obtain ⟨n, hn⟩ := t
  cases n with
  | zero => exact held_zero m c hn
  | succ n => exact (held_succ m c n hn).trans (next_A m c ⟨n + 1, hn⟩ _ h)

set_option maxHeartbeats 8000000 in
theorem held_B (c : Dev nD) (t : Fin cfg0.N) (h : t.val % 17 ≠ 0) (h' : t.val % 17 ≠ 16) :
    held m c t.val t.isLt = (View.canon (atB m c t h h' (prior m c t).2.2.2.1 (prior m c t).2.2.2.2).1,
      View.canon (atB m c t h h' (prior m c t).2.2.2.1 (prior m c t).2.2.2.2).2.1,
      View.canon (atB m c t h h' (prior m c t).2.2.2.1 (prior m c t).2.2.2.2).2.2.1,
      View.canon (atB m c t h h' (prior m c t).2.2.2.1 (prior m c t).2.2.2.2).2.2.2.1,
      View.canon (atB m c t h h' (prior m c t).2.2.2.1 (prior m c t).2.2.2.2).2.2.2.2.1) := by
  obtain ⟨n, hn⟩ := t
  cases n with
  | zero => exact absurd (Nat.zero_mod _) h
  | succ n => exact (held_succ m c n hn).trans (next_B m c ⟨n + 1, hn⟩ _ h h')

set_option maxHeartbeats 8000000 in
theorem held_C (c : Dev nD) (t : Fin cfg0.N) (h : t.val % 17 = 16) :
    held m c t.val t.isLt = ((prior m c t).1,
      View.canon (atC m c t h (prior m c t).1 (prior m c t).2.2.2.1 (prior m c t).2.2.2.2).1,
      View.canon (atC m c t h (prior m c t).1 (prior m c t).2.2.2.1 (prior m c t).2.2.2.2).2.1,
      (prior m c t).2.2.2.1, (prior m c t).2.2.2.2) := by
  obtain ⟨n, hn⟩ := t
  cases n with
  | zero => exact absurd h (by simp)
  | succ n => exact (held_succ m c n hn).trans (next_C m c ⟨n + 1, hn⟩ _ h)

/-! ## The stores of a point cover their blocks -/

theorem covA8 (c : Dev nD) (t : Fin cfg0.N) (h : t.val % 17 = 0) :
    ∀ y, ∃ p ∈ (atA m c t h).1, y ∈ p.1.set :=
  View.cover_of_tiledL (atA m c t h).1 S128x128.size (by sl_kernel_rfl)

theorem covA9 (c : Dev nD) (t : Fin cfg0.N) (h : t.val % 17 = 0) :
    ∀ y, ∃ p ∈ (atA m c t h).2.1, y ∈ p.1.set :=
  View.cover_of_tiledL (atA m c t h).2.1 S128x128.size (by sl_kernel_rfl)

theorem covA10 (c : Dev nD) (t : Fin cfg0.N) (h : t.val % 17 = 0) :
    ∀ y, ∃ p ∈ (atA m c t h).2.2.1, y ∈ p.1.set :=
  View.cover_of_tiledL (atA m c t h).2.2.1 S128x128.size (by sl_kernel_rfl)

theorem covA11 (c : Dev nD) (t : Fin cfg0.N) (h : t.val % 17 = 0) :
    ∀ y, ∃ p ∈ (atA m c t h).2.2.2.1, y ∈ p.1.set :=
  View.cover_of_wholeMem (atA m c t h).2.2.2.1 (by sl_whole_mem)

theorem covA12 (c : Dev nD) (t : Fin cfg0.N) (h : t.val % 17 = 0) :
    ∀ y, ∃ p ∈ (atA m c t h).2.2.2.2.1, y ∈ p.1.set :=
  View.cover_of_wholeMem (atA m c t h).2.2.2.2.1 (by sl_whole_mem)

theorem covB8 (c : Dev nD) (t : Fin cfg0.N) (h : t.val % 17 ≠ 0) (h' : t.val % 17 ≠ 16) (x11 x12 : Vec F S128x3072 .f32) :
    ∀ y, ∃ p ∈ (atB m c t h h' x11 x12).1, y ∈ p.1.set :=
  View.cover_of_tiledL (atB m c t h h' x11 x12).1 S128x128.size (by sl_kernel_rfl)

theorem covB9 (c : Dev nD) (t : Fin cfg0.N) (h : t.val % 17 ≠ 0) (h' : t.val % 17 ≠ 16) (x11 x12 : Vec F S128x3072 .f32) :
    ∀ y, ∃ p ∈ (atB m c t h h' x11 x12).2.1, y ∈ p.1.set :=
  View.cover_of_tiledL (atB m c t h h' x11 x12).2.1 S128x128.size (by sl_kernel_rfl)

theorem covB10 (c : Dev nD) (t : Fin cfg0.N) (h : t.val % 17 ≠ 0) (h' : t.val % 17 ≠ 16) (x11 x12 : Vec F S128x3072 .f32) :
    ∀ y, ∃ p ∈ (atB m c t h h' x11 x12).2.2.1, y ∈ p.1.set :=
  View.cover_of_tiledL (atB m c t h h' x11 x12).2.2.1 S128x128.size (by sl_kernel_rfl)

theorem covB11 (c : Dev nD) (t : Fin cfg0.N) (h : t.val % 17 ≠ 0) (h' : t.val % 17 ≠ 16) (x11 x12 : Vec F S128x3072 .f32) :
    ∀ y, ∃ p ∈ (atB m c t h h' x11 x12).2.2.2.1, y ∈ p.1.set :=
  View.cover_of_tiledL (atB m c t h h' x11 x12).2.2.2.1 S128x128.size (by sl_kernel_rfl)

theorem covB12 (c : Dev nD) (t : Fin cfg0.N) (h : t.val % 17 ≠ 0) (h' : t.val % 17 ≠ 16) (x11 x12 : Vec F S128x3072 .f32) :
    ∀ y, ∃ p ∈ (atB m c t h h' x11 x12).2.2.2.2.1, y ∈ p.1.set :=
  View.cover_of_tiledL (atB m c t h h' x11 x12).2.2.2.2.1 S128x128.size (by sl_kernel_rfl)

theorem covC9 (c : Dev nD) (t : Fin cfg0.N) (h : t.val % 17 = 16) (x8 : Vec F S128x3072 .bf16) (x11 x12 : Vec F S128x3072 .f32) :
    ∀ y, ∃ p ∈ (atC m c t h x8 x11 x12).1, y ∈ p.1.set :=
  View.cover_of_wholeMem (atC m c t h x8 x11 x12).1 (by sl_whole_mem)

theorem covC10 (c : Dev nD) (t : Fin cfg0.N) (h : t.val % 17 = 16) (x8 : Vec F S128x3072 .bf16) (x11 x12 : Vec F S128x3072 .f32) :
    ∀ y, ∃ p ∈ (atC m c t h x8 x11 x12).2.1, y ∈ p.1.set :=
  View.cover_of_wholeMem (atC m c t h x8 x11 x12).2.1 (by sl_whole_mem)

/-! ## The pipeline's data -/

/-- What holds between points: the carried blocks at what the last point left. -/
def inv (c : Dev nD) : (n : ℕ) → n ≤ cfg0.N → sProp 𝕄
  | 0, _ => Pipeline.ΦA spec0 c
  | n + 1, hn => iprop(iprop(owns (c : Thread nD τ) scr0 fullShare (held m c n hn).2.2.2.1
      ∗ owns (c : Thread nD τ) scr1 fullShare (held m c n hn).2.2.2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr0 fullShare (held m c n hn).2.2.2.1
      ∗ owns (c : Thread nD τ) scr1 fullShare (held m c n hn).2.2.2.2) ∗ (∃ r, prngReg c r)) := rfl

theorem inv_pos (c : Dev nD) (n : ℕ) (h : n ≤ cfg0.N) (hz : n ≠ 0) :
    inv m c n h = iprop(iprop(owns (c : Thread nD τ) scr0 fullShare (held m c (n - 1) (by omega)).2.2.2.1
      ∗ owns (c : Thread nD τ) scr1 fullShare (held m c (n - 1) (by omega)).2.2.2.2) ∗ (∃ r, prngReg c r)) := by
  cases n with
  | zero => exact absurd rfl hz
  | succ n => rfl

/-- The arrays as the call finds them; after each point the inputs' blocks unchanged and the outputs' as `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (held m c t.val t.isLt).1
    | ⟨9, _⟩ => (held m c t.val t.isLt).2.1
    | ⟨10, _⟩ => (held m c t.val t.isLt).2.2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (held m c t.val t.isLt).1 := by dsimp only [dats]
theorem after_9 (c : Dev nD) (t : Fin cfg0.N) : (dats m 0 c).after 9 t = (held m c t.val t.isLt).2.1 := by dsimp only [dats]
theorem after_10 (c : Dev nD) (t : Fin cfg0.N) : (dats m 0 c).after 10 t = (held m c t.val t.isLt).2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem not_flush_8 : ∀ t : Fin cfg0.N, t.val % 17 = 15 → (cfg0.win 8).flush t = false :=
  (by decide +kernel : ∀ t : Fin grid0.N, t.val % 17 = 15 → (cfg0.win 8).flush t = false)

theorem flush_8 : ∀ t : Fin cfg0.N, t.val % 17 = 16 → (cfg0.win 8).flush t = true :=
  (by decide +kernel : ∀ t : Fin grid0.N, t.val % 17 = 16 → (cfg0.win 8).flush t = true)

theorem live_8 (t : Fin cfg0.N) (h : t.val % 17 ≠ 16) : cfg0.idle 8 (grid0.coords t) = false := by
  have e : C1 (grid0.coords t) := (c1_iff t).mpr h
  show (!(k0_cond2 (grid0.coords t) == 1#1)) = false
  rw [show k0_cond2 (grid0.coords t) = 1#1 from e]; rfl

theorem idle_8 (t : Fin cfg0.N) (h : t.val % 17 = 16) : cfg0.idle 8 (grid0.coords t) = true := by
  have e : ¬C1 (grid0.coords t) := fun e => (c1_iff t).mp e h
  show (!(k0_cond2 (grid0.coords t) == 1#1)) = true
  rw [show (k0_cond2 (grid0.coords t) == 1#1) = false from beq_eq_false_iff_ne.mpr e]; rfl

theorem live_9 (t : Fin cfg0.N) : (!(k0_cond2 (grid0.coords t) == 1#1) && !(k0_cond3 (grid0.coords t) == 1#1)) = false := by
  by_cases h : t.val % 17 = 16
  · rw [show k0_cond3 (grid0.coords t) = 1#1 from (c2_iff t).mpr h]; simp
  · rw [show k0_cond2 (grid0.coords t) = 1#1 from (c1_iff t).mpr h]; simp

/-- At the last point of a class the query gradient's buffer still holds what the point before left. -/
theorem before_8 (c : Dev nD) (t : Fin cfg0.N) (h : t.val % 17 = 16) (d) :
    (dats m 0 c).before 8 t d = (prior m c t).1 := by
  rw [(dats m 0 c).before_of_pos 8 t (by omega) rfl, not_flush_8 _ (by show (t.val - 1) % 17 = 15; omega), if_neg Bool.false_ne_true]
  unfold Dat.left
  rw [live_8 _ (by show (t.val - 1) % 17 ≠ 16; omega)]
  exact after_8 m c _

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_9 (c : Dev nD) (t : Fin cfg0.N) : (dats m 0 c).leavesExact 9 t = owns (c : Thread nD τ) (st0_9 t) fullShare (held m c t.val t.isLt).2.1 := by
  unfold Dat.leavesExact; rw [show cfg0.idle 9 (grid0.coords t) = false from live_9 t, after_9]
theorem leaves_10 (c : Dev nD) (t : Fin cfg0.N) : (dats m 0 c).leavesExact 10 t = owns (c : Thread nD τ) (st0_10 t) fullShare (held m c t.val t.isLt).2.2.1 := by
  unfold Dat.leavesExact; rw [show cfg0.idle 10 (grid0.coords t) = false from live_9 t, after_10]
theorem leaves_8 (c : Dev nD) (t : Fin cfg0.N) : (dats m 0 c).leavesExact 8 t = owns (c : Thread nD τ) (st0_8 t) fullShare (held m c t.val t.isLt).1 := by
  unfold Dat.leavesExact
  by_cases h : t.val % 17 = 16
  · rw [idle_8 t h, flush_8 t h, after_8]
  · rw [live_8 t h, after_8]

set_option maxHeartbeats 4800000 in
theorem body_A0 (c : Dev nD) (t : Fin cfg0.N) (h : t.val % 17 = 0) (hz : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_zero m c _ _ hz, inv_eq]
  rw [held_A m c t h]
  dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  iintro ⟨H0, H1, H2, H3, H4, H5, H6, H7, ⟨%e8, H8⟩, ⟨%e9, H9⟩, ⟨%e10, H10⟩, ⟨%f0, S0⟩, ⟨%f1, S1⟩⟩
  isplitl [S0 S1 Hg]
  · isplitl [S0 S1]
    · isplitl [S0]
      · unfold owns; iexists _; isplitr
        swap; · iexact S0
        ipureintro; exact View.read_writes_eq_canon _ _ _ (covA11 m c t h)
      unfold owns; iexists _; isplitr
      swap; · iexact S1
      ipureintro; exact View.read_writes_eq_canon _ _ _ (covA12 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (covA8 m c t h)
  isplitl [H9]
  · unfold owns; iexists _; isplitr
    swap; · iexact H9
    ipureintro; exact View.read_writes_eq_canon _ _ _ (covA9 m c t h)
  unfold owns; iexists _; isplitr
  swap; · iexact H10
  ipureintro; exact View.read_writes_eq_canon _ _ _ (covA10 m c t h)

set_option maxHeartbeats 4800000 in
theorem body_A1 (c : Dev nD) (t : Fin cfg0.N) (h : t.val % 17 = 0) (hz : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_pos m c _ _ hz]
  rw [held_A m c t h]
  dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexists _; iexact S0
  isplitl [S1]; · iexists _; iexact S1
  iintro ⟨H0, H1, H2, H3, H4, H5, H6, H7, ⟨%e8, H8⟩, ⟨%e9, H9⟩, ⟨%e10, H10⟩, ⟨%f0, S0⟩, ⟨%f1, S1⟩⟩
  isplitl [S0 S1 Hg]
  · isplitl [S0 S1]
    · isplitl [S0]
      · unfold owns; iexists _; isplitr
        swap; · iexact S0
        ipureintro; exact View.read_writes_eq_canon _ _ _ (covA11 m c t h)
      unfold owns; iexists _; isplitr
      swap; · iexact S1
      ipureintro; exact View.read_writes_eq_canon _ _ _ (covA12 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (covA8 m c t h)
  isplitl [H9]
  · unfold owns; iexists _; isplitr
    swap; · iexact H9
    ipureintro; exact View.read_writes_eq_canon _ _ _ (covA9 m c t h)
  unfold owns; iexists _; isplitr
  swap; · iexact H10
  ipureintro; exact View.read_writes_eq_canon _ _ _ (covA10 m c t h)

set_option maxHeartbeats 4800000 in
theorem body_B (c : Dev nD) (t : Fin cfg0.N) (h : t.val % 17 ≠ 0) (h' : t.val % 17 ≠ 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_pos m c _ _ (by omega)]
  rw [held_B m c t h h']
  dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atB m c t h h' (prior m c t).2.2.2.1 (prior m c t).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  iintro ⟨H0, H1, H2, H3, H4, H5, H6, H7, ⟨%e8, H8⟩, ⟨%e9, H9⟩, ⟨%e10, H10⟩, ⟨%f0, S0⟩, ⟨%f1, S1⟩⟩
  isplitl [S0 S1 Hg]
  · isplitl [S0 S1]
    · isplitl [S0]
      · unfold owns; iexists _; isplitr
        swap; · iexact S0
        ipureintro; exact View.read_writes_eq_canon _ _ _ (covB11 m c t h h' _ _)
      unfold owns; iexists _; isplitr
      swap; · iexact S1
      ipureintro; exact View.read_writes_eq_canon _ _ _ (covB12 m c t h h' _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (covB8 m c t h h' _ _)
  isplitl [H9]
  · unfold owns; iexists _; isplitr
    swap; · iexact H9
    ipureintro; exact View.read_writes_eq_canon _ _ _ (covB9 m c t h h' _ _)
  unfold owns; iexists _; isplitr
  swap; · iexact H10
  ipureintro; exact View.read_writes_eq_canon _ _ _ (covB10 m c t h h' _ _)

set_option maxHeartbeats 4800000 in
theorem body_C (c : Dev nD) (t : Fin cfg0.N) (h : t.val % 17 = 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [show (dats m 0 c).owesAt () t.succ = (dats m 0 c).owesAt () t.castSucc from rfl]
  rw [show (dats m 0 c).Φ t.succ = inv m c (t.val + 1) t.isLt from rfl, inv_succ, inv_castSucc m c t]
  rw [inv_pos m c _ _ (by omega)]
  rw [held_C m c t h]
  simp only [before_8 m c t h]
  try dsimp only
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atC m c t h (prior m c t).1 (prior m c t).2.2.2.1 (prior m c t).2.2.2.2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  iintro ⟨H0, H1, H2, H3, H4, H5, H6, H7, H8, ⟨%e9, H9⟩, ⟨%e10, H10⟩, S0, S1⟩
  isplitl [S0 S1 Hg]
  · isplitl [S0 S1]
    · isplitl [S0]
      · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (covC9 m c t h _ _ _)
  unfold owns; iexists _; isplitr
  swap; · iexact H10
  ipureintro; exact View.read_writes_eq_canon _ _ _ (covC10 m c t h _ _ _)

theorem body_at (c : Dev nD) (t : Fin cfg0.N) :
    bodyPre m c t ⊢ wp frame (wpE (defs₀ (F := F)) Variants.none c none) Set.univ (bodyAt0 t) (fun _ => bodyPost m c t) := by
  by_cases h : t.val % 17 = 0
  · by_cases hz : t.val = 0
    · exact body_A0 m c t h hz
    · exact body_A1 m c t h hz
  · by_cases h' : t.val % 17 = 16
    · exact body_C m c t h'
    · exact body_B m c t h h'

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 68 := N_0; omega), inv_eq]
  iintro ⟨⟨S0, S1⟩, Hg⟩
  isplitl [S0 S1]
  · isplitl [S0]
    · iexists _; iexact S0
    iexists _; iexact S1
  iexact Hg

/-! ## The run -/

set_option backward.isDefEq.respectTransparency.types false in
/-- Every execution ends with each array as the points' write-backs leave it and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Dil.Four

end
-- ==== Proof.Dil.Four.Blocks.lean ====
module

public import proofs.«01_k».proof.Proof.Dil.Four.Point
public import proofs.«01_k».proof.Proof.Dil.Four.Stores
public import proofs.«01_k».proof.Proof.Dil.Four.Side
public import proofs.«01_k».proof.Proof.Dil.Four.Frame
public import Idealize.ShloMosaic.Lib.Pipeline.ValueKit

/-!
# The blocks a point is handed

Point `t` belongs to class `t / 17` and is handed the block `min (t % 17) 15` of its queries, and of keys and values that
block and the one before.
-/

@[expose] public section

set_option maxRecDepth 16384

noncomputable section

namespace Cert.Dil.Four

open Idealize.ShloMosaic Idealize.ShloMosaic.TcCoe Idealize.SL.Sem Cert.MemAttn
open Cert.Kernel6Ideal Cert.Kernel6Ideal.Gen

variable (m : (ℓ : Loc nD τ sig) → Buf (Elt Ideal) ℓ) (c : Dev nD) (t : Fin cfg0.N)

theorem pts (t : Fin cfg0.N) : t.val < 68 := lt_of_lt_of_eq t.isLt N_0

/-- The class of a point, -/
def cls (t : Fin cfg0.N) : Fin 4 := ⟨t.val / 17, by have := pts t; omega⟩
/-- and its block. -/
def at_ (t : Fin cfg0.N) : Fin 16 := ⟨min (t.val % 17) 15, by omega⟩

/-- The blocks the points read and write. -/
theorem idx : ∀ t : Fin cfg0.N, win0_0.index t = ![16 * (t.val / 17) + min (t.val % 17) 15, 0]
    ∧ win0_1.index t = ![16 * (t.val / 17) + (min (t.val % 17) 15 - 1), 0]
    ∧ win0_2.index t = ![16 * (t.val / 17) + min (t.val % 17) 15, 0]
    ∧ win0_3.index t = ![16 * (t.val / 17) + (min (t.val % 17) 15 - 1), 0]
    ∧ win0_4.index t = ![16 * (t.val / 17) + min (t.val % 17) 15, 0]
    ∧ win0_5.index t = ![16 * (t.val / 17) + min (t.val % 17) 15, 0]
    ∧ win0_6.index t = ![16 * (t.val / 17) + min (t.val % 17) 15, 0]
    ∧ win0_7.index t = ![16 * (t.val / 17) + min (t.val % 17) 15, 0]
    ∧ win0_8.index t = ![16 * (t.val / 17) + min (t.val % 17) 15, 0]
    ∧ win0_9.index t = ![16 * (t.val / 17) + (t.val % 17 - 1), 0]
    ∧ win0_10.index t = ![16 * (t.val / 17) + (t.val % 17 - 1), 0] :=
  (by decide +kernel : ∀ t : Fin grid0.N, _)

/-- The point's second coordinate. -/
theorem coord_one : ∀ t : Fin cfg0.N, (grid0.coords t 1).val = t.val % 17 :=
  (by decide +kernel : ∀ t : Fin grid0.N, (grid0.coords t 1).val = t.val % 17)

/-- The slots in use at a point, by its block. -/
theorem valid_eq (h : t.val % 17 ≠ 16) : validAt (grid0.coords t) = k0_pay9 (BitVec.ofNat 32 (at_ t).val) := by
  have : (at_ t).val = t.val % 17 := show min (t.val % 17) 15 = t.val % 17 by omega
  rw [validAt, coord_one, this]

/-- The blocks of a point as matrices of numbers. -/
abbrev X0 : Vec Ideal S128x3072 .bf16 := iblk m c 0 t
abbrev X1 : Vec Ideal S128x3072 .bf16 := iblk m c 1 t
abbrev X2 : Vec Ideal S128x3072 .bf16 := iblk m c 2 t
abbrev X3 : Vec Ideal S128x3072 .bf16 := iblk m c 3 t
abbrev X4 : Vec Ideal S128x3072 .bf16 := iblk m c 4 t
abbrev X5 : Vec Ideal S128x3072 .bf16 := iblk m c 5 t
abbrev X6 : Vec Ideal S128x128 .f32 := iblk m c 6 t
abbrev X7 : Vec Ideal S128x128 .f32 := iblk m c 7 t

/-- The queries of the block. -/
theorem blk0 (h : Fin 24) (i e : Fin 128) : View.ld (X0 m c t) (cols h) (ix2 i e)
    = ent (AQ m c) (cls t) h (qrow (at_ t) i) e := by
  have ht := pts t
  rw [ld_cols, ent]
  simp only [rowOf, col, cls, qrow, at_]
  blk_point [iblk, V_main_arg0, idx t]

/-- The keys of the block before. -/
theorem blk1 (h : Fin 24) (hj : 0 < (at_ t).val) (i e : Fin 128) : View.ld (X1 m c t) (cols h) (ix2 i e)
    = ent (AK m c) (cls t) h (key (at_ t) (first i)) e := by
  have ht := pts t
  rw [ld_cols, ent]
  simp only [at_] at hj
  simp only [rowOf, col, cls, key, first, at_]
  blk_point [iblk, V_main_arg1, idx t]

/-- The keys of the block. -/
theorem blk2 (h : Fin 24) (i e : Fin 128) : View.ld (X2 m c t) (cols h) (ix2 i e)
    = ent (AK m c) (cls t) h (qrow (at_ t) i) e := by
  have ht := pts t
  rw [ld_cols, ent]
  simp only [rowOf, col, cls, qrow, at_]
  blk_point [iblk, V_main_arg1, idx t]

/-- The values of the block before. -/
theorem blk3 (h : Fin 24) (hj : 0 < (at_ t).val) (i e : Fin 128) : View.ld (X3 m c t) (cols h) (ix2 i e)
    = ent (AV m c) (cls t) h (key (at_ t) (first i)) e := by
  have ht := pts t
  rw [ld_cols, ent]
  simp only [at_] at hj
  simp only [rowOf, col, cls, key, first, at_]
  blk_point [iblk, V_main_arg2, idx t]

/-- The values of the block. -/
theorem blk4 (h : Fin 24) (i e : Fin 128) : View.ld (X4 m c t) (cols h) (ix2 i e)
    = ent (AV m c) (cls t) h (qrow (at_ t) i) e := by
  have ht := pts t
  rw [ld_cols, ent]
  simp only [rowOf, col, cls, qrow, at_]
  blk_point [iblk, V_main_arg2, idx t]

/-- The output's cotangent. -/
theorem blk5 (h : Fin 24) (i e : Fin 128) : View.ld (X5 m c t) (cols h) (ix2 i e)
    = ent (AO m c) (cls t) h (qrow (at_ t) i) e := by
  have ht := pts t
  rw [ld_cols, ent]
  simp only [rowOf, col, cls, qrow, at_]
  blk_point [iblk, V_main_arg3, idx t]

/-- The row terms. -/
theorem blk6 (h : Fin 24) (i : Fin 128) : wholeOf (X6 m c t) (ix2 i (lane h))
    = termAt (AQ m c) (AK m c) (AV m c) (AO m c) (AL m c) (cls t) h (qrow (at_ t) i) := by
  have ht := pts t
  rw [wholeOf_at, ← c_at m c (cls t) (qrow (at_ t) i) h (by omega)]
  simp only [rowOf, cls, qrow, at_, lane]
  blk_point [iblk, idx t]

/-- The log-sums. -/
theorem blk7 (h : Fin 24) (i : Fin 128) : wholeOf (X7 m c t) (ix2 i (lane h))
    = lseAt (AQ m c) (AK m c) (cls t) h (qrow (at_ t) i) := by
  have ht := pts t
  rw [wholeOf_at, ← lse_at m c (cls t) (qrow (at_ t) i) h (by omega)]
  simp only [rowOf, cls, qrow, at_, lane]
  blk_point [iblk, idx t]

/-! ## The heads at a point -/

/-- The gradient of the queries at a point. -/
theorem dqOf_at (ht : t.val % 17 ≠ 16) (h : Fin 24) (i e : Fin 128) :
    dqOf (grid0.coords t) (X0 m c t) (X1 m c t) (X2 m c t) (X3 m c t) (X4 m c t) (X5 m c t) (X6 m c t) (X7 m c t) h (ix2 i e)
      = dqAt (AQ m c) (AK m c) (AV m c) (AO m c) (AL m c) (cls t) h (qrow (at_ t) i) e := by
  rw [dqOf, valid_eq t ht]
  exact dq_point (blk0 m c t h) (blk1 m c t h) (blk2 m c t h) (blk3 m c t h) (blk4 m c t h) (blk5 m c t h)
    (blk6 m c t h) (blk7 m c t h) i e

/-- The gradient of the window's keys at a point. -/
theorem dkOf_at (ht : t.val % 17 ≠ 16) (h : Fin 24) (k : Fin 256) (hs : slot (at_ t) k) (e : Fin 128) :
    dkOf (grid0.coords t) (X0 m c t) (X1 m c t) (X2 m c t) (X3 m c t) (X4 m c t) (X5 m c t) (X6 m c t) (X7 m c t) h (ix2 k e)
      = dkPart (AQ m c) (AK m c) (AV m c) (AO m c) (AL m c) (cls t) h (at_ t) (key (at_ t) k) e := by
  rw [dkOf, valid_eq t ht]
  exact dk_point (blk0 m c t h) (blk1 m c t h) (blk2 m c t h) (blk3 m c t h) (blk4 m c t h) (blk5 m c t h)
    (blk6 m c t h) (blk7 m c t h) k hs e

/-- The gradient of the window's values at a point. -/
theorem dvOf_at (ht : t.val % 17 ≠ 16) (h : Fin 24) (k : Fin 256) (hs : slot (at_ t) k) (e : Fin 128) :
    dvOf (grid0.coords t) (X0 m c t) (X1 m c t) (X2 m c t) (X5 m c t) (X7 m c t) h (ix2 k e)
      = dvPart (AQ m c) (AK m c) (AO m c) (cls t) h (at_ t) (key (at_ t) k) e := by
  rw [dvOf, valid_eq t ht]
  exact dv_point (blk0 m c t h) (blk1 m c t h) (blk2 m c t h) (blk5 m c t h) (blk7 m c t h) k hs e

end Cert.Dil.Four

end
-- ==== Proof.Dil.Four.Arrays.lean ====
module

public import proofs.«01_k».proof.Proof.Dil.Four.Blocks

/-!
# The three result arrays after the run

The gradient of the queries is written block by block. The gradient of a block of keys or values is written at the point
after the block's own: what was carried, and the half of the queries of the block after it.
-/

@[expose] public section

set_option maxRecDepth 16384

noncomputable section

namespace Cert.Dil.Four

open Idealize.ShloMosaic Idealize.ShloMosaic.TcCoe Idealize.SL.Sem Cert.MemAttn
open Cert.Kernel6Ideal Cert.Kernel6Ideal.Gen

variable (m : (ℓ : Loc nD τ sig) → Buf (Elt Ideal) ℓ) (c : Dev nD) (t : Fin cfg0.N)

/-- The point before. -/
def back (t : Fin cfg0.N) : Fin cfg0.N := ⟨t.val - 1, Nat.lt_of_le_of_lt (Nat.sub_le _ _) t.isLt⟩

/-- The point before is of the same class and, where it is not the last block's, of the block before. -/
theorem back_eq (h0 : t.val % 17 ≠ 0) : cls (back t) = cls t
    ∧ (t.val % 17 ≠ 16 → ∀ hb : (at_ (back t)).val + 1 < 16, at_ t = ⟨(at_ (back t)).val + 1, hb⟩) :=
  ⟨Fin.ext (show (t.val - 1) / 17 = t.val / 17 by omega),
    fun h4 _ => Fin.ext (show min (t.val % 17) 15 = min ((t.val - 1) % 17) 15 + 1 by omega)⟩

/-- An array given by class, head, row and column. -/
def byEnt (f : Fin 4 → Fin 24 → Fin 2048 → Fin 128 → EReal) : Arr := fun y =>
  have h0 : (y 0).val < 8192 := (y 0).isLt
  have h1 : (y 1).val < 3072 := (y 1).isLt
  f ⟨(y 0).val / 2048, by omega⟩ ⟨(y 1).val / 128, by omega⟩ ⟨(y 0).val % 2048, by omega⟩ ⟨(y 1).val % 128, by omega⟩

theorem byEnt_at (f : Fin 4 → Fin 24 → Fin 2048 → Fin 128 → EReal) (r : Fin 4) (h : Fin 24) (n : Fin 2048) (e : Fin 128) :
    byEnt f (ix2 (rowOf r n) (col h e)) = f r h n e := by
  have key : ∀ a b c d, a = r → b = h → c = n → d = e → f a b c d = f r h n e := by
    rintro _ _ _ _ rfl rfl rfl rfl
    rfl
  exact key _ _ _ _ (Fin.ext (show (r.val * 2048 + n.val) / 2048 = r.val by omega))
    (Fin.ext (show (h.val * 128 + e.val) / 128 = h.val by omega))
    (Fin.ext (show (r.val * 2048 + n.val) % 2048 = n.val by omega))
    (Fin.ext (show (h.val * 128 + e.val) % 128 = e.val by omega))

/-- An index of a block by row, head and column. -/
theorem blk_idx (y : S128x3072.Idx) : ∃ (i : Fin 128) (h : Fin 24) (e : Fin 128), y = ix2 i (col h e) := by
  have h1 : (y 1).val < 3072 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

theorem flush_9 : ∀ t : Fin cfg0.N, (cfg0.win 9).flush t = true → t.val % 17 ≠ 0 :=
  (by decide +kernel : ∀ t : Fin grid0.N, (cfg0.win 9).flush t = true → t.val % 17 ≠ 0)

theorem flush_10 : ∀ t : Fin cfg0.N, (cfg0.win 10).flush t = true → t.val % 17 ≠ 0 :=
  (by decide +kernel : ∀ t : Fin grid0.N, (cfg0.win 10).flush t = true → t.val % 17 ≠ 0)

/-- A narrowing changes nothing over the reals. -/
theorem narrow_at (x : FVec Ideal S128x3072 .f32) (y : S128x3072.Idx) :
    (truncf (F := Ideal) (s := S128x3072) .bf16 x bitsLt_bf16_f32 : FVec Ideal S128x3072 .bf16) y = x y := rfl

set_option maxHeartbeats 8000000 in
/-- The gradient of the queries, at a point that computes it. -/
theorem inner_at (ht : t.val % 17 ≠ 16) (h : Fin 24) (i e : Fin 128) :
    (held m c t.val t.isLt).1 (ix2 i (col h e)) = dqAt (AQ m c) (AK m c) (AV m c) (AO m c) (AL m c) (cls t) h (qrow (at_ t) i) e := by
  by_cases h0 : t.val % 17 = 0
  · rw [held_A m c t h0]
    have hL : (atA m c t h0).1 = storesQ (grid0.coords t) (X0 m c t) (X1 m c t) (X2 m c t) (X3 m c t) (X4 m c t) (X5 m c t) (X6 m c t) (X7 m c t) := by
      unfold atA
      exact runA_q ..
    show View.canon (atA m c t h0).1 _ = _
    rw [hL, ← List.append_nil (storesQ (grid0.coords t) (X0 m c t) (X1 m c t) (X2 m c t) (X3 m c t) (X4 m c t) (X5 m c t) (X6 m c t) (X7 m c t)), storesQ, canon_heads]
    exact dqOf_at m c t ht h i e
  · rw [held_B m c t h0 ht]
    have hL : (atB m c t h0 ht (prior m c t).2.2.2.1 (prior m c t).2.2.2.2).1 = storesQ (grid0.coords t) (X0 m c t) (X1 m c t) (X2 m c t) (X3 m c t) (X4 m c t) (X5 m c t) (X6 m c t) (X7 m c t) := by
      unfold atB
      exact runB_q ..
    show View.canon (atB m c t h0 ht (prior m c t).2.2.2.1 (prior m c t).2.2.2.2).1 _ = _
    rw [hL, ← List.append_nil (storesQ (grid0.coords t) (X0 m c t) (X1 m c t) (X2 m c t) (X3 m c t) (X4 m c t) (X5 m c t) (X6 m c t) (X7 m c t)), storesQ, canon_heads]
    exact dqOf_at m c t ht h i e

set_option maxHeartbeats 8000000 in
/-- What a point leaves in the queries' block: the last point of a class leaves what the one before left. -/
theorem outQ_at (h : Fin 24) (i e : Fin 128) :
    (held m c t.val t.isLt).1 (ix2 i (col h e)) = dqAt (AQ m c) (AK m c) (AV m c) (AO m c) (AL m c) (cls t) h (qrow (at_ t) i) e := by
  by_cases h4 : t.val % 17 = 16
  · rw [held_C m c t h4, ← (back_eq t (by omega)).1,
      show at_ t = at_ (back t) from Fin.ext (show min (t.val % 17) 15 = min ((t.val - 1) % 17) 15 by omega)]
    exact inner_at m c (back t) (by show (t.val - 1) % 17 ≠ 16; omega) h i e
  · exact inner_at m c t h4 h i e

set_option maxHeartbeats 8000000 in
/-- What is carried of the keys' gradient: the half of the block's own queries. -/
theorem carryK_at (ht : t.val % 17 ≠ 16) (h : Fin 24) (a e : Fin 128) :
    (held m c t.val t.isLt).2.2.2.1 (ix2 a (col h e)) = dkPart (AQ m c) (AK m c) (AV m c) (AO m c) (AL m c) (cls t) h (at_ t) (qrow (at_ t) a) e := by
  have key : late (dkOf (grid0.coords t) (X0 m c t) (X1 m c t) (X2 m c t) (X3 m c t) (X4 m c t) (X5 m c t) (X6 m c t) (X7 m c t) h) (ix2 a e)
      = dkPart (AQ m c) (AK m c) (AV m c) (AO m c) (AL m c) (cls t) h (at_ t) (qrow (at_ t) a) e := by
    rw [late_at, dkOf_at m c t ht h _ (.inl (Nat.le_add_right _ _)), key_late]
  by_cases h0 : t.val % 17 = 0
  · rw [held_A m c t h0]
    obtain ⟨L, hL⟩ : ∃ L, (atA m c t h0).2.2.2.1 = carryK (grid0.coords t) (X0 m c t) (X1 m c t) (X2 m c t) (X3 m c t) (X4 m c t) (X5 m c t) (X6 m c t) (X7 m c t) ++ L := by
      unfold atA
      exact runA_ck ..
    show View.canon (atA m c t h0).2.2.2.1 _ = _
    rw [hL, carryK, canon_heads]
    exact key
  · rw [held_B m c t h0 ht]
    have hL : (atB m c t h0 ht (prior m c t).2.2.2.1 (prior m c t).2.2.2.2).2.2.2.1
        = carryK (grid0.coords t) (X0 m c t) (X1 m c t) (X2 m c t) (X3 m c t) (X4 m c t) (X5 m c t) (X6 m c t) (X7 m c t) := by
      unfold atB
      exact runB_ck ..
    show View.canon (atB m c t h0 ht (prior m c t).2.2.2.1 (prior m c t).2.2.2.2).2.2.2.1 _ = _
    rw [hL, ← List.append_nil (carryK (grid0.coords t) (X0 m c t) (X1 m c t) (X2 m c t) (X3 m c t) (X4 m c t) (X5 m c t) (X6 m c t) (X7 m c t)), carryK, canon_heads]
    exact key

set_option maxHeartbeats 8000000 in
/-- What is carried of the values' gradient: the half of the block's own queries. -/
theorem carryV_at (ht : t.val % 17 ≠ 16) (h : Fin 24) (a e : Fin 128) :
    (held m c t.val t.isLt).2.2.2.2 (ix2 a (col h e)) = dvPart (AQ m c) (AK m c) (AO m c) (cls t) h (at_ t) (qrow (at_ t) a) e := by
  have key : late (dvOf (grid0.coords t) (X0 m c t) (X1 m c t) (X2 m c t) (X5 m c t) (X7 m c t) h) (ix2 a e)
      = dvPart (AQ m c) (AK m c) (AO m c) (cls t) h (at_ t) (qrow (at_ t) a) e := by
    rw [late_at, dvOf_at m c t ht h _ (.inl (Nat.le_add_right _ _)), key_late]
  by_cases h0 : t.val % 17 = 0
  · rw [held_A m c t h0]
    obtain ⟨L, hL⟩ : ∃ L, (atA m c t h0).2.2.2.2.1 = carryV (grid0.coords t) (X0 m c t) (X1 m c t) (X2 m c t) (X5 m c t) (X7 m c t) ++ L := by
      unfold atA
      exact runA_cv ..
    show View.canon (atA m c t h0).2.2.2.2.1 _ = _
    rw [hL, carryV, canon_heads]
    exact key
  · rw [held_B m c t h0 ht]
    have hL : (atB m c t h0 ht (prior m c t).2.2.2.1 (prior m c t).2.2.2.2).2.2.2.2.1
        = carryV (grid0.coords t) (X0 m c t) (X1 m c t) (X2 m c t) (X5 m c t) (X7 m c t) := by
      unfold atB
      exact runB_cv ..
    show View.canon (atB m c t h0 ht (prior m c t).2.2.2.1 (prior m c t).2.2.2.2).2.2.2.2.1 _ = _
    rw [hL, ← List.append_nil (carryV (grid0.coords t) (X0 m c t) (X1 m c t) (X2 m c t) (X5 m c t) (X7 m c t)), carryV, canon_heads]
    exact key

/-- At the last point of a class the keys' block is the carried block. -/
theorem lastK (h4 : t.val % 17 = 16) : (held m c t.val t.isLt).2.1
    = (truncf (F := Ideal) (s := S128x3072) .bf16 (prior m c t).2.2.2.1 bitsLt_bf16_f32 : FVec Ideal S128x3072 .bf16) := by
  have e : (held m c t.val t.isLt).2.1
      = View.canon (atC m c t h4 (prior m c t).1 (prior m c t).2.2.2.1 (prior m c t).2.2.2.2).1 := by
    rw [held_C m c t h4]
  rw [e]
  unfold atC
  exact runC_k ..

/-- At the last point of a class the values' block is the carried block. -/
theorem lastV (h4 : t.val % 17 = 16) : (held m c t.val t.isLt).2.2.1
    = (truncf (F := Ideal) (s := S128x3072) .bf16 (prior m c t).2.2.2.2 bitsLt_bf16_f32 : FVec Ideal S128x3072 .bf16) := by
  have e : (held m c t.val t.isLt).2.2.1
      = View.canon (atC m c t h4 (prior m c t).1 (prior m c t).2.2.2.1 (prior m c t).2.2.2.2).2.1 := by
    rw [held_C m c t h4]
  rw [e]
  unfold atC
  exact runC_v ..

set_option maxHeartbeats 8000000 in
/-- What a point leaves in the keys' block: the whole gradient of the block before. -/
theorem outK_at (h0 : t.val % 17 ≠ 0) (h : Fin 24) (a e : Fin 128) :
    (held m c t.val t.isLt).2.1 (ix2 a (col h e)) = dkAt (AQ m c) (AK m c) (AV m c) (AO m c) (AL m c) (cls t) h (qrow (at_ (back t)) a) e := by
  obtain ⟨hc, hb⟩ := back_eq t h0
  have hp : (prior m c t).2.2.2.1 (ix2 a (col h e))
      = dkPart (AQ m c) (AK m c) (AV m c) (AO m c) (AL m c) (cls t) h (at_ (back t)) (qrow (at_ (back t)) a) e := by
    rw [← hc]
    exact carryK_at m c (back t) (by show (t.val - 1) % 17 ≠ 16; omega) h a e
  by_cases h4 : t.val % 17 = 16
  · have hb4 : ¬(at_ (back t)).val + 1 < 16 := by show ¬min ((t.val - 1) % 17) 15 + 1 < 16; omega
    rw [lastK m c t h4, narrow_at, dkAt_one _ _ _ _ _ _ _ _ hb4]
    exact hp
  · have hb4 : (at_ (back t)).val + 1 < 16 := by show min ((t.val - 1) % 17) 15 + 1 < 16; omega
    have hj := hb h4 hb4
    rw [held_B m c t h0 h4]
    have hL : (atB m c t h0 h4 (prior m c t).2.2.2.1 (prior m c t).2.2.2.2).2.1
        = storesK (grid0.coords t) (X0 m c t) (X1 m c t) (X2 m c t) (X3 m c t) (X4 m c t) (X5 m c t) (X6 m c t) (X7 m c t) (prior m c t).2.2.2.1 := by
      unfold atB
      exact runB_k ..
    show View.canon (atB m c t h0 h4 (prior m c t).2.2.2.1 (prior m c t).2.2.2.2).2.1 _ = _
    rw [hL, ← List.append_nil (storesK (grid0.coords t) (X0 m c t) (X1 m c t) (X2 m c t) (X3 m c t) (X4 m c t) (X5 m c t) (X6 m c t) (X7 m c t) (prior m c t).2.2.2.1), storesK, canon_heads,
      dkAt_two _ _ _ _ _ _ _ _ hb4, early_at, ld_cols, hp,
      dkOf_at m c t h4 h _ (.inr (by rw [hj]; exact Nat.succ_pos _)), hj]
    exact congrArg (fun n => _ + dkPart (AQ m c) (AK m c) (AV m c) (AO m c) (AL m c) (cls t) h _ n e) (key_early (at_ (back t)) hb4 a)

set_option maxHeartbeats 8000000 in
/-- What a point leaves in the values' block: the whole gradient of the block before. -/
theorem outV_at (h0 : t.val % 17 ≠ 0) (h : Fin 24) (a e : Fin 128) :
    (held m c t.val t.isLt).2.2.1 (ix2 a (col h e)) = dvAt (AQ m c) (AK m c) (AO m c) (cls t) h (qrow (at_ (back t)) a) e := by
  obtain ⟨hc, hb⟩ := back_eq t h0
  have hp : (prior m c t).2.2.2.2 (ix2 a (col h e))
      = dvPart (AQ m c) (AK m c) (AO m c) (cls t) h (at_ (back t)) (qrow (at_ (back t)) a) e := by
    rw [← hc]
    exact carryV_at m c (back t) (by show (t.val - 1) % 17 ≠ 16; omega) h a e
  by_cases h4 : t.val % 17 = 16
  · have hb4 : ¬(at_ (back t)).val + 1 < 16 := by show ¬min ((t.val - 1) % 17) 15 + 1 < 16; omega
    rw [lastV m c t h4, narrow_at, dvAt_one _ _ _ _ _ _ hb4]
    exact hp
  · have hb4 : (at_ (back t)).val + 1 < 16 := by show min ((t.val - 1) % 17) 15 + 1 < 16; omega
    have hj := hb h4 hb4
    rw [held_B m c t h0 h4]
    have hL : (atB m c t h0 h4 (prior m c t).2.2.2.1 (prior m c t).2.2.2.2).2.2.1
        = storesV (grid0.coords t) (X0 m c t) (X1 m c t) (X2 m c t) (X5 m c t) (X7 m c t) (prior m c t).2.2.2.2 := by
      unfold atB
      exact runB_v ..
    show View.canon (atB m c t h0 h4 (prior m c t).2.2.2.1 (prior m c t).2.2.2.2).2.2.1 _ = _
    rw [hL, ← List.append_nil (storesV (grid0.coords t) (X0 m c t) (X1 m c t) (X2 m c t) (X5 m c t) (X7 m c t) (prior m c t).2.2.2.2), storesV, canon_heads,
      dvAt_two _ _ _ _ _ _ hb4, early_at, ld_cols, hp,
      dvOf_at m c t h4 h _ (.inr (by rw [hj]; exact Nat.succ_pos _)), hj]
    exact congrArg (fun n => _ + dvPart (AQ m c) (AK m c) (AO m c) (cls t) h _ n e) (key_early (at_ (back t)) hb4 a)

/-- The gradient of the queries. -/
theorem dQ_final : (dats m 0 c).arrAt 8 (cfgs 0).N = byEnt (dqAt (AQ m c) (AK m c) (AV m c) (AO m c) (AL m c)) := by
  refine (dats m 0 c).arrAt_eq_of_covers 8 _ (by decide +kernel) fun t hf y => ?_
  obtain ⟨i, h, e, rfl⟩ := blk_idx y
  have ht := pts t
  have he : (win0_8.blk t).view.emb (ix2 i (col h e)) = ix2 (rowOf (cls t) (qrow (at_ t) i)) (col h e) := by

    funext a
    match a with
    | ⟨0, _⟩ => exact Fin.ext (by
        blk_simp [idx t]
        show _ = t.val / 17 * 2048 + (128 * min (t.val % 17) 15 + i.val)
        omega)
    | ⟨1, _⟩ => exact Fin.ext (by simp only [col]; blk_simp [idx t] <;> try omega)
  blk_simp
  rw [after_8]
  refine Eq.trans ?_ (congrArg (byEnt (dqAt (AQ m c) (AK m c) (AV m c) (AO m c) (AL m c))) he).symm
  rw [byEnt_at]
  exact outQ_at m c t h i e

/-- The gradient of the keys. -/
theorem dK_final : (dats m 0 c).arrAt 9 (cfgs 0).N = byEnt (dkAt (AQ m c) (AK m c) (AV m c) (AO m c) (AL m c)) := by
  refine (dats m 0 c).arrAt_eq_of_covers 9 _ (by decide +kernel) fun t hf y => ?_
  obtain ⟨i, h, e, rfl⟩ := blk_idx y
  have ht := pts t
  have he : (win0_9.blk t).view.emb (ix2 i (col h e)) = ix2 (rowOf (cls t) (qrow (at_ (back t)) i)) (col h e) := by
    have h0 := flush_9 t hf
    funext a
    match a with
    | ⟨0, _⟩ => exact Fin.ext (by
        blk_simp [idx t]
        show _ = t.val / 17 * 2048 + (128 * min ((t.val - 1) % 17) 15 + i.val)
        omega)
    | ⟨1, _⟩ => exact Fin.ext (by simp only [col]; blk_simp [idx t] <;> try omega)
  blk_simp
  rw [after_9]
  refine Eq.trans ?_ (congrArg (byEnt (dkAt (AQ m c) (AK m c) (AV m c) (AO m c) (AL m c))) he).symm
  rw [byEnt_at]
  exact outK_at m c t (flush_9 t hf) h i e

/-- The gradient of the values. -/
theorem dV_final : (dats m 0 c).arrAt 10 (cfgs 0).N = byEnt (dvAt (AQ m c) (AK m c) (AO m c)) := by
  refine (dats m 0 c).arrAt_eq_of_covers 10 _ (by decide +kernel) fun t hf y => ?_
  obtain ⟨i, h, e, rfl⟩ := blk_idx y
  have ht := pts t
  have he : (win0_10.blk t).view.emb (ix2 i (col h e)) = ix2 (rowOf (cls t) (qrow (at_ (back t)) i)) (col h e) := by
    have h0 := flush_10 t hf
    funext a
    match a with
    | ⟨0, _⟩ => exact Fin.ext (by
        blk_simp [idx t]
        show _ = t.val / 17 * 2048 + (128 * min ((t.val - 1) % 17) 15 + i.val)
        omega)
    | ⟨1, _⟩ => exact Fin.ext (by simp only [col]; blk_simp [idx t] <;> try omega)
  blk_simp
  rw [after_10]
  refine Eq.trans ?_ (congrArg (byEnt (dvAt (AQ m c) (AK m c) (AO m c))) he).symm
  rw [byEnt_at]
  exact outV_at m c t (flush_10 t hf) h i e

end Cert.Dil.Four

end
-- ==== Proof.Dil.Four.Result.lean ====
module

public import proofs.«01_k».proof.Proof.Dil.Four.Arrays

/-!
# What the call returns

The run ends with the three arrays of gradients, and the arguments as they were.
-/

@[expose] public section

noncomputable section

namespace Cert.Dil.Four

open Idealize.ShloMosaic Idealize.ShloMosaic.TcCoe Idealize.SL.Sem
open Cert.Kernel6Ideal Cert.Kernel6Ideal.Gen

variable (m : (ℓ : Loc nD τ sig) → Buf (Elt Ideal) ℓ) (ρ : Dev nD → PrngReg)

/-- The run, its three results named. -/
theorem run_result : θ_run defs (onTc (τ := τ) (main (F := Ideal))) ⟨m, fun _ => 0, ρ⟩ fun r => ∀ c : Dev nD,
      r.2.mem ((c : Thread nD τ).loc main_v81_0) = byEnt (dqAt (AQ m c) (AK m c) (AV m c) (AO m c) (AL m c))
      ∧ r.2.mem ((c : Thread nD τ).loc main_v81_1) = byEnt (dkAt (AQ m c) (AK m c) (AV m c) (AO m c) (AL m c))
      ∧ r.2.mem ((c : Thread nD τ).loc main_v81_2) = byEnt (dvAt (AQ m c) (AK m c) (AO m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1.1 c).1 8).trans (dQ_final m c), ((h.1.1 c).1 9).trans (dK_final m c),
      ((h.1.1 c).1 10).trans (dV_final m c), h.2.1 c⟩)
    (θ_run_and (run_all m ρ) (frame m ρ))

end Cert.Dil.Four

end
-- ==== Proof.Dil.Four.Equal.lean ====
module

public import proofs.«01_k».proof.Proof.Dil.Four.RefRead
public import proofs.«01_k».proof.Proof.Dil.Four.Arrays
public import proofs.«01_k».proof.Proof.MemAttn.Equal
public import proofs.«01_k».proof.Proof.Gen.Pre_finite_inputs

/-!
# The reference computes the same arrays

Under the precondition every entry is real, and then each query's row is covered by the equation of one row.
-/

@[expose] public section

set_option maxRecDepth 16384

noncomputable section

namespace Cert.Dil.Four

open Idealize.ShloMosaic Cert.MemAttn Cert.Reference6Ideal Cert.Reference6Ideal.Read

instance : Subsingleton (Cert.Pre_finite_inputs.S_).Idx := ⟨fun a b => funext fun k => k.elim0⟩

/-- A word whose exponent is not all ones is a real. -/
theorem real_word (b : BitVec 32) (hb : (b.extractLsb' 23 8).toNat ≠ 2 ^ 8 - 1) : ∃ x : ℝ, Ideal.ofBits .f32 b = x := by
  show ∃ x : ℝ, Ideal.ieee 8 23 b = x
  unfold Ideal.ieee
  dsimp only
  rw [if_neg hb]
  split <;> exact ⟨_, rfl⟩

theorem scl_real : ∃ x : ℝ, scl = x := real_word _ (by decide)

theorem slope_real (h : Fin 24) : ∃ x : ℝ, slope (F := Ideal) h = x :=
  real_word (slopeBits h) ((by decide : ∀ h : Fin 24, ((slopeBits h).extractLsb' 23 8).toNat ≠ 2 ^ 8 - 1) h)

section
variable {x0 x1 x2 x3 : Arr} {x4 : Side}

/-- The precondition, read: every entry is real. -/
theorem real_of_inputs (hp : Cert.Pre_finite_inputs.fn (F := Ideal) x0 x1 x2 x3 x4 = fun _ => 1#1) :
    (∀ r h n e, ∃ x : ℝ, ent x0 r h n e = x) ∧ (∀ r h n e, ∃ x : ℝ, ent x1 r h n e = x)
      ∧ (∀ r h n e, ∃ x : ℝ, ent x2 r h n e = x) ∧ (∀ r h n e, ∃ x : ℝ, ent x3 r h n e = x)
      ∧ ∀ r h n, ∃ x : ℝ, sent x4 r h n = x := by
  have h0 := congrFun hp ix0
  dsimp only [Cert.Pre_finite_inputs.fn, Cert.Pre_finite_inputs.fn_part1] at h0
  have h4 := IntOp.andi_eq_one.1 h0
  have h3 := IntOp.andi_eq_one.1 h4.1
  have h2 := IntOp.andi_eq_one.1 h3.1
  have h1 := IntOp.andi_eq_one.1 h2.1
  exact ⟨fun r h n e => real_of_abs_lt _ (Host.reduce_andi_all _ _ _ _ _ h1.1 (ix2 (rowOf r n) (col h e))),
    fun r h n e => real_of_abs_lt _ (Host.reduce_andi_all _ _ _ _ _ h1.2 (ix2 (rowOf r n) (col h e))),
    fun r h n e => real_of_abs_lt _ (Host.reduce_andi_all _ _ _ _ _ h2.2 (ix2 (rowOf r n) (col h e))),
    fun r h n e => real_of_abs_lt _ (Host.reduce_andi_all _ _ _ _ _ h3.2 (ix2 (rowOf r n) (col h e))),
    fun r h n => real_of_abs_lt _ (Host.reduce_andi_all _ _ _ _ _ h4.2 (ix2 (rowOf r n) h))⟩

/-- The scores are then real. -/
theorem sc_real (hq : ∀ r h n e, ∃ x : ℝ, ent x0 r h n e = x) (hk : ∀ r h n e, ∃ x : ℝ, ent x1 r h n e = x)
    (r : Fin 4) (h : Fin 24) (n : Fin 2048) : ∃ s : Fin 2048 → ℝ, sc x0 x1 r h n = fun k => (s k : EReal) := by
  choose q hq using hq
  choose k hk using hk
  obtain ⟨c, hc⟩ := scl_real
  obtain ⟨w, hw⟩ := slope_real h
  refine ⟨fun l => (∑ e, q r h n e * k r h l e) * c - w * ((n.val : ℝ) - l.val), funext fun l => ?_⟩
  show _ = (((∑ e, q r h n e * k r h l e) * c - w * ((n.val : ℝ) - l.val) : ℝ) : EReal)
  rw [sc, hc, hw, dist_eq n.val l.val (by omega) (by omega)]
  simp only [EReal.coe_sub, EReal.coe_mul, coe_sum, hq, hk]

/-- One row: the derivative taken operation by operation is the product with the saved log-sum, and the weight over the
    sum is the probability. -/
theorem row_at (hp : Cert.Pre_finite_inputs.fn (F := Ideal) x0 x1 x2 x3 x4 = fun _ => 1#1)
    (r : Fin 4) (h : Fin 24) (n k : Fin 2048) :
    val_main_v118 (F := Ideal) x0 x1 x2 x3 x4 (ix4 r h n k) = dsAt x0 x1 x2 x3 x4 r h n k
      ∧ ∀ e, Ideal.div (ent x3 r h n e) (den (scm x0 x1 r h n)) * expo (scm x0 x1 r h n) k
        = probAt x0 x1 r h n k * ent x3 r h n e := by
  obtain ⟨hq, hk, hv, hd, hy⟩ := real_of_inputs hp
  obtain ⟨s, hs⟩ := sc_real hq hk r h n
  choose v hv using hv
  choose d hd using hd
  obtain ⟨y, hy⟩ := hy r h n
  have hv' : (fun k e => ent x2 r h k e) = fun k e => (v r h k e : EReal) := funext fun k => funext fun e => hv r h k e
  have hd' : (fun e => ent x3 r h n e) = fun e => (d r h n e : EReal) := funext fun e => hd r h n e
  have key := row_eq (near n) (near_self n) s (fun k e => v r h k e) (fun e => d r h n e) y k
  have hm : scm x0 x1 r h n = masked (near n) fun k => (s k : EReal) := by rw [scm, hs]
  refine ⟨?_, fun e => ?_⟩
  · rw [v118_at, dsAt, probAt, lseAt, termAt, hm, hs, hv', hd', hy]
    simp only [hv, hd]
    rw [key.1]
  · rw [probAt, lseAt, hm, hs, hd]
    exact key.2 e

/-- An index of an array by class, head, row and column. -/
theorem arr_idx (y : (⟨2, ![8192, 3072]⟩ : Shape).Idx) : ∃ r n h e, y = ix2 (rowOf r n) (col h e) := by
  have h0 : (y 0).val < 8192 := (y 0).isLt
  have h1 : (y 1).val < 3072 := (y 1).isLt
  refine ⟨⟨(y 0).val / 2048, by omega⟩, ⟨(y 0).val % 2048, by omega⟩, ⟨(y 1).val / 128, by omega⟩,
    ⟨(y 1).val % 128, by omega⟩, ?_⟩
  funext a
  match a with
  | ⟨0, _⟩ => exact Fin.ext (show (y 0).val = (y 0).val / 2048 * 2048 + (y 0).val % 2048 by omega)
  | ⟨1, _⟩ => exact Fin.ext (show (y 1).val = (y 1).val / 128 * 128 + (y 1).val % 128 by omega)

/-- The gradient of the queries. -/
theorem dq_eq (hp : Cert.Pre_finite_inputs.fn (F := Ideal) x0 x1 x2 x3 x4 = fun _ => 1#1) :
    val_main_v125 (F := Ideal) x0 x1 x2 x3 x4 = byEnt (dqAt x0 x1 x2 x3 x4) := by
  funext y
  obtain ⟨r, n, h, e, rfl⟩ := arr_idx y
  rw [v125_at, byEnt_at, dqAt]
  exact Finset.sum_congr rfl fun k _ => by rw [(row_at hp r h n k).1]

/-- The gradient of the keys. -/
theorem dk_eq (hp : Cert.Pre_finite_inputs.fn (F := Ideal) x0 x1 x2 x3 x4 = fun _ => 1#1) :
    val_main_v126 (F := Ideal) x0 x1 x2 x3 x4 = byEnt (dkAt x0 x1 x2 x3 x4) := by
  funext y
  obtain ⟨r, n, h, e, rfl⟩ := arr_idx y
  rw [v126_at, byEnt_at, dkAt]
  exact Finset.sum_congr rfl fun k _ => by rw [(row_at hp r h k n).1]

/-- The gradient of the values. -/
theorem dv_eq (hp : Cert.Pre_finite_inputs.fn (F := Ideal) x0 x1 x2 x3 x4 = fun _ => 1#1) :
    val_main_v127 (F := Ideal) x0 x1 x3 = byEnt (dvAt x0 x1 x3) := by
  funext y
  obtain ⟨r, n, h, e, rfl⟩ := arr_idx y
  rw [v127_at, byEnt_at, dvAt]
  exact Finset.sum_congr rfl fun k _ => (row_at hp r h k n).2 e

end

end Cert.Dil.Four

end
-- ==== Proof.Dil.Four.Printed.lean ====
module

public import proofs.«01_k».proof.Proof.Gen.Kernel6
public import proofs.«01_k».proof.Proof.Dil.Four.Frame

/-!
# The run of the program as printed

The program and its idealized form are the same text where no operation is rewritten, and the run above is stated at any
floats; so it is the run of the program as printed too.
-/

@[expose] public section

set_option maxRecDepth 65536

noncomputable section

namespace Cert.Dil.Four

open Idealize.ShloMosaic Idealize.SL.Sem
attribute [local instance] Cert.Kernel6.Gen.facts Cert.Kernel6Ideal.Gen.facts

variable {F : FTy → Type} [FloatOps F]

set_option maxHeartbeats 8000000 in
theorem body_eq : @Cert.Kernel6.cc0_dil_bwd F _ _ = @Cert.Kernel6Ideal.cc0_dil_bwd F _ _ := rfl

set_option maxHeartbeats 8000000 in
theorem bodies_eq : Cert.Kernel6.defs₀ (F := F) = Cert.Kernel6Ideal.defs₀ (F := F) := by
  unfold Cert.Kernel6.defs₀ Cert.Kernel6Ideal.defs₀
  refine congrArg Defs.onTc (funext fun l => funext fun ts => ?_)
  match l, ts with
  | 0, (t, s) =>
    dsimp only
    rw [body_eq]
    rfl
  | ⟨_ + 1, h⟩, _ => exact absurd h (Nat.not_lt.2 (Nat.le_add_left _ _))

set_option maxHeartbeats 8000000 in
theorem defs_eq : Cert.Kernel6.defs (F := F) = Cert.Kernel6Ideal.defs (F := F) :=
  congrArg (fun d => Pipeline.defs (Cert.Kernel6Ideal.pcfgs (F := F)) d) bodies_eq

set_option maxHeartbeats 8000000 in
theorem main_eq : Cert.Kernel6.main (F := F) = Cert.Kernel6Ideal.main (F := F) := rfl

set_option maxHeartbeats 8000000 in
/-- The arguments end unchanged and every counter at zero. -/
theorem frame_printed (m : (ℓ : Loc Cert.Kernel6.nD Cert.Kernel6.τ Cert.Kernel6.sig) → Buf (Elt F) ℓ)
    (ρ : Dev Cert.Kernel6.nD → PrngReg) :
    θ_run (Cert.Kernel6.defs (F := F)) (onTc (τ := Cert.Kernel6.τ) (Cert.Kernel6.main (F := F))) ⟨m, fun _ => 0, ρ⟩
      (fun r => (∀ c : Dev Cert.Kernel6.nD,
        r.2.mem ((c.tc : Thread Cert.Kernel6.nD Cert.Kernel6.τ).loc Cert.Kernel6.main_arg0)
          = m ((c.tc : Thread Cert.Kernel6.nD Cert.Kernel6.τ).loc Cert.Kernel6.main_arg0)
        ∧ r.2.mem ((c.tc : Thread Cert.Kernel6.nD Cert.Kernel6.τ).loc Cert.Kernel6.main_arg1)
          = m ((c.tc : Thread Cert.Kernel6.nD Cert.Kernel6.τ).loc Cert.Kernel6.main_arg1)
        ∧ r.2.mem ((c.tc : Thread Cert.Kernel6.nD Cert.Kernel6.τ).loc Cert.Kernel6.main_arg2)
          = m ((c.tc : Thread Cert.Kernel6.nD Cert.Kernel6.τ).loc Cert.Kernel6.main_arg2)
        ∧ r.2.mem ((c.tc : Thread Cert.Kernel6.nD Cert.Kernel6.τ).loc Cert.Kernel6.main_arg3)
          = m ((c.tc : Thread Cert.Kernel6.nD Cert.Kernel6.τ).loc Cert.Kernel6.main_arg3)
        ∧ r.2.mem ((c.tc : Thread Cert.Kernel6.nD Cert.Kernel6.τ).loc Cert.Kernel6.main_arg4)
          = m ((c.tc : Thread Cert.Kernel6.nD Cert.Kernel6.τ).loc Cert.Kernel6.main_arg4))
        ∧ r.2.sem = fun _ => 0) := by
  rw [defs_eq, main_eq]
  exact frame m ρ

end Cert.Dil.Four

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Pre_finite_inputs
public import proofs.«01_k».proof.Proof.MemAttn.Arrays
public import proofs.«01_k».proof.Proof.MemAttn.Equal
public import proofs.«01_k».proof.Proof.Proj.Run
public import proofs.«01_k».proof.Proof.Proj.RefRead
public import proofs.«01_k».proof.Proof.Layer.Run
public import proofs.«01_k».proof.Proof.Layer.RefRead
public import proofs.«01_k».proof.Proof.Dil.Result
public import proofs.«01_k».proof.Proof.Dil.Equal
public import proofs.«01_k».proof.Proof.Dil.Printed
public import proofs.«01_k».proof.Proof.Small.Run
public import proofs.«01_k».proof.Proof.Small.RefRead
public import proofs.«01_k».proof.Proof.Dil.Four.Result
public import proofs.«01_k».proof.Proof.Dil.Four.Equal
public import proofs.«01_k».proof.Proof.Dil.Four.Printed
public import Idealize.ShloMosaic.Adequacy
public import Idealize.ShloMosaic.Init

@[expose] public section

noncomputable section

namespace Cert.Proof

open Idealize.ShloMosaic Idealize.SL.Sem Cert.Kernel

/-- The reference's run leaves its arguments and its counters; it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The kernel's two gradients are the reference's where queries and keys are finite. -/
theorem algebraic : Cert.algebraic_KernelIdeal_ReferenceIdeal := by
  intro m ρ m' ρ' hpre hagree
  refine ⟨_, _, Cert.KernelIdeal.Value.run_blocks (F := Ideal) m ρ,
    (θ_run Cert.ReferenceIdeal.defs _ _).mono (fun _ h c => ⟨(h c).1.trans ?_, (h c).2.1.trans ?_, (h c).2.2⟩)
      (Cert.ReferenceIdeal.Value.run (F := Ideal) m' ρ')⟩
  · rw [Cert.ReferenceIdeal.Read.val_main_v68_eq, (hagree c).1, (hagree c).2.1, (hagree c).2.2]
    exact (Cert.MemAttn.dq_eq (hpre c)).trans (Cert.KernelIdeal.MemAttn.dq_final m c).symm
  · rw [Cert.ReferenceIdeal.Read.val_main_v67_eq, (hagree c).1, (hagree c).2.1, (hagree c).2.2]
    exact (Cert.MemAttn.dkv_eq (hpre c)).trans (Cert.KernelIdeal.MemAttn.dkv_final m c).symm

theorem frame_reference2 : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

section
open Cert.Kernel2Ideal Cert.Kernel2Ideal.Gen Cert.Kernel2Ideal.Proj Cert.Reference2Ideal.Read Cert.Reference2Ideal.Proj

/-- The three segments, the input's gradient and the three weights' gradients are the reference's. -/
theorem algebraic2 : Cert.algebraic_Kernel2Ideal_Reference2Ideal := by
  intro m ρ m' ρ' _ hagree
  refine ⟨_, _, _, _, _, _, _,
    (θ_run Cert.Kernel2Ideal.defs _ _).mono (fun _ h c =>
      ⟨(h c _ (mem_uc main_v0 (by decide))).trans (v0_end m ρ c), (h c _ (mem_uc main_v1 (by decide))).trans (v1_end m ρ c),
        (h c _ (mem_uc main_v2 (by decide))).trans (v2_end m ρ c), (h c _ (mem_uc main_v7 (by decide))).trans (v7_end m ρ c),
        (h c _ (mem_uc main_v4 (by decide))).trans (v4_end m ρ c), (h c _ (mem_uc main_v6 (by decide))).trans (v6_end m ρ c),
        (h c _ (mem_uc main_v8 (by decide))).trans (v8_end m ρ c),
        (h c _ (mem_uc main_arg0 (by decide))).trans (W9_main_arg0 m ρ c),
        (h c _ (mem_uc main_arg1 (by decide))).trans (W9_main_arg1 m ρ c),
        (h c _ (mem_uc main_arg2 (by decide))).trans (W9_main_arg2 m ρ c),
        (h c _ (mem_uc main_arg3 (by decide))).trans (W9_main_arg3 m ρ c),
        (h c _ (mem_uc main_arg4 (by decide))).trans (W9_main_arg4 m ρ c),
        (h c _ (mem_uc main_arg5 (by decide))).trans (W9_main_arg5 m ρ c),
        (h c _ (mem_uc main_arg6 (by decide))).trans (W9_main_arg6 m ρ c)⟩) (run_held (F := Ideal) m ρ),
    (θ_run Cert.Reference2Ideal.defs _ _).mono (fun _ h c => ?_) (Cert.Reference2Ideal.Value.run (F := Ideal) m' ρ')⟩
  obtain ⟨a0, a1, a2, a3, a4, a5, a6⟩ := hagree c
  obtain ⟨h0, h1, h2, h3, h4, h5, h6, hargs⟩ := h c
  rw [a0, a1] at h0
  rw [a0, a2] at h1
  rw [a0, a3] at h2
  rw [a1, a2, a3, a4, a5, a6] at h3
  rw [a0, a4] at h4
  rw [a0, a5] at h5
  rw [a0, a6] at h6
  exact ⟨h0.trans (v21_read _ _), h1.trans (v22_read _ _), h2.trans (v23_read _ _), h3.trans (v20_read _ _ _ _ _ _),
    h4.trans (v24_read _ _), h5.trans (v25_read _ _), h6.trans (v26_read _ _), hargs⟩

end

theorem frame_reference3 : Cert.quiescent_Reference3Ideal := fun m ρ _ =>
  (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ)

section
open Cert.Kernel3Ideal Cert.Kernel3Ideal.Gen Cert.Kernel3Ideal.Layer Cert.Reference3Ideal.Read Cert.Reference3Ideal.Layer

/-- The layer's products, forward and backward, are the reference's. -/
theorem algebraic3 : Cert.algebraic_Kernel3Ideal_Reference3Ideal := by
  intro m ρ m' ρ' _ hagree
  refine ⟨_, _, _, _, _, _, _, _, _, _,
    (θ_run Cert.Kernel3Ideal.defs _ _).mono (fun _ h c =>
      ⟨(h c _ (mem_uc main_v0 (by decide))).trans (v0_end m ρ c),
        (h c _ (mem_uc main_v1 (by decide))).trans (v1_end m ρ c),
        (h c _ (mem_uc main_v2 (by decide))).trans (v2_end m ρ c),
        (h c _ (mem_uc main_v3 (by decide))).trans (v3_end m ρ c),
        (h c _ (mem_uc main_v4 (by decide))).trans (v4_end m ρ c),
        (h c _ (mem_uc main_v5 (by decide))).trans (v5_end m ρ c),
        (h c _ (mem_uc main_v10 (by decide))).trans (v10_end m ρ c),
        (h c _ (mem_uc main_v7 (by decide))).trans (v7_end m ρ c),
        (h c _ (mem_uc main_v9 (by decide))).trans (v9_end m ρ c),
        (h c _ (mem_uc main_v11 (by decide))).trans (v11_end m ρ c),
        (h c _ (mem_uc main_arg0 (by decide))).trans (W12_main_arg0 m ρ c),
        (h c _ (mem_uc main_arg1 (by decide))).trans (W12_main_arg1 m ρ c),
        (h c _ (mem_uc main_arg2 (by decide))).trans (W12_main_arg2 m ρ c),
        (h c _ (mem_uc main_arg3 (by decide))).trans (W12_main_arg3 m ρ c),
        (h c _ (mem_uc main_arg4 (by decide))).trans (W12_main_arg4 m ρ c),
        (h c _ (mem_uc main_arg5 (by decide))).trans (W12_main_arg5 m ρ c),
        (h c _ (mem_uc main_arg6 (by decide))).trans (W12_main_arg6 m ρ c),
        (h c _ (mem_uc main_arg7 (by decide))).trans (W12_main_arg7 m ρ c),
        (h c _ (mem_uc main_arg8 (by decide))).trans (W12_main_arg8 m ρ c),
        (h c _ (mem_uc main_arg9 (by decide))).trans (W12_main_arg9 m ρ c),
        (h c _ (mem_uc main_arg10 (by decide))).trans (W12_main_arg10 m ρ c)⟩) (run_held (F := Ideal) m ρ),
    (θ_run Cert.Reference3Ideal.defs _ _).mono (fun _ h c => ?_) (Cert.Reference3Ideal.Value.run (F := Ideal) m' ρ')⟩
  obtain ⟨a0, a1, a2, a3, a4, a5, a6, a7, a8, a9, a10⟩ := hagree c
  obtain ⟨h0, h1, h2, h3, h4, h5, h6, h7, h8, h9, hargs⟩ := h c
  rw [a0, a1] at h0
  rw [a0, a2] at h1
  rw [a0, a3] at h2
  rw [a7, a8, a9] at h3
  rw [a8, a10] at h4
  rw [a7, a10] at h5
  rw [a1, a2, a3, a4, a5, a6] at h6
  rw [a0, a4] at h7
  rw [a0, a5] at h8
  rw [a0, a6] at h9
  exact ⟨h0.trans (v6_read _ _), h1.trans (v29_read _ _), h2.trans (v8_read _ _), h3.trans (v10_read _ _ _),
    h4.trans (v30_read _ _), h5.trans (v31_read _ _), h6.trans (v28_read _ _ _ _ _ _), h7.trans (v32_read _ _),
    h8.trans (v33_read _ _), h9.trans (v34_read _ _), hargs⟩

end

theorem frame_reference4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- The dilated attention's three gradients are the reference's where the arrays are finite. -/
theorem algebraic4 : Cert.algebraic_Kernel4Ideal_Reference4Ideal := by
  intro m ρ m' ρ' hpre hagree
  refine ⟨_, _, _, Cert.Dil.run_result m ρ,
    (θ_run Cert.Reference4Ideal.defs _ _).mono
      (fun _ h c => ⟨(h c).1.trans ?_, (h c).2.1.trans ?_, (h c).2.2.1.trans ?_, (h c).2.2.2⟩)
      (Cert.Reference4Ideal.Value.run (F := Ideal) m' ρ')⟩
  · rw [Cert.Reference4Ideal.Read.val_main_v125_eq]
    obtain ⟨a0, a1, a2, a3, a4⟩ := hagree c
    show Cert.Reference4Ideal.Read.val_main_v125 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4)) = _
    rw [a0, a1, a2, a3, a4]
    exact Cert.Dil.dq_eq (hpre c)
  · rw [Cert.Reference4Ideal.Read.val_main_v126_eq]
    obtain ⟨a0, a1, a2, a3, a4⟩ := hagree c
    show Cert.Reference4Ideal.Read.val_main_v126 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4)) = _
    rw [a0, a1, a2, a3, a4]
    exact Cert.Dil.dk_eq (hpre c)
  · rw [Cert.Reference4Ideal.Read.val_main_v127_eq]
    obtain ⟨a0, a1, a2, a3, a4⟩ := hagree c
    show Cert.Reference4Ideal.Read.val_main_v127 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg3)) = _
    rw [a0, a1, a3]
    exact Cert.Dil.dv_eq (hpre c)

theorem frame_reference5 : Cert.quiescent_Reference5Ideal := fun m ρ _ =>
  (θ_run Cert.Reference5Ideal.defs _ _).mono
    (fun r h => ⟨fun c => (h c).2.2.2.2.2.2, sem_eq_zero_of_no_sems (by decide) r.2⟩)
    (Cert.Reference5Ideal.Value.run (F := Ideal) m ρ)

section
open Cert.Kernel5Ideal Cert.Kernel5Ideal.Gen Cert.Kernel5Ideal.Small Cert.Reference5Ideal.Read Cert.Reference5Ideal.Small

/-- The products of the memory and of the step sizes, forward and backward, are the reference's. -/
theorem algebraic5 : Cert.algebraic_Kernel5Ideal_Reference5Ideal := by
  intro m ρ m' ρ' _ hagree
  refine ⟨_, _, _, _, _, _,
    (θ_run Cert.Kernel5Ideal.defs _ _).mono (fun _ h c =>
      ⟨(h c _ (mem_uc main_v0 (by decide))).trans (v0_end m ρ c),
        (h c _ (mem_uc main_v1 (by decide))).trans (v1_end m ρ c),
        (h c _ (mem_uc main_v2 (by decide))).trans (v2_end m ρ c),
        (h c _ (mem_uc main_v3 (by decide))).trans (v3_end m ρ c),
        (h c _ (mem_uc main_v4 (by decide))).trans (v4_end m ρ c),
        (h c _ (mem_uc main_v5 (by decide))).trans (v5_end m ρ c),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c),
        (h c _ (mem_uc main_arg5 (by decide))).trans (W6_main_arg5 m ρ c),
        (h c _ (mem_uc main_arg6 (by decide))).trans (W6_main_arg6 m ρ c),
        (h c _ (mem_uc main_arg7 (by decide))).trans (W6_main_arg7 m ρ c)⟩) (run_held (F := Ideal) m ρ),
    (θ_run Cert.Reference5Ideal.defs _ _).mono (fun _ h c => ?_) (Cert.Reference5Ideal.Value.run (F := Ideal) m' ρ')⟩
  obtain ⟨a0, a1, a2, a3, a4, a5, a6, a7⟩ := hagree c
  obtain ⟨h0, h1, h2, h3, h4, h5, hargs⟩ := h c
  rw [a0, a1] at h0
  rw [a4, a5] at h1
  rw [a0, a2] at h2
  rw [a1, a2, a3] at h3
  rw [a5, a6, a7] at h4
  rw [a4, a6] at h5
  exact ⟨h0.trans (v12_read _ _), h1.trans (v5_read _ _), h2.trans (v13_read _ _), h3.trans (v14_read _ _ _),
    h4.trans (v15_read _ _ _), h5.trans (v16_read _ _), hargs⟩

end

theorem frame_reference6 : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

/-- The three gradients of the dilated attention with dilation 4 are the reference's where the arrays are finite. -/
theorem algebraic6 : Cert.algebraic_Kernel6Ideal_Reference6Ideal := by
  intro m ρ m' ρ' hpre hagree
  refine ⟨_, _, _, Cert.Dil.Four.run_result m ρ,
    (θ_run Cert.Reference6Ideal.defs _ _).mono
      (fun _ h c => ⟨(h c).1.trans ?_, (h c).2.1.trans ?_, (h c).2.2.1.trans ?_, (h c).2.2.2⟩)
      (Cert.Reference6Ideal.Value.run (F := Ideal) m' ρ')⟩
  · rw [Cert.Reference6Ideal.Read.val_main_v125_eq]
    obtain ⟨a0, a1, a2, a3, a4⟩ := hagree c
    show Cert.Reference6Ideal.Read.val_main_v125 (F := Ideal)
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) = _
    rw [a0, a1, a2, a3, a4]
    exact Cert.Dil.Four.dq_eq (hpre c)
  · rw [Cert.Reference6Ideal.Read.val_main_v126_eq]
    obtain ⟨a0, a1, a2, a3, a4⟩ := hagree c
    show Cert.Reference6Ideal.Read.val_main_v126 (F := Ideal)
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) = _
    rw [a0, a1, a2, a3, a4]
    exact Cert.Dil.Four.dk_eq (hpre c)
  · rw [Cert.Reference6Ideal.Read.val_main_v127_eq]
    obtain ⟨a0, a1, a2, a3, a4⟩ := hagree c
    show Cert.Reference6Ideal.Read.val_main_v127 (F := Ideal)
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg3)) = _
    rw [a0, a1, a3]
    exact Cert.Dil.Four.dv_eq (hpre c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_scores.Gen.facts, Cert.Pre_finite_inputs.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Dil.frame_printed m ρ, fun m ρ _ => Cert.Dil.frame m ρ, fun m ρ _ => Cert.Dil.frame m ρ,
  frame_reference4, fun m ρ _ => frame_reference4 m ρ trivial,
  fun m ρ _ => Cert.Kernel5.Gen.frame m ρ, fun m ρ _ => Cert.Kernel5Ideal.Gen.frame m ρ, frame_reference5,
  fun m ρ _ => Cert.Dil.Four.frame_printed m ρ, fun m ρ _ => Cert.Dil.Four.frame m ρ, fun m ρ _ => Cert.Dil.Four.frame m ρ,
  frame_reference6, fun m ρ _ => frame_reference6 m ρ trivial, trivial,
  algebraic, trivial, algebraic2, trivial, algebraic3, trivial, algebraic4, trivial, algebraic5, trivial, algebraic6⟩

end Cert.Proof

end
